-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Prepare9Ideal (m : (ℓ : Loc Cert.Prepare9Ideal.nD Cert.Prepare9Ideal.τ Cert.Prepare9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Prepare9Ideal [hPrepare9Ideal : Cert.Prepare9Ideal.Facts] : Prop :=
  ∀ (m : (ℓ : Loc Cert.Prepare9Ideal.nD Cert.Prepare9Ideal.τ Cert.Prepare9Ideal.sig) → Buf (Elt Ideal) ℓ) (g : Dev Cert.Prepare9Ideal.nD → PrngReg), Pre_Prepare9Ideal m →
    θ_run (Cert.Prepare9Ideal.defs (F := Ideal)) (onTc (τ := Cert.Prepare9Ideal.τ) (Cert.Prepare9Ideal.main (F := Ideal))) ⟨m, fun _ => 0, g⟩ (fun r => (∀ c : Dev Cert.Prepare9Ideal.nD,
      r.2.mem ((c.tc : Thread Cert.Prepare9Ideal.nD Cert.Prepare9Ideal.τ).loc Cert.Prepare9Ideal.main_arg0) = m ((c.tc : Thread Cert.Prepare9Ideal.nD Cert.Prepare9Ideal.τ).loc Cert.Prepare9Ideal.main_arg0)
      ∧ r.2.mem ((c.tc : Thread Cert.Prepare9Ideal.nD Cert.Prepare9Ideal.τ).loc Cert.Prepare9Ideal.main_arg1) = m ((c.tc : Thread Cert.Prepare9Ideal.nD Cert.Prepare9Ideal.τ).loc Cert.Prepare9Ideal.main_arg1)
      ∧ r.2.mem ((c.tc : Thread Cert.Prepare9Ideal.nD Cert.Prepare9Ideal.τ).loc Cert.Prepare9Ideal.main_arg2) = m ((c.tc : Thread Cert.Prepare9Ideal.nD Cert.Prepare9Ideal.τ).loc Cert.Prepare9Ideal.main_arg2)
      ∧ r.2.mem ((c.tc : Thread Cert.Prepare9Ideal.nD Cert.Prepare9Ideal.τ).loc Cert.Prepare9Ideal.main_arg3) = m ((c.tc : Thread Cert.Prepare9Ideal.nD Cert.Prepare9Ideal.τ).loc Cert.Prepare9Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  IdealRules.named_const.Statement Cert.Kernel9Ideal.κ "scale" .f32 0x3DD105EC#32 (((Real.sqrt 96)⁻¹ : ℝ) : EReal)
  ∧ IdealRules.named_const.Statement Cert.Kernel9Ideal.κ "unscale" .f32 0x40D95360#32 (((Real.sqrt 96) * (Real.log 2) : ℝ) : EReal)

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v94_0)) (v1 : (c : Dev Cert.Kernel9Ideal.nD) → Buf (Elt Ideal) ((c.tc : Thread Cert.Kernel9Ideal.nD Cert.Kernel9Ideal.τ).loc Cert.Kernel9Ideal.main_v94_1)) (v2 : (c : Dev Cert.Kernel9Ideal.nD) → Buf (Elt Ideal) ((c.tc : Thread Cert.Kernel9Ideal.nD Cert.Kernel9Ideal.τ).loc Cert.Kernel9Ideal.main_v94_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v94_0) = v0 c
          ∧ r.2.mem ((c.tc : Thread Cert.Kernel9Ideal.nD Cert.Kernel9Ideal.τ).loc Cert.Kernel9Ideal.main_v94_1) = v1 c
          ∧ r.2.mem ((c.tc : Thread Cert.Kernel9Ideal.nD Cert.Kernel9Ideal.τ).loc Cert.Kernel9Ideal.main_v94_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v63) = v0 c
          ∧ r.2.mem ((c.tc : Thread Cert.Reference9Ideal.nD Cert.Reference9Ideal.τ).loc Cert.Reference9Ideal.main_v65) = v1 c
          ∧ r.2.mem ((c.tc : Thread Cert.Reference9Ideal.nD Cert.Reference9Ideal.τ).loc Cert.Reference9Ideal.main_v67) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_v6) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v19) = v0 c
          ∧ r.2.mem ((c.tc : Thread Cert.Reference29Ideal.nD Cert.Reference29Ideal.τ).loc Cert.Reference29Ideal.main_v21) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_v15) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPrepare9Ideal : Cert.Prepare9Ideal.Facts) (hPre_finite2 : Cert.Pre_finite2.Facts) (hPre_finite9 : Cert.Pre_finite9.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Prepare9Ideal (hPrepare9Ideal := hPrepare9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite2.lean ====
abbrev S8320x2816 : Shape := ⟨2, ![8320, 2816]⟩
abbrev S_ : Shape := ⟨0, ![]⟩

class Facts : Prop where
  bitsLt_bf16_f32 : FTy.bits .bf16 < FTy.bits .f32
  bcast_S_S8320x2816 : S_.BroadcastsInDim S8320x2816 (![] : Fin 0 → Fin S8320x2816.rank)

variable [Facts]

def fn {F : FTy → Type} [FloatOps F] (main_arg0 : FVec F S8320x2816 .bf16) (main_arg1 : FVec F S8320x2816 .bf16) (main_arg2 : FVec F S8320x2816 .bf16) : IVec S8320x2816 1 × IVec S8320x2816 1 :=
  let main_v0 : FVec F S8320x2816 .f32 := (extf .f32 · bitsLt_bf16_f32) main_arg0
  let main_v1 : FVec F S8320x2816 .f32 := Host.absf main_v0
  let main_cst : FVec F S_ .f32 := constant S_ .f32 0x7F800000#32
  let main_v2 : FVec F S8320x2816 .f32 := broadcastInDim S8320x2816 ![] bcast_S_S8320x2816 main_cst
  let main_v3 : IVec S8320x2816 1 := cmpf .olt main_v1 main_v2
  let main_v4 : FVec F S8320x2816 .f32 := (extf .f32 · bitsLt_bf16_f32) main_arg2
  let main_v5 : FVec F S8320x2816 .f32 := Host.absf main_v4
  let main_cst_0 : FVec F S_ .f32 := constant S_ .f32 0x7F800000#32
  let main_v6 : FVec F S8320x2816 .f32 := broadcastInDim S8320x2816 ![] bcast_S_S8320x2816 main_cst_0
  let main_v7 : IVec S8320x2816 1 := cmpf .olt main_v5 main_v6
  (main_v3, main_v7)
-- ==== Pre_finite9.lean ====
abbrev S8208x8x96 : Shape := ⟨3, ![8208, 8, 96]⟩
abbrev S8208x8x64 : Shape := ⟨3, ![8208, 8, 64]⟩
abbrev S_ : Shape := ⟨0, ![]⟩

class Facts : Prop where
  bcast_S_S8208x8x96 : S_.BroadcastsInDim S8208x8x96 (![] : Fin 0 → Fin S8208x8x96.rank)
  bcast_S_S8208x8x64 : S_.BroadcastsInDim S8208x8x64 (![] : Fin 0 → Fin S8208x8x64.rank)

variable [Facts]

def fn {F : FTy → Type} [FloatOps F] (main_arg0 : FVec F S8208x8x96 .f32) (main_arg1 : FVec F S8208x8x96 .f32) (main_arg2 : FVec F S8208x8x64 .f32) (main_arg3 : FVec F S8208x8x64 .f32) : IVec S8208x8x96 1 × IVec S8208x8x96 1 × IVec S8208x8x64 1 × IVec S8208x8x64 1 :=
  let main_v0 : FVec F S8208x8x96 .f32 := Host.absf main_arg0
  let main_cst : FVec F S_ .f32 := constant S_ .f32 0x7F800000#32
  let main_v1 : FVec F S8208x8x96 .f32 := broadcastInDim S8208x8x96 ![] bcast_S_S8208x8x96 main_cst
  let main_v2 : IVec S8208x8x96 1 := cmpf .olt main_v0 main_v1
  let main_v3 : FVec F S8208x8x96 .f32 := Host.absf main_arg1
  let main_cst_0 : FVec F S_ .f32 := constant S_ .f32 0x7F800000#32
  let main_v4 : FVec F S8208x8x96 .f32 := broadcastInDim S8208x8x96 ![] bcast_S_S8208x8x96 main_cst_0
  let main_v5 : IVec S8208x8x96 1 := cmpf .olt main_v3 main_v4
  let main_v6 : FVec F S8208x8x64 .f32 := Host.absf main_arg2
  let main_cst_1 : FVec F S_ .f32 := constant S_ .f32 0x7F800000#32
  let main_v7 : FVec F S8208x8x64 .f32 := broadcastInDim S8208x8x64 ![] bcast_S_S8208x8x64 main_cst_1
  let main_v8 : IVec S8208x8x64 1 := cmpf .olt main_v6 main_v7
  let main_v9 : FVec F S8208x8x64 .f32 := Host.absf main_arg3
  let main_cst_2 : FVec F S_ .f32 := constant S_ .f32 0x7F800000#32
  let main_v10 : FVec F S8208x8x64 .f32 := broadcastInDim S8208x8x64 ![] bcast_S_S8208x8x64 main_cst_2
  let main_v11 : IVec S8208x8x64 1 := cmpf .olt main_v9 main_v10
  (main_v2, main_v5, main_v8, main_v11)
-- ==== Kernel.lean ====
abbrev S8320x1024 : Shape := ⟨2, ![8320, 1024]⟩
abbrev S8320x5120 : Shape := ⟨2, ![8320, 5120]⟩
abbrev S640x512 : Shape := ⟨2, ![640, 512]⟩

abbrev nBuf : Space → Nat
  | .hbm => 8
  | .vmem => 18
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S8320x5120, .f32⟩
  | .hbm, ⟨4, _⟩ => ⟨S8320x1024, .bf16⟩
  | .hbm, ⟨5, _⟩ => ⟨S8320x1024, .bf16⟩
  | .hbm, ⟨6, _⟩ => ⟨S8320x1024, .f32⟩
  | .hbm, ⟨7, _⟩ => ⟨S8320x1024, .f32⟩
  | .local _ .vmem, ⟨0, _⟩ => ⟨S640x512, .bf16⟩
  | .local _ .vmem, ⟨1, _⟩ => ⟨S640x512, .bf16⟩
  | .local _ .vmem, ⟨2, _⟩ => ⟨S640x512, .bf16⟩
  | .local _ .vmem, ⟨3, _⟩ => ⟨S640x512, .bf16⟩
  | .local _ .vmem, ⟨4, _⟩ => ⟨S640x512, .bf16⟩
  | .local _ .vmem, ⟨5, _⟩ => ⟨S640x512, .bf16⟩
  | .local _ .vmem, ⟨6, _⟩ => ⟨S640x512, .f32⟩
  | .local _ .vmem, ⟨7, _⟩ => ⟨S640x512, .f32⟩
  | .local _ .vmem, ⟨8, _⟩ => ⟨S640x512, .f32⟩
  | .local _ .vmem, ⟨9, _⟩ => ⟨S640x512, .f32⟩
  | .local _ .vmem, ⟨10, _⟩ => ⟨S640x512, .bf16⟩
  | .local _ .vmem, ⟨11, _⟩ => ⟨S640x512, .bf16⟩
  | .local _ .vmem, ⟨12, _⟩ => ⟨S640x512, .bf16⟩
  | .local _ .vmem, ⟨13, _⟩ => ⟨S640x512, .bf16⟩
  | .local _ .vmem, ⟨14, _⟩ => ⟨S640x512, .f32⟩
  | .local _ .vmem, ⟨15, _⟩ => ⟨S640x512, .f32⟩
  | .local _ .vmem, ⟨16, _⟩ => ⟨S640x512, .f32⟩
  | .local _ .vmem, ⟨17, _⟩ => ⟨S640x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S640x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8320x1024 : Shape := ⟨2, ![8320, 1024]⟩
abbrev S8320x5120 : Shape := ⟨2, ![8320, 5120]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S8320x5120, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320x1024, .f32⟩
  | .hbm, ⟨12, _⟩ => ⟨S8320x1024, .f32⟩
  | .hbm, ⟨13, _⟩ => ⟨S_, .f32⟩
  | .hbm, ⟨14, _⟩ => ⟨S8320x1024, .f32⟩
  | .hbm, ⟨15, _⟩ => ⟨S8320x1024, .f32⟩
  | .hbm, ⟨16, _⟩ => ⟨S_, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S_, .f32⟩
  | .hbm, ⟨24, _⟩ => ⟨S8320x1024, .f32⟩
  | .hbm, ⟨25, _⟩ => ⟨S8320x1024, .f32⟩
  | .hbm, ⟨26, _⟩ => ⟨S_, .f32⟩
  | .hbm, ⟨27, _⟩ => ⟨S8320x1024, .f32⟩
  | .hbm, ⟨28, _⟩ => ⟨S8320x1024, .f32⟩
  | .hbm, ⟨29, _⟩ => ⟨S_, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S8320x1024, .f32⟩
  | .hbm, ⟨42, _⟩ => ⟨S8320x1024, .bf16⟩
  | .hbm, ⟨43, _⟩ => ⟨S8320x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel2.lean ====
abbrev S8320x2816 : Shape := ⟨2, ![8320, 2816]⟩
abbrev S640x1408 : Shape := ⟨2, ![640, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S8320x2816, .bf16⟩
  | .hbm, ⟨3, _⟩ => ⟨S8320x2816, .bf16⟩
  | .hbm, ⟨4, _⟩ => ⟨S8320x2816, .bf16⟩
  | .local _ .vmem, ⟨0, _⟩ => ⟨S640x1408, .bf16⟩
  | .local _ .vmem, ⟨1, _⟩ => ⟨S640x1408, .bf16⟩
  | .local _ .vmem, ⟨2, _⟩ => ⟨S640x1408, .bf16⟩
  | .local _ .vmem, ⟨3, _⟩ => ⟨S640x1408, .bf16⟩
  | .local _ .vmem, ⟨4, _⟩ => ⟨S640x1408, .bf16⟩
  | .local _ .vmem, ⟨5, _⟩ => ⟨S640x1408, .bf16⟩
  | .local _ .vmem, ⟨6, _⟩ => ⟨S640x1408, .bf16⟩
  | .local _ .vmem, ⟨7, _⟩ => ⟨S640x1408, .bf16⟩
  | .local _ .vmem, ⟨8, _⟩ => ⟨S640x1408, .bf16⟩
  | .local _ .vmem, ⟨9, _⟩ => ⟨S640x1408, .bf16⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8320x2816 : Shape := ⟨2, ![8320, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S8320x2816, .bf16⟩
  | .hbm, ⟨3, _⟩ => ⟨S8320x2816, .f32⟩
  | .hbm, ⟨4, _⟩ => ⟨S8320x2816, .f32⟩
  | .hbm, ⟨5, _⟩ => ⟨S8320x2816, .f32⟩
  | .hbm, ⟨6, _⟩ => ⟨S8320x2816, .f32⟩
  | .hbm, ⟨7, _⟩ => ⟨S_, .f32⟩
  | .hbm, ⟨8, _⟩ => ⟨S8320x2816, .f32⟩
  | .hbm, ⟨9, _⟩ => ⟨S8320x2816, .f32⟩
  | .hbm, ⟨10, _⟩ => ⟨S_, .f32⟩
  | .hbm, ⟨11, _⟩ => ⟨S8320x2816, .f32⟩
  | .hbm, ⟨12, _⟩ => ⟨S8320x2816, .f32⟩
  | .hbm, ⟨13, _⟩ => ⟨S_, .f32⟩
  | .hbm, ⟨14, _⟩ => ⟨S8320x2816, .f32⟩
  | .hbm, ⟨15, _⟩ => ⟨S8320x2816, .f32⟩
  | .hbm, ⟨16, _⟩ => ⟨S8320x2816, .f32⟩
  | .hbm, ⟨17, _⟩ => ⟨S8320x2816, .f32⟩
  | .hbm, ⟨18, _⟩ => ⟨S8320x2816, .f32⟩
  | .hbm, ⟨19, _⟩ => ⟨S8320x2816, .f32⟩
  | .hbm, ⟨20, _⟩ => ⟨S8320x2816, .f32⟩
  | .hbm, ⟨21, _⟩ => ⟨S8320x2816, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S8320x2816, .f32⟩
  | .hbm, ⟨26, _⟩ => ⟨S8320x2816, .bf16⟩
  | .hbm, ⟨27, _⟩ => ⟨S8320x2816, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel3.lean ====
abbrev S2816x8320 : Shape := ⟨2, ![2816, 8320]⟩
abbrev S8320x1024 : Shape := ⟨2, ![8320, 1024]⟩
abbrev S2816x1024 : Shape := ⟨2, ![2816, 1024]⟩
abbrev S1408x1664 : Shape := ⟨2, ![1408, 1664]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2816x8320, .bf16⟩
  | .hbm, ⟨1, _⟩ => ⟨S8320x1024, .bf16⟩
  | .hbm, ⟨2, _⟩ => ⟨S2816x1024, .f32⟩
  | .local _ .vmem, ⟨0, _⟩ => ⟨S1408x1664, .bf16⟩
  | .local _ .vmem, ⟨1, _⟩ => ⟨S1408x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2816x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2816x8320 : Shape := ⟨2, ![2816, 8320]⟩
abbrev S8320x1024 : Shape := ⟨2, ![8320, 1024]⟩
abbrev S_ : Shape := ⟨0, ![]⟩
abbrev S2816x1024 : Shape := ⟨2, ![2816, 1024]⟩
abbrev S8320x2816 : Shape := ⟨2, ![8320, 2816]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S2816x8320, .bf16⟩
  | .hbm, ⟨1, _⟩ => ⟨S8320x1024, .bf16⟩
  | .hbm, ⟨2, _⟩ => ⟨S_, .f32⟩
  | .hbm, ⟨3, _⟩ => ⟨S2816x1024, .f32⟩
  | .hbm, ⟨4, _⟩ => ⟨S2816x8320, .f32⟩
  | .hbm, ⟨5, _⟩ => ⟨S8320x2816, .f32⟩
  | .hbm, ⟨6, _⟩ => ⟨S8320x1024, .f32⟩
  | .hbm, ⟨7, _⟩ => ⟨S_, .f32⟩
  | .hbm, ⟨8, _⟩ => ⟨S8320x1024, .f32⟩
  | .hbm, ⟨9, _⟩ => ⟨S8320x1024, .f32⟩
  | .hbm, ⟨10, _⟩ => ⟨S8320x1024, .f32⟩
  | .hbm, ⟨11, _⟩ => ⟨S_, .f32⟩
  | .hbm, ⟨12, _⟩ => ⟨S8320x1024, .f32⟩
  | .hbm, ⟨13, _⟩ => ⟨S8320x1024, .f32⟩
  | .hbm, ⟨14, _⟩ => ⟨S1024x2816, .f32⟩
  | .hbm, ⟨15, _⟩ => ⟨S2816x1024, .f32⟩
  | _, _ => ⟨S2816x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S8320x1024 : Shape := ⟨2, ![8320, 1024]⟩
abbrev S2816x1024 : Shape := ⟨2, ![2816, 1024]⟩
abbrev S8320x2816 : Shape := ⟨2, ![8320, 2816]⟩
abbrev S640x1024 : Shape := ⟨2, ![640, 1024]⟩
abbrev S640x2816 : Shape := ⟨2, ![640, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S8320x2816, .bf16⟩
  | .local _ .vmem, ⟨0, _⟩ => ⟨S640x1024, .bf16⟩
  | .local _ .vmem, ⟨1, _⟩ => ⟨S640x1024, .bf16⟩
  | .local _ .vmem, ⟨2, _⟩ => ⟨S2816x1024, .bf16⟩
  | .local _ .vmem, ⟨3, _⟩ => ⟨S640x2816, .bf16⟩
  | .local _ .vmem, ⟨4, _⟩ => ⟨S640x2816, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x1024 : Shape := ⟨2, ![8320, 1024]⟩
abbrev S2816x1024 : Shape := ⟨2, ![2816, 1024]⟩
abbrev S_ : Shape := ⟨0, ![]⟩
abbrev S8320x2816 : Shape := ⟨2, ![8320, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S_, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S_, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320x1024, .f32⟩
  | .hbm, ⟨12, _⟩ => ⟨S8320x1024, .f32⟩
  | .hbm, ⟨13, _⟩ => ⟨S8320x2816, .f32⟩
  | .hbm, ⟨14, _⟩ => ⟨S8320x2816, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S1024x8320 : Shape := ⟨2, ![1024, 8320]⟩
abbrev S8320x2816 : Shape := ⟨2, ![8320, 2816]⟩
abbrev S1024x2816 : Shape := ⟨2, ![1024, 2816]⟩
abbrev S1024x1664 : Shape := ⟨2, ![1024, 1664]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S1024x8320, .bf16⟩
  | .hbm, ⟨1, _⟩ => ⟨S8320x2816, .bf16⟩
  | .hbm, ⟨2, _⟩ => ⟨S1024x2816, .f32⟩
  | .local _ .vmem, ⟨0, _⟩ => ⟨S1024x1664, .bf16⟩
  | .local _ .vmem, ⟨1, _⟩ => ⟨S1024x1664, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1024x8320 : Shape := ⟨2, ![1024, 8320]⟩
abbrev S8320x2816 : Shape := ⟨2, ![8320, 2816]⟩
abbrev S_ : Shape := ⟨0, ![]⟩
abbrev S1024x2816 : Shape := ⟨2, ![1024, 2816]⟩
abbrev S8320x1024 : Shape := ⟨2, ![8320, 1024]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x2816, .bf16⟩
  | .hbm, ⟨2, _⟩ => ⟨S_, .f32⟩
  | .hbm, ⟨3, _⟩ => ⟨S1024x2816, .f32⟩
  | .hbm, ⟨4, _⟩ => ⟨S1024x8320, .f32⟩
  | .hbm, ⟨5, _⟩ => ⟨S8320x1024, .f32⟩
  | .hbm, ⟨6, _⟩ => ⟨S8320x2816, .f32⟩
  | .hbm, ⟨7, _⟩ => ⟨S8320x2816, .f32⟩
  | .hbm, ⟨8, _⟩ => ⟨S2816x1024, .f32⟩
  | .hbm, ⟨9, _⟩ => ⟨S1024x2816, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8320x2816 : Shape := ⟨2, ![8320, 2816]⟩
abbrev S1024x2816 : Shape := ⟨2, ![1024, 2816]⟩
abbrev S8320x1024 : Shape := ⟨2, ![8320, 1024]⟩
abbrev S640x1408 : Shape := ⟨2, ![640, 1408]⟩
abbrev S1024x1408 : Shape := ⟨2, ![1024, 1408]⟩
abbrev S640x1024 : Shape := ⟨2, ![640, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x2816, .bf16⟩
  | .hbm, ⟨3, _⟩ => ⟨S1024x2816, .bf16⟩
  | .hbm, ⟨4, _⟩ => ⟨S8320x1024, .f32⟩
  | .local _ .vmem, ⟨0, _⟩ => ⟨S640x1408, .bf16⟩
  | .local _ .vmem, ⟨1, _⟩ => ⟨S640x1408, .bf16⟩
  | .local _ .vmem, ⟨2, _⟩ => ⟨S1024x1408, .bf16⟩
  | .local _ .vmem, ⟨3, _⟩ => ⟨S1024x1408, .bf16⟩
  | .local _ .vmem, ⟨4, _⟩ => ⟨S640x1408, .bf16⟩
  | .local _ .vmem, ⟨5, _⟩ => ⟨S640x1408, .bf16⟩
  | .local _ .vmem, ⟨6, _⟩ => ⟨S1024x1408, .bf16⟩
  | .local _ .vmem, ⟨7, _⟩ => ⟨S1024x1408, .bf16⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![13, 1, 2], ![false, false, false]⟩

def k0_cond3 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference6Ideal.lean ====
abbrev S8320x2816 : Shape := ⟨2, ![8320, 2816]⟩
abbrev S1024x2816 : Shape := ⟨2, ![1024, 2816]⟩
abbrev S_ : Shape := ⟨0, ![]⟩
abbrev S8320x1024 : Shape := ⟨2, ![8320, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x2816, .bf16⟩
  | .hbm, ⟨3, _⟩ => ⟨S1024x2816, .bf16⟩
  | .hbm, ⟨4, _⟩ => ⟨S_, .f32⟩
  | .hbm, ⟨5, _⟩ => ⟨S8320x1024, .f32⟩
  | .hbm, ⟨6, _⟩ => ⟨S1024x2816, .f32⟩
  | .hbm, ⟨7, _⟩ => ⟨S1024x2816, .f32⟩
  | .hbm, ⟨8, _⟩ => ⟨S8320x2816, .f32⟩
  | .hbm, ⟨9, _⟩ => ⟨S8320x2816, .f32⟩
  | .hbm, ⟨10, _⟩ => ⟨S8320x2816, .f32⟩
  | .hbm, ⟨11, _⟩ => ⟨S8320x2816, .f32⟩
  | .hbm, ⟨12, _⟩ => ⟨S8320x1024, .f32⟩
  | .hbm, ⟨13, _⟩ => ⟨S8320x1024, .f32⟩
  | .hbm, ⟨14, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel7.lean ====
abbrev S8320x5120 : Shape := ⟨2, ![8320, 5120]⟩
abbrev S1024x5120 : Shape := ⟨2, ![1024, 5120]⟩
abbrev S8320x1024 : Shape := ⟨2, ![8320, 1024]⟩
abbrev S640x2560 : Shape := ⟨2, ![640, 2560]⟩
abbrev S1024x2560 : Shape := ⟨2, ![1024, 2560]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5120, .bf16⟩
  | .hbm, ⟨1, _⟩ => ⟨S1024x5120, .bf16⟩
  | .hbm, ⟨2, _⟩ => ⟨S8320x1024, .f32⟩
  | .local _ .vmem, ⟨0, _⟩ => ⟨S640x2560, .bf16⟩
  | .local _ .vmem, ⟨1, _⟩ => ⟨S640x2560, .bf16⟩
  | .local _ .vmem, ⟨2, _⟩ => ⟨S1024x2560, .bf16⟩
  | .local _ .vmem, ⟨3, _⟩ => ⟨S1024x2560, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8320x5120 : Shape := ⟨2, ![8320, 5120]⟩
abbrev S1024x5120 : Shape := ⟨2, ![1024, 5120]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x5120, .bf16⟩
  | .hbm, ⟨1, _⟩ => ⟨S1024x5120, .bf16⟩
  | .hbm, ⟨2, _⟩ => ⟨S_, .f32⟩
  | .hbm, ⟨3, _⟩ => ⟨S8320x1024, .f32⟩
  | .hbm, ⟨4, _⟩ => ⟨S1024x5120, .f32⟩
  | .hbm, ⟨5, _⟩ => ⟨S8320x5120, .f32⟩
  | .hbm, ⟨6, _⟩ => ⟨S8320x5120, .f32⟩
  | .hbm, ⟨7, _⟩ => ⟨S8320x1024, .f32⟩
  | _, _ => ⟨S8320x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S1024x8320 : Shape := ⟨2, ![1024, 8320]⟩
abbrev S8320x5120 : Shape := ⟨2, ![8320, 5120]⟩
abbrev S1024x5120 : Shape := ⟨2, ![1024, 5120]⟩
abbrev S1024x1664 : Shape := ⟨2, ![1024, 1664]⟩
abbrev S1664x1280 : Shape := ⟨2, ![1664, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S1024x8320, .bf16⟩
  | .hbm, ⟨1, _⟩ => ⟨S8320x5120, .bf16⟩
  | .hbm, ⟨2, _⟩ => ⟨S1024x5120, .f32⟩
  | .local _ .vmem, ⟨0, _⟩ => ⟨S1024x1664, .bf16⟩
  | .local _ .vmem, ⟨1, _⟩ => ⟨S1024x1664, .bf16⟩
  | .local _ .vmem, ⟨2, _⟩ => ⟨S1664x1280, .bf16⟩
  | .local _ .vmem, ⟨3, _⟩ => ⟨S1664x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1024x8320 : Shape := ⟨2, ![1024, 8320]⟩
abbrev S8320x5120 : Shape := ⟨2, ![8320, 5120]⟩
abbrev S_ : Shape := ⟨0, ![]⟩
abbrev S1024x5120 : Shape := ⟨2, ![1024, 5120]⟩
abbrev S8320x1024 : Shape := ⟨2, ![8320, 1024]⟩
abbrev S5120x1024 : Shape := ⟨2, ![5120, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x5120, .bf16⟩
  | .hbm, ⟨2, _⟩ => ⟨S_, .f32⟩
  | .hbm, ⟨3, _⟩ => ⟨S1024x5120, .f32⟩
  | .hbm, ⟨4, _⟩ => ⟨S1024x8320, .f32⟩
  | .hbm, ⟨5, _⟩ => ⟨S8320x1024, .f32⟩
  | .hbm, ⟨6, _⟩ => ⟨S8320x5120, .f32⟩
  | .hbm, ⟨7, _⟩ => ⟨S8320x5120, .f32⟩
  | .hbm, ⟨8, _⟩ => ⟨S5120x1024, .f32⟩
  | .hbm, ⟨9, _⟩ => ⟨S1024x5120, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8208x8x96 : Shape := ⟨3, ![8208, 8, 96]⟩
abbrev S8208x8x64 : Shape := ⟨3, ![8208, 8, 64]⟩
abbrev S91 : Shape := ⟨1, ![91]⟩
abbrev S8x8208x8208 : Shape := ⟨3, ![8, 8208, 8208]⟩
abbrev S_ : Shape := ⟨0, ![]⟩
abbrev S8x8208 : Shape := ⟨2, ![8, 8208]⟩
abbrev S8x8208x1 : Shape := ⟨3, ![8, 8208, 1]⟩
abbrev S8208x8 : Shape := ⟨2, ![8208, 8]⟩
abbrev S8x8208x64 : Shape := ⟨3, ![8, 8208, 64]⟩
abbrev S2x640x640 : Shape := ⟨3, ![2, 640, 640]⟩
abbrev S1x640 : Shape := ⟨2, ![1, 640]⟩
abbrev S8320x8x128 : Shape := ⟨3, ![8320, 8, 128]⟩
abbrev S8320x1024 : Shape := ⟨2, ![8320, 1024]⟩
abbrev S8208x8x1 : Shape := ⟨3, ![8208, 8, 1]⟩
abbrev S8208x8x128 : Shape := ⟨3, ![8208, 8, 128]⟩
abbrev S640x256 : Shape := ⟨2, ![640, 256]⟩
abbrev S1 : Shape := ⟨1, ![1]⟩
abbrev S1x640x640 : Shape := ⟨3, ![1, 640, 640]⟩
abbrev S8320x256 : Shape := ⟨2, ![8320, 256]⟩
abbrev S640x128 : Shape := ⟨2, ![640, 128]⟩
abbrev S640x640 : Shape := ⟨2, ![640, 640]⟩

abbrev nBuf : Space → Nat
  | .hbm => 133
  | .vmem => 23
  | .smem => 2
  | _ => 0

abbrev hbmTy0_0 (i : Nat) : BufTy := match i % 128 with
  | 0 => ⟨S8208x8x96, .f32⟩
  | 1 => ⟨S8208x8x96, .f32⟩
  | 2 => ⟨S8208x8x64, .f32⟩
  | 3 => ⟨S8208x8x64, .f32⟩
  | 4 => ⟨S8x8208x8208, .f32⟩
  | 5 => ⟨S_, .f32⟩
  | 6 => ⟨S_, .f32⟩
  | 7 => ⟨S_, .f32⟩
  | 8 => ⟨S_, .f32⟩
  | 9 => ⟨S8x8208x8208, .f32⟩
  | 10 => ⟨S8x8208x8208, .f32⟩
  | 11 => ⟨S8x8208x8208, .i32⟩
  | 12 => ⟨S8x8208x8208, .i32⟩
  | 13 => ⟨S8x8208x8208, .i1⟩
  | 14 => ⟨S_, .f32⟩
  | 15 => ⟨S8x8208x8208, .f32⟩
  | 16 => ⟨S8x8208x8208, .f32⟩
  | 17 => ⟨S_, .f32⟩
  | 18 => ⟨S8x8208, .f32⟩
  | 19 => ⟨S8x8208x1, .f32⟩
  | 20 => ⟨S8x8208x8208, .f32⟩
  | 21 => ⟨S8x8208x8208, .f32⟩
  | 22 => ⟨S8x8208x8208, .f32⟩
  | 23 => ⟨S_, .f32⟩
  | 24 => ⟨S8x8208, .f32⟩
  | 25 => ⟨S8x8208, .f32⟩
  | 26 => ⟨S8x8208, .f32⟩
  | 27 => ⟨S_, .f32⟩
  | 28 => ⟨S_, .f32⟩
  | 29 => ⟨S_, .f32⟩
  | 30 => ⟨S_, .f32⟩
  | 31 => ⟨S8x8208, .f32⟩
  | 32 => ⟨S8x8208, .f32⟩
  | 33 => ⟨S8208x8, .f32⟩
  | 34 => ⟨S8x8208x1, .f32⟩
  | 35 => ⟨S8x8208x8208, .f32⟩
  | 36 => ⟨S8x8208x8208, .f32⟩
  | 37 => ⟨S8x8208x64, .f32⟩
  | 38 => ⟨S8208x8x64, .f32⟩
  | 39 => ⟨S8208x8x64, .f32⟩
  | 40 => ⟨S_, .f32⟩
  | 41 => ⟨S8208x8, .f32⟩
  | 42 => ⟨S2x640x640, .i32⟩
  | 43 => ⟨S2x640x640, .i32⟩
  | 44 => ⟨S2x640x640, .i32⟩
  | 45 => ⟨S2x640x640, .i1⟩
  | 46 => ⟨S_, .i32⟩
  | 47 => ⟨S2x640x640, .i32⟩
  | 48 => ⟨S2x640x640, .i1⟩
  | 49 => ⟨S_, .i32⟩
  | 50 => ⟨S2x640x640, .i32⟩
  | 51 => ⟨S2x640x640, .i1⟩
  | 52 => ⟨S2x640x640, .i1⟩
  | 53 => ⟨S2x640x640, .i1⟩
  | 54 => ⟨S_, .f32⟩
  | 55 => ⟨S2x640x640, .f32⟩
  | 56 => ⟨S_, .f32⟩
  | 57 => ⟨S2x640x640, .f32⟩
  | 58 => ⟨S2x640x640, .f32⟩
  | 59 => ⟨S1x640, .i32⟩
  | 60 => ⟨S_, .i32⟩
  | 61 => ⟨S1x640, .i32⟩
  | 62 => ⟨S1x640, .i1⟩
  | 63 => ⟨S_, .f32⟩
  | 64 => ⟨S1x640, .f32⟩
  | 65 => ⟨S_, .f32⟩
  | 66 => ⟨S1x640, .f32⟩
  | 67 => ⟨S1x640, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S8208x8x96, .f32⟩
  | 78 => ⟨S8208x8x96, .f32⟩
  | 79 => ⟨S_, .f32⟩
  | 80 => ⟨S8320x8x128, .f32⟩
  | 81 => ⟨S8320x1024, .f32⟩
  | 82 => ⟨S8320x1024, .bf16⟩
  | 83 => ⟨S_, .f32⟩
  | 84 => ⟨S8320x8x128, .f32⟩
  | 85 => ⟨S8320x1024, .f32⟩
  | 86 => ⟨S8320x1024, .bf16⟩
  | 87 => ⟨S_, .f32⟩
  | 88 => ⟨S8320x8x128, .f32⟩
  | 89 => ⟨S8320x1024, .f32⟩
  | 90 => ⟨S8320x1024, .bf16⟩
  | 91 => ⟨S_, .f32⟩
  | 92 => ⟨S8320x8x128, .f32⟩
  | 93 => ⟨S8320x1024, .f32⟩
  | 94 => ⟨S8208x8x1, .f32⟩
  | 95 => ⟨S8208x8x128, .f32⟩
  | 96 => ⟨S_, .f32⟩
  | 97 => ⟨S8320x8x128, .f32⟩
  | 98 => ⟨S8320x1024, .f32⟩
  | 99 => ⟨S8208x8x1, .f32⟩
  | 100 => ⟨S8208x8x128, .f32⟩
  | 101 => ⟨S_, .f32⟩
  | 102 => ⟨S8320x8x128, .f32⟩
  | 103 => ⟨S8320x1024, .f32⟩
  | 104 => ⟨S2x640x640, .i32⟩
  | 105 => ⟨S2x640x640, .i32⟩
  | 106 => ⟨S2x640x640, .i32⟩
  | 107 => ⟨S2x640x640, .i1⟩
  | 108 => ⟨S_, .i32⟩
  | 109 => ⟨S2x640x640, .i32⟩
  | 110 => ⟨S2x640x640, .i1⟩
  | 111 => ⟨S_, .i32⟩
  | 112 => ⟨S2x640x640, .i32⟩
  | 113 => ⟨S2x640x640, .i1⟩
  | 114 => ⟨S2x640x640, .i1⟩
  | 115 => ⟨S2x640x640, .i1⟩
  | 116 => ⟨S_, .f32⟩
  | 117 => ⟨S2x640x640, .f32⟩
  | 118 => ⟨S_, .f32⟩
  | 119 => ⟨S2x640x640, .f32⟩
  | 120 => ⟨S2x640x640, .f32⟩
  | 121 => ⟨S1x640, .i32⟩
  | 122 => ⟨S_, .i32⟩
  | 123 => ⟨S1x640, .i32⟩
  | 124 => ⟨S1x640, .i1⟩
  | 125 => ⟨S_, .f32⟩
  | 126 => ⟨S1x640, .f32⟩
  | 127 => ⟨S_, .f32⟩
  | _ => ⟨S8208x8x96, .f32⟩

abbrev hbmTy0_1 (i : Nat) : BufTy := match i % 128 with
  | 0 => ⟨S1x640, .f32⟩
  | 1 => ⟨S1x640, .f32⟩
  | 2 => ⟨S8320x1024, .f32⟩
  | 3 => ⟨S8320x1024, .f32⟩
  | 4 => ⟨S8320x1024, .f32⟩
  | _ => ⟨S8208x8x96, .f32⟩

abbrev hbmTy (i : Nat) : BufTy := match i / 128 with
  | 0 => hbmTy0_0 i
  | 1 => hbmTy0_1 i
  | _ => ⟨S8208x8x96, .f32⟩

abbrev bufTy : (tb : Table) → Fin (tcTables nBuf tb) → BufTy
  | .hbm, ⟨i, _⟩ => hbmTy i
  | .local _ .vmem, ⟨0, _⟩ => ⟨S640x256, .bf16⟩
  | .local _ .vmem, ⟨1, _⟩ => ⟨S640x256, .bf16⟩
  | .local _ .vmem, ⟨2, _⟩ => ⟨S640x256, .bf16⟩
  | .local _ .vmem, ⟨3, _⟩ => ⟨S640x256, .bf16⟩
  | .local _ .vmem, ⟨4, _⟩ => ⟨S640x256, .bf16⟩
  | .local _ .vmem, ⟨5, _⟩ => ⟨S640x256, .bf16⟩
  | .local _ .vmem, ⟨6, _⟩ => ⟨S640x256, .f32⟩
  | .local _ .vmem, ⟨7, _⟩ => ⟨S640x256, .f32⟩
  | .local _ .vmem, ⟨8, _⟩ => ⟨S640x256, .f32⟩
  | .local _ .vmem, ⟨9, _⟩ => ⟨S640x256, .f32⟩
  | .local _ .vmem, ⟨10, _⟩ => ⟨S640x256, .f32⟩
  | .local _ .vmem, ⟨11, _⟩ => ⟨S640x256, .f32⟩
  | .local _ .vmem, ⟨12, _⟩ => ⟨S1x640x640, .f32⟩
  | .local _ .vmem, ⟨13, _⟩ => ⟨S1x640x640, .f32⟩
  | .local _ .vmem, ⟨14, _⟩ => ⟨S1x640, .f32⟩
  | .local _ .vmem, ⟨15, _⟩ => ⟨S8320x256, .f32⟩
  | .local _ .vmem, ⟨16, _⟩ => ⟨S8320x256, .f32⟩
  | .local _ .vmem, ⟨17, _⟩ => ⟨S640x256, .f32⟩
  | .local _ .vmem, ⟨18, _⟩ => ⟨S640x256, .f32⟩
  | .local _ .vmem, ⟨19, _⟩ => ⟨S640x256, .f32⟩
  | .local _ .vmem, ⟨20, _⟩ => ⟨S640x256, .f32⟩
  | .local _ .vmem, ⟨21, _⟩ => ⟨S640x256, .f32⟩
  | .local _ .vmem, ⟨22, _⟩ => ⟨S640x256, .f32⟩
  | .local _ .smem, ⟨0, _⟩ => ⟨S91, .i32⟩
  | .local _ .smem, ⟨1, _⟩ => ⟨S91, .i32⟩
  | _, _ => ⟨S8208x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_c_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_12 : Ref sig .tc := ⟨.hbm, 60, rfl⟩
abbrev main_v44 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_cst_14 : Ref sig .tc := ⟨.hbm, 65, rfl⟩
abbrev main_v47 : Ref sig .tc := ⟨.hbm, 66, rfl⟩
abbrev main_v48 : Ref sig .tc := ⟨.hbm, 67, rfl⟩
abbrev main_cst_15 : Ref sig .tc := ⟨.hbm, 68, rfl⟩
abbrev main_v49 : Ref sig .tc := ⟨.hbm, 69, rfl⟩
abbrev main_cst_16 : Ref sig .tc := ⟨.hbm, 70, rfl⟩
abbrev main_v50 : Ref sig .tc := ⟨.hbm, 71, rfl⟩
abbrev main_cst_17 : Ref sig .tc := ⟨.hbm, 72, rfl⟩
abbrev main_v51 : Ref sig .tc := ⟨.hbm, 73, rfl⟩
abbrev main_cst_18 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_19 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_20 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_21 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_22 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_23 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_24 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_25 : Ref sig .tc := ⟨.hbm, 108, rfl⟩
abbrev main_v79 : Ref sig .tc := ⟨.hbm, 109, rfl⟩
abbrev main_v80 : Ref sig .tc := ⟨.hbm, 110, rfl⟩
abbrev main_c_26 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_27 : Ref sig .tc := ⟨.hbm, 116, rfl⟩
abbrev main_v85 : Ref sig .tc := ⟨.hbm, 117, rfl⟩
abbrev main_cst_28 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_29 : Ref sig .tc := ⟨.hbm, 122, rfl⟩
abbrev main_v89 : Ref sig .tc := ⟨.hbm, 123, rfl⟩
abbrev main_v90 : Ref sig .tc := ⟨.hbm, 124, rfl⟩
abbrev main_cst_30 : Ref sig .tc := ⟨.hbm, 125, rfl⟩
abbrev main_v91 : Ref sig .tc := ⟨.hbm, 126, rfl⟩
abbrev main_cst_31 : Ref sig .tc := ⟨.hbm, 127, rfl⟩
abbrev main_v92 : Ref sig .tc := ⟨.hbm, 128, rfl⟩
abbrev main_v93 : Ref sig .tc := ⟨.hbm, 129, rfl⟩
abbrev main_v94_0 : Ref sig .tc := ⟨.hbm, 130, rfl⟩
abbrev main_v94_1 : Ref sig .tc := ⟨.hbm, 131, rfl⟩
abbrev main_v94_2 : Ref sig .tc := ⟨.hbm, 132, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 91], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c640_i32 : BitVec 32 := 640#32
  let v23 : BitVec 32 := Scalar.muli v1 c640_i32
  v23
def k0_cond2 (v1 : BitVec 32) (v3 : BitVec 32) : BitVec 1 :=
  let c0_i32_0 : BitVec 32 := 0#32
  let v7 : BitVec 1 := Scalar.cmpi .sgt v3 c0_i32_0
  let v8 : BitVec 1 := Scalar.cmpi .slt v3 v1
  let v9 : BitVec 1 := Scalar.andi v7 v8
  let v10 : BitVec 32 := Scalar.extui v9
  let c0_i32_1 : BitVec 32 := 0#32
  let v11 : BitVec 1 := Scalar.cmpi .ne v10 c0_i32_1
  v11

def k0_off2 (v1 : BitVec 32) : Fin 2 → Nat :=
  let c640_i32 : BitVec 32 := 640#32
  let v23 : BitVec 32 := Scalar.muli v1 c640_i32
  let v24 : BitVec 32 := v23
  let v114 : Index := Scalar.indexCast v24
  let c0_62 : Index := 0#32
  ![v114.toNat, 0]
def k0_cond3 (v3 : BitVec 32) : BitVec 1 :=
  let c0_i32_58 : BitVec 32 := 0#32
  let v108 : BitVec 1 := Scalar.cmpi .eq v3 c0_i32_58
  let v109 : BitVec 32 := Scalar.extui v108
  let c0_i32_59 : BitVec 32 := 0#32
  let v110 : BitVec 1 := Scalar.cmpi .ne v109 c0_i32_59
  v110

def k0_off3 (v1 : BitVec 32) : Fin 2 → Nat :=
  let c640_i32 : BitVec 32 := 640#32
  let v23 : BitVec 32 := Scalar.muli v1 c640_i32
  let v24 : BitVec 32 := v23
  let v114 : Index := Scalar.indexCast v24
  let c0_62 : Index := 0#32
  ![v114.toNat, 0]
def k0_cond4 (v3 : BitVec 32) : BitVec 1 :=
  let c0_i32_60 : BitVec 32 := 0#32
  let v111 : BitVec 1 := Scalar.cmpi .sgt v3 c0_i32_60
  let v112 : BitVec 32 := Scalar.extui v111
  let c0_i32_61 : BitVec 32 := 0#32
  let v113 : BitVec 1 := Scalar.cmpi .ne v112 c0_i32_61
  v113

def k0_mult2 (v1 : BitVec 32) : BitVec 32 :=
  let c640_i32 : BitVec 32 := 640#32
  let v25 : BitVec 32 := Scalar.muli v1 c640_i32
  v25
def k0_cond5 (v1 : BitVec 32) (v3 : BitVec 32) : BitVec 1 :=
  let c0_i32_2 : BitVec 32 := 0#32
  let v12 : BitVec 1 := Scalar.cmpi .eq v3 c0_i32_2
  let c0_i32_3 : BitVec 32 := 0#32
  let v13 : BitVec 1 := Scalar.cmpi .sgt v1 c0_i32_3
  let v14 : BitVec 1 := Scalar.andi v12 v13
  let v15 : BitVec 32 := Scalar.extui v14
  let c0_i32_4 : BitVec 32 := 0#32
  let v16 : BitVec 1 := Scalar.cmpi .ne v15 c0_i32_4
  v16

def k0_off4 (v1 : BitVec 32) : Fin 2 → Nat :=
  let c640_i32 : BitVec 32 := 640#32
  let v25 : BitVec 32 := Scalar.muli v1 c640_i32
  let v26 : BitVec 32 := v25
  let v120 : Index := Scalar.indexCast v26
  let c0_64 : Index := 0#32
  ![v120.toNat, 0]
def k0_cond6 (v3 : BitVec 32) : BitVec 1 :=
  let c0_i32_60 : BitVec 32 := 0#32
  let v114 : BitVec 1 := Scalar.cmpi .eq v3 c0_i32_60
  let v115 : BitVec 32 := Scalar.extui v114
  let c0_i32_61 : BitVec 32 := 0#32
  let v116 : BitVec 1 := Scalar.cmpi .ne v115 c0_i32_61
  v116

def k0_off5 (v1 : BitVec 32) : Fin 2 → Nat :=
  let c640_i32 : BitVec 32 := 640#32
  let v25 : BitVec 32 := Scalar.muli v1 c640_i32
  let v26 : BitVec 32 := v25
  let v120 : Index := Scalar.indexCast v26
  let c0_64 : Index := 0#32
  ![v120.toNat, 0]
def k0_cond7 (v3 : BitVec 32) : BitVec 1 :=
  let c0_i32_62 : BitVec 32 := 0#32
  let v117 : BitVec 1 := Scalar.cmpi .sgt v3 c0_i32_62
  let v118 : BitVec 32 := Scalar.extui v117
  let c0_i32_63 : BitVec 32 := 0#32
  let v119 : BitVec 1 := Scalar.cmpi .ne v118 c0_i32_63
  v119

def k0_mult3 (v1 : BitVec 32) : BitVec 32 :=
  let c640_i32 : BitVec 32 := 640#32
  let v25 : BitVec 32 := Scalar.muli v1 c640_i32
  v25
def k0_cond8 (v1 : BitVec 32) (v3 : BitVec 32) : BitVec 1 :=
  let v17 : BitVec 1 := Scalar.cmpi .eq v3 v1
  let v18 : BitVec 32 := Scalar.extui v17
  let c0_i32_5 : BitVec 32 := 0#32
  let v19 : BitVec 1 := Scalar.cmpi .ne v18 c0_i32_5
  v19

def k0_off6 (v1 : BitVec 32) : Fin 2 → Nat :=
  let c640_i32 : BitVec 32 := 640#32
  let v25 : BitVec 32 := Scalar.muli v1 c640_i32
  let v26 : BitVec 32 := v25
  let v118 : Index := Scalar.indexCast v26
  let c0_65 : Index := 0#32
  ![v118.toNat, 0]
def k0_cond9 (v3 : BitVec 32) : BitVec 1 :=
  let c0_i32_61 : BitVec 32 := 0#32
  let v112 : BitVec 1 := Scalar.cmpi .eq v3 c0_i32_61
  let v113 : BitVec 32 := Scalar.extui v112
  let c0_i32_62 : BitVec 32 := 0#32
  let v114 : BitVec 1 := Scalar.cmpi .ne v113 c0_i32_62
  v114

def k0_off7 (v1 : BitVec 32) : Fin 2 → Nat :=
  let c640_i32 : BitVec 32 := 640#32
  let v25 : BitVec 32 := Scalar.muli v1 c640_i32
  let v26 : BitVec 32 := v25
  let v118 : Index := Scalar.indexCast v26
  let c0_65 : Index := 0#32
  ![v118.toNat, 0]
def k0_cond10 (v3 : BitVec 32) : BitVec 1 :=
  let c0_i32_63 : BitVec 32 := 0#32
  let v115 : BitVec 1 := Scalar.cmpi .sgt v3 c0_i32_63
  let v116 : BitVec 32 := Scalar.extui v115
  let c0_i32_64 : BitVec 32 := 0#32
  let v117 : BitVec 1 := Scalar.cmpi .ne v116 c0_i32_64
  v117

def k0_chk1 (v1 : BitVec 32) (v3 : BitVec 32) : Prop :=
  (∀ (k0_h2 : k0_cond2 v1 v3 = 1#1), 640 ∣ (k0_mult1 v1).toNat) ∧
  (∀ (k0_h2 : k0_cond2 v1 v3 = 1#1), ∀ (k0_h3 : k0_cond3 v3 = 1#1), ∀ a, (k0_off2 v1) a + S640x256.size a ≤ S8320x256.size a) ∧
  (∀ (k0_h2 : k0_cond2 v1 v3 = 1#1), ∀ (k0_h4 : k0_cond4 v3 = 1#1), ∀ a, (k0_off3 v1) a + S640x256.size a ≤ S8320x256.size a) ∧
  (∀ (k0_h5 : k0_cond5 v1 v3 = 1#1), 640 ∣ (k0_mult2 v1).toNat) ∧
  (∀ (k0_h5 : k0_cond5 v1 v3 = 1#1), ∀ (k0_h6 : k0_cond6 v3 = 1#1), ∀ a, (k0_off4 v1) a + S640x256.size a ≤ S8320x256.size a) ∧
  (∀ (k0_h5 : k0_cond5 v1 v3 = 1#1), ∀ (k0_h7 : k0_cond7 v3 = 1#1), ∀ a, (k0_off5 v1) a + S640x256.size a ≤ S8320x256.size a) ∧
  (∀ (k0_h8 : k0_cond8 v1 v3 = 1#1), 640 ∣ (k0_mult3 v1).toNat) ∧
  (∀ (k0_h8 : k0_cond8 v1 v3 = 1#1), ∀ (k0_h9 : k0_cond9 v3 = 1#1), ∀ a, (k0_off6 v1) a + S640x256.size a ≤ S8320x256.size a) ∧
  (∀ (k0_h8 : k0_cond8 v1 v3 = 1#1), ∀ (k0_h10 : k0_cond10 v3 = 1#1), ∀ a, (k0_off7 v1) a + S640x256.size a ≤ S8320x256.size a)
theorem k0_mult1_dvd : ∀ (v1 : BitVec 32) (v3 : BitVec 32) (k0_hw1 : k0_chk1 v1 v3), ∀ (k0_h2 : k0_cond2 v1 v3 = 1#1), 640 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ (k0_h3 : k0_cond3 v3 = 1#1), ∀ a, (k0_off2 v1) a + S640x256.size a ≤ S8320x256.size a := fun v1 v3 k0_hw1 k0_h2 k0_h3 => k0_hw1.2.1 k0_h2 k0_h3
theorem k0_off3_inb : ∀ (v1 : BitVec 32) (v3 : BitVec 32) (k0_hw1 : k0_chk1 v1 v3), ∀ (k0_h2 : k0_cond2 v1 v3 = 1#1), ∀ (k0_h4 : k0_cond4 v3 = 1#1), ∀ a, (k0_off3 v1) a + S640x256.size a ≤ S8320x256.size a := fun v1 v3 k0_hw1 k0_h2 k0_h4 => k0_hw1.2.2.1 k0_h2 k0_h4
theorem k0_mult2_dvd : ∀ (v1 : BitVec 32) (v3 : BitVec 32) (k0_hw1 : k0_chk1 v1 v3), ∀ (k0_h5 : k0_cond5 v1 v3 = 1#1), 640 ∣ (k0_mult2 v1).toNat := fun v1 v3 k0_hw1 k0_h5 => k0_hw1.2.2.2.1 k0_h5
theorem k0_off4_inb : ∀ (v1 : BitVec 32) (v3 : BitVec 32) (k0_hw1 : k0_chk1 v1 v3), ∀ (k0_h5 : k0_cond5 v1 v3 = 1#1), ∀ (k0_h6 : k0_cond6 v3 = 1#1), ∀ a, (k0_off4 v1) a + S640x256.size a ≤ S8320x256.size a := fun v1 v3 k0_hw1 k0_h5 k0_h6 => k0_hw1.2.2.2.2.1 k0_h5 k0_h6
theorem k0_off5_inb : ∀ (v1 : BitVec 32) (v3 : BitVec 32) (k0_hw1 : k0_chk1 v1 v3), ∀ (k0_h5 : k0_cond5 v1 v3 = 1#1), ∀ (k0_h7 : k0_cond7 v3 = 1#1), ∀ a, (k0_off5 v1) a + S640x256.size a ≤ S8320x256.size a := fun v1 v3 k0_hw1 k0_h5 k0_h7 => k0_hw1.2.2.2.2.2.1 k0_h5 k0_h7
theorem k0_mult3_dvd : ∀ (v1 : BitVec 32) (v3 : BitVec 32) (k0_hw1 : k0_chk1 v1 v3), ∀ (k0_h8 : k0_cond8 v1 v3 = 1#1), 640 ∣ (k0_mult3 v1).toNat := fun v1 v3 k0_hw1 k0_h8 => k0_hw1.2.2.2.2.2.2.1 k0_h8
theorem k0_off6_inb : ∀ (v1 : BitVec 32) (v3 : BitVec 32) (k0_hw1 : k0_chk1 v1 v3), ∀ (k0_h8 : k0_cond8 v1 v3 = 1#1), ∀ (k0_h9 : k0_cond9 v3 = 1#1), ∀ a, (k0_off6 v1) a + S640x256.size a ≤ S8320x256.size a := fun v1 v3 k0_hw1 k0_h8 k0_h9 => k0_hw1.2.2.2.2.2.2.2.1 k0_h8 k0_h9
theorem k0_off7_inb : ∀ (v1 : BitVec 32) (v3 : BitVec 32) (k0_hw1 : k0_chk1 v1 v3), ∀ (k0_h8 : k0_cond8 v1 v3 = 1#1), ∀ (k0_h10 : k0_cond10 v3 = 1#1), ∀ a, (k0_off7 v1) a + S640x256.size a ≤ S8320x256.size a := fun v1 v3 k0_hw1 k0_h8 k0_h10 => k0_hw1.2.2.2.2.2.2.2.2 k0_h8 k0_h10

def k0_cond11 (v1 : BitVec 32) : BitVec 1 :=
  let c12_i32 : BitVec 32 := 12#32
  let v20 : BitVec 1 := Scalar.cmpi .eq v1 c12_i32
  let v21 : BitVec 32 := Scalar.extui v20
  let c0_i32_6 : BitVec 32 := 0#32
  let v22 : BitVec 1 := Scalar.cmpi .ne v21 c0_i32_6
  v22

def cc0_transform_0 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S91.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c1_i32 : BitVec 32 := 1#32
  let v2 : BitVec 32 := Scalar.minsi v1 c1_i32
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x640x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8320x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S640x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S640x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel9Ideal.lean ====
variable {F : FTy → Type} [FloatOps F] [Named F]
def κ : String → Option EReal := fun
  | "scale" => some (((Real.sqrt 96)⁻¹ : ℝ) : EReal)
  | "unscale" => some (((Real.sqrt 96) * (Real.log 2) : ℝ) : EReal)
  | _ => none
-- ==== Reference9Ideal.lean ====
abbrev S8208x8x96 : Shape := ⟨3, ![8208, 8, 96]⟩
abbrev S8208x8x64 : Shape := ⟨3, ![8208, 8, 64]⟩
abbrev S8x8208x8208 : Shape := ⟨3, ![8, 8208, 8208]⟩
abbrev S_ : Shape := ⟨0, ![]⟩
abbrev S8208x8208 : Shape := ⟨2, ![8208, 8208]⟩
abbrev S8x8208 : Shape := ⟨2, ![8, 8208]⟩
abbrev S8x8208x1 : Shape := ⟨3, ![8, 8208, 1]⟩
abbrev S8x64x8208 : Shape := ⟨3, ![8, 64, 8208]⟩
abbrev S8x8208x96 : Shape := ⟨3, ![8, 8208, 96]⟩
abbrev S8320x8x128 : Shape := ⟨3, ![8320, 8, 128]⟩
abbrev S8320x1024 : Shape := ⟨2, ![8320, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8208x8x96, .f32⟩
  | .hbm, ⟨1, _⟩ => ⟨S8208x8x96, .f32⟩
  | .hbm, ⟨2, _⟩ => ⟨S8208x8x64, .f32⟩
  | .hbm, ⟨3, _⟩ => ⟨S8208x8x64, .f32⟩
  | .hbm, ⟨4, _⟩ => ⟨S8x8208x8208, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8208x8208, .f32⟩
  | .hbm, ⟨10, _⟩ => ⟨S8x8208x8208, .f32⟩
  | .hbm, ⟨11, _⟩ => ⟨S8208x8208, .i32⟩
  | .hbm, ⟨12, _⟩ => ⟨S8208x8208, .i32⟩
  | .hbm, ⟨13, _⟩ => ⟨S8208x8208, .i1⟩
  | .hbm, ⟨14, _⟩ => ⟨S_, .f32⟩
  | .hbm, ⟨15, _⟩ => ⟨S_, .f32⟩
  | .hbm, ⟨16, _⟩ => ⟨S8x8208x8208, .i1⟩
  | .hbm, ⟨17, _⟩ => ⟨S8x8208x8208, .f32⟩
  | .hbm, ⟨18, _⟩ => ⟨S8x8208x8208, .f32⟩
  | .hbm, ⟨19, _⟩ => ⟨S_, .f32⟩
  | .hbm, ⟨20, _⟩ => ⟨S8x8208x8208, .f32⟩
  | .hbm, ⟨21, _⟩ => ⟨S_, .f32⟩
  | .hbm, ⟨22, _⟩ => ⟨S8x8208, .f32⟩
  | .hbm, ⟨23, _⟩ => ⟨S8x8208x1, .f32⟩
  | .hbm, ⟨24, _⟩ => ⟨S8x8208x8208, .f32⟩
  | .hbm, ⟨25, _⟩ => ⟨S8x8208x8208, .i1⟩
  | .hbm, ⟨26, _⟩ => ⟨S8x8208x8208, .f32⟩
  | .hbm, ⟨27, _⟩ => ⟨S_, .f32⟩
  | .hbm, ⟨28, _⟩ => ⟨S8x8208, .f32⟩
  | .hbm, ⟨29, _⟩ => ⟨S_, .f32⟩
  | .hbm, ⟨30, _⟩ => ⟨S8x8208, .f32⟩
  | .hbm, ⟨31, _⟩ => ⟨S8x8208, .f32⟩
  | .hbm, ⟨32, _⟩ => ⟨S_, .f32⟩
  | .hbm, ⟨33, _⟩ => ⟨S8x8208, .f32⟩
  | .hbm, ⟨34, _⟩ => ⟨S8x8208, .i1⟩
  | .hbm, ⟨35, _⟩ => ⟨S_, .f32⟩
  | .hbm, ⟨36, _⟩ => ⟨S8x8208, .f32⟩
  | .hbm, ⟨37, _⟩ => ⟨S8x8208, .i1⟩
  | .hbm, ⟨38, _⟩ => ⟨S_, .f32⟩
  | .hbm, ⟨39, _⟩ => ⟨S8x8208, .f32⟩
  | .hbm, ⟨40, _⟩ => ⟨S_, .f32⟩
  | .hbm, ⟨41, _⟩ => ⟨S8x8208, .f32⟩
  | .hbm, ⟨42, _⟩ => ⟨S_, .f32⟩
  | .hbm, ⟨43, _⟩ => ⟨S8x8208, .f32⟩
  | .hbm, ⟨44, _⟩ => ⟨S8x8208, .f32⟩
  | .hbm, ⟨45, _⟩ => ⟨S8x8208, .f32⟩
  | .hbm, ⟨46, _⟩ => ⟨S8x8208x1, .f32⟩
  | .hbm, ⟨47, _⟩ => ⟨S8x8208x8208, .f32⟩
  | .hbm, ⟨48, _⟩ => ⟨S8x8208x8208, .f32⟩
  | .hbm, ⟨49, _⟩ => ⟨S8x8208x8208, .f32⟩
  | .hbm, ⟨50, _⟩ => ⟨S_, .f32⟩
  | .hbm, ⟨51, _⟩ => ⟨S8x8208, .f32⟩
  | .hbm, ⟨52, _⟩ => ⟨S8x8208x1, .f32⟩
  | .hbm, ⟨53, _⟩ => ⟨S8x8208x8208, .f32⟩
  | .hbm, ⟨54, _⟩ => ⟨S8x8208x8208, .f32⟩
  | .hbm, ⟨55, _⟩ => ⟨S8x8208x1, .f32⟩
  | .hbm, ⟨56, _⟩ => ⟨S_, .f32⟩
  | .hbm, ⟨57, _⟩ => ⟨S8x8208x1, .f32⟩
  | .hbm, ⟨58, _⟩ => ⟨S8x8208x1, .f32⟩
  | .hbm, ⟨59, _⟩ => ⟨S8x64x8208, .f32⟩
  | .hbm, ⟨60, _⟩ => ⟨S8208x8x64, .f32⟩
  | .hbm, ⟨61, _⟩ => ⟨S8x64x8208, .f32⟩
  | .hbm, ⟨62, _⟩ => ⟨S8x8208x8208, .f32⟩
  | .hbm, ⟨63, _⟩ => ⟨S8x64x8208, .f32⟩
  | .hbm, ⟨64, _⟩ => ⟨S8208x8x64, .f32⟩
  | .hbm, ⟨65, _⟩ => ⟨S8x8208x8208, .f32⟩
  | .hbm, ⟨66, _⟩ => ⟨S8x8208x8208, .f32⟩
  | .hbm, ⟨67, _⟩ => ⟨S8x8208x8208, .f32⟩
  | .hbm, ⟨68, _⟩ => ⟨S_, .f32⟩
  | .hbm, ⟨69, _⟩ => ⟨S8x8208, .f32⟩
  | .hbm, ⟨70, _⟩ => ⟨S8x8208x1, .f32⟩
  | .hbm, ⟨71, _⟩ => ⟨S8x8208x1, .f32⟩
  | .hbm, ⟨72, _⟩ => ⟨S8x8208x8208, .f32⟩
  | .hbm, ⟨73, _⟩ => ⟨S8x8208x8208, .f32⟩
  | .hbm, ⟨74, _⟩ => ⟨S_, .f32⟩
  | .hbm, ⟨75, _⟩ => ⟨S8x8208, .f32⟩
  | .hbm, ⟨76, _⟩ => ⟨S8x8208x8208, .f32⟩
  | .hbm, ⟨77, _⟩ => ⟨S8x8208x8208, .f32⟩
  | .hbm, ⟨78, _⟩ => ⟨S8x8208x8208, .f32⟩
  | .hbm, ⟨79, _⟩ => ⟨S_, .f32⟩
  | .hbm, ⟨80, _⟩ => ⟨S8x8208x8208, .f32⟩
  | .hbm, ⟨81, _⟩ => ⟨S8x8208x8208, .f32⟩
  | .hbm, ⟨82, _⟩ => ⟨S8x8208x8208, .f32⟩
  | .hbm, ⟨83, _⟩ => ⟨S8x8208x8208, .f32⟩
  | .hbm, ⟨84, _⟩ => ⟨S8x8208x96, .f32⟩
  | .hbm, ⟨85, _⟩ => ⟨S8208x8x96, .f32⟩
  | .hbm, ⟨86, _⟩ => ⟨S8x8208x96, .f32⟩
  | .hbm, ⟨87, _⟩ => ⟨S8208x8x96, .f32⟩
  | .hbm, ⟨88, _⟩ => ⟨S_, .f32⟩
  | .hbm, ⟨89, _⟩ => ⟨S8320x8x128, .f32⟩
  | .hbm, ⟨90, _⟩ => ⟨S8320x1024, .f32⟩
  | .hbm, ⟨91, _⟩ => ⟨S_, .f32⟩
  | .hbm, ⟨92, _⟩ => ⟨S8320x8x128, .f32⟩
  | .hbm, ⟨93, _⟩ => ⟨S8320x1024, .f32⟩
  | .hbm, ⟨94, _⟩ => ⟨S_, .f32⟩
  | .hbm, ⟨95, _⟩ => ⟨S8320x8x128, .f32⟩
  | .hbm, ⟨96, _⟩ => ⟨S8320x1024, .f32⟩
  | _, _ => ⟨S8208x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_v8_1 : Ref sig .tc := ⟨.hbm, 16, rfl⟩
abbrev main_call0_v2 : Ref sig .tc := ⟨.hbm, 17, rfl⟩
abbrev main_v8_0 : Ref sig .tc := ⟨.hbm, 18, rfl⟩
abbrev main_call0_cst : Ref sig .tc := ⟨.hbm, 19, rfl⟩
abbrev main_v8_2 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_cst_9 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Kernel10.lean ====
abbrev S8320x1024 : Shape := ⟨2, ![8320, 1024]⟩
abbrev S1024x2816 : Shape := ⟨2, ![1024, 2816]⟩
abbrev S8320x2816 : Shape := ⟨2, ![8320, 2816]⟩
abbrev S640x1024 : Shape := ⟨2, ![640, 1024]⟩
abbrev S640x2816 : Shape := ⟨2, ![640, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x2816, .bf16⟩
  | .hbm, ⟨2, _⟩ => ⟨S8320x2816, .bf16⟩
  | .local _ .vmem, ⟨0, _⟩ => ⟨S640x1024, .bf16⟩
  | .local _ .vmem, ⟨1, _⟩ => ⟨S640x1024, .bf16⟩
  | .local _ .vmem, ⟨2, _⟩ => ⟨S1024x2816, .bf16⟩
  | .local _ .vmem, ⟨3, _⟩ => ⟨S640x2816, .bf16⟩
  | .local _ .vmem, ⟨4, _⟩ => ⟨S640x2816, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x1024 : Shape := ⟨2, ![8320, 1024]⟩
abbrev S1024x2816 : Shape := ⟨2, ![1024, 2816]⟩
abbrev S8320x2816 : Shape := ⟨2, ![8320, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x2816, .bf16⟩
  | .hbm, ⟨2, _⟩ => ⟨S8320x1024, .f32⟩
  | .hbm, ⟨3, _⟩ => ⟨S1024x2816, .f32⟩
  | .hbm, ⟨4, _⟩ => ⟨S8320x2816, .f32⟩
  | .hbm, ⟨5, _⟩ => ⟨S8320x2816, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8320x1024 : Shape := ⟨2, ![8320, 1024]⟩
abbrev S8320x2816 : Shape := ⟨2, ![8320, 2816]⟩
abbrev S2816x1024 : Shape := ⟨2, ![2816, 1024]⟩
abbrev S640x2816 : Shape := ⟨2, ![640, 2816]⟩
abbrev S640x1024 : Shape := ⟨2, ![640, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8320x2816, .bf16⟩
  | .hbm, ⟨2, _⟩ => ⟨S2816x1024, .bf16⟩
  | .hbm, ⟨3, _⟩ => ⟨S8320x1024, .f32⟩
  | .local _ .vmem, ⟨0, _⟩ => ⟨S640x2816, .bf16⟩
  | .local _ .vmem, ⟨1, _⟩ => ⟨S640x2816, .bf16⟩
  | .local _ .vmem, ⟨2, _⟩ => ⟨S2816x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8320x1024 : Shape := ⟨2, ![8320, 1024]⟩
abbrev S8320x2816 : Shape := ⟨2, ![8320, 2816]⟩
abbrev S2816x1024 : Shape := ⟨2, ![2816, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x2816, .bf16⟩
  | .hbm, ⟨2, _⟩ => ⟨S2816x1024, .bf16⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S_, .f32⟩
  | .hbm, ⟨7, _⟩ => ⟨S8320x1024, .f32⟩
  | .hbm, ⟨8, _⟩ => ⟨S8320x1024, .f32⟩
  | .hbm, ⟨9, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S8320x1024 : Shape := ⟨2, ![8320, 1024]⟩
abbrev S1024x5120 : Shape := ⟨2, ![1024, 5120]⟩
abbrev S8320x5120 : Shape := ⟨2, ![8320, 5120]⟩
abbrev S640x1024 : Shape := ⟨2, ![640, 1024]⟩
abbrev S1024x2560 : Shape := ⟨2, ![1024, 2560]⟩
abbrev S640x2560 : Shape := ⟨2, ![640, 2560]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x5120, .bf16⟩
  | .hbm, ⟨2, _⟩ => ⟨S8320x5120, .f32⟩
  | .local _ .vmem, ⟨0, _⟩ => ⟨S640x1024, .bf16⟩
  | .local _ .vmem, ⟨1, _⟩ => ⟨S640x1024, .bf16⟩
  | .local _ .vmem, ⟨2, _⟩ => ⟨S1024x2560, .bf16⟩
  | .local _ .vmem, ⟨3, _⟩ => ⟨S1024x2560, .bf16⟩
  | .local _ .vmem, ⟨4, _⟩ => ⟨S640x2560, .f32⟩
  | .local _ .vmem, ⟨5, _⟩ => ⟨S640x2560, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8320x1024 : Shape := ⟨2, ![8320, 1024]⟩
abbrev S1024x5120 : Shape := ⟨2, ![1024, 5120]⟩
abbrev S8320x5120 : Shape := ⟨2, ![8320, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5120, .bf16⟩
  | .hbm, ⟨2, _⟩ => ⟨S8320x1024, .f32⟩
  | .hbm, ⟨3, _⟩ => ⟨S1024x5120, .f32⟩
  | .hbm, ⟨4, _⟩ => ⟨S8320x5120, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1024x1024, .bf16⟩
  | .hbm, ⟨3, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8320x1024 : Shape := ⟨2, ![8320, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1024x1024, .bf16⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .bf16⟩
  | .local _ .vmem, ⟨4, _⟩ => ⟨S640x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S8320x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S1024x8320 : Shape := ⟨2, ![1024, 8320]⟩
abbrev S8320x1024 : Shape := ⟨2, ![8320, 1024]⟩
abbrev S1024x1024 : Shape := ⟨2, ![1024, 1024]⟩
abbrev S1024x1664 : Shape := ⟨2, ![1024, 1664]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x8320, .bf16⟩
  | .hbm, ⟨1, _⟩ => ⟨S8320x1024, .bf16⟩
  | .hbm, ⟨2, _⟩ => ⟨S1024x1024, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S1024x8320 : Shape := ⟨2, ![1024, 8320]⟩
abbrev S8320x1024 : Shape := ⟨2, ![8320, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x1024, .bf16⟩
  | .hbm, ⟨2, _⟩ => ⟨S_, .f32⟩
  | .hbm, ⟨3, _⟩ => ⟨S1024x1024, .f32⟩
  | .hbm, ⟨4, _⟩ => ⟨S1024x8320, .f32⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S1024x1024, .f32⟩
  | .hbm, ⟨9, _⟩ => ⟨S1024x1024, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8320x1024 : Shape := ⟨2, ![8320, 1024]⟩
abbrev S512x1024 : Shape := ⟨2, ![512, 1024]⟩
abbrev S8320x512 : Shape := ⟨2, ![8320, 512]⟩
abbrev S640x1024 : Shape := ⟨2, ![640, 1024]⟩
abbrev S640x512 : Shape := ⟨2, ![640, 512]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S512x1024, .bf16⟩
  | .hbm, ⟨2, _⟩ => ⟨S8320x512, .f32⟩
  | .local _ .vmem, ⟨0, _⟩ => ⟨S640x1024, .bf16⟩
  | .local _ .vmem, ⟨1, _⟩ => ⟨S640x1024, .bf16⟩
  | .local _ .vmem, ⟨2, _⟩ => ⟨S512x1024, .bf16⟩
  | .local _ .vmem, ⟨3, _⟩ => ⟨S640x512, .f32⟩
  | .local _ .vmem, ⟨4, _⟩ => ⟨S640x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8320x1024 : Shape := ⟨2, ![8320, 1024]⟩
abbrev S512x1024 : Shape := ⟨2, ![512, 1024]⟩
abbrev S_ : Shape := ⟨0, ![]⟩
abbrev S8320x512 : Shape := ⟨2, ![8320, 512]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S512x1024, .bf16⟩
  | .hbm, ⟨2, _⟩ => ⟨S_, .f32⟩
  | .hbm, ⟨3, _⟩ => ⟨S8320x512, .f32⟩
  | .hbm, ⟨4, _⟩ => ⟨S512x1024, .f32⟩
  | .hbm, ⟨5, _⟩ => ⟨S8320x1024, .f32⟩
  | .hbm, ⟨6, _⟩ => ⟨S8320x1024, .f32⟩
  | .hbm, ⟨7, _⟩ => ⟨S8320x512, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1024x1024, .bf16⟩
  | .local _ .vmem, ⟨3, _⟩ => ⟨S640x1024, .bf16⟩
  | .local _ .vmem, ⟨4, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8320x1024 : Shape := ⟨2, ![8320, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S1024x1024, .f32⟩
  | .hbm, ⟨3, _⟩ => ⟨S8320x1024, .f32⟩
  | .hbm, ⟨4, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S8320x512 : Shape := ⟨2, ![8320, 512]⟩
abbrev S512x1024 : Shape := ⟨2, ![512, 1024]⟩
abbrev S8320x1024 : Shape := ⟨2, ![8320, 1024]⟩
abbrev S640x512 : Shape := ⟨2, ![640, 512]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x512, .bf16⟩
  | .hbm, ⟨1, _⟩ => ⟨S512x1024, .bf16⟩
  | .hbm, ⟨2, _⟩ => ⟨S8320x1024, .bf16⟩
  | .local _ .vmem, ⟨0, _⟩ => ⟨S640x512, .bf16⟩
  | .local _ .vmem, ⟨1, _⟩ => ⟨S640x512, .bf16⟩
  | .local _ .vmem, ⟨2, _⟩ => ⟨S512x1024, .bf16⟩
  | .local _ .vmem, ⟨3, _⟩ => ⟨S640x1024, .bf16⟩
  | .local _ .vmem, ⟨4, _⟩ => ⟨S640x1024, .bf16⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8320x512 : Shape := ⟨2, ![8320, 512]⟩
abbrev S512x1024 : Shape := ⟨2, ![512, 1024]⟩
abbrev S8320x1024 : Shape := ⟨2, ![8320, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S512x1024, .bf16⟩
  | .hbm, ⟨2, _⟩ => ⟨S8320x512, .f32⟩
  | .hbm, ⟨3, _⟩ => ⟨S512x1024, .f32⟩
  | .hbm, ⟨4, _⟩ => ⟨S8320x1024, .f32⟩
  | .hbm, ⟨5, _⟩ => ⟨S8320x1024, .bf16⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1024x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def k0_cond3 (i : grid0.Coords) : BitVec 1 :=
  let arg2 : BitVec 32 := BitVec.ofNat 32 (i 2).val
  let c12_i32 : BitVec 32 := 12#32
  let v10 : BitVec 1 := Scalar.cmpi .eq arg2 c12_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S1024x1024, .f32⟩
  | .hbm, ⟨7, _⟩ => ⟨S1024x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S8320x512 : Shape := ⟨2, ![8320, 512]⟩
abbrev S8320x1024 : Shape := ⟨2, ![8320, 1024]⟩
abbrev S512x1024 : Shape := ⟨2, ![512, 1024]⟩
abbrev S640x512 : Shape := ⟨2, ![640, 512]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x512, .bf16⟩
  | .hbm, ⟨1, _⟩ => ⟨S8320x1024, .bf16⟩
  | .hbm, ⟨2, _⟩ => ⟨S512x1024, .f32⟩
  | .local _ .vmem, ⟨0, _⟩ => ⟨S640x512, .bf16⟩
  | .local _ .vmem, ⟨1, _⟩ => ⟨S640x512, .bf16⟩
  | .local _ .vmem, ⟨2, _⟩ => ⟨S640x1024, .bf16⟩
  | .local _ .vmem, ⟨3, _⟩ => ⟨S640x1024, .bf16⟩
  | .local _ .vmem, ⟨4, _⟩ => ⟨S512x1024, .f32⟩
  | .local _ .vmem, ⟨5, _⟩ => ⟨S512x1024, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def k0_cond3 (i : grid0.Coords) : BitVec 1 :=
  let arg2 : BitVec 32 := BitVec.ofNat 32 (i 2).val
  let c12_i32 : BitVec 32 := 12#32
  let v9 : BitVec 1 := Scalar.cmpi .eq arg2 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S8320x512 : Shape := ⟨2, ![8320, 512]⟩
abbrev S8320x1024 : Shape := ⟨2, ![8320, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S8320x1024, .bf16⟩
  | .hbm, ⟨2, _⟩ => ⟨S_, .f32⟩
  | .hbm, ⟨3, _⟩ => ⟨S512x1024, .f32⟩
  | .hbm, ⟨4, _⟩ => ⟨S8320x512, .f32⟩
  | .hbm, ⟨5, _⟩ => ⟨S8320x1024, .f32⟩
  | .hbm, ⟨6, _⟩ => ⟨S8320x1024, .f32⟩
  | .hbm, ⟨7, _⟩ => ⟨S1024x512, .f32⟩
  | .hbm, ⟨8, _⟩ => ⟨S512x1024, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S8320x384 : Shape := ⟨2, ![8320, 384]⟩
abbrev S384x2048 : Shape := ⟨2, ![384, 2048]⟩
abbrev S8320x2048 : Shape := ⟨2, ![8320, 2048]⟩
abbrev S640x384 : Shape := ⟨2, ![640, 384]⟩
abbrev S640x2048 : Shape := ⟨2, ![640, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8320x384, .bf16⟩
  | .hbm, ⟨1, _⟩ => ⟨S384x2048, .bf16⟩
  | .hbm, ⟨2, _⟩ => ⟨S8320x2048, .f32⟩
  | .local _ .vmem, ⟨0, _⟩ => ⟨S640x384, .bf16⟩
  | .local _ .vmem, ⟨1, _⟩ => ⟨S640x384, .bf16⟩
  | .local _ .vmem, ⟨2, _⟩ => ⟨S384x2048, .bf16⟩
  | .local _ .vmem, ⟨3, _⟩ => ⟨S640x2048, .f32⟩
  | .local _ .vmem, ⟨4, _⟩ => ⟨S640x2048, .f32⟩
  | _, _ => ⟨S8320x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8320x384 : Shape := ⟨2, ![8320, 384]⟩
abbrev S384x2048 : Shape := ⟨2, ![384, 2048]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x384, .bf16⟩
  | .hbm, ⟨1, _⟩ => ⟨S384x2048, .bf16⟩
  | .hbm, ⟨2, _⟩ => ⟨S8320x384, .f32⟩
  | .hbm, ⟨3, _⟩ => ⟨S384x2048, .f32⟩
  | .hbm, ⟨4, _⟩ => ⟨S8320x2048, .f32⟩
  | _, _ => ⟨S8320x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S8320x256 : Shape := ⟨2, ![8320, 256]⟩
abbrev S256x1024 : Shape := ⟨2, ![256, 1024]⟩
abbrev S8320x1024 : Shape := ⟨2, ![8320, 1024]⟩
abbrev S640x256 : Shape := ⟨2, ![640, 256]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x256, .bf16⟩
  | .hbm, ⟨1, _⟩ => ⟨S256x1024, .bf16⟩
  | .hbm, ⟨2, _⟩ => ⟨S8320x1024, .f32⟩
  | .local _ .vmem, ⟨0, _⟩ => ⟨S640x256, .bf16⟩
  | .local _ .vmem, ⟨1, _⟩ => ⟨S640x256, .bf16⟩
  | .local _ .vmem, ⟨2, _⟩ => ⟨S256x1024, .bf16⟩
  | .local _ .vmem, ⟨3, _⟩ => ⟨S640x1024, .f32⟩
  | .local _ .vmem, ⟨4, _⟩ => ⟨S640x1024, .f32⟩
  | _, _ => ⟨S8320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8320x256 : Shape := ⟨2, ![8320, 256]⟩
abbrev S256x1024 : Shape := ⟨2, ![256, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x256, .bf16⟩
  | .hbm, ⟨1, _⟩ => ⟨S256x1024, .bf16⟩
  | .hbm, ⟨2, _⟩ => ⟨S8320x256, .f32⟩
  | .hbm, ⟨3, _⟩ => ⟨S256x1024, .f32⟩
  | .hbm, ⟨4, _⟩ => ⟨S8320x1024, .f32⟩
  | _, _ => ⟨S8320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S8320x1024 : Shape := ⟨2, ![8320, 1024]⟩
abbrev S384x1024 : Shape := ⟨2, ![384, 1024]⟩
abbrev S8320x384 : Shape := ⟨2, ![8320, 384]⟩
abbrev S640x1024 : Shape := ⟨2, ![640, 1024]⟩
abbrev S640x384 : Shape := ⟨2, ![640, 384]⟩

abbrev nBuf : Space → Nat
  | .hbm => 5
  | .vmem => 8
  | .smem => 0
  | _ => 0

abbrev bufTy : (tb : Table) → Fin (tcTables nBuf tb) → BufTy
  | .hbm, ⟨0, _⟩ => ⟨S8320x1024, .bf16⟩
  | .hbm, ⟨1, _⟩ => ⟨S384x1024, .bf16⟩
  | .hbm, ⟨2, _⟩ => ⟨S8320x1024, .bf16⟩
  | .hbm, ⟨3, _⟩ => ⟨S384x1024, .bf16⟩
  | .hbm, ⟨4, _⟩ => ⟨S8320x384, .f32⟩
  | .local _ .vmem, ⟨0, _⟩ => ⟨S640x1024, .bf16⟩
  | .local _ .vmem, ⟨1, _⟩ => ⟨S640x1024, .bf16⟩
  | .local _ .vmem, ⟨2, _⟩ => ⟨S384x1024, .bf16⟩
  | .local _ .vmem, ⟨3, _⟩ => ⟨S640x1024, .bf16⟩
  | .local _ .vmem, ⟨4, _⟩ => ⟨S640x1024, .bf16⟩
  | .local _ .vmem, ⟨5, _⟩ => ⟨S384x1024, .bf16⟩
  | .local _ .vmem, ⟨6, _⟩ => ⟨S640x384, .f32⟩
  | .local _ .vmem, ⟨7, _⟩ => ⟨S640x384, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S640x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference24Ideal.lean ====
abbrev S8320x1024 : Shape := ⟨2, ![8320, 1024]⟩
abbrev S384x1024 : Shape := ⟨2, ![384, 1024]⟩
abbrev S_ : Shape := ⟨0, ![]⟩
abbrev S8320x384 : Shape := ⟨2, ![8320, 384]⟩

abbrev nBuf : Space → Nat
  | .hbm => 15
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S384x1024, .bf16⟩
  | .hbm, ⟨2, _⟩ => ⟨S8320x1024, .bf16⟩
  | .hbm, ⟨3, _⟩ => ⟨S384x1024, .bf16⟩
  | .hbm, ⟨4, _⟩ => ⟨S_, .f32⟩
  | .hbm, ⟨5, _⟩ => ⟨S8320x384, .f32⟩
  | .hbm, ⟨6, _⟩ => ⟨S384x1024, .f32⟩
  | .hbm, ⟨7, _⟩ => ⟨S384x1024, .f32⟩
  | .hbm, ⟨8, _⟩ => ⟨S8320x1024, .f32⟩
  | .hbm, ⟨9, _⟩ => ⟨S8320x1024, .f32⟩
  | .hbm, ⟨10, _⟩ => ⟨S8320x1024, .f32⟩
  | .hbm, ⟨11, _⟩ => ⟨S8320x1024, .f32⟩
  | .hbm, ⟨12, _⟩ => ⟨S8320x384, .f32⟩
  | .hbm, ⟨13, _⟩ => ⟨S8320x384, .f32⟩
  | .hbm, ⟨14, _⟩ => ⟨S8320x384, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel25.lean ====
abbrev S384x8320 : Shape := ⟨2, ![384, 8320]⟩
abbrev S8320x1024 : Shape := ⟨2, ![8320, 1024]⟩
abbrev S384x1024 : Shape := ⟨2, ![384, 1024]⟩
abbrev S384x1664 : Shape := ⟨2, ![384, 1664]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S384x8320, .bf16⟩
  | .hbm, ⟨1, _⟩ => ⟨S8320x1024, .bf16⟩
  | .hbm, ⟨2, _⟩ => ⟨S384x1024, .f32⟩
  | .local _ .vmem, ⟨0, _⟩ => ⟨S384x1664, .bf16⟩
  | .local _ .vmem, ⟨1, _⟩ => ⟨S384x1664, .bf16⟩
  | .local _ .vmem, ⟨2, _⟩ => ⟨S1664x1024, .bf16⟩
  | .local _ .vmem, ⟨3, _⟩ => ⟨S1664x1024, .bf16⟩
  | .local _ .vmem, ⟨4, _⟩ => ⟨S384x1024, .f32⟩
  | .local _ .vmem, ⟨5, _⟩ => ⟨S384x1024, .f32⟩
  | _, _ => ⟨S384x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S384x8320 : Shape := ⟨2, ![384, 8320]⟩
abbrev S8320x1024 : Shape := ⟨2, ![8320, 1024]⟩
abbrev S_ : Shape := ⟨0, ![]⟩
abbrev S384x1024 : Shape := ⟨2, ![384, 1024]⟩
abbrev S8320x384 : Shape := ⟨2, ![8320, 384]⟩
abbrev S1024x384 : Shape := ⟨2, ![1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S384x8320, .bf16⟩
  | .hbm, ⟨1, _⟩ => ⟨S8320x1024, .bf16⟩
  | .hbm, ⟨2, _⟩ => ⟨S_, .f32⟩
  | .hbm, ⟨3, _⟩ => ⟨S384x1024, .f32⟩
  | .hbm, ⟨4, _⟩ => ⟨S384x8320, .f32⟩
  | .hbm, ⟨5, _⟩ => ⟨S8320x384, .f32⟩
  | .hbm, ⟨6, _⟩ => ⟨S8320x1024, .f32⟩
  | .hbm, ⟨7, _⟩ => ⟨S8320x1024, .f32⟩
  | .hbm, ⟨8, _⟩ => ⟨S1024x384, .f32⟩
  | .hbm, ⟨9, _⟩ => ⟨S384x1024, .f32⟩
  | _, _ => ⟨S384x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S8320x1024 : Shape := ⟨2, ![8320, 1024]⟩
abbrev S256x1024 : Shape := ⟨2, ![256, 1024]⟩
abbrev S8320x256 : Shape := ⟨2, ![8320, 256]⟩
abbrev S640x1024 : Shape := ⟨2, ![640, 1024]⟩
abbrev S640x256 : Shape := ⟨2, ![640, 256]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S256x1024, .bf16⟩
  | .hbm, ⟨2, _⟩ => ⟨S8320x256, .f32⟩
  | .local _ .vmem, ⟨0, _⟩ => ⟨S640x1024, .bf16⟩
  | .local _ .vmem, ⟨1, _⟩ => ⟨S640x1024, .bf16⟩
  | .local _ .vmem, ⟨2, _⟩ => ⟨S256x1024, .bf16⟩
  | .local _ .vmem, ⟨3, _⟩ => ⟨S640x256, .f32⟩
  | .local _ .vmem, ⟨4, _⟩ => ⟨S640x256, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8320x1024 : Shape := ⟨2, ![8320, 1024]⟩
abbrev S256x1024 : Shape := ⟨2, ![256, 1024]⟩
abbrev S_ : Shape := ⟨0, ![]⟩
abbrev S8320x256 : Shape := ⟨2, ![8320, 256]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S256x1024, .bf16⟩
  | .hbm, ⟨2, _⟩ => ⟨S_, .f32⟩
  | .hbm, ⟨3, _⟩ => ⟨S8320x256, .f32⟩
  | .hbm, ⟨4, _⟩ => ⟨S256x1024, .f32⟩
  | .hbm, ⟨5, _⟩ => ⟨S8320x1024, .f32⟩
  | .hbm, ⟨6, _⟩ => ⟨S8320x1024, .f32⟩
  | .hbm, ⟨7, _⟩ => ⟨S8320x256, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel27.lean ====
abbrev S256x8320 : Shape := ⟨2, ![256, 8320]⟩
abbrev S8320x1024 : Shape := ⟨2, ![8320, 1024]⟩
abbrev S256x1024 : Shape := ⟨2, ![256, 1024]⟩
abbrev S256x1664 : Shape := ⟨2, ![256, 1664]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x8320, .bf16⟩
  | .hbm, ⟨1, _⟩ => ⟨S8320x1024, .bf16⟩
  | .hbm, ⟨2, _⟩ => ⟨S256x1024, .f32⟩
  | .local _ .vmem, ⟨0, _⟩ => ⟨S256x1664, .bf16⟩
  | .local _ .vmem, ⟨1, _⟩ => ⟨S256x1664, .bf16⟩
  | .local _ .vmem, ⟨2, _⟩ => ⟨S1664x1024, .bf16⟩
  | .local _ .vmem, ⟨3, _⟩ => ⟨S1664x1024, .bf16⟩
  | .local _ .vmem, ⟨4, _⟩ => ⟨S256x1024, .f32⟩
  | .local _ .vmem, ⟨5, _⟩ => ⟨S256x1024, .f32⟩
  | _, _ => ⟨S256x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S256x8320 : Shape := ⟨2, ![256, 8320]⟩
abbrev S8320x1024 : Shape := ⟨2, ![8320, 1024]⟩
abbrev S_ : Shape := ⟨0, ![]⟩
abbrev S256x1024 : Shape := ⟨2, ![256, 1024]⟩
abbrev S8320x256 : Shape := ⟨2, ![8320, 256]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S256x8320, .bf16⟩
  | .hbm, ⟨1, _⟩ => ⟨S8320x1024, .bf16⟩
  | .hbm, ⟨2, _⟩ => ⟨S_, .f32⟩
  | .hbm, ⟨3, _⟩ => ⟨S256x1024, .f32⟩
  | .hbm, ⟨4, _⟩ => ⟨S256x8320, .f32⟩
  | .hbm, ⟨5, _⟩ => ⟨S8320x256, .f32⟩
  | .hbm, ⟨6, _⟩ => ⟨S8320x1024, .f32⟩
  | .hbm, ⟨7, _⟩ => ⟨S8320x1024, .f32⟩
  | .hbm, ⟨8, _⟩ => ⟨S1024x256, .f32⟩
  | .hbm, ⟨9, _⟩ => ⟨S256x1024, .f32⟩
  | _, _ => ⟨S256x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel28.lean ====
abbrev S8320x2816 : Shape := ⟨2, ![8320, 2816]⟩
abbrev S2816x8320 : Shape := ⟨2, ![2816, 8320]⟩
abbrev S640x1408 : Shape := ⟨2, ![640, 1408]⟩
abbrev S1408x640 : Shape := ⟨2, ![1408, 640]⟩

abbrev nBuf : Space → Nat
  | .hbm => 4
  | .vmem => 8
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S8320x2816, .bf16⟩
  | .hbm, ⟨3, _⟩ => ⟨S2816x8320, .bf16⟩
  | .local _ .vmem, ⟨0, _⟩ => ⟨S640x1408, .bf16⟩
  | .local _ .vmem, ⟨1, _⟩ => ⟨S640x1408, .bf16⟩
  | .local _ .vmem, ⟨2, _⟩ => ⟨S640x1408, .bf16⟩
  | .local _ .vmem, ⟨3, _⟩ => ⟨S640x1408, .bf16⟩
  | .local _ .vmem, ⟨4, _⟩ => ⟨S640x1408, .bf16⟩
  | .local _ .vmem, ⟨5, _⟩ => ⟨S640x1408, .bf16⟩
  | .local _ .vmem, ⟨6, _⟩ => ⟨S1408x640, .bf16⟩
  | .local _ .vmem, ⟨7, _⟩ => ⟨S1408x640, .bf16⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference28Ideal.lean ====
abbrev S8320x2816 : Shape := ⟨2, ![8320, 2816]⟩
abbrev S_ : Shape := ⟨0, ![]⟩
abbrev S2816x8320 : Shape := ⟨2, ![2816, 8320]⟩

abbrev nBuf : Space → Nat
  | .hbm => 17
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S8320x2816, .f32⟩
  | .hbm, ⟨3, _⟩ => ⟨S8320x2816, .f32⟩
  | .hbm, ⟨4, _⟩ => ⟨S8320x2816, .f32⟩
  | .hbm, ⟨5, _⟩ => ⟨S_, .f32⟩
  | .hbm, ⟨6, _⟩ => ⟨S8320x2816, .f32⟩
  | .hbm, ⟨7, _⟩ => ⟨S8320x2816, .f32⟩
  | .hbm, ⟨8, _⟩ => ⟨S_, .f32⟩
  | .hbm, ⟨9, _⟩ => ⟨S8320x2816, .f32⟩
  | .hbm, ⟨10, _⟩ => ⟨S8320x2816, .f32⟩
  | .hbm, ⟨11, _⟩ => ⟨S8320x2816, .f32⟩
  | .hbm, ⟨12, _⟩ => ⟨S8320x2816, .f32⟩
  | .hbm, ⟨13, _⟩ => ⟨S8320x2816, .f32⟩
  | .hbm, ⟨14, _⟩ => ⟨S8320x2816, .bf16⟩
  | .hbm, ⟨15, _⟩ => ⟨S2816x8320, .f32⟩
  | .hbm, ⟨16, _⟩ => ⟨S2816x8320, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel29.lean ====
abbrev S8320x1024 : Shape := ⟨2, ![8320, 1024]⟩
abbrev S8320x5120 : Shape := ⟨2, ![8320, 5120]⟩
abbrev S1024x8320 : Shape := ⟨2, ![1024, 8320]⟩
abbrev S640x512 : Shape := ⟨2, ![640, 512]⟩
abbrev S512x640 : Shape := ⟨2, ![512, 640]⟩

abbrev nBuf : Space → Nat
  | .hbm => 5
  | .vmem => 12
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x5120, .f32⟩
  | .hbm, ⟨3, _⟩ => ⟨S8320x1024, .bf16⟩
  | .hbm, ⟨4, _⟩ => ⟨S1024x8320, .bf16⟩
  | .local _ .vmem, ⟨0, _⟩ => ⟨S640x512, .bf16⟩
  | .local _ .vmem, ⟨1, _⟩ => ⟨S640x512, .bf16⟩
  | .local _ .vmem, ⟨2, _⟩ => ⟨S640x512, .bf16⟩
  | .local _ .vmem, ⟨3, _⟩ => ⟨S640x512, .bf16⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | .local _ .vmem, ⟨8, _⟩ => ⟨S640x512, .bf16⟩
  | .local _ .vmem, ⟨9, _⟩ => ⟨S640x512, .bf16⟩
  | .local _ .vmem, ⟨10, _⟩ => ⟨S512x640, .bf16⟩
  | .local _ .vmem, ⟨11, _⟩ => ⟨S512x640, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference29Ideal.lean ====
abbrev S8320x1024 : Shape := ⟨2, ![8320, 1024]⟩
abbrev S8320x5120 : Shape := ⟨2, ![8320, 5120]⟩
abbrev S_ : Shape := ⟨0, ![]⟩
abbrev S1024x8320 : Shape := ⟨2, ![1024, 8320]⟩

abbrev nBuf : Space → Nat
  | .hbm => 29
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x5120, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S_, .f32⟩
  | .hbm, ⟨18, _⟩ => ⟨S8320x1024, .f32⟩
  | .hbm, ⟨19, _⟩ => ⟨S8320x1024, .f32⟩
  | .hbm, ⟨20, _⟩ => ⟨S_, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S8320x1024, .f32⟩
  | .hbm, ⟨26, _⟩ => ⟨S8320x1024, .bf16⟩
  | .hbm, ⟨27, _⟩ => ⟨S1024x8320, .f32⟩
  | .hbm, ⟨28, _⟩ => ⟨S1024x8320, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel30.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S8320x1024 : Shape := ⟨2, ![8320, 1024]⟩
abbrev S1024 : Shape := ⟨1, ![1024]⟩
abbrev S1x1024 : Shape := ⟨2, ![1, 1024]⟩
abbrev S1024x8320 : Shape := ⟨2, ![1024, 8320]⟩
abbrev S640x1024 : Shape := ⟨2, ![640, 1024]⟩
abbrev S1024x640 : Shape := ⟨2, ![1024, 640]⟩
abbrev S640 : Shape := ⟨1, ![640]⟩
abbrev S640x1 : Shape := ⟨2, ![640, 1]⟩

abbrev nBuf : Space → Nat
  | .hbm => 5
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1x1024, .f32⟩
  | .hbm, ⟨3, _⟩ => ⟨S8320x1024, .bf16⟩
  | .hbm, ⟨4, _⟩ => ⟨S1024x8320, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S1024x640, .bf16⟩
  | .local _ .vmem, ⟨6, _⟩ => ⟨S1024x640, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S1024x8320 : Shape := ⟨2, ![1024, 8320]⟩

abbrev nBuf : Space → Nat
  | .hbm => 21
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S8320x1024, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x1024, .f32⟩
  | .hbm, ⟨14, _⟩ => ⟨S8320x1024, .f32⟩
  | .hbm, ⟨15, _⟩ => ⟨S1x1024, .f32⟩
  | .hbm, ⟨16, _⟩ => ⟨S8320x1024, .f32⟩
  | .hbm, ⟨17, _⟩ => ⟨S8320x1024, .f32⟩
  | .hbm, ⟨18, _⟩ => ⟨S8320x1024, .bf16⟩
  | .hbm, ⟨19, _⟩ => ⟨S1024x8320, .f32⟩
  | .hbm, ⟨20, _⟩ => ⟨S1024x8320, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Prepare9Ideal.lean ====
abbrev S8208x8x96 : Shape := ⟨3, ![8208, 8, 96]⟩
abbrev S8208x8x64 : Shape := ⟨3, ![8208, 8, 64]⟩
abbrev S8x8208x8208 : Shape := ⟨3, ![8, 8208, 8208]⟩
abbrev S_ : Shape := ⟨0, ![]⟩
abbrev S8x8208 : Shape := ⟨2, ![8, 8208]⟩
abbrev S8x8208x1 : Shape := ⟨3, ![8, 8208, 1]⟩
abbrev S8208x8 : Shape := ⟨2, ![8208, 8]⟩
abbrev S8x8208x64 : Shape := ⟨3, ![8, 8208, 64]⟩
abbrev S2x640x640 : Shape := ⟨3, ![2, 640, 640]⟩
abbrev S1x640 : Shape := ⟨2, ![1, 640]⟩
abbrev S8320x8x128 : Shape := ⟨3, ![8320, 8, 128]⟩
abbrev S8320x1024 : Shape := ⟨2, ![8320, 1024]⟩
abbrev S8208x8x1 : Shape := ⟨3, ![8208, 8, 1]⟩
abbrev S8208x8x128 : Shape := ⟨3, ![8208, 8, 128]⟩

abbrev nBuf : Space → Nat
  | .hbm => 104
  | .vmem => 0
  | .smem => 0
  | _ => 0

abbrev bufTy : (tb : Table) → Fin (tcTables nBuf tb) → BufTy
  | .hbm, ⟨0, _⟩ => ⟨S8208x8x96, .f32⟩
  | .hbm, ⟨1, _⟩ => ⟨S8208x8x96, .f32⟩
  | .hbm, ⟨2, _⟩ => ⟨S8208x8x64, .f32⟩
  | .hbm, ⟨3, _⟩ => ⟨S8208x8x64, .f32⟩
  | .hbm, ⟨4, _⟩ => ⟨S8x8208x8208, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8208x8208, .f32⟩
  | .hbm, ⟨10, _⟩ => ⟨S8x8208x8208, .f32⟩
  | .hbm, ⟨11, _⟩ => ⟨S8x8208x8208, .i32⟩
  | .hbm, ⟨12, _⟩ => ⟨S8x8208x8208, .i32⟩
  | .hbm, ⟨13, _⟩ => ⟨S8x8208x8208, .i1⟩
  | .hbm, ⟨14, _⟩ => ⟨S_, .f32⟩
  | .hbm, ⟨15, _⟩ => ⟨S8x8208x8208, .f32⟩
  | .hbm, ⟨16, _⟩ => ⟨S8x8208x8208, .f32⟩
  | .hbm, ⟨17, _⟩ => ⟨S_, .f32⟩
  | .hbm, ⟨18, _⟩ => ⟨S8x8208, .f32⟩
  | .hbm, ⟨19, _⟩ => ⟨S8x8208x1, .f32⟩
  | .hbm, ⟨20, _⟩ => ⟨S8x8208x8208, .f32⟩
  | .hbm, ⟨21, _⟩ => ⟨S8x8208x8208, .f32⟩
  | .hbm, ⟨22, _⟩ => ⟨S8x8208x8208, .f32⟩
  | .hbm, ⟨23, _⟩ => ⟨S_, .f32⟩
  | .hbm, ⟨24, _⟩ => ⟨S8x8208, .f32⟩
  | .hbm, ⟨25, _⟩ => ⟨S8x8208, .f32⟩
  | .hbm, ⟨26, _⟩ => ⟨S8x8208, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x8208, .f32⟩
  | .hbm, ⟨32, _⟩ => ⟨S8x8208, .f32⟩
  | .hbm, ⟨33, _⟩ => ⟨S8208x8, .f32⟩
  | .hbm, ⟨34, _⟩ => ⟨S8x8208x1, .f32⟩
  | .hbm, ⟨35, _⟩ => ⟨S8x8208x8208, .f32⟩
  | .hbm, ⟨36, _⟩ => ⟨S8x8208x8208, .f32⟩
  | .hbm, ⟨37, _⟩ => ⟨S8x8208x64, .f32⟩
  | .hbm, ⟨38, _⟩ => ⟨S8208x8x64, .f32⟩
  | .hbm, ⟨39, _⟩ => ⟨S8208x8x64, .f32⟩
  | .hbm, ⟨40, _⟩ => ⟨S_, .f32⟩
  | .hbm, ⟨41, _⟩ => ⟨S8208x8, .f32⟩
  | .hbm, ⟨42, _⟩ => ⟨S2x640x640, .i32⟩
  | .hbm, ⟨43, _⟩ => ⟨S2x640x640, .i32⟩
  | .hbm, ⟨44, _⟩ => ⟨S2x640x640, .i32⟩
  | .hbm, ⟨45, _⟩ => ⟨S2x640x640, .i1⟩
  | .hbm, ⟨46, _⟩ => ⟨S_, .i32⟩
  | .hbm, ⟨47, _⟩ => ⟨S2x640x640, .i32⟩
  | .hbm, ⟨48, _⟩ => ⟨S2x640x640, .i1⟩
  | .hbm, ⟨49, _⟩ => ⟨S_, .i32⟩
  | .hbm, ⟨50, _⟩ => ⟨S2x640x640, .i32⟩
  | .hbm, ⟨51, _⟩ => ⟨S2x640x640, .i1⟩
  | .hbm, ⟨52, _⟩ => ⟨S2x640x640, .i1⟩
  | .hbm, ⟨53, _⟩ => ⟨S2x640x640, .i1⟩
  | .hbm, ⟨54, _⟩ => ⟨S_, .f32⟩
  | .hbm, ⟨55, _⟩ => ⟨S2x640x640, .f32⟩
  | .hbm, ⟨56, _⟩ => ⟨S_, .f32⟩
  | .hbm, ⟨57, _⟩ => ⟨S2x640x640, .f32⟩
  | .hbm, ⟨58, _⟩ => ⟨S2x640x640, .f32⟩
  | .hbm, ⟨59, _⟩ => ⟨S1x640, .i32⟩
  | .hbm, ⟨60, _⟩ => ⟨S_, .i32⟩
  | .hbm, ⟨61, _⟩ => ⟨S1x640, .i32⟩
  | .hbm, ⟨62, _⟩ => ⟨S1x640, .i1⟩
  | .hbm, ⟨63, _⟩ => ⟨S_, .f32⟩
  | .hbm, ⟨64, _⟩ => ⟨S1x640, .f32⟩
  | .hbm, ⟨65, _⟩ => ⟨S_, .f32⟩
  | .hbm, ⟨66, _⟩ => ⟨S1x640, .f32⟩
  | .hbm, ⟨67, _⟩ => ⟨S1x640, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8208x8x96, .f32⟩
  | .hbm, ⟨78, _⟩ => ⟨S8208x8x96, .f32⟩
  | .hbm, ⟨79, _⟩ => ⟨S_, .f32⟩
  | .hbm, ⟨80, _⟩ => ⟨S8320x8x128, .f32⟩
  | .hbm, ⟨81, _⟩ => ⟨S8320x1024, .f32⟩
  | .hbm, ⟨82, _⟩ => ⟨S8320x1024, .bf16⟩
  | .hbm, ⟨83, _⟩ => ⟨S_, .f32⟩
  | .hbm, ⟨84, _⟩ => ⟨S8320x8x128, .f32⟩
  | .hbm, ⟨85, _⟩ => ⟨S8320x1024, .f32⟩
  | .hbm, ⟨86, _⟩ => ⟨S8320x1024, .bf16⟩
  | .hbm, ⟨87, _⟩ => ⟨S_, .f32⟩
  | .hbm, ⟨88, _⟩ => ⟨S8320x8x128, .f32⟩
  | .hbm, ⟨89, _⟩ => ⟨S8320x1024, .f32⟩
  | .hbm, ⟨90, _⟩ => ⟨S8320x1024, .bf16⟩
  | .hbm, ⟨91, _⟩ => ⟨S_, .f32⟩
  | .hbm, ⟨92, _⟩ => ⟨S8320x8x128, .f32⟩
  | .hbm, ⟨93, _⟩ => ⟨S8320x1024, .f32⟩
  | .hbm, ⟨94, _⟩ => ⟨S8208x8x1, .f32⟩
  | .hbm, ⟨95, _⟩ => ⟨S8208x8x128, .f32⟩
  | .hbm, ⟨96, _⟩ => ⟨S_, .f32⟩
  | .hbm, ⟨97, _⟩ => ⟨S8320x8x128, .f32⟩
  | .hbm, ⟨98, _⟩ => ⟨S8320x1024, .f32⟩
  | .hbm, ⟨99, _⟩ => ⟨S8208x8x1, .f32⟩
  | .hbm, ⟨100, _⟩ => ⟨S8208x8x128, .f32⟩
  | .hbm, ⟨101, _⟩ => ⟨S_, .f32⟩
  | .hbm, ⟨102, _⟩ => ⟨S8320x8x128, .f32⟩
  | .hbm, ⟨103, _⟩ => ⟨S8320x1024, .f32⟩
  | _, _ => ⟨S8208x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_cst_16 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_18 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_19 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_20 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_21 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_22 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== Proof.Real.lean ====
/- Facts about extended reals and printed constants that the value proofs share. -/
module

public import Idealize.ShloMosaic.PureOps.Ideal
public import Idealize.ShloMosaic.Lib.StableHlo

@[expose] public section

noncomputable section

namespace Cert.Proof

open Idealize.ShloMosaic

theorem bits_one : Ideal.ofBits .f32 0x3F800000#32 = (1 : EReal) := by
  simp [Ideal.ofBits, Ideal.ieee, -EReal.coe_mul]; norm_num

theorem bits_zero : Ideal.ofBits .f32 0x00000000#32 = (0 : EReal) := by
  simp [Ideal.ofBits, Ideal.ieee, -EReal.coe_mul]

theorem bits_top : Ideal.ofBits .f32 0x7F800000#32 = (⊤ : EReal) := by
  simp [Ideal.ofBits, Ideal.ieee, -EReal.coe_mul]

/-- The sigmoid as both programs spell it. -/
def sig (x : EReal) : EReal := Ideal.div 1 (1 + Ideal.exp (-x))

theorem sig_eq (x : EReal) : sig x = Ideal.logistic x := rfl

/-- A number whose absolute value compares below `⊤` is real. -/
theorem real_of_abs_lt {x : EReal} (h : Ideal.cmp .olt (max x (-x)) ⊤ = 1#1) : ∃ r : ℝ, x = r := by
  induction x with
  | bot => simp [Ideal.cmp] at h
  | top => simp [Ideal.cmp] at h
  | coe r => exact ⟨r, rfl⟩

/-- The derivative of `g · sig g` in its two spellings, against a real cotangent. -/
theorem silu_grad (p : ℝ) (g : EReal) :
    (p : EReal) * sig g * (1 + g * (1 - sig g)) = p * sig g + g * p * (sig g * (1 - sig g)) := by
  have h1 : (1 : EReal) - 1 = 0 := by
    rw [show (1 : EReal) = ((1 : ℝ) : EReal) from rfl, ← EReal.coe_sub]; simp
  simp only [sig_eq]
  induction g with
  | bot => simp
  | top => simp [h1]
  | coe r =>
    rw [Ideal.logistic_coe]
    generalize (1 + Real.exp (-r))⁻¹ = s
    rw [show (1 : EReal) = ((1 : ℝ) : EReal) from rfl]
    simp only [← EReal.coe_sub, ← EReal.coe_mul, ← EReal.coe_add]
    congr 1; ring

end Cert.Proof

end
-- ==== Proof.Gate.lean ====
/- The gradient of `sigmoid(ga) · ya + sigmoid(gb) · yb`: the kernel's four arrays, each as one function of the
   argument arrays, and each equal to the reference's. -/
module

public import proofs.«01_k».proof.Proof.Real
public import proofs.«01_k».proof.Proof.Gen.KernelIdeal.Value
public import proofs.«01_k».proof.Proof.Gen.ReferenceIdeal.Run
public import proofs.«01_k».proof.Proof.Gen.ReferenceIdeal.Read

@[expose] public section

noncomputable section

namespace Cert.KernelIdeal.Gate

open Gen Idealize.ShloMosaic Idealize.ShloMosaic.TcCoe Idealize.SL.Sem

variable (m : (ℓ : Loc nD τ sig) → Buf (Elt Ideal) ℓ)

theorem origin : (![0, 0] : Fin 2 → Nat) = fun _ => 0 := funext fun a => by fin_cases a <;> rfl

/-- The column of `z` that holds branch `b`'s gate for column `i 1` of the result. -/
abbrev zcol (off : Nat) (h : off + 1024 ≤ 5120) (i : S8320x1024.Idx) : S8320x5120.Idx :=
  fun a => match a with
    | ⟨0, _⟩ => ⟨(i 0).val, (i 0).isLt⟩
    | ⟨1, _⟩ => ⟨off + (i 1).val, by have : (i 1).val < 1024 := (i 1).isLt; show off + (i 1).val < 5120; omega⟩

/-- The gradient of a branch's output: the cotangent times the gate. -/
def branch (off : Nat) (h : off + 1024 ≤ 5120) (d : S8320x1024.Idx → EReal) (z : S8320x5120.Idx → EReal) : S8320x1024.Idx → EReal :=
  fun i => d i * Proof.sig (z (zcol off h i))

/-- The gradient of a branch's gate. -/
def gate (off : Nat) (h : off + 1024 ≤ 5120) (d y : S8320x1024.Idx → EReal) (z : S8320x5120.Idx → EReal) : S8320x1024.Idx → EReal :=
  fun i => d i * y i * Proof.sig (z (zcol off h i)) * (1 - Proof.sig (z (zcol off h i)))

/-- Where the windows stand at each grid point. -/
theorem idx_facts : ∀ t : Fin cfg0.N,
    (∀ a : Fin 2, win0_5.index t a = win0_0.index t a ∧ win0_6.index t a = win0_0.index t a ∧ win0_7.index t a = win0_0.index t a
      ∧ win0_8.index t a = win0_0.index t a ∧ win0_1.index t a = win0_0.index t a ∧ win0_2.index t a = win0_0.index t a)
    ∧ win0_3.index t 0 = win0_0.index t 0 ∧ win0_3.index t 1 = win0_0.index t 1 + 2
    ∧ win0_4.index t 0 = win0_0.index t 0 ∧ win0_4.index t 1 = win0_0.index t 1 + 4 :=
  (by decide +kernel : ∀ t : Fin grid0.N, _)

/-- Every block of a result is some grid point's. -/
theorem idx_onto : ∀ (p : Fin 13) (q : Fin 2), ∃ t : Fin cfg0.N, win0_0.index t = ![p.val, q.val] :=
  (by decide +kernel : ∀ (p : Fin 13) (q : Fin 2), ∃ t : Fin grid0.N, win0_0.index t = ![p.val, q.val])

theorem onto (i : S8320x1024.Idx) : ∃ t : Fin cfg0.N, ∀ a : Fin 2,
    win0_0.index t a * S640x512.size a ≤ (i a).val ∧ (i a).val < win0_0.index t a * S640x512.size a + S640x512.size a := by
  have h0 : (i 0).val < 8320 := (i 0).isLt
  have h1 : (i 1).val < 1024 := (i 1).isLt
  obtain ⟨t, ht⟩ := idx_onto ⟨(i 0).val / 640, by omega⟩ ⟨(i 1).val / 512, by omega⟩
  refine ⟨t, fun a => ?_⟩
  rw [ht]
  match a with
  | ⟨0, _⟩ => show (i 0).val / 640 * 640 ≤ (i 0).val ∧ (i 0).val < (i 0).val / 640 * 640 + 640; omega
  | ⟨1, _⟩ => show (i 1).val / 512 * 512 ≤ (i 1).val ∧ (i 1).val < (i 1).val / 512 * 512 + 512; omega

theorem neg_spelt (x : EReal) : (Ideal.ofBits .f32 0x00000000#32 : EReal) - x = -x := by
  rw [Proof.bits_zero, sub_eq_add_neg, zero_add]

theorem sig_spelt (x : EReal) : Ideal.div (Ideal.ofBits .f32 0x3F800000#32)
    (Ideal.ofBits .f32 0x3F800000#32 + Ideal.exp (Ideal.ofBits .f32 0x00000000#32 - x)) = Proof.sig x := by
  rw [neg_spelt, Proof.bits_one]; rfl

variable (c : Dev nD) (t : Fin cfg0.N)

abbrev A0 : S8320x1024.Idx → EReal := m ((c : Thread nD τ).loc main_arg0)
abbrev A1 : S8320x1024.Idx → EReal := m ((c : Thread nD τ).loc main_arg1)
abbrev A2 : S8320x1024.Idx → EReal := m ((c : Thread nD τ).loc main_arg2)
abbrev A3 : S8320x5120.Idx → EReal := m ((c : Thread nD τ).loc main_arg3)

/-- The five argument blocks at a grid point. -/
abbrev B0 : S640x512.Idx → EReal := iblk m c 0 t
abbrev B1 : S640x512.Idx → EReal := iblk m c 1 t
abbrev B2 : S640x512.Idx → EReal := iblk m c 2 t
abbrev B3 : S640x512.Idx → EReal := iblk m c 3 t
abbrev B4 : S640x512.Idx → EReal := iblk m c 4 t

/-- An entry of the first three arguments' blocks, at an array index `i` the block's index `j` names. -/
theorem blk_at (j : S640x512.Idx) (i : S8320x1024.Idx)
    (hi : ∀ a : Fin 2, (i a).val = win0_0.index t a * S640x512.size a + (j a).val) :
    B0 m c t j = A0 m c i ∧ B1 m c t j = A1 m c i
    ∧ B2 m c t j = A2 m c i
    ∧ B3 m c t j = A3 m c (zcol 1024 (by omega) i)
    ∧ B4 m c t j = A3 m c (zcol 2048 (by omega) i) := by
  obtain ⟨e, e3, e3', e4, e4'⟩ := idx_facts t
  have i0 : (i 0).val = win0_0.index t 0 * 640 + (j 0).val := hi 0
  have i1 : (i 1).val = win0_0.index t 1 * 512 + (j 1).val := hi 1
  refine ⟨?_, ?_, ?_, ?_, ?_⟩
  · show m _ _ = m _ _
    congr 1; funext a; apply Fin.ext
    match a with
    | ⟨0, _⟩ => show win0_0.index t 0 * 640 + 1 * (j 0).val = (i 0).val; omega
    | ⟨1, _⟩ => show win0_0.index t 1 * 512 + 1 * (j 1).val = (i 1).val; omega
  · show m _ _ = m _ _
    congr 1; funext a; apply Fin.ext
    match a with
    | ⟨0, _⟩ => show win0_1.index t 0 * 640 + 1 * (j 0).val = (i 0).val; rw [(e 0).2.2.2.2.1]; omega
    | ⟨1, _⟩ => show win0_1.index t 1 * 512 + 1 * (j 1).val = (i 1).val; rw [(e 1).2.2.2.2.1]; omega
  · show m _ _ = m _ _
    congr 1; funext a; apply Fin.ext
    match a with
    | ⟨0, _⟩ => show win0_2.index t 0 * 640 + 1 * (j 0).val = (i 0).val; rw [(e 0).2.2.2.2.2]; omega
    | ⟨1, _⟩ => show win0_2.index t 1 * 512 + 1 * (j 1).val = (i 1).val; rw [(e 1).2.2.2.2.2]; omega
  · show m _ _ = m _ _
    congr 1; funext a; apply Fin.ext
    match a with
    | ⟨0, _⟩ => show win0_3.index t 0 * 640 + 1 * (j 0).val = (i 0).val; omega
    | ⟨1, _⟩ => show win0_3.index t 1 * 512 + 1 * (j 1).val = 1024 + (i 1).val; omega
  · show m _ _ = m _ _
    congr 1; funext a; apply Fin.ext
    match a with
    | ⟨0, _⟩ => show win0_4.index t 0 * 640 + 1 * (j 0).val = (i 0).val; omega
    | ⟨1, _⟩ => show win0_4.index t 1 * 512 + 1 * (j 1).val = 2048 + (i 1).val; omega

/-- The array's index of an entry `j` of a result's block. -/
def at_ (j : S640x512.Idx) : S8320x1024.Idx := ((cfg0.win 0).blk t).view.emb j

theorem at_val (j : S640x512.Idx) (a : Fin 2) : (at_ t j a).val = win0_0.index t a * S640x512.size a + (j a).val := by
  match a with
  | ⟨0, _⟩ => show win0_0.index t 0 * 640 + 1 * (j 0).val = win0_0.index t 0 * 640 + (j 0).val; omega
  | ⟨1, _⟩ => show win0_0.index t 1 * 512 + 1 * (j 1).val = win0_0.index t 1 * 512 + (j 1).val; omega

theorem flushed5 : (dats m 0 c).flushed 5 t
    = ((cfg0.win 5).blk t).view.read (Elt Ideal) (branch 1024 (by omega) (A0 m c) (A3 m c)) := by
  rw [Value.flushed5]
  unfold out0_5
  rw [View.canon_unit_zero origin]
  simp only [View.ld_unit_zero (S := S640x512) origin]
  funext j
  have e : ((cfg0.win 5).blk t).view.emb j = at_ t j := by
    funext a; apply Fin.ext; rw [at_val]
    match a with
    | ⟨0, _⟩ => show win0_5.index t 0 * 640 + 1 * (j 0).val = win0_0.index t 0 * 640 + (j 0).val; rw [((idx_facts t).1 0).1]; omega
    | ⟨1, _⟩ => show win0_5.index t 1 * 512 + 1 * (j 1).val = win0_0.index t 1 * 512 + (j 1).val; rw [((idx_facts t).1 1).1]; omega
  obtain ⟨b0, b1, b2, b3, b4⟩ := blk_at m c t j (at_ t j) (at_val t j)
  rw [View.read_apply, e]
  show B0 m c t j * Ideal.div (Ideal.ofBits .f32 0x3F800000#32)
    (Ideal.ofBits .f32 0x3F800000#32 + Ideal.exp (Ideal.ofBits .f32 0x00000000#32 - B3 m c t j)) = _
  rw [sig_spelt, b0, b3]; rfl

theorem flushed6 : (dats m 0 c).flushed 6 t
    = ((cfg0.win 6).blk t).view.read (Elt Ideal) (branch 2048 (by omega) (A0 m c) (A3 m c)) := by
  rw [Value.flushed6]
  unfold out0_6
  rw [View.canon_unit_zero origin]
  simp only [View.ld_unit_zero (S := S640x512) origin]
  funext j
  have e : ((cfg0.win 6).blk t).view.emb j = at_ t j := by
    funext a; apply Fin.ext; rw [at_val]
    match a with
    | ⟨0, _⟩ => show win0_6.index t 0 * 640 + 1 * (j 0).val = win0_0.index t 0 * 640 + (j 0).val; rw [((idx_facts t).1 0).2.1]; omega
    | ⟨1, _⟩ => show win0_6.index t 1 * 512 + 1 * (j 1).val = win0_0.index t 1 * 512 + (j 1).val; rw [((idx_facts t).1 1).2.1]; omega
  obtain ⟨b0, b1, b2, b3, b4⟩ := blk_at m c t j (at_ t j) (at_val t j)
  rw [View.read_apply, e]
  show B0 m c t j * Ideal.div (Ideal.ofBits .f32 0x3F800000#32)
    (Ideal.ofBits .f32 0x3F800000#32 + Ideal.exp (Ideal.ofBits .f32 0x00000000#32 - B4 m c t j)) = _
  rw [sig_spelt, b0, b4]; rfl

theorem flushed7 : (dats m 0 c).flushed 7 t
    = ((cfg0.win 7).blk t).view.read (Elt Ideal) (gate 1024 (by omega) (A0 m c) (A1 m c) (A3 m c)) := by
  rw [Value.flushed7]
  unfold out0_7
  rw [View.canon_unit_zero origin]
  simp only [View.ld_unit_zero (S := S640x512) origin]
  funext j
  have e : ((cfg0.win 7).blk t).view.emb j = at_ t j := by
    funext a; apply Fin.ext; rw [at_val]
    match a with
    | ⟨0, _⟩ => show win0_7.index t 0 * 640 + 1 * (j 0).val = win0_0.index t 0 * 640 + (j 0).val; rw [((idx_facts t).1 0).2.2.1]; omega
    | ⟨1, _⟩ => show win0_7.index t 1 * 512 + 1 * (j 1).val = win0_0.index t 1 * 512 + (j 1).val; rw [((idx_facts t).1 1).2.2.1]; omega
  obtain ⟨b0, b1, b2, b3, b4⟩ := blk_at m c t j (at_ t j) (at_val t j)
  rw [View.read_apply, e]
  show B0 m c t j * B1 m c t j * Ideal.div (Ideal.ofBits .f32 0x3F800000#32)
    (Ideal.ofBits .f32 0x3F800000#32 + Ideal.exp (Ideal.ofBits .f32 0x00000000#32 - B3 m c t j))
    * (Ideal.ofBits .f32 0x3F800000#32 - Ideal.div (Ideal.ofBits .f32 0x3F800000#32)
    (Ideal.ofBits .f32 0x3F800000#32 + Ideal.exp (Ideal.ofBits .f32 0x00000000#32 - B3 m c t j))) = _
  rw [sig_spelt, b0, b1, b3, Proof.bits_one]; rfl

theorem flushed8 : (dats m 0 c).flushed 8 t
    = ((cfg0.win 8).blk t).view.read (Elt Ideal) (gate 2048 (by omega) (A0 m c) (A2 m c) (A3 m c)) := by
  rw [Value.flushed8]
  unfold out0_8
  rw [View.canon_unit_zero origin]
  simp only [View.ld_unit_zero (S := S640x512) origin]
  funext j
  have e : ((cfg0.win 8).blk t).view.emb j = at_ t j := by
    funext a; apply Fin.ext; rw [at_val]
    match a with
    | ⟨0, _⟩ => show win0_8.index t 0 * 640 + 1 * (j 0).val = win0_0.index t 0 * 640 + (j 0).val; rw [((idx_facts t).1 0).2.2.2.1]; omega
    | ⟨1, _⟩ => show win0_8.index t 1 * 512 + 1 * (j 1).val = win0_0.index t 1 * 512 + (j 1).val; rw [((idx_facts t).1 1).2.2.2.1]; omega
  obtain ⟨b0, b1, b2, b3, b4⟩ := blk_at m c t j (at_ t j) (at_val t j)
  rw [View.read_apply, e]
  show B0 m c t j * B2 m c t j * Ideal.div (Ideal.ofBits .f32 0x3F800000#32)
    (Ideal.ofBits .f32 0x3F800000#32 + Ideal.exp (Ideal.ofBits .f32 0x00000000#32 - B4 m c t j))
    * (Ideal.ofBits .f32 0x3F800000#32 - Ideal.div (Ideal.ofBits .f32 0x3F800000#32)
    (Ideal.ofBits .f32 0x3F800000#32 + Ideal.exp (Ideal.ofBits .f32 0x00000000#32 - B4 m c t j))) = _
  rw [sig_spelt, b0, b2, b4, Proof.bits_one]; rfl

theorem final5 : (dats m 0 c).arrAt 5 cfg0.N = branch 1024 (by omega) (A0 m c) (A3 m c) :=
  (dats m 0 c).arrAt_eq_of_cover 5 _ (fun t _ => flushed5 m c t) fun i => by
    obtain ⟨t, ht⟩ := onto i
    refine ⟨t, flush0_5 t, ?_⟩
    show i ∈ ((View.whole main_v0_0).slice (win0_5.rect t)).set
    rw [View.set_slice_whole, Rect.mem_set_unit]
    intro a
    show win0_5.index t a * S640x512.size a ≤ (i a).val ∧ (i a).val < win0_5.index t a * S640x512.size a + S640x512.size a
    rw [((idx_facts t).1 a).1]; exact ht a

theorem final6 : (dats m 0 c).arrAt 6 cfg0.N = branch 2048 (by omega) (A0 m c) (A3 m c) :=
  (dats m 0 c).arrAt_eq_of_cover 6 _ (fun t _ => flushed6 m c t) fun i => by
    obtain ⟨t, ht⟩ := onto i
    refine ⟨t, flush0_6 t, ?_⟩
    show i ∈ ((View.whole main_v0_1).slice (win0_6.rect t)).set
    rw [View.set_slice_whole, Rect.mem_set_unit]
    intro a
    show win0_6.index t a * S640x512.size a ≤ (i a).val ∧ (i a).val < win0_6.index t a * S640x512.size a + S640x512.size a
    rw [((idx_facts t).1 a).2.1]; exact ht a

theorem final7 : (dats m 0 c).arrAt 7 cfg0.N = gate 1024 (by omega) (A0 m c) (A1 m c) (A3 m c) :=
  (dats m 0 c).arrAt_eq_of_cover 7 _ (fun t _ => flushed7 m c t) fun i => by
    obtain ⟨t, ht⟩ := onto i
    refine ⟨t, flush0_7 t, ?_⟩
    show i ∈ ((View.whole main_v0_2).slice (win0_7.rect t)).set
    rw [View.set_slice_whole, Rect.mem_set_unit]
    intro a
    show win0_7.index t a * S640x512.size a ≤ (i a).val ∧ (i a).val < win0_7.index t a * S640x512.size a + S640x512.size a
    rw [((idx_facts t).1 a).2.2.1]; exact ht a

theorem final8 : (dats m 0 c).arrAt 8 cfg0.N = gate 2048 (by omega) (A0 m c) (A2 m c) (A3 m c) :=
  (dats m 0 c).arrAt_eq_of_cover 8 _ (fun t _ => flushed8 m c t) fun i => by
    obtain ⟨t, ht⟩ := onto i
    refine ⟨t, flush0_8 t, ?_⟩
    show i ∈ ((View.whole main_v0_3).slice (win0_8.rect t)).set
    rw [View.set_slice_whole, Rect.mem_set_unit]
    intro a
    show win0_8.index t a * S640x512.size a ≤ (i a).val ∧ (i a).val < win0_8.index t a * S640x512.size a + S640x512.size a
    rw [((idx_facts t).1 a).2.2.2.1]; exact ht a

/-! ## The reference's arrays -/

open ReferenceIdeal.Read in
theorem ref_sig (z : S8320x5120.Idx → EReal) (i : S8320x1024.Idx) :
    val_main_v9 (F := Ideal) z i = Proof.sig (z (zcol 1024 (by omega) i))
    ∧ val_main_v19 (F := Ideal) z i = Proof.sig (z (zcol 2048 (by omega) i)) := by
  constructor
  · rw [val_main_v9_apply, val_main_v8_apply, val_main_cst_0_apply, val_main_v7_apply, val_main_v6_apply, val_main_cst_apply,
      val_main_v5_apply, val_main_v4_apply, val_main_v0_apply]
    show Ideal.div (Ideal.ofBits .f32 0x3F800000#32) (Ideal.ofBits .f32 0x3F800000#32 + Ideal.exp (-z (zcol 1024 (by omega) i))) = _
    rw [Proof.bits_one]; rfl
  · rw [val_main_v19_apply, val_main_v18_apply, val_main_cst_3_apply, val_main_v17_apply, val_main_v16_apply, val_main_cst_2_apply,
      val_main_v15_apply, val_main_v14_apply, val_main_v1_apply]
    show Ideal.div (Ideal.ofBits .f32 0x3F800000#32) (Ideal.ofBits .f32 0x3F800000#32 + Ideal.exp (-z (zcol 2048 (by omega) i))) = _
    rw [Proof.bits_one]; rfl

open ReferenceIdeal.Read in
theorem ref_branch (d : S8320x1024.Idx → EReal) (z : S8320x5120.Idx → EReal) :
    val_main_v32 (F := Ideal) d z = branch 1024 (by omega) d z ∧ val_main_v33 (F := Ideal) d z = branch 2048 (by omega) d z := by
  constructor
  · funext i
    show val_main_v9 (F := Ideal) z i * d i = d i * _
    rw [(ref_sig z i).1]; exact mul_comm _ _
  · funext i
    show val_main_v19 (F := Ideal) z i * d i = d i * _
    rw [(ref_sig z i).2]; exact mul_comm _ _

open ReferenceIdeal.Read in
theorem ref_gate (d y : S8320x1024.Idx → EReal) (z : S8320x5120.Idx → EReal) :
    val_main_v31 (F := Ideal) d y z = gate 1024 (by omega) d y z ∧ val_main_v28 (F := Ideal) d y z = gate 2048 (by omega) d y z := by
  constructor
  · funext i
    show d i * y i * (val_main_v9 (F := Ideal) z i * (val_main_v10 (F := Ideal) i - val_main_v9 (F := Ideal) z i)) = _
    rw [(ref_sig z i).1, val_main_v10_apply, val_main_cst_1_apply]
    show d i * y i * (_ * (Ideal.ofBits .f32 0x3F800000#32 - _)) = d i * y i * _ * (1 - _)
    rw [Proof.bits_one, mul_assoc (d i * y i)]
  · funext i
    show d i * y i * (val_main_v19 (F := Ideal) z i * (val_main_v20 (F := Ideal) i - val_main_v19 (F := Ideal) z i)) = _
    rw [(ref_sig z i).2, val_main_v20_apply, val_main_cst_4_apply]
    show d i * y i * (_ * (Ideal.ofBits .f32 0x3F800000#32 - _)) = d i * y i * _ * (1 - _)
    rw [Proof.bits_one, mul_assoc (d i * y i)]

end Cert.KernelIdeal.Gate

end
-- ==== Proof.Swiglu.lean ====
/- The gradient of `silu(gate) · up`: the kernel's two arrays are the reference's, element by element. -/
module

public import proofs.«01_k».proof.Proof.Real
public import proofs.«01_k».proof.Pre_finite2
public import proofs.«01_k».proof.Proof.Gen.Kernel2Ideal.Value
public import proofs.«01_k».proof.Proof.Gen.Reference2Ideal.Run
public import proofs.«01_k».proof.Proof.Gen.Reference2Ideal.Read

@[expose] public section

noncomputable section

namespace Cert.Proof

open Kernel2Ideal Reference2Ideal.Read Idealize.ShloMosaic Idealize.ShloMosaic.TcCoe Idealize.SL.Sem

/-- The side conditions the precondition's operations take. -/
instance finite2_facts : Pre_finite2.Facts where
  bitsLt_bf16_f32 := by decide
  bcast_S_S8320x2816 := by decide

/-- Where the cotangent and the up projection are finite, the gate's gradient is the reference's. -/
theorem swiglu_gate (d g u : S8320x2816.Idx → Elt Ideal .bf16)
    (h0 : (Pre_finite2.fn (F := Ideal) d g u).1 = fun _ => 1#1)
    (h1 : (Pre_finite2.fn (F := Ideal) d g u).2 = fun _ => 1#1) :
    Value.G3 (F := Ideal) g d u = val_main_v8 (F := Ideal) d g u := by
  funext i
  obtain ⟨a, ha⟩ : ∃ a : ℝ, d i = a := real_of_abs_lt (by
    have := congrFun h0 i
    rw [← bits_top]; exact this)
  obtain ⟨b, hb⟩ : ∃ b : ℝ, u i = b := real_of_abs_lt (by
    have := congrFun h1 i
    rw [← bits_top]; exact this)
  have e : ∀ x : EReal, (0 : EReal) - x = -x := fun x => by rw [sub_eq_add_neg, zero_add]
  have := silu_grad (a * b) (g i)
  rw [EReal.coe_mul, ← ha, ← hb] at this
  simp only [Value.G3, val_main_v8_apply, val_main_v7_apply,
    val_main_call1_v1_apply, val_main_call1_v2_apply,
    val_main_call1_v0_apply, val_main_v2_2_apply,
    val_main_v2_1_apply, val_main_v0_apply,
    val_main_v1_apply, val_main_v4_apply,
    val_main_v6_apply, val_main_call0_v0_apply,
    val_main_call0_v1_apply, val_main_call0_v2_apply,
    val_main_call0_v3_apply, val_main_call0_v4_apply,
    val_main_call0_v6_apply, val_main_call0_v7_apply,
    val_main_call0_cst_apply, val_main_call0_cst_0_apply,
    val_main_call0_cst_1_apply]
  show d i * u i * Ideal.div (Ideal.ofBits .f32 0x3F800000#32) (Ideal.ofBits .f32 0x3F800000#32 + Ideal.exp (Ideal.ofBits .f32 0x00000000#32 - g i))
      * (Ideal.ofBits .f32 0x3F800000#32 + g i * (Ideal.ofBits .f32 0x3F800000#32
        - Ideal.div (Ideal.ofBits .f32 0x3F800000#32) (Ideal.ofBits .f32 0x3F800000#32 + Ideal.exp (Ideal.ofBits .f32 0x00000000#32 - g i))))
    = d i * u i * Ideal.div (Ideal.ofBits .f32 0x3F800000#32) (Ideal.ofBits .f32 0x3F800000#32 + Ideal.exp (-g i))
      + g i * (d i * u i) * (Ideal.div (Ideal.ofBits .f32 0x3F800000#32) (Ideal.ofBits .f32 0x3F800000#32 + Ideal.exp (-g i))
        * (Ideal.ofBits .f32 0x3F800000#32 - Ideal.div (Ideal.ofBits .f32 0x3F800000#32) (Ideal.ofBits .f32 0x3F800000#32 + Ideal.exp (-g i))))
  rw [bits_one, bits_zero, e]
  exact this

/-- The up projection's gradient is the reference's. -/
theorem swiglu_up (d g : S8320x2816.Idx → Elt Ideal .bf16) :
    Value.G4 (F := Ideal) g d = val_main_v9 (F := Ideal) d g := by
  funext i
  have e : ∀ x : EReal, (0 : EReal) - x = -x := fun x => by rw [sub_eq_add_neg, zero_add]
  simp only [Value.G4, val_main_v9_apply, val_main_v5_apply,
    val_main_v2_0_apply, val_main_v2_2_apply,
    val_main_v0_apply, val_main_v4_apply,
    val_main_call0_v0_apply,
    val_main_call0_v1_apply, val_main_call0_v2_apply,
    val_main_call0_v3_apply, val_main_call0_v4_apply,
    val_main_call0_cst_apply, val_main_call0_cst_0_apply]
  show d i * g i * Ideal.div (Ideal.ofBits .f32 0x3F800000#32) (Ideal.ofBits .f32 0x3F800000#32 + Ideal.exp (Ideal.ofBits .f32 0x00000000#32 - g i))
    = g i * Ideal.div (Ideal.ofBits .f32 0x3F800000#32) (Ideal.ofBits .f32 0x3F800000#32 + Ideal.exp (-g i)) * d i
  rw [bits_one, bits_zero, e, mul_comm (d i) (g i), mul_right_comm]

end Cert.Proof

end
-- ==== Proof.Sums.lean ====
/- Sums of products cut into blocks of consecutive terms, and the constants and laws the products need. -/
module

public import proofs.«01_k».proof.Proof.Real
public import Idealize.ShloMosaic.Lib.ValueIdxCore
public import Mathlib.Algebra.BigOperators.Fin
public import Mathlib.Algebra.BigOperators.Intervals

@[expose] public section

noncomputable section

namespace Cert.Proof

open Idealize.ShloMosaic

theorem bits_half : Ideal.ofBits .f32 0x3F000000#32 = ((1 / 2 : ℝ) : EReal) := by
  simp [Ideal.ofBits, Ideal.ieee, -EReal.coe_mul]; norm_num

/-- The first `q + 1` blocks of `b` terms are the first `q` blocks and one more. -/
theorem sum_block (g : ℕ → EReal) (b q : ℕ) :
    (∑ k ∈ Finset.range ((q + 1) * b), g k) = (∑ k ∈ Finset.range (q * b), g k) + ∑ l : Fin b, g (q * b + l.val) := by
  rw [show (q + 1) * b = q * b + b by ring, Finset.sum_range_add, ← Fin.sum_univ_eq_sum_range (fun l => g (q * b + l))]

/-- The first block alone. -/
theorem sum_first (g : ℕ → EReal) (b : ℕ) :
    (∑ k ∈ Finset.range ((0 + 1) * b), g k) = ∑ l : Fin b, g (0 * b + l.val) := by
  rw [sum_block]; simp

/-- A real factor distributes over a sum of extended reals when it is not negative. -/
theorem mul_sum_of_nonneg {ι : Type} [Fintype ι] (c : ℝ) (hc : 0 ≤ c) (f : ι → EReal) :
    (c : EReal) * ∑ i, f i = ∑ i, (c : EReal) * f i := by
  classical
  induction (Finset.univ : Finset ι) using Finset.induction_on with
  | empty => simp
  | insert a s ha ih =>
    rw [Finset.sum_insert ha, Finset.sum_insert ha, ← ih,
      EReal.left_distrib_of_nonneg_of_ne_top (by exact_mod_cast hc) (EReal.coe_ne_top c)]

/-- An entry of a matrix at two natural numbers: zero outside. -/
def at2 {M K : ℕ} (A : (⟨2, ![M, K]⟩ : Shape).Idx → EReal) (i k : ℕ) : EReal :=
  if h : i < M ∧ k < K then A (ValueIdx.ix2 ⟨i, h.1⟩ ⟨k, h.2⟩) else 0

theorem at2_ix2 {M K : ℕ} (A : (⟨2, ![M, K]⟩ : Shape).Idx → EReal) (i k : ℕ) (hi : i < M) (hk : k < K) :
    at2 A i k = A (ValueIdx.ix2 ⟨i, hi⟩ ⟨k, hk⟩) := dif_pos ⟨hi, hk⟩

/-- Two indices of a matrix with the same coordinates are one. -/
theorem idx2_ext {M K : ℕ} {i j : (⟨2, ![M, K]⟩ : Shape).Idx} (h0 : (i 0).val = (j 0).val) (h1 : (i 1).val = (j 1).val) : i = j := by
  funext a
  match a with
  | ⟨0, _⟩ => exact Fin.ext h0
  | ⟨1, _⟩ => exact Fin.ext h1

/-- A number kept from step to step, started afresh every `n` steps with a block of `b` terms and then grown by the next block,
    is at each step the sum of the terms so far. -/
theorem fold_blocks (N n b : ℕ) (s : (t : ℕ) → t < N → EReal) (g : ℕ → ℕ → EReal)
    (hA : ∀ t h, t % n = 0 → s t h = ∑ l : Fin b, g (t / n) (t % n * b + l.val))
    (hB : ∀ t h, t % n ≠ 0 → s t h = s (t - 1) (Nat.lt_of_le_of_lt (Nat.sub_le _ _) h) + ∑ l : Fin b, g (t / n) (t % n * b + l.val)) :
    ∀ t h, s t h = ∑ k ∈ Finset.range ((t % n + 1) * b), g (t / n) k := by
  intro t
  induction t using Nat.strong_induction_on with
  | _ t ih =>
    intro h
    by_cases h0 : t % n = 0
    · rw [hA t h h0, h0, sum_first]
    · have ht : t ≠ 0 := fun e => h0 (by rw [e, Nat.zero_mod])
      have hn : n ≠ 1 := fun e => h0 (by rw [e, Nat.mod_one])
      have hd : (t - 1) / n = t / n ∧ (t - 1) % n + 1 = t % n := by
        obtain ⟨q, rfl⟩ : ∃ q, t = q + 1 := ⟨t - 1, by omega⟩
        have hne : ¬ n ∣ q + 1 := fun d => h0 (Nat.mod_eq_zero_of_dvd d)
        refine ⟨?_, ?_⟩
        · rw [Nat.add_sub_cancel, Nat.succ_div_of_not_dvd hne]
        · have e1 := Nat.div_add_mod q n
          have e2 := Nat.div_add_mod (q + 1) n
          rw [Nat.succ_div_of_not_dvd hne] at e2
          rw [Nat.add_sub_cancel]; omega
      rw [hB t h h0, ih (t - 1) (by omega), hd.1, hd.2, ← sum_block]

end Cert.Proof

end
-- ==== Proof.GateFwd.lean ====
/- The gate projection of the forward pass, `a · w`: the kernel's array, each block one product, and it equals the reference's. -/
module

public import proofs.«01_k».proof.Proof.Sums
public import proofs.«01_k».proof.Proof.Gen.Kernel10Ideal.Value
public import proofs.«01_k».proof.Proof.Gen.Reference10Ideal.Run
public import proofs.«01_k».proof.Proof.Gen.Reference10Ideal.Read
public import Idealize.ShloMosaic.Lib.MatmulPlain
public import Idealize.ShloMosaic.Lib.Tactic

@[expose] public section

noncomputable section

namespace Cert.Kernel10Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay1_apply (x0 : Vec Ideal S640x1024 .bf16) (x1 : Vec Ideal S1024x2816 .bf16) (p : Fin 640) (q : Fin 2816) :
    (k0_pay1 x0 x1 (ix2 p q) : EReal) = ∑ l : Fin 1024, (x0 (ix2 p l) : EReal) * (x1 (ix2 l q) : EReal) := by
  unfold k0_pay1
  show (matmul (F := Ideal) (φ₁ := .bf16) (φ₂ := .bf16) dot_S640x1024_S1024x2816_S640x2816_1_0_0_1_n_n none x0 x1 (constant S640x2816 .f32 0x00000000#32) (ix2 p q) : EReal) = _
  exact ((Ideal.matmul_plain_apply (φ₁ := .bf16) (φ₂ := .bf16) none x0 x1 (constant S640x2816 .f32 0x00000000#32) p q).trans ((congrArg (fun z : EReal => z + _) Proof.bits_zero).trans (zero_add _)))

variable (m : (ℓ : Loc nD τ sig) → Buf (Elt Ideal) ℓ) (c : Dev nD)

/-- The arguments. -/
abbrev A0 : S8320x1024.Idx → EReal := m ((c : Thread nD τ).loc main_arg0)
abbrev A1 : S1024x2816.Idx → EReal := m ((c : Thread nD τ).loc main_arg1)

/-- The sum that makes an entry of the result. -/
def result : S8320x2816.Idx → EReal := fun i =>
  ∑ k : Fin 1024, A0 m c (ix2 (i 0) k) * A1 m c (ix2 k (i 1))

/-- Where the windows stand at each grid point. -/
theorem idx_facts : ∀ t : Fin cfg0.N,
    win0_0.index t 0 = t.val / 1 ∧ win0_0.index t 1 = 0 ∧ win0_1.index t 0 = 0 ∧ win0_1.index t 1 = t.val % 1
    ∧ win0_2.index t 0 = t.val / 1 ∧ win0_2.index t 1 = t.val % 1 :=
  (by decide +kernel : ∀ t : Fin grid0.N, _)

/-- An entry of the first factor's block. -/
theorem blk0_apply (t : Fin cfg0.N) (p : Fin 640) (l : Fin 1024) (r : Fin 8320) (hr : r.val = t.val / 1 * 640 + p.val) :
    (iblk m c 0 t : S640x1024.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 1024 + 1 * l.val = l.val
    rw [e1]; omega

/-- An entry of the second factor's block. -/
theorem blk1_apply (t : Fin cfg0.N) (l : Fin 1024) (q : Fin 2816) (s : Fin 2816) (hs : s.val = t.val % 1 * 2816 + q.val) :
    (iblk m c 1 t : S1024x2816.Idx → EReal) (ix2 l q) = A1 m c (ix2 l s) := by
  obtain ⟨-, -, e0, e1, -⟩ := idx_facts t
  show m _ _ = m _ _
  congr 1
  apply Proof.idx2_ext
  · show win0_1.index t 0 * 1024 + 1 * l.val = l.val
    rw [e0]; omega
  · show win0_1.index t 1 * 2816 + 1 * q.val = s.val
    rw [e1]; omega

theorem flushed (t : Fin cfg0.N) :
    (dats m 0 c).flushed 2 t = ((cfg0.win 2).blk t).view.read (Elt Ideal) (result m c) := by
  rw [Value.flushed2]
  unfold out0_2
  rw [View.canon_unit_zero origin]
  simp only [View.ld_unit_zero (S := S640x1024) origin, View.ld_unit_zero (S := S1024x2816) origin]
  funext j
  have ht : t.val < 13 := lt_of_lt_of_eq t.isLt N_0
  obtain ⟨-, -, -, -, e0, e1⟩ := idx_facts t
  have j0 : (j 0).val < 640 := (j 0).isLt
  have j1 : (j 1).val < 2816 := (j 1).isLt
  have e : ((cfg0.win 2).blk t).view.emb j
      = (ix2 (⟨t.val / 1 * 640 + (j 0).val, by omega⟩ : Fin 8320) (⟨t.val % 1 * 2816 + (j 1).val, by omega⟩ : Fin 2816) : S8320x2816.Idx) := by
    apply Proof.idx2_ext
    · show win0_2.index t 0 * 640 + 1 * (j 0).val = t.val / 1 * 640 + (j 0).val
      rw [e0]; omega
    · show win0_2.index t 1 * 2816 + 1 * (j 1).val = t.val % 1 * 2816 + (j 1).val
      rw [e1]; omega
  rw [View.read_apply, e]
  have hj : j = ix2 (⟨(j 0).val, j0⟩ : Fin 640) (⟨(j 1).val, j1⟩ : Fin 2816) := Proof.idx2_ext rfl rfl
  show (k0_pay1 (iblk m c 0 t) (iblk m c 1 t) j : EReal) = _
  refine (congrArg (k0_pay1 (iblk m c 0 t) (iblk m c 1 t) : S640x2816.Idx → EReal) hj).trans ?_
  rw [pay1_apply]
  rw [Finset.sum_congr rfl fun l _ => congrArg₂ (fun y z : EReal => y * z)
    (blk0_apply m c t ⟨(j 0).val, j0⟩ l ⟨t.val / 1 * 640 + (j 0).val, by omega⟩ rfl) (blk1_apply m c t l ⟨(j 1).val, j1⟩ ⟨t.val % 1 * 2816 + (j 1).val, by omega⟩ rfl)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 2816 := (i 1).isLt
    have hN : cfg0.N = 13 := N_0
    let t : Fin cfg0.N := ⟨(i 0).val / 640 * 1 + (i 1).val / 2816, by rw [hN]; omega⟩
    obtain ⟨-, -, -, -, e0, e1⟩ := idx_facts t
    have q0 : ((i 0).val / 640 * 1 + (i 1).val / 2816) / 1 = (i 0).val / 640 := by omega
    have q1 : ((i 0).val / 640 * 1 + (i 1).val / 2816) % 1 = (i 1).val / 2816 := by omega
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show ((i 0).val / 640 * 1 + (i 1).val / 2816) / 1 * 640 ≤ (i 0).val ∧ (i 0).val < ((i 0).val / 640 * 1 + (i 1).val / 2816) / 1 * 640 + 640
      rw [q0]; omega
    | ⟨1, _⟩ =>
      show win0_2.index t 1 * 2816 ≤ (i 1).val ∧ (i 1).val < win0_2.index t 1 * 2816 + 2816
      rw [e1]; show ((i 0).val / 640 * 1 + (i 1).val / 2816) % 1 * 2816 ≤ (i 1).val ∧ (i 1).val < ((i 0).val / 640 * 1 + (i 1).val / 2816) % 1 * 2816 + 2816
      rw [q1]; omega

end Cert.Kernel10Ideal.Product

namespace Cert.Reference10Ideal.Product

open Read Idealize.ShloMosaic
open Idealize.ShloMosaic.ValueIdx

/-- The reference's array, entry by entry. -/
theorem val_eq (a : S8320x1024.Idx → EReal) (b : S1024x2816.Idx → EReal) :
    (val_main_v3 (F := Ideal) a b : S8320x2816.Idx → EReal)
      = fun i => ∑ k : Fin 1024, a (ix2 (i 0) k) * b (ix2 k (i 1)) := by
  funext i
  rw [val_main_v3_apply]
  show (val_main_v2 (F := Ideal) a b i : EReal) = _
  rw [val_main_v2_apply]
  refine Finset.sum_congr rfl fun k _ => ?_
  rw [val_main_v0_apply, val_main_v1_apply]
  exact congrArg₂ (fun a b : EReal => a * b) (congrArg a (Proof.idx2_ext rfl rfl)) (congrArg b (Proof.idx2_ext rfl rfl))

end Cert.Reference10Ideal.Product

end
-- ==== Proof.DownFwd.lean ====
/- The down projection of the forward pass, `h + 0.5 · act · w_down`: the kernel's array, each block one product, and it equals the reference's. -/
module

public import proofs.«01_k».proof.Proof.Sums
public import proofs.«01_k».proof.Proof.Gen.Kernel11Ideal.Value
public import proofs.«01_k».proof.Proof.Gen.Reference11Ideal.Run
public import proofs.«01_k».proof.Proof.Gen.Reference11Ideal.Read
public import Idealize.ShloMosaic.Lib.MatmulPlain
public import Idealize.ShloMosaic.Lib.Tactic

@[expose] public section

noncomputable section

namespace Cert.Kernel11Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay1_apply (x0 : Vec Ideal S640x2816 .bf16) (x1 : Vec Ideal S2816x1024 .bf16) (x2 : Vec Ideal S640x1024 .f32) (p : Fin 640) (q : Fin 1024) :
    (k0_pay1 x0 x1 x2 (ix2 p q) : EReal) = (∑ l : Fin 2816, (x0 (ix2 p l) : EReal) * (x1 (ix2 l q) : EReal)) * ((1 / 2 : ℝ) : EReal) + x2 (ix2 p q) := by
  unfold k0_pay1
  exact congrArg (fun z : EReal => z + _) (congrArg₂ (fun y z : EReal => y * z) ((Ideal.matmul_plain_apply _ _ _ _ p q).trans ((congrArg (fun z : EReal => z + _) Proof.bits_zero).trans (zero_add _))) Proof.bits_half)

variable (m : (ℓ : Loc nD τ sig) → Buf (Elt Ideal) ℓ) (c : Dev nD)

/-- The arguments. -/
abbrev A0 : S8320x2816.Idx → EReal := m ((c : Thread nD τ).loc main_arg1)
abbrev A1 : S2816x1024.Idx → EReal := m ((c : Thread nD τ).loc main_arg2)
abbrev A2 : S8320x1024.Idx → EReal := m ((c : Thread nD τ).loc main_arg0)

/-- The sum that makes an entry of the result. -/
def result : S8320x1024.Idx → EReal := fun i =>
  (∑ k : Fin 2816, A0 m c (ix2 (i 0) k) * A1 m c (ix2 k (i 1))) * ((1 / 2 : ℝ) : EReal) + A2 m c i

/-- Where the windows stand at each grid point. -/
theorem idx_facts : ∀ t : Fin cfg0.N,
    win0_0.index t 0 = t.val / 1 ∧ win0_0.index t 1 = 0 ∧ win0_1.index t 0 = 0 ∧ win0_1.index t 1 = t.val % 1
    ∧ win0_2.index t 0 = t.val / 1 ∧ win0_2.index t 1 = t.val % 1
    ∧ win0_3.index t 0 = t.val / 1 ∧ win0_3.index t 1 = t.val % 1 :=
  (by decide +kernel : ∀ t : Fin grid0.N, _)

/-- An entry of the first factor's block. -/
theorem blk0_apply (t : Fin cfg0.N) (p : Fin 640) (l : Fin 2816) (r : Fin 8320) (hr : r.val = t.val / 1 * 640 + p.val) :
    (iblk m c 0 t : S640x2816.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 2816 + 1 * l.val = l.val
    rw [e1]; omega

/-- An entry of the second factor's block. -/
theorem blk1_apply (t : Fin cfg0.N) (l : Fin 2816) (q : Fin 1024) (s : Fin 1024) (hs : s.val = t.val % 1 * 1024 + q.val) :
    (iblk m c 1 t : S2816x1024.Idx → EReal) (ix2 l q) = A1 m c (ix2 l s) := by
  obtain ⟨-, -, e0, e1, -⟩ := idx_facts t
  show m _ _ = m _ _
  congr 1
  apply Proof.idx2_ext
  · show win0_1.index t 0 * 2816 + 1 * l.val = l.val
    rw [e0]; omega
  · show win0_1.index t 1 * 1024 + 1 * q.val = s.val
    rw [e1]; omega

/-- An entry of the added array's block. -/
theorem blk2_apply (t : Fin cfg0.N) (p : Fin 640) (q : Fin 1024) (r : Fin 8320) (s : Fin 1024)
    (hr : r.val = t.val / 1 * 640 + p.val) (hs : s.val = t.val % 1 * 1024 + q.val) :
    (iblk m c 2 t : S640x1024.Idx → EReal) (ix2 p q) = A2 m c (ix2 r s) := by
  obtain ⟨-, -, -, -, e0, e1, -⟩ := idx_facts t
  show m _ _ = m _ _
  congr 1
  apply Proof.idx2_ext
  · show win0_2.index t 0 * 640 + 1 * p.val = r.val
    rw [e0]; omega
  · show win0_2.index t 1 * 1024 + 1 * q.val = s.val
    rw [e1]; omega

theorem flushed (t : Fin cfg0.N) :
    (dats m 0 c).flushed 3 t = ((cfg0.win 3).blk t).view.read (Elt Ideal) (result m c) := by
  rw [Value.flushed3]
  unfold out0_3
  rw [View.canon_unit_zero origin]
  simp only [View.ld_unit_zero (S := S640x2816) origin, View.ld_unit_zero (S := S2816x1024) origin, View.ld_unit_zero (S := S640x1024) origin]
  funext j
  have ht : t.val < 13 := lt_of_lt_of_eq t.isLt N_0
  obtain ⟨-, -, -, -, -, -, e0, e1⟩ := idx_facts t
  have j0 : (j 0).val < 640 := (j 0).isLt
  have j1 : (j 1).val < 1024 := (j 1).isLt
  have e : ((cfg0.win 3).blk t).view.emb j
      = (ix2 (⟨t.val / 1 * 640 + (j 0).val, by omega⟩ : Fin 8320) (⟨t.val % 1 * 1024 + (j 1).val, by omega⟩ : Fin 1024) : S8320x1024.Idx) := by
    apply Proof.idx2_ext
    · show win0_3.index t 0 * 640 + 1 * (j 0).val = t.val / 1 * 640 + (j 0).val
      rw [e0]; omega
    · show win0_3.index t 1 * 1024 + 1 * (j 1).val = t.val % 1 * 1024 + (j 1).val
      rw [e1]; omega
  rw [View.read_apply, e]
  have hj : j = ix2 (⟨(j 0).val, j0⟩ : Fin 640) (⟨(j 1).val, j1⟩ : Fin 1024) := Proof.idx2_ext rfl rfl
  show (k0_pay1 (iblk m c 0 t) (iblk m c 1 t) (iblk m c 2 t) j : EReal) = _
  refine (congrArg (k0_pay1 (iblk m c 0 t) (iblk m c 1 t) (iblk m c 2 t) : S640x1024.Idx → EReal) hj).trans ?_
  rw [pay1_apply]
  rw [Finset.sum_congr rfl fun l _ => congrArg₂ (fun y z : EReal => y * z)
    (blk0_apply m c t ⟨(j 0).val, j0⟩ l ⟨t.val / 1 * 640 + (j 0).val, by omega⟩ rfl) (blk1_apply m c t l ⟨(j 1).val, j1⟩ ⟨t.val % 1 * 1024 + (j 1).val, by omega⟩ rfl)]
  rw [blk2_apply m c t ⟨(j 0).val, j0⟩ ⟨(j 1).val, j1⟩ ⟨t.val / 1 * 640 + (j 0).val, by omega⟩ ⟨t.val % 1 * 1024 + (j 1).val, by omega⟩ rfl rfl]
  rfl

theorem final : (dats m 0 c).arrAt 3 cfg0.N = result m c :=
  (dats m 0 c).arrAt_eq_of_cover 3 _ (fun t _ => flushed m c t) fun i => by
    have h0 : (i 0).val < 8320 := (i 0).isLt
    have h1 : (i 1).val < 1024 := (i 1).isLt
    have hN : cfg0.N = 13 := N_0
    let t : Fin cfg0.N := ⟨(i 0).val / 640 * 1 + (i 1).val / 1024, by rw [hN]; omega⟩
    obtain ⟨-, -, -, -, -, -, e0, e1⟩ := idx_facts t
    have q0 : ((i 0).val / 640 * 1 + (i 1).val / 1024) / 1 = (i 0).val / 640 := by omega
    have q1 : ((i 0).val / 640 * 1 + (i 1).val / 1024) % 1 = (i 1).val / 1024 := by omega
    refine ⟨t, flush0_3 t, ?_⟩
    show i ∈ ((View.whole main_v0).slice (win0_3.rect t)).set
    rw [View.set_slice_whole, Rect.mem_set_unit]
    intro a
    match a with
    | ⟨0, _⟩ =>
      show win0_3.index t 0 * 640 ≤ (i 0).val ∧ (i 0).val < win0_3.index t 0 * 640 + 640
      rw [e0]; show ((i 0).val / 640 * 1 + (i 1).val / 1024) / 1 * 640 ≤ (i 0).val ∧ (i 0).val < ((i 0).val / 640 * 1 + (i 1).val / 1024) / 1 * 640 + 640
      rw [q0]; omega
    | ⟨1, _⟩ =>
      show win0_3.index t 1 * 1024 ≤ (i 1).val ∧ (i 1).val < win0_3.index t 1 * 1024 + 1024
      rw [e1]; show ((i 0).val / 640 * 1 + (i 1).val / 1024) % 1 * 1024 ≤ (i 1).val ∧ (i 1).val < ((i 0).val / 640 * 1 + (i 1).val / 1024) % 1 * 1024 + 1024
      rw [q1]; omega

end Cert.Kernel11Ideal.Product

namespace Cert.Reference11Ideal.Product

open Read Idealize.ShloMosaic
open Idealize.ShloMosaic.ValueIdx

/-- The reference's array, entry by entry. -/
theorem val_eq (h : S8320x1024.Idx → EReal) (a : S8320x2816.Idx → EReal) (b : S2816x1024.Idx → EReal) :
    (val_main_v5 (F := Ideal) h a b : S8320x1024.Idx → EReal)
      = fun i => (∑ k : Fin 2816, a (ix2 (i 0) k) * b (ix2 k (i 1))) * ((1 / 2 : ℝ) : EReal) + h i := by
  funext i
  rw [val_main_v5_apply, val_main_v4_apply, val_main_v3_apply, val_main_cst_apply, val_main_v2_apply]
  show (h i : EReal) + Ideal.ofBits .f32 0x3F000000#32 * _ = _
  rw [Proof.bits_half, mul_comm, add_comm]
  refine congrArg (fun z : EReal => z * _ + h i) ?_
  refine Finset.sum_congr rfl fun k _ => ?_
  rw [val_main_v0_apply, val_main_v1_apply]
  exact congrArg₂ (fun a b : EReal => a * b) (congrArg a (Proof.idx2_ext rfl rfl)) (congrArg b (Proof.idx2_ext rfl rfl))

end Cert.Reference11Ideal.Product

end
-- ==== Proof.InprojFwd.lean ====
/- The input projection of the forward pass, `u · w_in`: the kernel's array, each block one product, and it equals the reference's. -/
module

public import proofs.«01_k».proof.Proof.Sums
public import proofs.«01_k».proof.Proof.Gen.Kernel12Ideal.Value
public import proofs.«01_k».proof.Proof.Gen.Reference12Ideal.Run
public import proofs.«01_k».proof.Proof.Gen.Reference12Ideal.Read
public import Idealize.ShloMosaic.Lib.MatmulPlain
public import Idealize.ShloMosaic.Lib.Tactic

@[expose] public section

noncomputable section

namespace Cert.Kernel12Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay1_apply (x0 : Vec Ideal S640x1024 .bf16) (x1 : Vec Ideal S1024x2560 .bf16) (p : Fin 640) (q : Fin 2560) :
    (k0_pay1 x0 x1 (ix2 p q) : EReal) = ∑ l : Fin 1024, (x0 (ix2 p l) : EReal) * (x1 (ix2 l q) : EReal) := by
  unfold k0_pay1
  exact ((Ideal.matmul_plain_apply _ _ _ _ p q).trans ((congrArg (fun z : EReal => z + _) Proof.bits_zero).trans (zero_add _)))

variable (m : (ℓ : Loc nD τ sig) → Buf (Elt Ideal) ℓ) (c : Dev nD)

/-- The arguments. -/
abbrev A0 : S8320x1024.Idx → EReal := m ((c : Thread nD τ).loc main_arg0)
abbrev A1 : S1024x5120.Idx → EReal := m ((c : Thread nD τ).loc main_arg1)

/-- The sum that makes an entry of the result. -/
def result : S8320x5120.Idx → EReal := fun i =>
  ∑ k : Fin 1024, A0 m c (ix2 (i 0) k) * A1 m c (ix2 k (i 1))

/-- Where the windows stand at each grid point. -/
theorem idx_facts : ∀ t : Fin cfg0.N,
    win0_0.index t 0 = t.val / 2 ∧ win0_0.index t 1 = 0 ∧ win0_1.index t 0 = 0 ∧ win0_1.index t 1 = t.val % 2
    ∧ win0_2.index t 0 = t.val / 2 ∧ win0_2.index t 1 = t.val % 2 :=
  (by decide +kernel : ∀ t : Fin grid0.N, _)

/-- An entry of the first factor's block. -/
theorem blk0_apply (t : Fin cfg0.N) (p : Fin 640) (l : Fin 1024) (r : Fin 8320) (hr : r.val = t.val / 2 * 640 + p.val) :
    (iblk m c 0 t : S640x1024.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 1024 + 1 * l.val = l.val
    rw [e1]; omega

/-- An entry of the second factor's block. -/
theorem blk1_apply (t : Fin cfg0.N) (l : Fin 1024) (q : Fin 2560) (s : Fin 5120) (hs : s.val = t.val % 2 * 2560 + q.val) :
    (iblk m c 1 t : S1024x2560.Idx → EReal) (ix2 l q) = A1 m c (ix2 l s) := by
  obtain ⟨-, -, e0, e1, -⟩ := idx_facts t
  show m _ _ = m _ _
  congr 1
  apply Proof.idx2_ext
  · show win0_1.index t 0 * 1024 + 1 * l.val = l.val
    rw [e0]; omega
  · show win0_1.index t 1 * 2560 + 1 * q.val = s.val
    rw [e1]; omega

theorem flushed (t : Fin cfg0.N) :
    (dats m 0 c).flushed 2 t = ((cfg0.win 2).blk t).view.read (Elt Ideal) (result m c) := by
  rw [Value.flushed2]
  unfold out0_2
  rw [View.canon_unit_zero origin]
  simp only [View.ld_unit_zero (S := S640x1024) origin, View.ld_unit_zero (S := S1024x2560) origin]
  funext j
  have ht : t.val < 26 := lt_of_lt_of_eq t.isLt N_0
  obtain ⟨-, -, -, -, e0, e1⟩ := idx_facts t
  have j0 : (j 0).val < 640 := (j 0).isLt
  have j1 : (j 1).val < 2560 := (j 1).isLt
  have e : ((cfg0.win 2).blk t).view.emb j
      = (ix2 (⟨t.val / 2 * 640 + (j 0).val, by omega⟩ : Fin 8320) (⟨t.val % 2 * 2560 + (j 1).val, by omega⟩ : Fin 5120) : S8320x5120.Idx) := by
    apply Proof.idx2_ext
    · show win0_2.index t 0 * 640 + 1 * (j 0).val = t.val / 2 * 640 + (j 0).val
      rw [e0]; omega
    · show win0_2.index t 1 * 2560 + 1 * (j 1).val = t.val % 2 * 2560 + (j 1).val
      rw [e1]; omega
  rw [View.read_apply, e]
  have hj : j = ix2 (⟨(j 0).val, j0⟩ : Fin 640) (⟨(j 1).val, j1⟩ : Fin 2560) := Proof.idx2_ext rfl rfl
  show (k0_pay1 (iblk m c 0 t) (iblk m c 1 t) j : EReal) = _
  refine (congrArg (k0_pay1 (iblk m c 0 t) (iblk m c 1 t) : S640x2560.Idx → EReal) hj).trans ?_
  rw [pay1_apply]
  rw [Finset.sum_congr rfl fun l _ => congrArg₂ (fun y z : EReal => y * z)
    (blk0_apply m c t ⟨(j 0).val, j0⟩ l ⟨t.val / 2 * 640 + (j 0).val, by omega⟩ rfl) (blk1_apply m c t l ⟨(j 1).val, j1⟩ ⟨t.val % 2 * 2560 + (j 1).val, by omega⟩ rfl)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 5120 := (i 1).isLt
    have hN : cfg0.N = 26 := N_0
    let t : Fin cfg0.N := ⟨(i 0).val / 640 * 2 + (i 1).val / 2560, by rw [hN]; omega⟩
    obtain ⟨-, -, -, -, e0, e1⟩ := idx_facts t
    have q0 : ((i 0).val / 640 * 2 + (i 1).val / 2560) / 2 = (i 0).val / 640 := by omega
    have q1 : ((i 0).val / 640 * 2 + (i 1).val / 2560) % 2 = (i 1).val / 2560 := by omega
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show ((i 0).val / 640 * 2 + (i 1).val / 2560) / 2 * 640 ≤ (i 0).val ∧ (i 0).val < ((i 0).val / 640 * 2 + (i 1).val / 2560) / 2 * 640 + 640
      rw [q0]; omega
    | ⟨1, _⟩ =>
      show win0_2.index t 1 * 2560 ≤ (i 1).val ∧ (i 1).val < win0_2.index t 1 * 2560 + 2560
      rw [e1]; show ((i 0).val / 640 * 2 + (i 1).val / 2560) % 2 * 2560 ≤ (i 1).val ∧ (i 1).val < ((i 0).val / 640 * 2 + (i 1).val / 2560) % 2 * 2560 + 2560
      rw [q1]; omega

end Cert.Kernel12Ideal.Product

namespace Cert.Reference12Ideal.Product

open Read Idealize.ShloMosaic
open Idealize.ShloMosaic.ValueIdx

/-- The reference's array, entry by entry. -/
theorem val_eq (a : S8320x1024.Idx → EReal) (b : S1024x5120.Idx → EReal) :
    (val_main_v2 (F := Ideal) a b : S8320x5120.Idx → EReal)
      = fun i => ∑ k : Fin 1024, a (ix2 (i 0) k) * b (ix2 k (i 1)) := by
  funext i
  rw [val_main_v2_apply]
  refine Finset.sum_congr rfl fun k _ => ?_
  rw [val_main_v0_apply, val_main_v1_apply]
  exact congrArg₂ (fun a b : EReal => a * b) (congrArg a (Proof.idx2_ext rfl rfl)) (congrArg b (Proof.idx2_ext rfl rfl))

end Cert.Reference12Ideal.Product

end
-- ==== Proof.Dwdown.lean ====
/- The gradient of the down projection's weight, `0.5 · actᵀ · dm`: the kernel's array is the sum over all the rows, added up
   five blocks of 1664 rows at a time, and it equals the reference's. -/
module

public import proofs.«01_k».proof.Proof.Sums
public import proofs.«01_k».proof.Proof.Gen.Kernel3Ideal.Value
public import proofs.«01_k».proof.Proof.Gen.Reference3Ideal.Run
public import proofs.«01_k».proof.Proof.Gen.Reference3Ideal.Read
public import Idealize.ShloMosaic.Lib.MatmulPlain
public import Idealize.ShloMosaic.Lib.Tactic

@[expose] public section

noncomputable section

namespace Cert.Kernel3Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

section Cases

variable (c : Dev nD) (i : grid0.Coords) (a3 : Memref sig .tc .vmem S1408x1664 .bf16) (h3 : a3.IsWhole)
  (a4 : Memref sig .tc .vmem S1664x1024 .bf16) (h4 : a4.IsWhole) (a5 : Memref sig .tc .vmem S1408x1024 .f32) (h5 : a5.IsWhole)
  (a6 : Memref sig .tc .vmem S1408x1024 .f32) (h6 : a6.IsWhole)
  (x0 : Vec Ideal S1408x1664 .bf16) (x1 : Vec Ideal S1664x1024 .bf16) (xs : Vec Ideal S1408x1024 .f32)

/-- The first block's product starts the sum. -/
theorem scratch_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  unfold k0_pay2
  simp only [View.readAt_eq_ld, h3.read_unread, h4.read_unread, View.ld_unit_zero (S := S1408x1664) origin,
    View.ld_unit_zero (S := S1664x1024) origin, shapeCast_self]

/-- A later block's product is added. -/
theorem scratch_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero origin]
  unfold k0_pay3
  simp only [View.readAt_eq_ld, h3.read_unread, h4.read_unread, h6.read_unread, View.ld_unit_zero (S := S1408x1664) origin,
    View.ld_unit_zero (S := S1664x1024) origin, View.ld_unit_zero (S := S1408x1024) origin, shapeCast_self]

theorem scratch_C (hc0 : ¬cond0_0 i) (hc1 : cond0_1 i) (hc2 : cond0_2 i) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero origin]
  unfold k0_pay3
  simp only [View.readAt_eq_ld, h3.read_unread, h4.read_unread, h6.read_unread, View.ld_unit_zero (S := S1408x1664) origin,
    View.ld_unit_zero (S := S1664x1024) origin, View.ld_unit_zero (S := S1408x1024) origin, shapeCast_self]

/-- The last block's product is added, and the sum scaled. -/
theorem out_C (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero origin, View.readCov_unit_zero (S := S1408x1024) _ origin]
  unfold k0_pay3
  simp only [View.readAt_eq_ld, h3.read_unread, h4.read_unread, h6.read_unread, View.ld_unit_zero (S := S1408x1664) origin,
    View.ld_unit_zero (S := S1664x1024) origin, View.ld_unit_zero (S := S1408x1024) origin, shapeCast_self]

/-- A block's product, entry by entry. -/
theorem pay1_apply (p : Fin 1408) (q : Fin 1024) :
    k0_pay1 x0 x1 (ix2 p q) = ∑ l : Fin 1664, (x0 (ix2 p l) : EReal) * (x1 (ix2 l q) : EReal) := by
  unfold k0_pay1
  exact (Ideal.matmul_plain_apply _ _ _ _ p q).trans
    ((congrArg (fun z : EReal => z + _) Proof.bits_zero).trans (zero_add _))

end Cases

variable (m : (ℓ : Loc nD τ sig) → Buf (Elt Ideal) ℓ) (c : Dev nD)

/-- The two arguments. -/
abbrev A0 : S2816x8320.Idx → EReal := m ((c : Thread nD τ).loc main_arg0)
abbrev A1 : S8320x1024.Idx → EReal := m ((c : Thread nD τ).loc main_arg1)

/-- Where the windows stand at each grid point. -/
theorem idx_facts : ∀ t : Fin cfg0.N,
    win0_0.index t 0 = t.val / 5 ∧ win0_0.index t 1 = t.val % 5 ∧ win0_1.index t 0 = t.val % 5 ∧ win0_1.index t 1 = 0 :=
  (by decide +kernel : ∀ t : Fin grid0.N, _)

/-- An entry of the first argument's block. -/
theorem blk0_apply (t : Fin cfg0.N) (p : Fin 1408) (l : Fin 1664) :
    (iblk m c 0 t : S1408x1664.Idx → EReal) (ix2 p l) = Proof.at2 (A0 m c) (t.val / 5 * 1408 + p.val) (t.val % 5 * 1664 + l.val) := by
  have ht : t.val < 10 := lt_of_lt_of_eq t.isLt N_0
  obtain ⟨e0, e1, -, -⟩ := idx_facts t
  rw [Proof.at2_ix2 _ _ _ (by omega) (by omega)]
  show m _ _ = m _ _
  congr 1
  apply Proof.idx2_ext
  · show win0_0.index t 0 * 1408 + 1 * p.val = t.val / 5 * 1408 + p.val
    rw [e0]; omega
  · show win0_0.index t 1 * 1664 + 1 * l.val = t.val % 5 * 1664 + l.val
    rw [e1]; omega

/-- An entry of the second argument's block. -/
theorem blk1_apply (t : Fin cfg0.N) (l : Fin 1664) (q : Fin 1024) :
    (iblk m c 1 t : S1664x1024.Idx → EReal) (ix2 l q) = Proof.at2 (A1 m c) (t.val % 5 * 1664 + l.val) q.val := by
  obtain ⟨-, -, e0, e1⟩ := idx_facts t
  rw [Proof.at2_ix2 _ _ _ (by omega) (by omega)]
  show m _ _ = m _ _
  congr 1
  apply Proof.idx2_ext
  · show win0_1.index t 0 * 1664 + 1 * l.val = t.val % 5 * 1664 + l.val
    rw [e0]; omega
  · show win0_1.index t 1 * 1024 + 1 * q.val = q.val
    rw [e1]; omega

/-- One product of the sum that makes entry `(r · 1408 + p, q)`. -/
def term (p : Fin 1408) (q : Fin 1024) (r k : ℕ) : EReal :=
  Proof.at2 (A0 m c) (r * 1408 + p.val) k * Proof.at2 (A1 m c) k q.val

theorem part_apply (t : Fin cfg0.N) (p : Fin 1408) (q : Fin 1024) :
    k0_pay1 (iblk m c 0 t) (iblk m c 1 t) (ix2 p q) = ∑ l : Fin 1664, term m c p q (t.val / 5) (t.val % 5 * 1664 + l.val) := by
  rw [pay1_apply]
  exact Finset.sum_congr rfl fun l _ => congrArg₂ (· * ·) (blk0_apply m c t p l) (blk1_apply m c t l q)

/-- What the accumulator holds after each grid point. -/
theorem scratch_eq (p : Fin 1408) (q : Fin 1024) : ∀ (t : ℕ) (h : t < cfg0.N),
    ((outsAt0 m c t h).2 (ix2 p q) : EReal) = ∑ k ∈ Finset.range ((t % 5 + 1) * 1664), term m c p q (t / 5) k := by
  refine Proof.fold_blocks cfg0.N 5 1664 (fun t h => (outsAt0 m c t h).2 (ix2 p q)) (term m c p q) ?_ ?_
  · intro t h h0
    rw [outsAt0_A m c ⟨t, h⟩ h0 (by dsimp only; omega) (by dsimp only; omega), scratch_A]
    exact part_apply m c ⟨t, h⟩ p q
  · intro t h h0
    by_cases h4 : t % 5 = 4
    · rw [outsAt0_C m c ⟨t, h⟩ h0 (by dsimp only; omega) h4, scratch_C]
      exact congrArg (fun z : EReal => _ + z) (part_apply m c ⟨t, h⟩ p q)
    · rw [outsAt0_B m c ⟨t, h⟩ h0 (by dsimp only; omega) h4, scratch_B]
      exact congrArg (fun z : EReal => _ + z) (part_apply m c ⟨t, h⟩ p q)

/-- What is written out at the last grid point of a run. -/
theorem out_eq (t : ℕ) (h : t < cfg0.N) (h4 : t % 5 = 4) (p : Fin 1408) (q : Fin 1024) :
    ((outsAt0 m c t h).1 (ix2 p q) : EReal) = (∑ k : Fin 8320, term m c p q (t / 5) k.val) * ((1 / 2 : ℝ) : EReal) := by
  have e := scratch_eq m c p q t h
  rw [show (t % 5 + 1) * 1664 = 8320 by omega, Finset.sum_range] at e
  rw [outsAt0_C m c ⟨t, h⟩ (by dsimp only; omega) (by dsimp only; omega) h4] at e ⊢
  rw [scratch_C] at e
  rw [out_C]
  exact congrArg₂ (fun a b : EReal => a * b) e Proof.bits_half

/-- The sum that makes an entry of the result. -/
def result : S2816x1024.Idx → EReal := fun i =>
  (∑ k : Fin 8320, A0 m c (ix2 (i 0) k) * A1 m c (ix2 k (i 1))) * ((1 / 2 : ℝ) : EReal)

theorem G2_eq : (Value.G2 m c : S2816x1024.Idx → EReal) = result m c := by
  funext i
  have hN : cfg0.N = 10 := N_0
  have h0 : (i 0).val < 2816 := (i 0).isLt
  have h1 : (i 1).val < 1024 := (i 1).isLt
  have hp : Value.pt2Of i < cfg0.N := by rw [hN]; unfold Value.pt2Of Value.run2Of; omega
  have hd : Value.pt2Of i / 5 = (i 0).val / 1408 := by unfold Value.pt2Of Value.run2Of; omega
  unfold Value.G2
  rw [dif_pos hp, ← Value.outsAt0_sweep m c _ hp, show Value.loc2Of i = ix2 ⟨(i 0).val % 1408, Nat.mod_lt _ (by decide)⟩ ⟨(i 1).val % 1024, Nat.mod_lt _ (by decide)⟩ from
    Proof.idx2_ext rfl rfl, out_eq m c _ hp (by unfold Value.pt2Of; omega), hd]
  suffices e : ∀ k : Fin 8320, term m c ⟨(i 0).val % 1408, Nat.mod_lt _ (by decide)⟩ ⟨(i 1).val % 1024, Nat.mod_lt _ (by decide)⟩ ((i 0).val / 1408) k.val
      = A0 m c (ix2 (i 0) k) * A1 m c (ix2 k (i 1)) by
    unfold result
    rw [Finset.sum_congr rfl fun k _ => e k]
  intro k
  unfold term
  rw [Proof.at2_ix2 _ _ _ (by omega) k.isLt, Proof.at2_ix2 _ _ _ k.isLt (by omega)]
  refine congrArg₂ (fun a b : EReal => a * b) (congrArg _ (Proof.idx2_ext ?_ ?_)) (congrArg _ (Proof.idx2_ext ?_ ?_))
  · show (i 0).val / 1408 * 1408 + (i 0).val % 1408 = (i 0).val
    omega
  · rfl
  · rfl
  · show (i 1).val % 1024 = (i 1).val
    omega

end Cert.Kernel3Ideal.Product

namespace Cert.Reference3Ideal.Product

open Read Idealize.ShloMosaic
open Idealize.ShloMosaic.ValueIdx

/-- The reference's array, entry by entry. -/
theorem val_eq (a : S2816x8320.Idx → EReal) (b : S8320x1024.Idx → EReal) :
    (val_main_v10 (F := Ideal) a b : S2816x1024.Idx → EReal)
      = fun i => (∑ k : Fin 8320, a (ix2 (i 0) k) * b (ix2 k (i 1))) * ((1 / 2 : ℝ) : EReal) := by
  funext i
  rw [val_main_v10_apply, val_main_v9_apply, mul_comm, Proof.mul_sum_of_nonneg _ (by norm_num)]
  refine Finset.sum_congr rfl fun k _ => ?_
  rw [val_main_v8_apply, val_main_v7_apply, val_main_cst_1_apply, val_main_v6_apply, val_main_v2_apply, val_main_v1_apply]
  show (Ideal.ofBits .f32 0x3F000000#32 * b _) * a _ = ((1 / 2 : ℝ) : EReal) * (a _ * b _)
  rw [Proof.bits_half, mul_assoc, mul_comm (b _)]
  exact congrArg (fun z : EReal => _ * z) (congrArg₂ (fun a b : EReal => a * b) (congrArg a (Proof.idx2_ext rfl rfl)) (congrArg b (Proof.idx2_ext rfl rfl)))

end Cert.Reference3Ideal.Product

end
-- ==== Proof.Ddown.lean ====
/- The gradient of the down projection's argument, `0.5 · dm · w_downᵀ`: the kernel's array, each block one product scaled, and it
   equals the reference's. -/
module

public import proofs.«01_k».proof.Proof.Sums
public import proofs.«01_k».proof.Proof.Gen.Kernel4Ideal.Value
public import proofs.«01_k».proof.Proof.Gen.Reference4Ideal.Run
public import proofs.«01_k».proof.Proof.Gen.Reference4Ideal.Read
public import Idealize.ShloMosaic.Lib.MatmulPlain
public import Idealize.ShloMosaic.Lib.Tactic

@[expose] public section

noncomputable section

namespace Cert.Kernel4Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, scaled, entry by entry. -/
theorem pay1_apply (x0 : Vec Ideal S640x1024 .bf16) (x1 : Vec Ideal S2816x1024 .bf16) (p : Fin 640) (q : Fin 2816) :
    (k0_pay1 x0 x1 (ix2 p q) : EReal) = (∑ l : Fin 1024, (x0 (ix2 p l) : EReal) * (x1 (ix2 q l) : EReal)) * ((1 / 2 : ℝ) : EReal) := by
  unfold k0_pay1
  exact congrArg₂ (fun y z : EReal => y * z)
    ((Ideal.matmul_transposedRhs_apply _ _ _ _ p q).trans ((congrArg (fun z : EReal => z + _) Proof.bits_zero).trans (zero_add _)))
    Proof.bits_half

variable (m : (ℓ : Loc nD τ sig) → Buf (Elt Ideal) ℓ) (c : Dev nD)

/-- The two arguments. -/
abbrev A0 : S8320x1024.Idx → EReal := m ((c : Thread nD τ).loc main_arg0)
abbrev A1 : S2816x1024.Idx → EReal := m ((c : Thread nD τ).loc main_arg1)

/-- The sum that makes an entry of the result. -/
def result : S8320x2816.Idx → EReal := fun i =>
  (∑ k : Fin 1024, A0 m c (ix2 (i 0) k) * A1 m c (ix2 (i 1) k)) * ((1 / 2 : ℝ) : EReal)

/-- Where the windows stand at each grid point. -/
theorem idx_facts : ∀ t : Fin cfg0.N,
    win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N, _)

/-- An entry of the first argument's block. -/
theorem blk0_apply (t : Fin cfg0.N) (p : Fin 640) (l : Fin 1024) (r : Fin 8320) (hr : r.val = t.val * 640 + p.val) :
    (iblk m c 0 t : S640x1024.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 1024 + 1 * l.val = l.val
    rw [e1]; omega

/-- An entry of the second argument's one block. -/
theorem blk1_apply (t : Fin cfg0.N) (q : Fin 2816) (l : Fin 1024) :
    (iblk m c 1 t : S2816x1024.Idx → EReal) (ix2 q l) = A1 m c (ix2 q l) := by
  obtain ⟨-, -, e0, e1, -⟩ := idx_facts t
  show m _ _ = m _ _
  congr 1
  apply Proof.idx2_ext
  · show win0_1.index t 0 * 2816 + 1 * q.val = q.val
    rw [e0]; omega
  · show win0_1.index t 1 * 1024 + 1 * l.val = l.val
    rw [e1]; omega

theorem flushed (t : Fin cfg0.N) :
    (dats m 0 c).flushed 2 t = ((cfg0.win 2).blk t).view.read (Elt Ideal) (result m c) := by
  rw [Value.flushed2]
  unfold out0_2
  rw [View.canon_unit_zero origin]
  simp only [View.ld_unit_zero (S := S640x1024) origin, View.ld_unit_zero (S := S2816x1024) origin]
  funext j
  have ht : t.val < 13 := lt_of_lt_of_eq t.isLt N_0
  obtain ⟨-, -, -, -, e0, e1⟩ := idx_facts t
  have j0 : (j 0).val < 640 := (j 0).isLt
  have j1 : (j 1).val < 2816 := (j 1).isLt
  have e : ((cfg0.win 2).blk t).view.emb j
      = (ix2 (⟨t.val * 640 + (j 0).val, by omega⟩ : Fin 8320) (⟨(j 1).val, j1⟩ : Fin 2816) : S8320x2816.Idx) := by
    apply Proof.idx2_ext
    · show win0_2.index t 0 * 640 + 1 * (j 0).val = t.val * 640 + (j 0).val
      rw [e0]; omega
    · show win0_2.index t 1 * 2816 + 1 * (j 1).val = (j 1).val
      rw [e1]; omega
  rw [View.read_apply, e]
  have hj : j = ix2 (⟨(j 0).val, j0⟩ : Fin 640) (⟨(j 1).val, j1⟩ : Fin 2816) := Proof.idx2_ext rfl rfl
  show (k0_pay1 (iblk m c 0 t) (iblk m c 1 t) j : EReal) = _
  refine (congrArg (k0_pay1 (iblk m c 0 t) (iblk m c 1 t) : S640x2816.Idx → EReal) hj).trans ?_
  rw [pay1_apply]
  rw [Finset.sum_congr rfl fun l _ => congrArg₂ (fun y z : EReal => y * z)
    (blk0_apply m c t ⟨(j 0).val, j0⟩ l ⟨t.val * 640 + (j 0).val, by omega⟩ rfl) (blk1_apply m c t ⟨(j 1).val, j1⟩ l)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 2816 := (i 1).isLt
    have hN : cfg0.N = 13 := N_0
    let t : Fin cfg0.N := ⟨(i 0).val / 640, by rw [hN]; omega⟩
    obtain ⟨-, -, -, -, e0, e1⟩ := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show (i 0).val / 640 * 640 ≤ (i 0).val ∧ (i 0).val < (i 0).val / 640 * 640 + 640; omega
    | ⟨1, _⟩ =>
      show win0_2.index t 1 * 2816 ≤ (i 1).val ∧ (i 1).val < win0_2.index t 1 * 2816 + 2816
      rw [e1]; omega

end Cert.Kernel4Ideal.Product

namespace Cert.Reference4Ideal.Product

open Read Idealize.ShloMosaic
open Idealize.ShloMosaic.ValueIdx

/-- The reference's array, entry by entry. -/
theorem val_eq (a : S8320x1024.Idx → EReal) (b : S2816x1024.Idx → EReal) :
    (val_main_v9 (F := Ideal) a b : S8320x2816.Idx → EReal)
      = fun i => (∑ k : Fin 1024, a (ix2 (i 0) k) * b (ix2 (i 1) k)) * ((1 / 2 : ℝ) : EReal) := by
  funext i
  rw [val_main_v9_apply]
  show (val_main_v8 (F := Ideal) a b i : EReal) = _
  rw [val_main_v8_apply, mul_comm, Proof.mul_sum_of_nonneg _ (by norm_num)]
  refine Finset.sum_congr rfl fun k _ => ?_
  rw [val_main_v7_apply, val_main_v6_apply, val_main_cst_1_apply, val_main_v5_apply, val_main_v1_apply]
  show (Ideal.ofBits .f32 0x3F000000#32 * a _) * b _ = ((1 / 2 : ℝ) : EReal) * (a _ * b _)
  rw [Proof.bits_half, mul_assoc]
  exact congrArg (fun z : EReal => _ * z) (congrArg₂ (fun a b : EReal => a * b) (congrArg a (Proof.idx2_ext rfl rfl)) (congrArg b (Proof.idx2_ext rfl rfl)))

end Cert.Reference4Ideal.Product

end
-- ==== Proof.Dwgate.lean ====
/- The gradient of a gate projection's weight, `aᵀ · dg`: the kernel's array is the sum over all the rows, added up five
   blocks of 1664 rows at a time, and it equals the reference's. -/
module

public import proofs.«01_k».proof.Proof.Sums
public import proofs.«01_k».proof.Proof.Gen.Kernel5Ideal.Value
public import proofs.«01_k».proof.Proof.Gen.Reference5Ideal.Run
public import proofs.«01_k».proof.Proof.Gen.Reference5Ideal.Read
public import Idealize.ShloMosaic.Lib.MatmulPlain
public import Idealize.ShloMosaic.Lib.Tactic

@[expose] public section

noncomputable section

namespace Cert.Kernel5Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

section Cases

variable (c : Dev nD) (i : grid0.Coords) (a3 : Memref sig .tc .vmem S1024x1664 .bf16) (h3 : a3.IsWhole)
  (a4 : Memref sig .tc .vmem S1664x1408 .bf16) (h4 : a4.IsWhole) (a5 : Memref sig .tc .vmem S1024x1408 .f32) (h5 : a5.IsWhole)
  (a6 : Memref sig .tc .vmem S1024x1408 .f32) (h6 : a6.IsWhole)
  (x0 : Vec Ideal S1024x1664 .bf16) (x1 : Vec Ideal S1664x1408 .bf16) (xs : Vec Ideal S1024x1408 .f32)

/-- The first block's product starts the sum. -/
theorem scratch_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  unfold k0_pay2
  simp only [View.readAt_eq_ld, h3.read_unread, h4.read_unread, View.ld_unit_zero (S := S1024x1664) origin,
    View.ld_unit_zero (S := S1664x1408) origin, shapeCast_self]

/-- A later block's product is added. -/
theorem scratch_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero origin]
  unfold k0_pay3
  simp only [View.readAt_eq_ld, h3.read_unread, h4.read_unread, h6.read_unread, View.ld_unit_zero (S := S1024x1664) origin,
    View.ld_unit_zero (S := S1664x1408) origin, View.ld_unit_zero (S := S1024x1408) origin, shapeCast_self]

theorem scratch_C (hc0 : ¬cond0_0 i) (hc1 : cond0_1 i) (hc2 : cond0_2 i) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero origin]
  unfold k0_pay3
  simp only [View.readAt_eq_ld, h3.read_unread, h4.read_unread, h6.read_unread, View.ld_unit_zero (S := S1024x1664) origin,
    View.ld_unit_zero (S := S1664x1408) origin, View.ld_unit_zero (S := S1024x1408) origin, shapeCast_self]

/-- The last block's product is added, and the sum written out. -/
theorem out_C (hc0 : ¬cond0_0 i) (hc1 : cond0_1 i) (hc2 : cond0_2 i) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero origin, View.readCov_unit_zero (S := S1024x1408) _ origin]
  unfold k0_pay3
  simp only [View.readAt_eq_ld, h3.read_unread, h4.read_unread, h6.read_unread, View.ld_unit_zero (S := S1024x1664) origin,
    View.ld_unit_zero (S := S1664x1408) origin, View.ld_unit_zero (S := S1024x1408) origin, shapeCast_self]

/-- A block's product, entry by entry. -/
theorem pay1_apply (p : Fin 1024) (q : Fin 1408) :
    k0_pay1 x0 x1 (ix2 p q) = ∑ l : Fin 1664, (x0 (ix2 p l) : EReal) * (x1 (ix2 l q) : EReal) := by
  unfold k0_pay1
  exact (Ideal.matmul_plain_apply _ _ _ _ p q).trans
    ((congrArg (fun z : EReal => z + _) Proof.bits_zero).trans (zero_add _))

end Cases

variable (m : (ℓ : Loc nD τ sig) → Buf (Elt Ideal) ℓ) (c : Dev nD)

/-- The two arguments. -/
abbrev A0 : S1024x8320.Idx → EReal := m ((c : Thread nD τ).loc main_arg0)
abbrev A1 : S8320x2816.Idx → EReal := m ((c : Thread nD τ).loc main_arg1)

/-- Where the windows stand at each grid point. -/
theorem idx_facts : ∀ t : Fin cfg0.N,
    win0_0.index t 0 = 0 ∧ win0_0.index t 1 = t.val % 5 ∧ win0_1.index t 0 = t.val % 5 ∧ win0_1.index t 1 = t.val / 5 :=
  (by decide +kernel : ∀ t : Fin grid0.N, _)

/-- An entry of the first argument's block. -/
theorem blk0_apply (t : Fin cfg0.N) (p : Fin 1024) (l : Fin 1664) :
    (iblk m c 0 t : S1024x1664.Idx → EReal) (ix2 p l) = Proof.at2 (A0 m c) p.val (t.val % 5 * 1664 + l.val) := by
  have ht : t.val < 10 := lt_of_lt_of_eq t.isLt N_0
  obtain ⟨e0, e1, -, -⟩ := idx_facts t
  rw [Proof.at2_ix2 _ _ _ (by omega) (by omega)]
  show m _ _ = m _ _
  congr 1
  apply Proof.idx2_ext
  · show win0_0.index t 0 * 1024 + 1 * p.val = p.val
    rw [e0]; omega
  · show win0_0.index t 1 * 1664 + 1 * l.val = t.val % 5 * 1664 + l.val
    rw [e1]; omega

/-- An entry of the second argument's block. -/
theorem blk1_apply (t : Fin cfg0.N) (l : Fin 1664) (q : Fin 1408) :
    (iblk m c 1 t : S1664x1408.Idx → EReal) (ix2 l q) = Proof.at2 (A1 m c) (t.val % 5 * 1664 + l.val) (t.val / 5 * 1408 + q.val) := by
  have ht : t.val < 10 := lt_of_lt_of_eq t.isLt N_0
  obtain ⟨-, -, e0, e1⟩ := idx_facts t
  rw [Proof.at2_ix2 _ _ _ (by omega) (by omega)]
  show m _ _ = m _ _
  congr 1
  apply Proof.idx2_ext
  · show win0_1.index t 0 * 1664 + 1 * l.val = t.val % 5 * 1664 + l.val
    rw [e0]; omega
  · show win0_1.index t 1 * 1408 + 1 * q.val = t.val / 5 * 1408 + q.val
    rw [e1]; omega

/-- One product of the sum that makes entry `(p, r · 1408 + q)`. -/
def term (p : Fin 1024) (q : Fin 1408) (r k : ℕ) : EReal :=
  Proof.at2 (A0 m c) p.val k * Proof.at2 (A1 m c) k (r * 1408 + q.val)

theorem part_apply (t : Fin cfg0.N) (p : Fin 1024) (q : Fin 1408) :
    k0_pay1 (iblk m c 0 t) (iblk m c 1 t) (ix2 p q) = ∑ l : Fin 1664, term m c p q (t.val / 5) (t.val % 5 * 1664 + l.val) := by
  rw [pay1_apply]
  exact Finset.sum_congr rfl fun l _ => congrArg₂ (· * ·) (blk0_apply m c t p l) (blk1_apply m c t l q)

/-- What the accumulator holds after each grid point. -/
theorem scratch_eq (p : Fin 1024) (q : Fin 1408) : ∀ (t : ℕ) (h : t < cfg0.N),
    ((outsAt0 m c t h).2 (ix2 p q) : EReal) = ∑ k ∈ Finset.range ((t % 5 + 1) * 1664), term m c p q (t / 5) k := by
  refine Proof.fold_blocks cfg0.N 5 1664 (fun t h => (outsAt0 m c t h).2 (ix2 p q)) (term m c p q) ?_ ?_
  · intro t h h0
    rw [outsAt0_A m c ⟨t, h⟩ h0 (by dsimp only; omega) (by dsimp only; omega), scratch_A]
    exact part_apply m c ⟨t, h⟩ p q
  · intro t h h0
    by_cases h4 : t % 5 = 4
    · rw [outsAt0_C m c ⟨t, h⟩ h0 (by dsimp only; omega) h4, scratch_C]
      exact congrArg (fun z : EReal => _ + z) (part_apply m c ⟨t, h⟩ p q)
    · rw [outsAt0_B m c ⟨t, h⟩ h0 (by dsimp only; omega) h4, scratch_B]
      exact congrArg (fun z : EReal => _ + z) (part_apply m c ⟨t, h⟩ p q)

/-- What is written out at the last grid point of a run. -/
theorem out_eq (t : ℕ) (h : t < cfg0.N) (h4 : t % 5 = 4) (p : Fin 1024) (q : Fin 1408) :
    ((outsAt0 m c t h).1 (ix2 p q) : EReal) = (∑ k : Fin 8320, term m c p q (t / 5) k.val) := by
  have e := scratch_eq m c p q t h
  rw [show (t % 5 + 1) * 1664 = 8320 by omega, Finset.sum_range] at e
  rw [outsAt0_C m c ⟨t, h⟩ (by dsimp only; omega) (by dsimp only; omega) h4] at e ⊢
  rw [scratch_C] at e
  rw [out_C]
  exact e

/-- The sum that makes an entry of the result. -/
def result : S1024x2816.Idx → EReal := fun i =>
  (∑ k : Fin 8320, A0 m c (ix2 (i 0) k) * A1 m c (ix2 k (i 1)))

theorem G2_eq : (Value.G2 m c : S1024x2816.Idx → EReal) = result m c := by
  funext i
  have hN : cfg0.N = 10 := N_0
  have h0 : (i 0).val < 1024 := (i 0).isLt
  have h1 : (i 1).val < 2816 := (i 1).isLt
  have hp : Value.pt2Of i < cfg0.N := by rw [hN]; unfold Value.pt2Of Value.run2Of; omega
  have hd : Value.pt2Of i / 5 = (i 1).val / 1408 := by unfold Value.pt2Of Value.run2Of; omega
  unfold Value.G2
  rw [dif_pos hp, ← Value.outsAt0_sweep m c _ hp, show Value.loc2Of i = ix2 ⟨(i 0).val % 1024, Nat.mod_lt _ (by decide)⟩ ⟨(i 1).val % 1408, Nat.mod_lt _ (by decide)⟩ from
    Proof.idx2_ext rfl rfl, out_eq m c _ hp (by unfold Value.pt2Of; omega), hd]
  suffices e : ∀ k : Fin 8320, term m c ⟨(i 0).val % 1024, Nat.mod_lt _ (by decide)⟩ ⟨(i 1).val % 1408, Nat.mod_lt _ (by decide)⟩ ((i 1).val / 1408) k.val
      = A0 m c (ix2 (i 0) k) * A1 m c (ix2 k (i 1)) by
    unfold result
    rw [Finset.sum_congr rfl fun k _ => e k]
  intro k
  unfold term
  rw [Proof.at2_ix2 _ _ _ (by omega) k.isLt, Proof.at2_ix2 _ _ _ k.isLt (by omega)]
  refine congrArg₂ (fun a b : EReal => a * b) (congrArg _ (Proof.idx2_ext ?_ ?_)) (congrArg _ (Proof.idx2_ext ?_ ?_))
  · show (i 0).val % 1024 = (i 0).val
    omega
  · rfl
  · rfl
  · show (i 1).val / 1408 * 1408 + (i 1).val % 1408 = (i 1).val
    omega

end Cert.Kernel5Ideal.Product

namespace Cert.Reference5Ideal.Product

open Read Idealize.ShloMosaic
open Idealize.ShloMosaic.ValueIdx

/-- The reference's array, entry by entry. -/
theorem val_eq (a : S1024x8320.Idx → EReal) (b : S8320x2816.Idx → EReal) :
    (val_main_v6 (F := Ideal) a b : S1024x2816.Idx → EReal)
      = fun i => ∑ k : Fin 8320, a (ix2 (i 0) k) * b (ix2 k (i 1)) := by
  funext i
  rw [val_main_v6_apply, val_main_v5_apply]
  refine Finset.sum_congr rfl fun k _ => ?_
  rw [val_main_v4_apply, val_main_v2_apply, val_main_v1_apply]
  show b _ * a _ = a _ * b _
  rw [mul_comm]
  exact congrArg₂ (fun a b : EReal => a * b) (congrArg a (Proof.idx2_ext rfl rfl)) (congrArg b (Proof.idx2_ext rfl rfl))

end Cert.Reference5Ideal.Product

end
-- ==== Proof.Dnormed.lean ====
/- The gradient of the gated layer's argument, `dg · w_gateᵀ + du · w_upᵀ`: the kernel's array is the sum over all the columns,
   added up two blocks of 1408 columns at a time with the two products side by side, and it equals the reference's. -/
module

public import proofs.«01_k».proof.Proof.Sums
public import proofs.«01_k».proof.Proof.Gen.Kernel6Ideal.Value
public import proofs.«01_k».proof.Proof.Gen.Reference6Ideal.Run
public import proofs.«01_k».proof.Proof.Gen.Reference6Ideal.Read
public import Idealize.ShloMosaic.Lib.MatmulPlain
public import Idealize.ShloMosaic.Lib.Tactic

@[expose] public section

noncomputable section

namespace Cert.Kernel6Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

section Cases

variable (c : Dev nD) (i : grid0.Coords) (a3 : Memref sig .tc .vmem S640x1408 .bf16) (h3 : a3.IsWhole)
  (a4 : Memref sig .tc .vmem S1024x1408 .bf16) (h4 : a4.IsWhole) (a5 : Memref sig .tc .vmem S640x1408 .bf16) (h5 : a5.IsWhole)
  (a6 : Memref sig .tc .vmem S1024x1408 .bf16) (h6 : a6.IsWhole) (a7 : Memref sig .tc .vmem S640x1024 .f32) (h7 : a7.IsWhole)
  (a8 : Memref sig .tc .vmem S640x1024 .f32) (h8 : a8.IsWhole)
  (x0 : Vec Ideal S640x1408 .bf16) (x1 : Vec Ideal S1024x1408 .bf16) (x2 : Vec Ideal S640x1408 .bf16) (x3 : Vec Ideal S1024x1408 .bf16) (xs : Vec Ideal S640x1024 .f32)

/-- The first block's product starts the sum. -/
theorem scratch_A (hc0 : cond0_0 i) (hc1 : ¬cond0_1 i) (hc2 : ¬cond0_2 i) :
    sout0_A_0 c i a3 h3 a4 h4 a5 h5 a6 h6 a7 h7 a8 h8 hc0 hc1 hc2 x0 x1 x2 x3 = k0_pay1 x0 x1 x2 x3 := by
  unfold sout0_A_0
  rw [View.read_writes_eq_canon _ _ _ (scover0_A_0 c i a3 h3 a4 h4 a5 h5 a6 h6 a7 h7 a8 h8 hc0 hc1 hc2 x0 x1 x2 x3)]
  unfold kernelRun0_A
  dsimp only
  sl_unfold_words
  rw [View.canon_unit_zero origin]
  unfold k0_pay2
  simp only [View.readAt_eq_ld, h3.read_unread, h4.read_unread, h5.read_unread, h6.read_unread, View.ld_unit_zero (S := S640x1408) origin,
    View.ld_unit_zero (S := S1024x1408) origin, shapeCast_self]

/-- The second block's product is added. -/
theorem scratch_B (hc0 : ¬cond0_0 i) (hc1 : cond0_1 i) (hc2 : cond0_2 i) :
    sout0_B_0 c i a3 h3 a4 h4 a5 h5 a6 h6 a7 h7 a8 h8 hc0 hc1 hc2 x0 x1 x2 x3 xs = addf xs (k0_pay1 x0 x1 x2 x3) := by
  unfold sout0_B_0
  rw [View.read_writes_eq_canon _ _ _ (scover0_B_0 c i a3 h3 a4 h4 a5 h5 a6 h6 a7 h7 a8 h8 hc0 hc1 hc2 x0 x1 x2 x3 xs)]
  unfold kernelRun0_B
  dsimp only
  sl_unfold_words
  rw [View.canon_unit_zero origin]
  unfold k0_pay3
  simp only [View.readAt_eq_ld, h3.read_unread, h4.read_unread, h5.read_unread, h6.read_unread, h8.read_unread, View.ld_unit_zero (S := S640x1408) origin,
    View.ld_unit_zero (S := S1024x1408) origin, View.ld_unit_zero (S := S640x1024) origin, shapeCast_self]

/-- The sum is then written out. -/
theorem out_B (hc0 : ¬cond0_0 i) (hc1 : cond0_1 i) (hc2 : cond0_2 i) :
    out0_B_4 c i a3 h3 a4 h4 a5 h5 a6 h6 a7 h7 a8 h8 hc0 hc1 hc2 x0 x1 x2 x3 xs = addf xs (k0_pay1 x0 x1 x2 x3) := by
  unfold out0_B_4
  rw [View.read_writes_eq_canon _ _ _ (cover0_B_4 c i a3 h3 a4 h4 a5 h5 a6 h6 a7 h7 a8 h8 hc0 hc1 hc2 x0 x1 x2 x3 xs)]
  unfold kernelRun0_B
  dsimp only
  sl_unfold_words
  rw [View.canon_unit_zero origin, View.readCov_unit_zero (S := S640x1024) _ origin]
  unfold k0_pay3
  simp only [View.readAt_eq_ld, h3.read_unread, h4.read_unread, h5.read_unread, h6.read_unread, h8.read_unread, View.ld_unit_zero (S := S640x1408) origin,
    View.ld_unit_zero (S := S1024x1408) origin, View.ld_unit_zero (S := S640x1024) origin, shapeCast_self]

/-- A block's two products added, entry by entry. -/
theorem pay1_apply (p : Fin 640) (q : Fin 1024) :
    k0_pay1 x0 x1 x2 x3 (ix2 p q) = (∑ l : Fin 1408, (x0 (ix2 p l) : EReal) * (x1 (ix2 q l) : EReal))
      + ∑ l : Fin 1408, (x2 (ix2 p l) : EReal) * (x3 (ix2 q l) : EReal) := by
  unfold k0_pay1
  exact congrArg₂ (fun y z : EReal => y + z)
    ((Ideal.matmul_transposedRhs_apply _ _ _ _ p q).trans
      ((congrArg (fun z : EReal => z + _) Proof.bits_zero).trans (zero_add _)))
    ((Ideal.matmul_transposedRhs_apply _ _ _ _ p q).trans
      ((congrArg (fun z : EReal => z + _) Proof.bits_zero).trans (zero_add _)))

end Cases

variable (m : (ℓ : Loc nD τ sig) → Buf (Elt Ideal) ℓ) (c : Dev nD)

/-- The four arguments. -/
abbrev A0 : S8320x2816.Idx → EReal := m ((c : Thread nD τ).loc main_arg0)
abbrev A1 : S1024x2816.Idx → EReal := m ((c : Thread nD τ).loc main_arg1)
abbrev A2 : S8320x2816.Idx → EReal := m ((c : Thread nD τ).loc main_arg2)
abbrev A3 : S1024x2816.Idx → EReal := m ((c : Thread nD τ).loc main_arg3)

/-- Where the windows stand at each grid point. -/
theorem idx_facts : ∀ t : Fin cfg0.N,
    win0_0.index t 0 = t.val / 2 ∧ win0_0.index t 1 = t.val % 2 ∧ win0_1.index t 0 = 0 ∧ win0_1.index t 1 = t.val % 2
    ∧ win0_2.index t 0 = t.val / 2 ∧ win0_2.index t 1 = t.val % 2 ∧ win0_3.index t 0 = 0 ∧ win0_3.index t 1 = t.val % 2 :=
  (by decide +kernel : ∀ t : Fin grid0.N, _)

/-- An entry of the first argument's block. -/
theorem blk0_apply (t : Fin cfg0.N) (p : Fin 640) (l : Fin 1408) :
    (iblk m c 0 t : S640x1408.Idx → EReal) (ix2 p l) = Proof.at2 (A0 m c) (t.val / 2 * 640 + p.val) (t.val % 2 * 1408 + l.val) := by
  have ht : t.val < 26 := lt_of_lt_of_eq t.isLt N_0
  obtain ⟨e0, e1, -⟩ := idx_facts t
  rw [Proof.at2_ix2 _ _ _ (by omega) (by omega)]
  show m _ _ = m _ _
  congr 1
  apply Proof.idx2_ext
  · show win0_0.index t 0 * 640 + 1 * p.val = t.val / 2 * 640 + p.val
    rw [e0]; omega
  · show win0_0.index t 1 * 1408 + 1 * l.val = t.val % 2 * 1408 + l.val
    rw [e1]; omega

/-- An entry of the second argument's block. -/
theorem blk1_apply (t : Fin cfg0.N) (q : Fin 1024) (l : Fin 1408) :
    (iblk m c 1 t : S1024x1408.Idx → EReal) (ix2 q l) = Proof.at2 (A1 m c) q.val (t.val % 2 * 1408 + l.val) := by
  obtain ⟨-, -, e0, e1, -⟩ := idx_facts t
  rw [Proof.at2_ix2 _ _ _ (by omega) (by omega)]
  show m _ _ = m _ _
  congr 1
  apply Proof.idx2_ext
  · show win0_1.index t 0 * 1024 + 1 * q.val = q.val
    rw [e0]; omega
  · show win0_1.index t 1 * 1408 + 1 * l.val = t.val % 2 * 1408 + l.val
    rw [e1]; omega

/-- An entry of the third argument's block. -/
theorem blk2_apply (t : Fin cfg0.N) (p : Fin 640) (l : Fin 1408) :
    (iblk m c 2 t : S640x1408.Idx → EReal) (ix2 p l) = Proof.at2 (A2 m c) (t.val / 2 * 640 + p.val) (t.val % 2 * 1408 + l.val) := by
  have ht : t.val < 26 := lt_of_lt_of_eq t.isLt N_0
  obtain ⟨-, -, -, -, e0, e1, -⟩ := idx_facts t
  rw [Proof.at2_ix2 _ _ _ (by omega) (by omega)]
  show m _ _ = m _ _
  congr 1
  apply Proof.idx2_ext
  · show win0_2.index t 0 * 640 + 1 * p.val = t.val / 2 * 640 + p.val
    rw [e0]; omega
  · show win0_2.index t 1 * 1408 + 1 * l.val = t.val % 2 * 1408 + l.val
    rw [e1]; omega

/-- An entry of the fourth argument's block. -/
theorem blk3_apply (t : Fin cfg0.N) (q : Fin 1024) (l : Fin 1408) :
    (iblk m c 3 t : S1024x1408.Idx → EReal) (ix2 q l) = Proof.at2 (A3 m c) q.val (t.val % 2 * 1408 + l.val) := by
  obtain ⟨-, -, -, -, -, -, e0, e1⟩ := idx_facts t
  rw [Proof.at2_ix2 _ _ _ (by omega) (by omega)]
  show m _ _ = m _ _
  congr 1
  apply Proof.idx2_ext
  · show win0_3.index t 0 * 1024 + 1 * q.val = q.val
    rw [e0]; omega
  · show win0_3.index t 1 * 1408 + 1 * l.val = t.val % 2 * 1408 + l.val
    rw [e1]; omega

/-- The two products of the sums that makes entry `(r · 640 + p, q)`. -/
def term (p : Fin 640) (q : Fin 1024) (r k : ℕ) : EReal :=
  Proof.at2 (A0 m c) (r * 640 + p.val) k * Proof.at2 (A1 m c) q.val k
    + Proof.at2 (A2 m c) (r * 640 + p.val) k * Proof.at2 (A3 m c) q.val k

theorem part_apply (t : Fin cfg0.N) (p : Fin 640) (q : Fin 1024) :
    k0_pay1 (iblk m c 0 t) (iblk m c 1 t) (iblk m c 2 t) (iblk m c 3 t) (ix2 p q) = ∑ l : Fin 1408, term m c p q (t.val / 2) (t.val % 2 * 1408 + l.val) := by
  rw [pay1_apply, ← Finset.sum_add_distrib]
  exact Finset.sum_congr rfl fun l _ => congrArg₂ (· + ·) (congrArg₂ (· * ·) (blk0_apply m c t p l) (blk1_apply m c t q l))
    (congrArg₂ (· * ·) (blk2_apply m c t p l) (blk3_apply m c t q l))

/-- What the accumulator holds after each grid point. -/
theorem scratch_eq (p : Fin 640) (q : Fin 1024) : ∀ (t : ℕ) (h : t < cfg0.N),
    ((outsAt0 m c t h).2 (ix2 p q) : EReal) = ∑ k ∈ Finset.range ((t % 2 + 1) * 1408), term m c p q (t / 2) k := by
  refine Proof.fold_blocks cfg0.N 2 1408 (fun t h => (outsAt0 m c t h).2 (ix2 p q)) (term m c p q) ?_ ?_
  · intro t h h0
    rw [outsAt0_A m c ⟨t, h⟩ h0 (by dsimp only; omega) (by dsimp only; omega), scratch_A]
    exact part_apply m c ⟨t, h⟩ p q
  · intro t h h0
    rw [outsAt0_B m c ⟨t, h⟩ h0 (by dsimp only; omega) (by dsimp only; omega), scratch_B]
    exact congrArg (fun z : EReal => _ + z) (part_apply m c ⟨t, h⟩ p q)

/-- What is written out at the last grid point of a run. -/
theorem out_eq (t : ℕ) (h : t < cfg0.N) (h1 : t % 2 = 1) (p : Fin 640) (q : Fin 1024) :
    ((outsAt0 m c t h).1 (ix2 p q) : EReal) = ∑ k : Fin 2816, term m c p q (t / 2) k.val := by
  have e := scratch_eq m c p q t h
  rw [show (t % 2 + 1) * 1408 = 2816 by omega, Finset.sum_range] at e
  rw [outsAt0_B m c ⟨t, h⟩ (by dsimp only; omega) h1 h1] at e ⊢
  rw [scratch_B] at e
  rw [out_B]
  exact e

/-- The sum that makes an entry of the result. -/
def result : S8320x1024.Idx → EReal := fun i =>
  ∑ k : Fin 2816, (A0 m c (ix2 (i 0) k) * A1 m c (ix2 (i 1) k) + A2 m c (ix2 (i 0) k) * A3 m c (ix2 (i 1) k))

theorem G4_eq : (Value.G4 m c : S8320x1024.Idx → EReal) = result m c := by
  funext i
  have hN : cfg0.N = 26 := N_0
  have h0 : (i 0).val < 8320 := (i 0).isLt
  have h1 : (i 1).val < 1024 := (i 1).isLt
  have hp : Value.pt4Of i < cfg0.N := by rw [hN]; unfold Value.pt4Of Value.run4Of; omega
  have hd : Value.pt4Of i / 2 = (i 0).val / 640 := by unfold Value.pt4Of Value.run4Of; omega
  unfold Value.G4
  rw [dif_pos hp, ← Value.outsAt0_sweep m c _ hp, show Value.loc4Of i = ix2 ⟨(i 0).val % 640, Nat.mod_lt _ (by decide)⟩ ⟨(i 1).val % 1024, Nat.mod_lt _ (by decide)⟩ from
    Proof.idx2_ext rfl rfl, out_eq m c _ hp (by unfold Value.pt4Of; omega), hd]
  suffices e : ∀ k : Fin 2816, term m c ⟨(i 0).val % 640, Nat.mod_lt _ (by decide)⟩ ⟨(i 1).val % 1024, Nat.mod_lt _ (by decide)⟩ ((i 0).val / 640) k.val
      = A0 m c (ix2 (i 0) k) * A1 m c (ix2 (i 1) k) + A2 m c (ix2 (i 0) k) * A3 m c (ix2 (i 1) k) by
    unfold result
    rw [Finset.sum_congr rfl fun k _ => e k]
  intro k
  unfold term
  have a0 : ∀ A : S8320x2816.Idx → EReal, Proof.at2 A ((i 0).val / 640 * 640 + (i 0).val % 640) k.val = A (ix2 (i 0) k) := fun A =>
    (Proof.at2_ix2 A _ _ (by omega) k.isLt).trans
      (congrArg A (Proof.idx2_ext (show (i 0).val / 640 * 640 + (i 0).val % 640 = (i 0).val by omega) rfl))
  have a1 : ∀ A : S1024x2816.Idx → EReal, Proof.at2 A ((i 1).val % 1024) k.val = A (ix2 (i 1) k) := fun A =>
    (Proof.at2_ix2 A _ _ (by omega) k.isLt).trans
      (congrArg A (Proof.idx2_ext (show (i 1).val % 1024 = (i 1).val by omega) rfl))
  exact congrArg₂ (fun a b : EReal => a + b)
    (congrArg₂ (fun a b : EReal => a * b) (a0 _) (a1 _)) (congrArg₂ (fun a b : EReal => a * b) (a0 _) (a1 _))

end Cert.Kernel6Ideal.Product

namespace Cert.Reference6Ideal.Product

open Read Idealize.ShloMosaic
open Idealize.ShloMosaic.ValueIdx

/-- The reference's array, entry by entry. -/
theorem val_eq (a : S8320x2816.Idx → EReal) (b : S1024x2816.Idx → EReal) (d : S8320x2816.Idx → EReal) (e : S1024x2816.Idx → EReal) :
    (val_main_v9 (F := Ideal) a b d e : S8320x1024.Idx → EReal)
      = fun i => ∑ k : Fin 2816, (a (ix2 (i 0) k) * b (ix2 (i 1) k) + d (ix2 (i 0) k) * e (ix2 (i 1) k)) := by
  funext i
  rw [Finset.sum_add_distrib, val_main_v9_apply, val_main_v7_apply, val_main_v8_apply, Ideal.addf_def, add_comm]
  refine congrArg₂ (fun a b : EReal => a + b) (Finset.sum_congr rfl fun k _ => ?_) (Finset.sum_congr rfl fun k _ => ?_)
  · rw [val_main_v5_apply, val_main_v1_apply]
    exact congrArg₂ (fun a b : EReal => a * b) (congrArg a (Proof.idx2_ext rfl rfl)) (congrArg b (Proof.idx2_ext rfl rfl))
  · rw [val_main_v6_apply, val_main_v2_apply]
    exact congrArg₂ (fun a b : EReal => a * b) (congrArg d (Proof.idx2_ext rfl rfl)) (congrArg e (Proof.idx2_ext rfl rfl))

end Cert.Reference6Ideal.Product

end
-- ==== Proof.Dmixed.lean ====
/- The gradient of the input projection's argument, `dz · w_inᵀ`: the kernel's array is the sum over all the columns of `dz`,
   added up two blocks of 2560 columns at a time, and it equals the reference's. -/
module

public import proofs.«01_k».proof.Proof.Sums
public import proofs.«01_k».proof.Proof.Gen.Kernel7Ideal.Value
public import proofs.«01_k».proof.Proof.Gen.Reference7Ideal.Run
public import proofs.«01_k».proof.Proof.Gen.Reference7Ideal.Read
public import Idealize.ShloMosaic.Lib.MatmulPlain
public import Idealize.ShloMosaic.Lib.Tactic

@[expose] public section

noncomputable section

namespace Cert.Kernel7Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

section Cases

variable (c : Dev nD) (i : grid0.Coords) (a3 : Memref sig .tc .vmem S640x2560 .bf16) (h3 : a3.IsWhole)
  (a4 : Memref sig .tc .vmem S1024x2560 .bf16) (h4 : a4.IsWhole) (a5 : Memref sig .tc .vmem S640x1024 .f32) (h5 : a5.IsWhole)
  (a6 : Memref sig .tc .vmem S640x1024 .f32) (h6 : a6.IsWhole)
  (x0 : Vec Ideal S640x2560 .bf16) (x1 : Vec Ideal S1024x2560 .bf16) (xs : Vec Ideal S640x1024 .f32)

/-- The first block's product starts the sum. -/
theorem scratch_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  unfold k0_pay2
  simp only [View.readAt_eq_ld, h3.read_unread, h4.read_unread, View.ld_unit_zero (S := S640x2560) origin,
    View.ld_unit_zero (S := S1024x2560) origin, shapeCast_self]

/-- The second block's product is added. -/
theorem scratch_B (hc0 : ¬cond0_0 i) (hc1 : cond0_1 i) (hc2 : cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero origin]
  unfold k0_pay3
  simp only [View.readAt_eq_ld, h3.read_unread, h4.read_unread, h6.read_unread, View.ld_unit_zero (S := S640x2560) origin,
    View.ld_unit_zero (S := S1024x2560) origin, View.ld_unit_zero (S := S640x1024) origin, shapeCast_self]

/-- The sum is then written out. -/
theorem out_B (hc0 : ¬cond0_0 i) (hc1 : cond0_1 i) (hc2 : cond0_2 i) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero origin, View.readCov_unit_zero (S := S640x1024) _ origin]
  unfold k0_pay3
  simp only [View.readAt_eq_ld, h3.read_unread, h4.read_unread, h6.read_unread, View.ld_unit_zero (S := S640x2560) origin,
    View.ld_unit_zero (S := S1024x2560) origin, View.ld_unit_zero (S := S640x1024) origin, shapeCast_self]

/-- A block's product, entry by entry. -/
theorem pay1_apply (p : Fin 640) (q : Fin 1024) :
    k0_pay1 x0 x1 (ix2 p q) = ∑ l : Fin 2560, (x0 (ix2 p l) : EReal) * (x1 (ix2 q l) : EReal) := by
  unfold k0_pay1
  exact (Ideal.matmul_transposedRhs_apply _ _ _ _ p q).trans
    ((congrArg (fun z : EReal => z + _) Proof.bits_zero).trans (zero_add _))

end Cases

variable (m : (ℓ : Loc nD τ sig) → Buf (Elt Ideal) ℓ) (c : Dev nD)

/-- The two arguments. -/
abbrev A0 : S8320x5120.Idx → EReal := m ((c : Thread nD τ).loc main_arg0)
abbrev A1 : S1024x5120.Idx → EReal := m ((c : Thread nD τ).loc main_arg1)

/-- Where the windows stand at each grid point. -/
theorem idx_facts : ∀ t : Fin cfg0.N,
    win0_0.index t 0 = t.val / 2 ∧ win0_0.index t 1 = t.val % 2 ∧ win0_1.index t 0 = 0 ∧ win0_1.index t 1 = t.val % 2 :=
  (by decide +kernel : ∀ t : Fin grid0.N, _)

/-- An entry of the first argument's block. -/
theorem blk0_apply (t : Fin cfg0.N) (p : Fin 640) (l : Fin 2560) :
    (iblk m c 0 t : S640x2560.Idx → EReal) (ix2 p l) = Proof.at2 (A0 m c) (t.val / 2 * 640 + p.val) (t.val % 2 * 2560 + l.val) := by
  have ht : t.val < 26 := lt_of_lt_of_eq t.isLt N_0
  obtain ⟨e0, e1, -, -⟩ := idx_facts t
  rw [Proof.at2_ix2 _ _ _ (by omega) (by omega)]
  show m _ _ = m _ _
  congr 1
  apply Proof.idx2_ext
  · show win0_0.index t 0 * 640 + 1 * p.val = t.val / 2 * 640 + p.val
    rw [e0]; omega
  · show win0_0.index t 1 * 2560 + 1 * l.val = t.val % 2 * 2560 + l.val
    rw [e1]; omega

/-- An entry of the second argument's block. -/
theorem blk1_apply (t : Fin cfg0.N) (q : Fin 1024) (l : Fin 2560) :
    (iblk m c 1 t : S1024x2560.Idx → EReal) (ix2 q l) = Proof.at2 (A1 m c) q.val (t.val % 2 * 2560 + l.val) := by
  obtain ⟨-, -, e0, e1⟩ := idx_facts t
  rw [Proof.at2_ix2 _ _ _ (by omega) (by omega)]
  show m _ _ = m _ _
  congr 1
  apply Proof.idx2_ext
  · show win0_1.index t 0 * 1024 + 1 * q.val = q.val
    rw [e0]; omega
  · show win0_1.index t 1 * 2560 + 1 * l.val = t.val % 2 * 2560 + l.val
    rw [e1]; omega

/-- One product of the sum that makes entry `(r · 640 + p, q)`. -/
def term (p : Fin 640) (q : Fin 1024) (r k : ℕ) : EReal :=
  Proof.at2 (A0 m c) (r * 640 + p.val) k * Proof.at2 (A1 m c) q.val k

theorem part_apply (t : Fin cfg0.N) (p : Fin 640) (q : Fin 1024) :
    k0_pay1 (iblk m c 0 t) (iblk m c 1 t) (ix2 p q) = ∑ l : Fin 2560, term m c p q (t.val / 2) (t.val % 2 * 2560 + l.val) := by
  rw [pay1_apply]
  exact Finset.sum_congr rfl fun l _ => congrArg₂ (· * ·) (blk0_apply m c t p l) (blk1_apply m c t q l)

/-- What the accumulator holds after each grid point. -/
theorem scratch_eq (p : Fin 640) (q : Fin 1024) : ∀ (t : ℕ) (h : t < cfg0.N),
    ((outsAt0 m c t h).2 (ix2 p q) : EReal) = ∑ k ∈ Finset.range ((t % 2 + 1) * 2560), term m c p q (t / 2) k := by
  refine Proof.fold_blocks cfg0.N 2 2560 (fun t h => (outsAt0 m c t h).2 (ix2 p q)) (term m c p q) ?_ ?_
  · intro t h h0
    rw [outsAt0_A m c ⟨t, h⟩ h0 (by dsimp only; omega) (by dsimp only; omega), scratch_A]
    exact part_apply m c ⟨t, h⟩ p q
  · intro t h h0
    rw [outsAt0_B m c ⟨t, h⟩ h0 (by dsimp only; omega) (by dsimp only; omega), scratch_B]
    exact congrArg (fun z : EReal => _ + z) (part_apply m c ⟨t, h⟩ p q)

/-- What is written out at the last grid point of a run. -/
theorem out_eq (t : ℕ) (h : t < cfg0.N) (h1 : t % 2 = 1) (p : Fin 640) (q : Fin 1024) :
    ((outsAt0 m c t h).1 (ix2 p q) : EReal) = ∑ k : Fin 5120, term m c p q (t / 2) k.val := by
  have e := scratch_eq m c p q t h
  rw [show (t % 2 + 1) * 2560 = 5120 by omega, Finset.sum_range] at e
  rw [outsAt0_B m c ⟨t, h⟩ (by dsimp only; omega) h1 h1] at e ⊢
  rw [scratch_B] at e
  rw [out_B]
  exact e

/-- The sum that makes an entry of the result. -/
def result : S8320x1024.Idx → EReal := fun i =>
  ∑ k : Fin 5120, A0 m c (ix2 (i 0) k) * A1 m c (ix2 (i 1) k)

theorem G2_eq : (Value.G2 m c : S8320x1024.Idx → EReal) = result m c := by
  funext i
  have hN : cfg0.N = 26 := N_0
  have h0 : (i 0).val < 8320 := (i 0).isLt
  have h1 : (i 1).val < 1024 := (i 1).isLt
  have hp : Value.pt2Of i < cfg0.N := by rw [hN]; unfold Value.pt2Of Value.run2Of; omega
  have hd : Value.pt2Of i / 2 = (i 0).val / 640 := by unfold Value.pt2Of Value.run2Of; omega
  unfold Value.G2
  rw [dif_pos hp, ← Value.outsAt0_sweep m c _ hp, show Value.loc2Of i = ix2 ⟨(i 0).val % 640, Nat.mod_lt _ (by decide)⟩ ⟨(i 1).val % 1024, Nat.mod_lt _ (by decide)⟩ from
    Proof.idx2_ext rfl rfl, out_eq m c _ hp (by unfold Value.pt2Of; omega), hd]
  suffices e : ∀ k : Fin 5120, term m c ⟨(i 0).val % 640, Nat.mod_lt _ (by decide)⟩ ⟨(i 1).val % 1024, Nat.mod_lt _ (by decide)⟩ ((i 0).val / 640) k.val
      = A0 m c (ix2 (i 0) k) * A1 m c (ix2 (i 1) k) by
    unfold result
    rw [Finset.sum_congr rfl fun k _ => e k]
  intro k
  unfold term
  rw [Proof.at2_ix2 _ _ _ (by omega) k.isLt, Proof.at2_ix2 _ _ _ (by omega) k.isLt]
  refine congrArg₂ (fun a b : EReal => a * b) (congrArg _ (Proof.idx2_ext ?_ ?_)) (congrArg _ (Proof.idx2_ext ?_ ?_))
  · show (i 0).val / 640 * 640 + (i 0).val % 640 = (i 0).val
    omega
  · rfl
  · show (i 1).val % 1024 = (i 1).val
    omega
  · rfl

end Cert.Kernel7Ideal.Product

namespace Cert.Reference7Ideal.Product

open Read Idealize.ShloMosaic
open Idealize.ShloMosaic.ValueIdx

/-- The reference's array, entry by entry. -/
theorem val_eq (a : S8320x5120.Idx → EReal) (b : S1024x5120.Idx → EReal) :
    (val_main_v4 (F := Ideal) a b : S8320x1024.Idx → EReal)
      = fun i => ∑ k : Fin 5120, a (ix2 (i 0) k) * b (ix2 (i 1) k) := by
  funext i
  rw [val_main_v4_apply]
  refine Finset.sum_congr rfl fun k _ => ?_
  rw [val_main_v3_apply, val_main_v1_apply]
  exact congrArg₂ (fun a b : EReal => a * b) (congrArg a (Proof.idx2_ext rfl rfl)) (congrArg b (Proof.idx2_ext rfl rfl))

end Cert.Reference7Ideal.Product

end
-- ==== Proof.Dwin.lean ====
/- The gradient of the input projection's weight, `umᵀ · dz`: the kernel's array is the sum over all the rows, added up five
   blocks of 1664 rows at a time, and it equals the reference's. -/
module

public import proofs.«01_k».proof.Proof.Sums
public import proofs.«01_k».proof.Proof.Gen.Kernel8Ideal.Value
public import proofs.«01_k».proof.Proof.Gen.Reference8Ideal.Run
public import proofs.«01_k».proof.Proof.Gen.Reference8Ideal.Read
public import Idealize.ShloMosaic.Lib.MatmulPlain
public import Idealize.ShloMosaic.Lib.Tactic

@[expose] public section

noncomputable section

namespace Cert.Kernel8Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

section Cases

variable (c : Dev nD) (i : grid0.Coords) (a3 : Memref sig .tc .vmem S1024x1664 .bf16) (h3 : a3.IsWhole)
  (a4 : Memref sig .tc .vmem S1664x1280 .bf16) (h4 : a4.IsWhole) (a5 : Memref sig .tc .vmem S1024x1280 .f32) (h5 : a5.IsWhole)
  (a6 : Memref sig .tc .vmem S1024x1280 .f32) (h6 : a6.IsWhole)
  (x0 : Vec Ideal S1024x1664 .bf16) (x1 : Vec Ideal S1664x1280 .bf16) (xs : Vec Ideal S1024x1280 .f32)

/-- The first block's product starts the sum. -/
theorem scratch_A (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  unfold k0_pay2
  simp only [View.readAt_eq_ld, h3.read_unread, h4.read_unread, View.ld_unit_zero (S := S1024x1664) origin,
    View.ld_unit_zero (S := S1664x1280) origin, shapeCast_self]

/-- A later block's product is added. -/
theorem scratch_B (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero origin]
  unfold k0_pay3
  simp only [View.readAt_eq_ld, h3.read_unread, h4.read_unread, h6.read_unread, View.ld_unit_zero (S := S1024x1664) origin,
    View.ld_unit_zero (S := S1664x1280) origin, View.ld_unit_zero (S := S1024x1280) origin, shapeCast_self]

theorem scratch_C (hc0 : ¬cond0_0 i) (hc1 : cond0_1 i) (hc2 : cond0_2 i) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero origin]
  unfold k0_pay3
  simp only [View.readAt_eq_ld, h3.read_unread, h4.read_unread, h6.read_unread, View.ld_unit_zero (S := S1024x1664) origin,
    View.ld_unit_zero (S := S1664x1280) origin, View.ld_unit_zero (S := S1024x1280) origin, shapeCast_self]

/-- The last block's product is added, and the sum written out. -/
theorem out_C (hc0 : ¬cond0_0 i) (hc1 : cond0_1 i) (hc2 : cond0_2 i) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero origin, View.readCov_unit_zero (S := S1024x1280) _ origin]
  unfold k0_pay3
  simp only [View.readAt_eq_ld, h3.read_unread, h4.read_unread, h6.read_unread, View.ld_unit_zero (S := S1024x1664) origin,
    View.ld_unit_zero (S := S1664x1280) origin, View.ld_unit_zero (S := S1024x1280) origin, shapeCast_self]

/-- A block's product, entry by entry. -/
theorem pay1_apply (p : Fin 1024) (q : Fin 1280) :
    k0_pay1 x0 x1 (ix2 p q) = ∑ l : Fin 1664, (x0 (ix2 p l) : EReal) * (x1 (ix2 l q) : EReal) := by
  unfold k0_pay1
  exact (Ideal.matmul_plain_apply _ _ _ _ p q).trans
    ((congrArg (fun z : EReal => z + _) Proof.bits_zero).trans (zero_add _))

end Cases

variable (m : (ℓ : Loc nD τ sig) → Buf (Elt Ideal) ℓ) (c : Dev nD)

/-- The two arguments. -/
abbrev A0 : S1024x8320.Idx → EReal := m ((c : Thread nD τ).loc main_arg0)
abbrev A1 : S8320x5120.Idx → EReal := m ((c : Thread nD τ).loc main_arg1)

/-- Where the windows stand at each grid point. -/
theorem idx_facts : ∀ t : Fin cfg0.N,
    win0_0.index t 0 = 0 ∧ win0_0.index t 1 = t.val % 5 ∧ win0_1.index t 0 = t.val % 5 ∧ win0_1.index t 1 = t.val / 5 :=
  (by decide +kernel : ∀ t : Fin grid0.N, _)

/-- An entry of the first argument's block. -/
theorem blk0_apply (t : Fin cfg0.N) (p : Fin 1024) (l : Fin 1664) :
    (iblk m c 0 t : S1024x1664.Idx → EReal) (ix2 p l) = Proof.at2 (A0 m c) p.val (t.val % 5 * 1664 + l.val) := by
  have ht : t.val < 20 := lt_of_lt_of_eq t.isLt N_0
  obtain ⟨e0, e1, -, -⟩ := idx_facts t
  rw [Proof.at2_ix2 _ _ _ (by omega) (by omega)]
  show m _ _ = m _ _
  congr 1
  apply Proof.idx2_ext
  · show win0_0.index t 0 * 1024 + 1 * p.val = p.val
    rw [e0]; omega
  · show win0_0.index t 1 * 1664 + 1 * l.val = t.val % 5 * 1664 + l.val
    rw [e1]; omega

/-- An entry of the second argument's block. -/
theorem blk1_apply (t : Fin cfg0.N) (l : Fin 1664) (q : Fin 1280) :
    (iblk m c 1 t : S1664x1280.Idx → EReal) (ix2 l q) = Proof.at2 (A1 m c) (t.val % 5 * 1664 + l.val) (t.val / 5 * 1280 + q.val) := by
  have ht : t.val < 20 := lt_of_lt_of_eq t.isLt N_0
  obtain ⟨-, -, e0, e1⟩ := idx_facts t
  rw [Proof.at2_ix2 _ _ _ (by omega) (by omega)]
  show m _ _ = m _ _
  congr 1
  apply Proof.idx2_ext
  · show win0_1.index t 0 * 1664 + 1 * l.val = t.val % 5 * 1664 + l.val
    rw [e0]; omega
  · show win0_1.index t 1 * 1280 + 1 * q.val = t.val / 5 * 1280 + q.val
    rw [e1]; omega

/-- One product of the sum that makes entry `(p, r · 1280 + q)`. -/
def term (p : Fin 1024) (q : Fin 1280) (r k : ℕ) : EReal :=
  Proof.at2 (A0 m c) p.val k * Proof.at2 (A1 m c) k (r * 1280 + q.val)

theorem part_apply (t : Fin cfg0.N) (p : Fin 1024) (q : Fin 1280) :
    k0_pay1 (iblk m c 0 t) (iblk m c 1 t) (ix2 p q) = ∑ l : Fin 1664, term m c p q (t.val / 5) (t.val % 5 * 1664 + l.val) := by
  rw [pay1_apply]
  exact Finset.sum_congr rfl fun l _ => congrArg₂ (· * ·) (blk0_apply m c t p l) (blk1_apply m c t l q)

/-- What the accumulator holds after each grid point. -/
theorem scratch_eq (p : Fin 1024) (q : Fin 1280) : ∀ (t : ℕ) (h : t < cfg0.N),
    ((outsAt0 m c t h).2 (ix2 p q) : EReal) = ∑ k ∈ Finset.range ((t % 5 + 1) * 1664), term m c p q (t / 5) k := by
  refine Proof.fold_blocks cfg0.N 5 1664 (fun t h => (outsAt0 m c t h).2 (ix2 p q)) (term m c p q) ?_ ?_
  · intro t h h0
    rw [outsAt0_A m c ⟨t, h⟩ h0 (by dsimp only; omega) (by dsimp only; omega), scratch_A]
    exact part_apply m c ⟨t, h⟩ p q
  · intro t h h0
    by_cases h4 : t % 5 = 4
    · rw [outsAt0_C m c ⟨t, h⟩ h0 (by dsimp only; omega) h4, scratch_C]
      exact congrArg (fun z : EReal => _ + z) (part_apply m c ⟨t, h⟩ p q)
    · rw [outsAt0_B m c ⟨t, h⟩ h0 (by dsimp only; omega) h4, scratch_B]
      exact congrArg (fun z : EReal => _ + z) (part_apply m c ⟨t, h⟩ p q)

/-- What is written out at the last grid point of a run. -/
theorem out_eq (t : ℕ) (h : t < cfg0.N) (h4 : t % 5 = 4) (p : Fin 1024) (q : Fin 1280) :
    ((outsAt0 m c t h).1 (ix2 p q) : EReal) = (∑ k : Fin 8320, term m c p q (t / 5) k.val) := by
  have e := scratch_eq m c p q t h
  rw [show (t % 5 + 1) * 1664 = 8320 by omega, Finset.sum_range] at e
  rw [outsAt0_C m c ⟨t, h⟩ (by dsimp only; omega) (by dsimp only; omega) h4] at e ⊢
  rw [scratch_C] at e
  rw [out_C]
  exact e

/-- The sum that makes an entry of the result. -/
def result : S1024x5120.Idx → EReal := fun i =>
  (∑ k : Fin 8320, A0 m c (ix2 (i 0) k) * A1 m c (ix2 k (i 1)))

theorem G2_eq : (Value.G2 m c : S1024x5120.Idx → EReal) = result m c := by
  funext i
  have hN : cfg0.N = 20 := N_0
  have h0 : (i 0).val < 1024 := (i 0).isLt
  have h1 : (i 1).val < 5120 := (i 1).isLt
  have hp : Value.pt2Of i < cfg0.N := by rw [hN]; unfold Value.pt2Of Value.run2Of; omega
  have hd : Value.pt2Of i / 5 = (i 1).val / 1280 := by unfold Value.pt2Of Value.run2Of; omega
  unfold Value.G2
  rw [dif_pos hp, ← Value.outsAt0_sweep m c _ hp, show Value.loc2Of i = ix2 ⟨(i 0).val % 1024, Nat.mod_lt _ (by decide)⟩ ⟨(i 1).val % 1280, Nat.mod_lt _ (by decide)⟩ from
    Proof.idx2_ext rfl rfl, out_eq m c _ hp (by unfold Value.pt2Of; omega), hd]
  suffices e : ∀ k : Fin 8320, term m c ⟨(i 0).val % 1024, Nat.mod_lt _ (by decide)⟩ ⟨(i 1).val % 1280, Nat.mod_lt _ (by decide)⟩ ((i 1).val / 1280) k.val
      = A0 m c (ix2 (i 0) k) * A1 m c (ix2 k (i 1)) by
    unfold result
    rw [Finset.sum_congr rfl fun k _ => e k]
  intro k
  unfold term
  rw [Proof.at2_ix2 _ _ _ (by omega) k.isLt, Proof.at2_ix2 _ _ _ k.isLt (by omega)]
  refine congrArg₂ (fun a b : EReal => a * b) (congrArg _ (Proof.idx2_ext ?_ ?_)) (congrArg _ (Proof.idx2_ext ?_ ?_))
  · show (i 0).val % 1024 = (i 0).val
    omega
  · rfl
  · rfl
  · show (i 1).val / 1280 * 1280 + (i 1).val % 1280 = (i 1).val
    omega

end Cert.Kernel8Ideal.Product

namespace Cert.Reference8Ideal.Product

open Read Idealize.ShloMosaic
open Idealize.ShloMosaic.ValueIdx

/-- The reference's array, entry by entry. -/
theorem val_eq (a : S1024x8320.Idx → EReal) (b : S8320x5120.Idx → EReal) :
    (val_main_v6 (F := Ideal) a b : S1024x5120.Idx → EReal)
      = fun i => ∑ k : Fin 8320, a (ix2 (i 0) k) * b (ix2 k (i 1)) := by
  funext i
  rw [val_main_v6_apply, val_main_v5_apply]
  refine Finset.sum_congr rfl fun k _ => ?_
  rw [val_main_v4_apply, val_main_v2_apply, val_main_v1_apply]
  show b _ * a _ = a _ * b _
  rw [mul_comm]
  exact congrArg₂ (fun a b : EReal => a * b) (congrArg a (Proof.idx2_ext rfl rfl)) (congrArg b (Proof.idx2_ext rfl rfl))

end Cert.Reference8Ideal.Product

end
-- ==== Proof.OutFwd.lean ====
/- The output projection of the mixer with its residual, `h + merged · w_out`: each block is one product, and the array equals the reference's. -/
module

public import proofs.«01_k».proof.Proof.Sums
public import proofs.«01_k».proof.Proof.Gen.Kernel13Ideal.Value
public import proofs.«01_k».proof.Proof.Gen.Reference13Ideal.Run
public import proofs.«01_k».proof.Proof.Gen.Reference13Ideal.Read
public import Idealize.ShloMosaic.Lib.MatmulPlain
public import Idealize.ShloMosaic.Lib.Tactic

@[expose] public section

noncomputable section

namespace Cert.Kernel13Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay_apply (x0 : Vec Ideal S640x1024 .bf16) (x1 : Vec Ideal S1024x1024 .bf16) (x2 : Vec Ideal S640x1024 .f32) (p : Fin 640) (q : Fin 1024) :
    (k0_pay1 x0 x1 x2 (ix2 p q) : EReal) = (∑ l : Fin 1024, (x0 (ix2 p l) : EReal) * (x1 (ix2 l q) : EReal)) + x2 (ix2 p q) := by
  unfold k0_pay1
  exact congrArg (fun z : EReal => z + _) ((Ideal.matmul_plain_apply (φ₁ := .bf16) (φ₂ := .bf16) none _ _ _ p q).trans ((congrArg (fun z : EReal => z + _) Proof.bits_zero).trans (zero_add _)))

variable (m : (ℓ : Loc nD τ sig) → Buf (Elt Ideal) ℓ) (c : Dev nD)

/-- The arguments. -/
abbrev A0 : S8320x1024.Idx → EReal := m ((c : Thread nD τ).loc main_arg1)
abbrev A1 : S1024x1024.Idx → EReal := m ((c : Thread nD τ).loc main_arg2)
abbrev A2 : S8320x1024.Idx → EReal := m ((c : Thread nD τ).loc main_arg0)

/-- The sum that makes an entry of the result. -/
def result : S8320x1024.Idx → EReal := fun i => (∑ k : Fin 1024, A0 m c (ix2 (i 0) k) * A1 m c (ix2 k (i 1))) + A2 m c i

/-- Where the windows stand at each grid point. -/
theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 ∧ win0_3.index t 0 = t.val ∧ win0_3.index t 1 = 0 :=
  (by decide +kernel : ∀ t : Fin grid0.N, _)

theorem blk0_apply (t : Fin cfg0.N) (p : Fin 640) (l : Fin 1024) (r : Fin 8320) (hr : r.val = t.val * 640 + p.val) :
    (iblk m c 0 t : S640x1024.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 1024 + 1 * l.val = l.val
    rw [e1]; omega

theorem blk1_apply (t : Fin cfg0.N) (p : Fin 1024) (l : Fin 1024) : (iblk m c 1 t : S1024x1024.Idx → EReal) (ix2 p l) = A1 m c (ix2 p l) := by
  obtain ⟨-, -, e0, e1, -⟩ := idx_facts t
  show m _ _ = m _ _
  congr 1
  apply Proof.idx2_ext
  · show win0_1.index t 0 * 1024 + 1 * p.val = p.val
    rw [e0]; omega
  · show win0_1.index t 1 * 1024 + 1 * l.val = l.val
    rw [e1]; omega

theorem blk2_apply (t : Fin cfg0.N) (p : Fin 640) (l : Fin 1024) (r : Fin 8320) (hr : r.val = t.val * 640 + p.val) :
    (iblk m c 2 t : S640x1024.Idx → EReal) (ix2 p l) = A2 m c (ix2 r l) := by
  obtain ⟨-, -, -, -, e0, e1, -⟩ := idx_facts t
  show m _ _ = m _ _
  congr 1
  apply Proof.idx2_ext
  · show win0_2.index t 0 * 640 + 1 * p.val = r.val
    rw [e0]; omega
  · show win0_2.index t 1 * 1024 + 1 * l.val = l.val
    rw [e1]; omega

theorem flushed (t : Fin cfg0.N) : (dats m 0 c).flushed 3 t = ((cfg0.win 3).blk t).view.read (Elt Ideal) (result m c) := by
  rw [Value.flushed3]
  unfold out0_3
  rw [View.canon_unit_zero origin]
  simp only [View.ld_unit_zero (S := S640x1024) origin, View.ld_unit_zero (S := S1024x1024) origin]
  funext j
  have ht : t.val < 13 := lt_of_lt_of_eq t.isLt N_0
  obtain ⟨-, -, -, -, -, -, e0, e1⟩ := idx_facts t
  have j0 : (j 0).val < 640 := (j 0).isLt
  have j1 : (j 1).val < 1024 := (j 1).isLt
  have e : ((cfg0.win 3).blk t).view.emb j = (ix2 (⟨t.val * 640 + (j 0).val, by omega⟩ : Fin 8320) (⟨(j 1).val, j1⟩ : Fin 1024) : S8320x1024.Idx) := by
    apply Proof.idx2_ext
    · show win0_3.index t 0 * 640 + 1 * (j 0).val = t.val * 640 + (j 0).val
      rw [e0]; omega
    · show win0_3.index t 1 * 1024 + 1 * (j 1).val = (j 1).val
      rw [e1]; omega
  rw [View.read_apply, e]
  have hj : j = ix2 (⟨(j 0).val, j0⟩ : Fin 640) (⟨(j 1).val, j1⟩ : Fin 1024) := Proof.idx2_ext rfl rfl
  show (k0_pay1 (iblk m c 0 t) (iblk m c 1 t) (iblk m c 2 t) j : EReal) = _
  refine (congrArg (k0_pay1 (iblk m c 0 t) (iblk m c 1 t) (iblk m c 2 t) : S640x1024.Idx → EReal) hj).trans ?_
  rw [pay_apply]
  rw [Finset.sum_congr rfl fun l _ => congrArg₂ (fun y z : EReal => y * z) (blk0_apply m c t ⟨(j 0).val, j0⟩ l ⟨t.val * 640 + (j 0).val, by omega⟩ rfl) (blk1_apply m c t l ⟨(j 1).val, j1⟩)]
  rw [blk2_apply m c t ⟨(j 0).val, j0⟩ ⟨(j 1).val, j1⟩ ⟨t.val * 640 + (j 0).val, by omega⟩ rfl]
  rfl

theorem final : (dats m 0 c).arrAt 3 cfg0.N = result m c :=
  (dats m 0 c).arrAt_eq_of_cover 3 _ (fun t _ => flushed m c t) fun i => by
    have h0 : (i 0).val < 8320 := (i 0).isLt
    have h1 : (i 1).val < 1024 := (i 1).isLt
    have hN : cfg0.N = 13 := N_0
    let t : Fin cfg0.N := ⟨(i 0).val / 640, by rw [hN]; omega⟩
    obtain ⟨-, -, -, -, -, -, e0, e1⟩ := idx_facts t
    refine ⟨t, flush0_3 t, ?_⟩
    show i ∈ ((View.whole main_v0).slice (win0_3.rect t)).set
    rw [View.set_slice_whole, Rect.mem_set_unit]
    intro a
    match a with
    | ⟨0, _⟩ =>
      show win0_3.index t 0 * 640 ≤ (i 0).val ∧ (i 0).val < win0_3.index t 0 * 640 + 640
      rw [e0]; show (i 0).val / 640 * 640 ≤ (i 0).val ∧ (i 0).val < (i 0).val / 640 * 640 + 640; omega
    | ⟨1, _⟩ =>
      show win0_3.index t 1 * 1024 ≤ (i 1).val ∧ (i 1).val < win0_3.index t 1 * 1024 + 1024
      rw [e1]; omega

end Cert.Kernel13Ideal.Product

namespace Cert.Reference13Ideal.Product

open Read Idealize.ShloMosaic
open Idealize.ShloMosaic.ValueIdx

/-- The reference's array, entry by entry. -/
theorem val_eq (h : S8320x1024.Idx → EReal) (a : S8320x1024.Idx → EReal) (b : S1024x1024.Idx → EReal) :
    (val_main_v3 (F := Ideal) h a b : S8320x1024.Idx → EReal) = fun i => (∑ k : Fin 1024, a (ix2 (i 0) k) * b (ix2 k (i 1))) + h i := by
  funext i
  rw [val_main_v3_apply, val_main_v2_apply]
  show (h i : EReal) + _ = _
  rw [add_comm]
  refine congrArg (fun z : EReal => z + h i) (Finset.sum_congr rfl fun k _ => ?_)
  rw [val_main_v0_apply, val_main_v1_apply]
  exact congrArg₂ (fun a b : EReal => a * b) (congrArg a (Proof.idx2_ext rfl rfl)) (congrArg b (Proof.idx2_ext rfl rfl))

end Cert.Reference13Ideal.Product

end
-- ==== Proof.Dmerged.lean ====
/- The gradient of the merged branches, `dh · w_outᵀ`: each block is one product, and the array equals the reference's. -/
module

public import proofs.«01_k».proof.Proof.Sums
public import proofs.«01_k».proof.Proof.Gen.Kernel14Ideal.Value
public import proofs.«01_k».proof.Proof.Gen.Reference14Ideal.Run
public import proofs.«01_k».proof.Proof.Gen.Reference14Ideal.Read
public import Idealize.ShloMosaic.Lib.MatmulPlain
public import Idealize.ShloMosaic.Lib.Tactic

@[expose] public section

noncomputable section

namespace Cert.Kernel14Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay_apply (x0 : Vec Ideal S640x1024 .bf16) (x1 : Vec Ideal S1024x1024 .bf16) (p : Fin 640) (q : Fin 1024) :
    (k0_pay1 x0 x1 (ix2 p q) : EReal) = (∑ l : Fin 1024, (x0 (ix2 p l) : EReal) * (x1 (ix2 q l) : EReal)) := by
  unfold k0_pay1
  exact ((Ideal.matmul_transposedRhs_apply (φ₁ := .bf16) (φ₂ := .bf16) none _ _ _ p q).trans ((congrArg (fun z : EReal => z + _) Proof.bits_zero).trans (zero_add _)))

variable (m : (ℓ : Loc nD τ sig) → Buf (Elt Ideal) ℓ) (c : Dev nD)

/-- The arguments. -/
abbrev A0 : S8320x1024.Idx → EReal := m ((c : Thread nD τ).loc main_arg0)
abbrev A1 : S1024x1024.Idx → EReal := m ((c : Thread nD τ).loc main_arg1)

/-- The sum that makes an entry of the result. -/
def result : S8320x1024.Idx → EReal := fun i => (∑ k : Fin 1024, A0 m c (ix2 (i 0) k) * A1 m c (ix2 (i 1) k))

/-- Where the windows stand at each grid point. -/
theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

theorem blk0_apply (t : Fin cfg0.N) (p : Fin 640) (l : Fin 1024) (r : Fin 8320) (hr : r.val = t.val * 640 + p.val) :
    (iblk m c 0 t : S640x1024.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 1024 + 1 * l.val = l.val
    rw [e1]; omega

theorem blk1_apply (t : Fin cfg0.N) (p : Fin 1024) (l : Fin 1024) : (iblk m c 1 t : S1024x1024.Idx → EReal) (ix2 p l) = A1 m c (ix2 p l) := by
  obtain ⟨-, -, e0, e1, -⟩ := idx_facts t
  show m _ _ = m _ _
  congr 1
  apply Proof.idx2_ext
  · show win0_1.index t 0 * 1024 + 1 * p.val = p.val
    rw [e0]; omega
  · show win0_1.index t 1 * 1024 + 1 * l.val = l.val
    rw [e1]; omega

theorem flushed (t : Fin cfg0.N) : (dats m 0 c).flushed 2 t = ((cfg0.win 2).blk t).view.read (Elt Ideal) (result m c) := by
  rw [Value.flushed2]
  unfold out0_2
  rw [View.canon_unit_zero origin]
  simp only [View.ld_unit_zero (S := S640x1024) origin, View.ld_unit_zero (S := S1024x1024) origin]
  funext j
  have ht : t.val < 13 := lt_of_lt_of_eq t.isLt N_0
  obtain ⟨-, -, -, -, e0, e1⟩ := idx_facts t
  have j0 : (j 0).val < 640 := (j 0).isLt
  have j1 : (j 1).val < 1024 := (j 1).isLt
  have e : ((cfg0.win 2).blk t).view.emb j = (ix2 (⟨t.val * 640 + (j 0).val, by omega⟩ : Fin 8320) (⟨(j 1).val, j1⟩ : Fin 1024) : S8320x1024.Idx) := by
    apply Proof.idx2_ext
    · show win0_2.index t 0 * 640 + 1 * (j 0).val = t.val * 640 + (j 0).val
      rw [e0]; omega
    · show win0_2.index t 1 * 1024 + 1 * (j 1).val = (j 1).val
      rw [e1]; omega
  rw [View.read_apply, e]
  have hj : j = ix2 (⟨(j 0).val, j0⟩ : Fin 640) (⟨(j 1).val, j1⟩ : Fin 1024) := Proof.idx2_ext rfl rfl
  show (k0_pay1 (iblk m c 0 t) (iblk m c 1 t) j : EReal) = _
  refine (congrArg (k0_pay1 (iblk m c 0 t) (iblk m c 1 t) : S640x1024.Idx → EReal) hj).trans ?_
  rw [pay_apply]
  rw [Finset.sum_congr rfl fun l _ => congrArg₂ (fun y z : EReal => y * z) (blk0_apply m c t ⟨(j 0).val, j0⟩ l ⟨t.val * 640 + (j 0).val, by omega⟩ rfl) (blk1_apply m c t ⟨(j 1).val, j1⟩ l)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 1024 := (i 1).isLt
    have hN : cfg0.N = 13 := N_0
    let t : Fin cfg0.N := ⟨(i 0).val / 640, by rw [hN]; omega⟩
    obtain ⟨-, -, -, -, e0, e1⟩ := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show (i 0).val / 640 * 640 ≤ (i 0).val ∧ (i 0).val < (i 0).val / 640 * 640 + 640; omega
    | ⟨1, _⟩ =>
      show win0_2.index t 1 * 1024 ≤ (i 1).val ∧ (i 1).val < win0_2.index t 1 * 1024 + 1024
      rw [e1]; omega

end Cert.Kernel14Ideal.Product

namespace Cert.Reference14Ideal.Product

open Read Idealize.ShloMosaic
open Idealize.ShloMosaic.ValueIdx

/-- The reference's array, entry by entry. -/
theorem val_eq (a : S8320x1024.Idx → EReal) (b : S1024x1024.Idx → EReal) :
    (val_main_v5 (F := Ideal) a b : S8320x1024.Idx → EReal) = fun i => (∑ k : Fin 1024, a (ix2 (i 0) k) * b (ix2 (i 1) k)) := by
  funext i
  rw [val_main_v5_apply]
  show (val_main_v4 (F := Ideal) a b i : EReal) = _
  rw [val_main_v4_apply]
  refine Finset.sum_congr rfl fun k _ => ?_
  rw [val_main_v3_apply, val_main_v1_apply]
  exact congrArg₂ (fun a b : EReal => a * b) (congrArg a (Proof.idx2_ext rfl rfl)) (congrArg b (Proof.idx2_ext rfl rfl))

end Cert.Reference14Ideal.Product

end
-- ==== Proof.Dwout.lean ====
/- The gradient of the output projection's weight: the sum over all the rows, five blocks of 1664 rows added up, equals the reference's. -/
module

public import proofs.«01_k».proof.Proof.Sums
public import proofs.«01_k».proof.Proof.Gen.Kernel15Ideal.Value
public import proofs.«01_k».proof.Proof.Gen.Reference15Ideal.Run
public import proofs.«01_k».proof.Proof.Gen.Reference15Ideal.Read
public import Idealize.ShloMosaic.Lib.MatmulPlain
public import Idealize.ShloMosaic.Lib.Tactic

@[expose] public section

noncomputable section

namespace Cert.Kernel15Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

section Cases

variable (c : Dev nD) (i : grid0.Coords) (a3 : Memref sig .tc .vmem S1024x1664 .bf16) (h3 : a3.IsWhole)
  (a4 : Memref sig .tc .vmem S1664x1024 .bf16) (h4 : a4.IsWhole) (a5 : Memref sig .tc .vmem S1024x1024 .f32) (h5 : a5.IsWhole)
  (a6 : Memref sig .tc .vmem S1024x1024 .f32) (h6 : a6.IsWhole)
  (x0 : Vec Ideal S1024x1664 .bf16) (x1 : Vec Ideal S1664x1024 .bf16) (xs : Vec Ideal S1024x1024 .f32)

/-- The first block's product starts the sum. -/
theorem scratch_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  unfold k0_pay2
  simp only [View.readAt_eq_ld, h3.read_unread, h4.read_unread, h6.read_unread, View.ld_unit_zero (S := S1024x1664) origin, View.ld_unit_zero (S := S1664x1024) origin, View.ld_unit_zero (S := S1024x1024) origin, shapeCast_self]

/-- A later block's product is added. -/
theorem scratch_B (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero origin]
  unfold k0_pay3
  simp only [View.readAt_eq_ld, h3.read_unread, h4.read_unread, h6.read_unread, View.ld_unit_zero (S := S1024x1664) origin, View.ld_unit_zero (S := S1664x1024) origin, View.ld_unit_zero (S := S1024x1024) origin, shapeCast_self]

/-- So is the last block's. -/
theorem scratch_C (hc0 : ¬cond0_0 i) (hc1 : cond0_1 i) (hc2 : cond0_2 i) : sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero origin]
  unfold k0_pay3
  simp only [View.readAt_eq_ld, h3.read_unread, h4.read_unread, h6.read_unread, View.ld_unit_zero (S := S1024x1664) origin, View.ld_unit_zero (S := S1664x1024) origin, View.ld_unit_zero (S := S1024x1024) origin, shapeCast_self]

/-- The sum is written out. -/
theorem out_C (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero origin, View.readCov_unit_zero (S := S1024x1024) _ origin]
  unfold k0_pay3
  simp only [View.readAt_eq_ld, h3.read_unread, h4.read_unread, h6.read_unread, View.ld_unit_zero (S := S1024x1664) origin, View.ld_unit_zero (S := S1664x1024) origin, View.ld_unit_zero (S := S1024x1024) origin, shapeCast_self]

/-- A block's product, entry by entry. -/
theorem pay_apply (p : Fin 1024) (q : Fin 1024) :
    k0_pay1 x0 x1 (ix2 p q) = ∑ l : Fin 1664, (x0 (ix2 p l) : EReal) * (x1 (ix2 l q) : EReal) := by
  unfold k0_pay1
  exact (Ideal.matmul_plain_apply (φ₁ := .bf16) (φ₂ := .bf16) none _ _ _ p q).trans ((congrArg (fun z : EReal => z + _) Proof.bits_zero).trans (zero_add _))

end Cases

variable (m : (ℓ : Loc nD τ sig) → Buf (Elt Ideal) ℓ) (c : Dev nD)

/-- The two arguments. -/
abbrev A0 : S1024x8320.Idx → EReal := m ((c : Thread nD τ).loc main_arg0)
abbrev A1 : S8320x1024.Idx → EReal := m ((c : Thread nD τ).loc main_arg1)

/-- Where the windows stand at each grid point. -/
theorem idx_facts : ∀ t : Fin cfg0.N, win0_0.index t 0 = 0 ∧ win0_0.index t 1 = t.val ∧ win0_1.index t 0 = t.val ∧ win0_1.index t 1 = 0 :=
  (by decide +kernel : ∀ t : Fin grid0.N, _)

theorem blk0_apply (t : Fin cfg0.N) (p : Fin 1024) (l : Fin 1664) : (iblk m c 0 t : S1024x1664.Idx → EReal) (ix2 p l) = Proof.at2 (A0 m c) p.val (t.val % 5 * 1664 + l.val) := by
  have ht : t.val < 5 := lt_of_lt_of_eq t.isLt N_0
  obtain ⟨e0, e1, -, -⟩ := idx_facts t
  rw [Proof.at2_ix2 _ _ _ (by omega) (by omega)]
  show m _ _ = m _ _
  congr 1
  apply Proof.idx2_ext
  · show win0_0.index t 0 * 1024 + 1 * p.val = p.val
    rw [e0]; omega
  · show win0_0.index t 1 * 1664 + 1 * l.val = t.val % 5 * 1664 + l.val
    rw [e1]; omega

theorem blk1_apply (t : Fin cfg0.N) (l : Fin 1664) (q : Fin 1024) :
    (iblk m c 1 t : S1664x1024.Idx → EReal) (ix2 l q) = Proof.at2 (A1 m c) (t.val % 5 * 1664 + l.val) q.val := by
  have ht : t.val < 5 := lt_of_lt_of_eq t.isLt N_0
  obtain ⟨-, -, e0, e1⟩ := idx_facts t
  rw [Proof.at2_ix2 _ _ _ (by omega) (by omega)]
  show m _ _ = m _ _
  congr 1
  apply Proof.idx2_ext
  · show win0_1.index t 0 * 1664 + 1 * l.val = t.val % 5 * 1664 + l.val
    rw [e0]; omega
  · show win0_1.index t 1 * 1024 + 1 * q.val = q.val
    rw [e1]; omega

/-- One product of the sum that makes entry `(p, q)`. -/
def term (p : Fin 1024) (q : Fin 1024) (k : ℕ) : EReal := Proof.at2 (A0 m c) p.val k * Proof.at2 (A1 m c) k q.val

theorem part_apply (t : Fin cfg0.N) (p : Fin 1024) (q : Fin 1024) :
    k0_pay1 (iblk m c 0 t) (iblk m c 1 t) (ix2 p q) = ∑ l : Fin 1664, term m c p q (t.val % 5 * 1664 + l.val) := by
  rw [pay_apply]
  exact Finset.sum_congr rfl fun l _ => congrArg₂ (· * ·) (blk0_apply m c t p l) (blk1_apply m c t l q)

/-- What the accumulator holds after each grid point. -/
theorem scratch_eq (p : Fin 1024) (q : Fin 1024) : ∀ (t : ℕ) (h : t < cfg0.N),
    ((outsAt0 m c t h).2 (ix2 p q) : EReal) = ∑ k ∈ Finset.range ((t % 5 + 1) * 1664), term m c p q k := by
  refine Proof.fold_blocks cfg0.N 5 1664 (fun t h => (outsAt0 m c t h).2 (ix2 p q)) (fun _ => term m c p q) ?_ ?_
  · intro t h h0
    have ht : t < 5 := lt_of_lt_of_eq h N_0
    rw [outsAt0_A m c ⟨t, h⟩ h0 (by dsimp only; omega) (by dsimp only; omega), scratch_A]
    exact part_apply m c ⟨t, h⟩ p q
  · intro t h h0
    have ht : t < 5 := lt_of_lt_of_eq h N_0
    by_cases h4 : t % 5 = 4
    · rw [outsAt0_C m c ⟨t, h⟩ h0 (by dsimp only; omega) h4, scratch_C]
      exact congrArg (fun z : EReal => _ + z) (part_apply m c ⟨t, h⟩ p q)
    · rw [outsAt0_B m c ⟨t, h⟩ h0 (by dsimp only; omega) h4, scratch_B]
      exact congrArg (fun z : EReal => _ + z) (part_apply m c ⟨t, h⟩ p q)

/-- What is written out at the last grid point. -/
theorem out_eq (t : ℕ) (h : t < cfg0.N) (h4 : t % 5 = 4) (p : Fin 1024) (q : Fin 1024) :
    ((outsAt0 m c t h).1 (ix2 p q) : EReal) = ∑ k : Fin 8320, term m c p q k.val := by
  have e := scratch_eq m c p q t h
  rw [show (t % 5 + 1) * 1664 = 8320 by omega, Finset.sum_range] at e
  rw [outsAt0_C m c ⟨t, h⟩ (by dsimp only; omega) (by dsimp only; omega) h4] at e ⊢
  rw [scratch_C] at e
  rw [out_C]
  exact e

/-- The sum that makes an entry of the result. -/
def result : S1024x1024.Idx → EReal := fun i => ∑ k : Fin 8320, A0 m c (ix2 (i 0) k) * A1 m c (ix2 k (i 1))

theorem G2_eq : (Value.G2 m c : S1024x1024.Idx → EReal) = result m c := by
  rw [Value.G2_last, ← Value.outsAt0_sweep m c 4 (lt_of_lt_of_eq (by decide) N_0.symm)]
  funext i
  refine (congrArg _ (eq_ix2 i)).trans ((out_eq m c 4 _ (by decide) (i 0) (i 1)).trans (Finset.sum_congr rfl fun k _ => ?_))
  exact congrArg₂ (fun a b : EReal => a * b) (Proof.at2_ix2 _ _ _ (i 0).isLt k.isLt) (Proof.at2_ix2 _ _ _ k.isLt (i 1).isLt)

end Cert.Kernel15Ideal.Product

namespace Cert.Reference15Ideal.Product

open Read Idealize.ShloMosaic
open Idealize.ShloMosaic.ValueIdx

/-- The reference's array, entry by entry. -/
theorem val_eq (a : S1024x8320.Idx → EReal) (b : S8320x1024.Idx → EReal) :
    (val_main_v6 (F := Ideal) a b : S1024x1024.Idx → EReal) = fun i => ∑ k : Fin 8320, a (ix2 (i 0) k) * b (ix2 k (i 1)) := by
  funext i
  rw [val_main_v6_apply, val_main_v5_apply]
  refine Finset.sum_congr rfl fun k _ => ?_
  rw [val_main_v4_apply, val_main_v2_apply, val_main_v1_apply]
  show b _ * a _ = a _ * b _
  rw [mul_comm]
  exact congrArg₂ (fun a b : EReal => a * b) (congrArg a (Proof.idx2_ext rfl rfl)) (congrArg b (Proof.idx2_ext rfl rfl))

end Cert.Reference15Ideal.Product

end
-- ==== Proof.DattnOut.lean ====
/- The gradient of attention's output, `dya · w_projᵀ`: each block is one product, and the array equals the reference's. -/
module

public import proofs.«01_k».proof.Proof.Sums
public import proofs.«01_k».proof.Proof.Gen.Kernel16Ideal.Value
public import proofs.«01_k».proof.Proof.Gen.Reference16Ideal.Run
public import proofs.«01_k».proof.Proof.Gen.Reference16Ideal.Read
public import Idealize.ShloMosaic.Lib.MatmulPlain
public import Idealize.ShloMosaic.Lib.Tactic

@[expose] public section

noncomputable section

namespace Cert.Kernel16Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay_apply (x0 : Vec Ideal S640x1024 .bf16) (x1 : Vec Ideal S1024x1024 .bf16) (p : Fin 640) (q : Fin 1024) :
    (k0_pay1 x0 x1 (ix2 p q) : EReal) = (∑ l : Fin 1024, (x0 (ix2 p l) : EReal) * (x1 (ix2 q l) : EReal)) := by
  unfold k0_pay1
  exact ((Ideal.matmul_transposedRhs_apply (φ₁ := .bf16) (φ₂ := .bf16) none _ _ _ p q).trans ((congrArg (fun z : EReal => z + _) Proof.bits_zero).trans (zero_add _)))

variable (m : (ℓ : Loc nD τ sig) → Buf (Elt Ideal) ℓ) (c : Dev nD)

/-- The arguments. -/
abbrev A0 : S8320x1024.Idx → EReal := m ((c : Thread nD τ).loc main_arg0)
abbrev A1 : S1024x1024.Idx → EReal := m ((c : Thread nD τ).loc main_arg1)

/-- The sum that makes an entry of the result. -/
def result : S8320x1024.Idx → EReal := fun i => (∑ k : Fin 1024, A0 m c (ix2 (i 0) k) * A1 m c (ix2 (i 1) k))

/-- Where the windows stand at each grid point. -/
theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

theorem blk0_apply (t : Fin cfg0.N) (p : Fin 640) (l : Fin 1024) (r : Fin 8320) (hr : r.val = t.val * 640 + p.val) :
    (iblk m c 0 t : S640x1024.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 1024 + 1 * l.val = l.val
    rw [e1]; omega

theorem blk1_apply (t : Fin cfg0.N) (p : Fin 1024) (l : Fin 1024) : (iblk m c 1 t : S1024x1024.Idx → EReal) (ix2 p l) = A1 m c (ix2 p l) := by
  obtain ⟨-, -, e0, e1, -⟩ := idx_facts t
  show m _ _ = m _ _
  congr 1
  apply Proof.idx2_ext
  · show win0_1.index t 0 * 1024 + 1 * p.val = p.val
    rw [e0]; omega
  · show win0_1.index t 1 * 1024 + 1 * l.val = l.val
    rw [e1]; omega

theorem flushed (t : Fin cfg0.N) : (dats m 0 c).flushed 2 t = ((cfg0.win 2).blk t).view.read (Elt Ideal) (result m c) := by
  rw [Value.flushed2]
  unfold out0_2
  rw [View.canon_unit_zero origin]
  simp only [View.ld_unit_zero (S := S640x1024) origin, View.ld_unit_zero (S := S1024x1024) origin]
  funext j
  have ht : t.val < 13 := lt_of_lt_of_eq t.isLt N_0
  obtain ⟨-, -, -, -, e0, e1⟩ := idx_facts t
  have j0 : (j 0).val < 640 := (j 0).isLt
  have j1 : (j 1).val < 1024 := (j 1).isLt
  have e : ((cfg0.win 2).blk t).view.emb j = (ix2 (⟨t.val * 640 + (j 0).val, by omega⟩ : Fin 8320) (⟨(j 1).val, j1⟩ : Fin 1024) : S8320x1024.Idx) := by
    apply Proof.idx2_ext
    · show win0_2.index t 0 * 640 + 1 * (j 0).val = t.val * 640 + (j 0).val
      rw [e0]; omega
    · show win0_2.index t 1 * 1024 + 1 * (j 1).val = (j 1).val
      rw [e1]; omega
  rw [View.read_apply, e]
  have hj : j = ix2 (⟨(j 0).val, j0⟩ : Fin 640) (⟨(j 1).val, j1⟩ : Fin 1024) := Proof.idx2_ext rfl rfl
  show (k0_pay1 (iblk m c 0 t) (iblk m c 1 t) j : EReal) = _
  refine (congrArg (k0_pay1 (iblk m c 0 t) (iblk m c 1 t) : S640x1024.Idx → EReal) hj).trans ?_
  rw [pay_apply]
  rw [Finset.sum_congr rfl fun l _ => congrArg₂ (fun y z : EReal => y * z) (blk0_apply m c t ⟨(j 0).val, j0⟩ l ⟨t.val * 640 + (j 0).val, by omega⟩ rfl) (blk1_apply m c t ⟨(j 1).val, j1⟩ l)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 1024 := (i 1).isLt
    have hN : cfg0.N = 13 := N_0
    let t : Fin cfg0.N := ⟨(i 0).val / 640, by rw [hN]; omega⟩
    obtain ⟨-, -, -, -, e0, e1⟩ := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show (i 0).val / 640 * 640 ≤ (i 0).val ∧ (i 0).val < (i 0).val / 640 * 640 + 640; omega
    | ⟨1, _⟩ =>
      show win0_2.index t 1 * 1024 ≤ (i 1).val ∧ (i 1).val < win0_2.index t 1 * 1024 + 1024
      rw [e1]; omega

end Cert.Kernel16Ideal.Product

namespace Cert.Reference16Ideal.Product

open Read Idealize.ShloMosaic
open Idealize.ShloMosaic.ValueIdx

/-- The reference's array, entry by entry. -/
theorem val_eq (a : S8320x1024.Idx → EReal) (b : S1024x1024.Idx → EReal) :
    (val_main_v4 (F := Ideal) a b : S8320x1024.Idx → EReal) = fun i => (∑ k : Fin 1024, a (ix2 (i 0) k) * b (ix2 (i 1) k)) := by
  funext i
  rw [val_main_v4_apply]
  refine Finset.sum_congr rfl fun k _ => ?_
  rw [val_main_v3_apply, val_main_v1_apply]
  exact congrArg₂ (fun a b : EReal => a * b) (congrArg a (Proof.idx2_ext rfl rfl)) (congrArg b (Proof.idx2_ext rfl rfl))

end Cert.Reference16Ideal.Product

end
-- ==== Proof.DrecOut.lean ====
/- The gradient of the recurrence's output, `dyb · w_projᵀ`: each block is one product, and the array equals the reference's. -/
module

public import proofs.«01_k».proof.Proof.Sums
public import proofs.«01_k».proof.Proof.Gen.Kernel17Ideal.Value
public import proofs.«01_k».proof.Proof.Gen.Reference17Ideal.Run
public import proofs.«01_k».proof.Proof.Gen.Reference17Ideal.Read
public import Idealize.ShloMosaic.Lib.MatmulPlain
public import Idealize.ShloMosaic.Lib.Tactic

@[expose] public section

noncomputable section

namespace Cert.Kernel17Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay_apply (x0 : Vec Ideal S640x1024 .bf16) (x1 : Vec Ideal S512x1024 .bf16) (p : Fin 640) (q : Fin 512) :
    (k0_pay1 x0 x1 (ix2 p q) : EReal) = (∑ l : Fin 1024, (x0 (ix2 p l) : EReal) * (x1 (ix2 q l) : EReal)) := by
  unfold k0_pay1
  exact ((Ideal.matmul_transposedRhs_apply (φ₁ := .bf16) (φ₂ := .bf16) none _ _ _ p q).trans ((congrArg (fun z : EReal => z + _) Proof.bits_zero).trans (zero_add _)))

variable (m : (ℓ : Loc nD τ sig) → Buf (Elt Ideal) ℓ) (c : Dev nD)

/-- The arguments. -/
abbrev A0 : S8320x1024.Idx → EReal := m ((c : Thread nD τ).loc main_arg0)
abbrev A1 : S512x1024.Idx → EReal := m ((c : Thread nD τ).loc main_arg1)

/-- The sum that makes an entry of the result. -/
def result : S8320x512.Idx → EReal := fun i => (∑ k : Fin 1024, A0 m c (ix2 (i 0) k) * A1 m c (ix2 (i 1) k))

/-- Where the windows stand at each grid point. -/
theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

theorem blk0_apply (t : Fin cfg0.N) (p : Fin 640) (l : Fin 1024) (r : Fin 8320) (hr : r.val = t.val * 640 + p.val) :
    (iblk m c 0 t : S640x1024.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 1024 + 1 * l.val = l.val
    rw [e1]; omega

theorem blk1_apply (t : Fin cfg0.N) (p : Fin 512) (l : Fin 1024) : (iblk m c 1 t : S512x1024.Idx → EReal) (ix2 p l) = A1 m c (ix2 p l) := by
  obtain ⟨-, -, e0, e1, -⟩ := idx_facts t
  show m _ _ = m _ _
  congr 1
  apply Proof.idx2_ext
  · show win0_1.index t 0 * 512 + 1 * p.val = p.val
    rw [e0]; omega
  · show win0_1.index t 1 * 1024 + 1 * l.val = l.val
    rw [e1]; omega

theorem flushed (t : Fin cfg0.N) : (dats m 0 c).flushed 2 t = ((cfg0.win 2).blk t).view.read (Elt Ideal) (result m c) := by
  rw [Value.flushed2]
  unfold out0_2
  rw [View.canon_unit_zero origin]
  simp only [View.ld_unit_zero (S := S640x1024) origin, View.ld_unit_zero (S := S512x1024) origin]
  funext j
  have ht : t.val < 13 := lt_of_lt_of_eq t.isLt N_0
  obtain ⟨-, -, -, -, e0, e1⟩ := idx_facts t
  have j0 : (j 0).val < 640 := (j 0).isLt
  have j1 : (j 1).val < 512 := (j 1).isLt
  have e : ((cfg0.win 2).blk t).view.emb j = (ix2 (⟨t.val * 640 + (j 0).val, by omega⟩ : Fin 8320) (⟨(j 1).val, j1⟩ : Fin 512) : S8320x512.Idx) := by
    apply Proof.idx2_ext
    · show win0_2.index t 0 * 640 + 1 * (j 0).val = t.val * 640 + (j 0).val
      rw [e0]; omega
    · show win0_2.index t 1 * 512 + 1 * (j 1).val = (j 1).val
      rw [e1]; omega
  rw [View.read_apply, e]
  have hj : j = ix2 (⟨(j 0).val, j0⟩ : Fin 640) (⟨(j 1).val, j1⟩ : Fin 512) := Proof.idx2_ext rfl rfl
  show (k0_pay1 (iblk m c 0 t) (iblk m c 1 t) j : EReal) = _
  refine (congrArg (k0_pay1 (iblk m c 0 t) (iblk m c 1 t) : S640x512.Idx → EReal) hj).trans ?_
  rw [pay_apply]
  rw [Finset.sum_congr rfl fun l _ => congrArg₂ (fun y z : EReal => y * z) (blk0_apply m c t ⟨(j 0).val, j0⟩ l ⟨t.val * 640 + (j 0).val, by omega⟩ rfl) (blk1_apply m c t ⟨(j 1).val, j1⟩ l)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 512 := (i 1).isLt
    have hN : cfg0.N = 13 := N_0
    let t : Fin cfg0.N := ⟨(i 0).val / 640, by rw [hN]; omega⟩
    obtain ⟨-, -, -, -, e0, e1⟩ := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show (i 0).val / 640 * 640 ≤ (i 0).val ∧ (i 0).val < (i 0).val / 640 * 640 + 640; omega
    | ⟨1, _⟩ =>
      show win0_2.index t 1 * 512 ≤ (i 1).val ∧ (i 1).val < win0_2.index t 1 * 512 + 512
      rw [e1]; omega

end Cert.Kernel17Ideal.Product

namespace Cert.Reference17Ideal.Product

open Read Idealize.ShloMosaic
open Idealize.ShloMosaic.ValueIdx

/-- The reference's array, entry by entry. -/
theorem val_eq (a : S8320x1024.Idx → EReal) (b : S512x1024.Idx → EReal) :
    (val_main_v4 (F := Ideal) a b : S8320x512.Idx → EReal) = fun i => (∑ k : Fin 1024, a (ix2 (i 0) k) * b (ix2 (i 1) k)) := by
  funext i
  rw [val_main_v4_apply]
  refine Finset.sum_congr rfl fun k _ => ?_
  rw [val_main_v3_apply, val_main_v1_apply]
  exact congrArg₂ (fun a b : EReal => a * b) (congrArg a (Proof.idx2_ext rfl rfl)) (congrArg b (Proof.idx2_ext rfl rfl))

end Cert.Reference17Ideal.Product

end
-- ==== Proof.ProjAttn.lean ====
/- Attention's projection, `o · w_proj`: each block is one product, and the array equals the reference's. -/
module

public import proofs.«01_k».proof.Proof.Sums
public import proofs.«01_k».proof.Proof.Gen.Kernel18Ideal.Value
public import proofs.«01_k».proof.Proof.Gen.Reference18Ideal.Run
public import proofs.«01_k».proof.Proof.Gen.Reference18Ideal.Read
public import Idealize.ShloMosaic.Lib.MatmulPlain
public import Idealize.ShloMosaic.Lib.Tactic

@[expose] public section

noncomputable section

namespace Cert.Kernel18Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay_apply (x0 : Vec Ideal S640x1024 .f32) (x1 : Vec Ideal S1024x1024 .bf16) (p : Fin 640) (q : Fin 1024) :
    (k0_pay1 x0 x1 (ix2 p q) : EReal) = (∑ l : Fin 1024, (x0 (ix2 p l) : EReal) * (x1 (ix2 l q) : EReal)) := by
  unfold k0_pay1
  exact ((Ideal.matmul_plain_apply (φ₁ := .bf16) (φ₂ := .bf16) none _ _ _ p q).trans ((congrArg (fun z : EReal => z + _) Proof.bits_zero).trans (zero_add _)))

variable (m : (ℓ : Loc nD τ sig) → Buf (Elt Ideal) ℓ) (c : Dev nD)

/-- The arguments. -/
abbrev A0 : S8320x1024.Idx → EReal := m ((c : Thread nD τ).loc main_arg0)
abbrev A1 : S1024x1024.Idx → EReal := m ((c : Thread nD τ).loc main_arg1)

/-- The sum that makes an entry of the result. -/
def result : S8320x1024.Idx → EReal := fun i => (∑ k : Fin 1024, A0 m c (ix2 (i 0) k) * A1 m c (ix2 k (i 1)))

/-- Where the windows stand at each grid point. -/
theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

theorem blk0_apply (t : Fin cfg0.N) (p : Fin 640) (l : Fin 1024) (r : Fin 8320) (hr : r.val = t.val * 640 + p.val) :
    (iblk m c 0 t : S640x1024.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 1024 + 1 * l.val = l.val
    rw [e1]; omega

theorem blk1_apply (t : Fin cfg0.N) (p : Fin 1024) (l : Fin 1024) : (iblk m c 1 t : S1024x1024.Idx → EReal) (ix2 p l) = A1 m c (ix2 p l) := by
  obtain ⟨-, -, e0, e1, -⟩ := idx_facts t
  show m _ _ = m _ _
  congr 1
  apply Proof.idx2_ext
  · show win0_1.index t 0 * 1024 + 1 * p.val = p.val
    rw [e0]; omega
  · show win0_1.index t 1 * 1024 + 1 * l.val = l.val
    rw [e1]; omega

theorem flushed (t : Fin cfg0.N) : (dats m 0 c).flushed 2 t = ((cfg0.win 2).blk t).view.read (Elt Ideal) (result m c) := by
  rw [Value.flushed2]
  unfold out0_2
  rw [View.canon_unit_zero origin]
  simp only [View.ld_unit_zero (S := S640x1024) origin, View.ld_unit_zero (S := S1024x1024) origin]
  funext j
  have ht : t.val < 13 := lt_of_lt_of_eq t.isLt N_0
  obtain ⟨-, -, -, -, e0, e1⟩ := idx_facts t
  have j0 : (j 0).val < 640 := (j 0).isLt
  have j1 : (j 1).val < 1024 := (j 1).isLt
  have e : ((cfg0.win 2).blk t).view.emb j = (ix2 (⟨t.val * 640 + (j 0).val, by omega⟩ : Fin 8320) (⟨(j 1).val, j1⟩ : Fin 1024) : S8320x1024.Idx) := by
    apply Proof.idx2_ext
    · show win0_2.index t 0 * 640 + 1 * (j 0).val = t.val * 640 + (j 0).val
      rw [e0]; omega
    · show win0_2.index t 1 * 1024 + 1 * (j 1).val = (j 1).val
      rw [e1]; omega
  rw [View.read_apply, e]
  have hj : j = ix2 (⟨(j 0).val, j0⟩ : Fin 640) (⟨(j 1).val, j1⟩ : Fin 1024) := Proof.idx2_ext rfl rfl
  show (k0_pay1 (iblk m c 0 t) (iblk m c 1 t) j : EReal) = _
  refine (congrArg (k0_pay1 (iblk m c 0 t) (iblk m c 1 t) : S640x1024.Idx → EReal) hj).trans ?_
  rw [pay_apply]
  rw [Finset.sum_congr rfl fun l _ => congrArg₂ (fun y z : EReal => y * z) (blk0_apply m c t ⟨(j 0).val, j0⟩ l ⟨t.val * 640 + (j 0).val, by omega⟩ rfl) (blk1_apply m c t l ⟨(j 1).val, j1⟩)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 1024 := (i 1).isLt
    have hN : cfg0.N = 13 := N_0
    let t : Fin cfg0.N := ⟨(i 0).val / 640, by rw [hN]; omega⟩
    obtain ⟨-, -, -, -, e0, e1⟩ := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show (i 0).val / 640 * 640 ≤ (i 0).val ∧ (i 0).val < (i 0).val / 640 * 640 + 640; omega
    | ⟨1, _⟩ =>
      show win0_2.index t 1 * 1024 ≤ (i 1).val ∧ (i 1).val < win0_2.index t 1 * 1024 + 1024
      rw [e1]; omega

end Cert.Kernel18Ideal.Product

namespace Cert.Reference18Ideal.Product

open Read Idealize.ShloMosaic
open Idealize.ShloMosaic.ValueIdx

/-- The reference's array, entry by entry. -/
theorem val_eq (a : S8320x1024.Idx → EReal) (b : S1024x1024.Idx → EReal) :
    (val_main_v2 (F := Ideal) a b : S8320x1024.Idx → EReal) = fun i => (∑ k : Fin 1024, a (ix2 (i 0) k) * b (ix2 k (i 1))) := by
  funext i
  rw [val_main_v2_apply]
  show (val_main_v1 (F := Ideal) a b i : EReal) = _
  rw [val_main_v1_apply]
  refine Finset.sum_congr rfl fun k _ => ?_
  rw [val_main_v0_apply]
  exact congrArg₂ (fun a b : EReal => a * b) (congrArg a (Proof.idx2_ext rfl rfl)) (congrArg b (Proof.idx2_ext rfl rfl))

end Cert.Reference18Ideal.Product

end
-- ==== Proof.ProjRec.lean ====
/- The recurrence's projection, `o · w_proj`: each block is one product, and the array equals the reference's. -/
module

public import proofs.«01_k».proof.Proof.Sums
public import proofs.«01_k».proof.Proof.Gen.Kernel19Ideal.Value
public import proofs.«01_k».proof.Proof.Gen.Reference19Ideal.Run
public import proofs.«01_k».proof.Proof.Gen.Reference19Ideal.Read
public import Idealize.ShloMosaic.Lib.MatmulPlain
public import Idealize.ShloMosaic.Lib.Tactic

@[expose] public section

noncomputable section

namespace Cert.Kernel19Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay_apply (x0 : Vec Ideal S640x512 .bf16) (x1 : Vec Ideal S512x1024 .bf16) (p : Fin 640) (q : Fin 1024) :
    (k0_pay1 x0 x1 (ix2 p q) : EReal) = (∑ l : Fin 512, (x0 (ix2 p l) : EReal) * (x1 (ix2 l q) : EReal)) := by
  unfold k0_pay1
  exact ((Ideal.matmul_plain_apply (φ₁ := .bf16) (φ₂ := .bf16) none _ _ _ p q).trans ((congrArg (fun z : EReal => z + _) Proof.bits_zero).trans (zero_add _)))

variable (m : (ℓ : Loc nD τ sig) → Buf (Elt Ideal) ℓ) (c : Dev nD)

/-- The arguments. -/
abbrev A0 : S8320x512.Idx → EReal := m ((c : Thread nD τ).loc main_arg0)
abbrev A1 : S512x1024.Idx → EReal := m ((c : Thread nD τ).loc main_arg1)

/-- The sum that makes an entry of the result. -/
def result : S8320x1024.Idx → EReal := fun i => (∑ k : Fin 512, A0 m c (ix2 (i 0) k) * A1 m c (ix2 k (i 1)))

/-- Where the windows stand at each grid point. -/
theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

theorem blk0_apply (t : Fin cfg0.N) (p : Fin 640) (l : Fin 512) (r : Fin 8320) (hr : r.val = t.val * 640 + p.val) :
    (iblk m c 0 t : S640x512.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 512 + 1 * l.val = l.val
    rw [e1]; omega

theorem blk1_apply (t : Fin cfg0.N) (p : Fin 512) (l : Fin 1024) : (iblk m c 1 t : S512x1024.Idx → EReal) (ix2 p l) = A1 m c (ix2 p l) := by
  obtain ⟨-, -, e0, e1, -⟩ := idx_facts t
  show m _ _ = m _ _
  congr 1
  apply Proof.idx2_ext
  · show win0_1.index t 0 * 512 + 1 * p.val = p.val
    rw [e0]; omega
  · show win0_1.index t 1 * 1024 + 1 * l.val = l.val
    rw [e1]; omega

theorem flushed (t : Fin cfg0.N) : (dats m 0 c).flushed 2 t = ((cfg0.win 2).blk t).view.read (Elt Ideal) (result m c) := by
  rw [Value.flushed2]
  unfold out0_2
  rw [View.canon_unit_zero origin]
  simp only [View.ld_unit_zero (S := S640x512) origin, View.ld_unit_zero (S := S512x1024) origin]
  funext j
  have ht : t.val < 13 := lt_of_lt_of_eq t.isLt N_0
  obtain ⟨-, -, -, -, e0, e1⟩ := idx_facts t
  have j0 : (j 0).val < 640 := (j 0).isLt
  have j1 : (j 1).val < 1024 := (j 1).isLt
  have e : ((cfg0.win 2).blk t).view.emb j = (ix2 (⟨t.val * 640 + (j 0).val, by omega⟩ : Fin 8320) (⟨(j 1).val, j1⟩ : Fin 1024) : S8320x1024.Idx) := by
    apply Proof.idx2_ext
    · show win0_2.index t 0 * 640 + 1 * (j 0).val = t.val * 640 + (j 0).val
      rw [e0]; omega
    · show win0_2.index t 1 * 1024 + 1 * (j 1).val = (j 1).val
      rw [e1]; omega
  rw [View.read_apply, e]
  have hj : j = ix2 (⟨(j 0).val, j0⟩ : Fin 640) (⟨(j 1).val, j1⟩ : Fin 1024) := Proof.idx2_ext rfl rfl
  show (k0_pay1 (iblk m c 0 t) (iblk m c 1 t) j : EReal) = _
  refine (congrArg (k0_pay1 (iblk m c 0 t) (iblk m c 1 t) : S640x1024.Idx → EReal) hj).trans ?_
  rw [pay_apply]
  rw [Finset.sum_congr rfl fun l _ => congrArg₂ (fun y z : EReal => y * z) (blk0_apply m c t ⟨(j 0).val, j0⟩ l ⟨t.val * 640 + (j 0).val, by omega⟩ rfl) (blk1_apply m c t l ⟨(j 1).val, j1⟩)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 1024 := (i 1).isLt
    have hN : cfg0.N = 13 := N_0
    let t : Fin cfg0.N := ⟨(i 0).val / 640, by rw [hN]; omega⟩
    obtain ⟨-, -, -, -, e0, e1⟩ := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show (i 0).val / 640 * 640 ≤ (i 0).val ∧ (i 0).val < (i 0).val / 640 * 640 + 640; omega
    | ⟨1, _⟩ =>
      show win0_2.index t 1 * 1024 ≤ (i 1).val ∧ (i 1).val < win0_2.index t 1 * 1024 + 1024
      rw [e1]; omega

end Cert.Kernel19Ideal.Product

namespace Cert.Reference19Ideal.Product

open Read Idealize.ShloMosaic
open Idealize.ShloMosaic.ValueIdx

/-- The reference's array, entry by entry. -/
theorem val_eq (a : S8320x512.Idx → EReal) (b : S512x1024.Idx → EReal) :
    (val_main_v3 (F := Ideal) a b : S8320x1024.Idx → EReal) = fun i => (∑ k : Fin 512, a (ix2 (i 0) k) * b (ix2 k (i 1))) := by
  funext i
  rw [val_main_v3_apply]
  show (val_main_v2 (F := Ideal) a b i : EReal) = _
  rw [val_main_v2_apply]
  refine Finset.sum_congr rfl fun k _ => ?_
  rw [val_main_v0_apply, val_main_v1_apply]
  exact congrArg₂ (fun a b : EReal => a * b) (congrArg a (Proof.idx2_ext rfl rfl)) (congrArg b (Proof.idx2_ext rfl rfl))

end Cert.Reference19Ideal.Product

end
-- ==== Proof.DwprojAttn.lean ====
/- The gradient of attention's projection's weight: the sum over all the rows, thirteen blocks of 640 rows added up, equals the reference's. -/
module

public import proofs.«01_k».proof.Proof.Sums
public import proofs.«01_k».proof.Proof.Gen.Kernel20Ideal.Value
public import proofs.«01_k».proof.Proof.Gen.Reference20Ideal.Run
public import proofs.«01_k».proof.Proof.Gen.Reference20Ideal.Read
public import Idealize.ShloMosaic.Lib.MatmulPlain
public import Idealize.ShloMosaic.Lib.Tactic

@[expose] public section

noncomputable section

namespace Cert.Kernel20Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

section Cases

variable (c : Dev nD) (i : grid0.Coords) (a3 : Memref sig .tc .vmem S640x1024 .f32) (h3 : a3.IsWhole)
  (a4 : Memref sig .tc .vmem S640x1024 .bf16) (h4 : a4.IsWhole) (a5 : Memref sig .tc .vmem S1024x1024 .f32) (h5 : a5.IsWhole)
  (a6 : Memref sig .tc .vmem S1024x1024 .f32) (h6 : a6.IsWhole)
  (x0 : Vec Ideal S640x1024 .f32) (x1 : Vec Ideal S640x1024 .bf16) (xs : Vec Ideal S1024x1024 .f32)

/-- The first block's product starts the sum. -/
theorem scratch_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  unfold k0_pay2
  simp only [View.readAt_eq_ld, h3.read_unread, h4.read_unread, h6.read_unread, View.ld_unit_zero (S := S640x1024) origin, View.ld_unit_zero (S := S1024x1024) origin, shapeCast_self]

/-- A later block's product is added. -/
theorem scratch_B (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero origin]
  unfold k0_pay3
  simp only [View.readAt_eq_ld, h3.read_unread, h4.read_unread, h6.read_unread, View.ld_unit_zero (S := S640x1024) origin, View.ld_unit_zero (S := S1024x1024) origin, shapeCast_self]

/-- So is the last block's. -/
theorem scratch_C (hc0 : ¬cond0_0 i) (hc1 : cond0_1 i) (hc2 : cond0_2 i) : sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero origin]
  unfold k0_pay3
  simp only [View.readAt_eq_ld, h3.read_unread, h4.read_unread, h6.read_unread, View.ld_unit_zero (S := S640x1024) origin, View.ld_unit_zero (S := S1024x1024) origin, shapeCast_self]

/-- The sum is written out. -/
theorem out_C (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero origin, View.readCov_unit_zero (S := S1024x1024) _ origin]
  unfold k0_pay3
  simp only [View.readAt_eq_ld, h3.read_unread, h4.read_unread, h6.read_unread, View.ld_unit_zero (S := S640x1024) origin, View.ld_unit_zero (S := S1024x1024) origin, shapeCast_self]

/-- A block's product, entry by entry. -/
theorem pay_apply (p : Fin 1024) (q : Fin 1024) :
    k0_pay1 x0 x1 (ix2 p q) = ∑ l : Fin 640, (x0 (ix2 l p) : EReal) * (x1 (ix2 l q) : EReal) := by
  unfold k0_pay1
  refine (Ideal.matmul_apply (φ₁ := .bf16) (φ₂ := .bf16) dot_S640x1024_S640x1024_S1024x1024_0_0_1_1_n_n none x0 x1 _ (ix2 p q)).trans ?_
  refine ((congrArg (fun z : EReal => z + _) Proof.bits_zero).trans (zero_add _)).trans ?_
  rw [← Equiv.sum_comp (contrEquiv1 dot_S640x1024_S640x1024_S1024x1024_0_0_1_1_n_n 640 rfl rfl).symm]
  refine Finset.sum_congr rfl fun k _ => ?_
  have hk := contrEquiv1_symm_val dot_S640x1024_S640x1024_S1024x1024_0_0_1_1_n_n 640 rfl rfl k
  refine congrArg₂ (fun a b : EReal => a * b) (congrArg x0 ?_) (congrArg x1 ?_)
  · exact Proof.idx2_ext hk rfl
  · exact Proof.idx2_ext hk rfl

end Cases

variable (m : (ℓ : Loc nD τ sig) → Buf (Elt Ideal) ℓ) (c : Dev nD)

/-- The two arguments. -/
abbrev A0 : S8320x1024.Idx → EReal := m ((c : Thread nD τ).loc main_arg0)
abbrev A1 : S8320x1024.Idx → EReal := m ((c : Thread nD τ).loc main_arg1)

/-- Where the windows stand at each grid point. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, _)

theorem blk0_apply (t : Fin cfg0.N) (p : Fin 1024) (l : Fin 640) : (iblk m c 0 t : S640x1024.Idx → EReal) (ix2 l p) = Proof.at2 (A0 m c) (t.val % 13 * 640 + l.val) p.val := by
  have ht : t.val < 13 := lt_of_lt_of_eq t.isLt N_0
  obtain ⟨e0, e1, -, -⟩ := idx_facts t
  rw [Proof.at2_ix2 _ _ _ (by omega) (by omega)]
  show m _ _ = m _ _
  congr 1
  apply Proof.idx2_ext
  · show win0_0.index t 0 * 640 + 1 * l.val = t.val % 13 * 640 + l.val
    rw [e0]; omega
  · show win0_0.index t 1 * 1024 + 1 * p.val = p.val
    rw [e1]; omega

theorem blk1_apply (t : Fin cfg0.N) (l : Fin 640) (q : Fin 1024) :
    (iblk m c 1 t : S640x1024.Idx → EReal) (ix2 l q) = Proof.at2 (A1 m c) (t.val % 13 * 640 + l.val) q.val := by
  have ht : t.val < 13 := lt_of_lt_of_eq t.isLt N_0
  obtain ⟨-, -, e0, e1⟩ := idx_facts t
  rw [Proof.at2_ix2 _ _ _ (by omega) (by omega)]
  show m _ _ = m _ _
  congr 1
  apply Proof.idx2_ext
  · show win0_1.index t 0 * 640 + 1 * l.val = t.val % 13 * 640 + l.val
    rw [e0]; omega
  · show win0_1.index t 1 * 1024 + 1 * q.val = q.val
    rw [e1]; omega

/-- One product of the sum that makes entry `(p, q)`. -/
def term (p : Fin 1024) (q : Fin 1024) (k : ℕ) : EReal := Proof.at2 (A0 m c) k p.val * Proof.at2 (A1 m c) k q.val

theorem part_apply (t : Fin cfg0.N) (p : Fin 1024) (q : Fin 1024) :
    k0_pay1 (iblk m c 0 t) (iblk m c 1 t) (ix2 p q) = ∑ l : Fin 640, term m c p q (t.val % 13 * 640 + l.val) := by
  rw [pay_apply]
  exact Finset.sum_congr rfl fun l _ => congrArg₂ (· * ·) (blk0_apply m c t p l) (blk1_apply m c t l q)

/-- What the accumulator holds after each grid point. -/
theorem scratch_eq (p : Fin 1024) (q : Fin 1024) : ∀ (t : ℕ) (h : t < cfg0.N),
    ((outsAt0 m c t h).2 (ix2 p q) : EReal) = ∑ k ∈ Finset.range ((t % 13 + 1) * 640), term m c p q k := by
  refine Proof.fold_blocks cfg0.N 13 640 (fun t h => (outsAt0 m c t h).2 (ix2 p q)) (fun _ => term m c p q) ?_ ?_
  · intro t h h0
    have ht : t < 13 := lt_of_lt_of_eq h N_0
    rw [outsAt0_A m c ⟨t, h⟩ h0 (by dsimp only; omega) (by dsimp only; omega), scratch_A]
    exact part_apply m c ⟨t, h⟩ p q
  · intro t h h0
    have ht : t < 13 := lt_of_lt_of_eq h N_0
    by_cases h4 : t % 13 = 12
    · rw [outsAt0_C m c ⟨t, h⟩ h0 (by dsimp only; omega) h4, scratch_C]
      exact congrArg (fun z : EReal => _ + z) (part_apply m c ⟨t, h⟩ p q)
    · rw [outsAt0_B m c ⟨t, h⟩ h0 (by dsimp only; omega) h4, scratch_B]
      exact congrArg (fun z : EReal => _ + z) (part_apply m c ⟨t, h⟩ p q)

/-- What is written out at the last grid point. -/
theorem out_eq (t : ℕ) (h : t < cfg0.N) (h4 : t % 13 = 12) (p : Fin 1024) (q : Fin 1024) :
    ((outsAt0 m c t h).1 (ix2 p q) : EReal) = ∑ k : Fin 8320, term m c p q k.val := by
  have e := scratch_eq m c p q t h
  rw [show (t % 13 + 1) * 640 = 8320 by omega, Finset.sum_range] at e
  rw [outsAt0_C m c ⟨t, h⟩ (by dsimp only; omega) (by dsimp only; omega) h4] at e ⊢
  rw [scratch_C] at e
  rw [out_C]
  exact e

/-- The sum that makes an entry of the result. -/
def result : S1024x1024.Idx → EReal := fun i => ∑ k : Fin 8320, A0 m c (ix2 k (i 0)) * A1 m c (ix2 k (i 1))

theorem G2_eq : (Value.G2 m c : S1024x1024.Idx → EReal) = result m c := by
  rw [Value.G2_last, ← Value.outsAt0_sweep m c 12 (lt_of_lt_of_eq (by decide) N_0.symm)]
  funext i
  refine (congrArg _ (eq_ix2 i)).trans ((out_eq m c 12 _ (by decide) (i 0) (i 1)).trans (Finset.sum_congr rfl fun k _ => ?_))
  exact congrArg₂ (fun a b : EReal => a * b) (Proof.at2_ix2 _ _ _ k.isLt (i 0).isLt) (Proof.at2_ix2 _ _ _ k.isLt (i 1).isLt)

end Cert.Kernel20Ideal.Product

namespace Cert.Reference20Ideal.Product

open Read Idealize.ShloMosaic
open Idealize.ShloMosaic.ValueIdx

/-- The reference's array, entry by entry. -/
theorem val_eq (a : S8320x1024.Idx → EReal) (b : S8320x1024.Idx → EReal) :
    (val_main_v4 (F := Ideal) a b : S1024x1024.Idx → EReal) = fun i => ∑ k : Fin 8320, a (ix2 k (i 0)) * b (ix2 k (i 1)) := by
  funext i
  rw [val_main_v4_apply, val_main_v3_apply]
  refine Finset.sum_congr rfl fun k _ => ?_
  rw [val_main_v2_apply]
  show b _ * a _ = a _ * b _
  rw [mul_comm]
  exact congrArg₂ (fun a b : EReal => a * b) (congrArg a (Proof.idx2_ext rfl rfl)) (congrArg b (Proof.idx2_ext rfl rfl))

end Cert.Reference20Ideal.Product

end
-- ==== Proof.DwprojRec.lean ====
/- The gradient of the recurrence's projection's weight: the sum over all the rows, thirteen blocks of 640 rows added up, equals the reference's. -/
module

public import proofs.«01_k».proof.Proof.Sums
public import proofs.«01_k».proof.Proof.Gen.Kernel21Ideal.Value
public import proofs.«01_k».proof.Proof.Gen.Reference21Ideal.Run
public import proofs.«01_k».proof.Proof.Gen.Reference21Ideal.Read
public import Idealize.ShloMosaic.Lib.MatmulPlain
public import Idealize.ShloMosaic.Lib.Tactic

@[expose] public section

noncomputable section

namespace Cert.Kernel21Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

section Cases

variable (c : Dev nD) (i : grid0.Coords) (a3 : Memref sig .tc .vmem S640x512 .bf16) (h3 : a3.IsWhole)
  (a4 : Memref sig .tc .vmem S640x1024 .bf16) (h4 : a4.IsWhole) (a5 : Memref sig .tc .vmem S512x1024 .f32) (h5 : a5.IsWhole)
  (a6 : Memref sig .tc .vmem S512x1024 .f32) (h6 : a6.IsWhole)
  (x0 : Vec Ideal S640x512 .bf16) (x1 : Vec Ideal S640x1024 .bf16) (xs : Vec Ideal S512x1024 .f32)

/-- The first block's product starts the sum. -/
theorem scratch_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  unfold k0_pay2
  simp only [View.readAt_eq_ld, h3.read_unread, h4.read_unread, h6.read_unread, View.ld_unit_zero (S := S640x512) origin, View.ld_unit_zero (S := S640x1024) origin, View.ld_unit_zero (S := S512x1024) origin, shapeCast_self]

/-- A later block's product is added. -/
theorem scratch_B (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero origin]
  unfold k0_pay3
  simp only [View.readAt_eq_ld, h3.read_unread, h4.read_unread, h6.read_unread, View.ld_unit_zero (S := S640x512) origin, View.ld_unit_zero (S := S640x1024) origin, View.ld_unit_zero (S := S512x1024) origin, shapeCast_self]

/-- So is the last block's. -/
theorem scratch_C (hc0 : ¬cond0_0 i) (hc1 : cond0_1 i) (hc2 : cond0_2 i) : sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero origin]
  unfold k0_pay3
  simp only [View.readAt_eq_ld, h3.read_unread, h4.read_unread, h6.read_unread, View.ld_unit_zero (S := S640x512) origin, View.ld_unit_zero (S := S640x1024) origin, View.ld_unit_zero (S := S512x1024) origin, shapeCast_self]

/-- The sum is written out. -/
theorem out_C (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero origin, View.readCov_unit_zero (S := S512x1024) _ origin]
  unfold k0_pay3
  simp only [View.readAt_eq_ld, h3.read_unread, h4.read_unread, h6.read_unread, View.ld_unit_zero (S := S640x512) origin, View.ld_unit_zero (S := S640x1024) origin, View.ld_unit_zero (S := S512x1024) origin, shapeCast_self]

/-- A block's product, entry by entry. -/
theorem pay_apply (p : Fin 512) (q : Fin 1024) :
    k0_pay1 x0 x1 (ix2 p q) = ∑ l : Fin 640, (x0 (ix2 l p) : EReal) * (x1 (ix2 l q) : EReal) := by
  unfold k0_pay1
  refine (Ideal.matmul_apply (φ₁ := .bf16) (φ₂ := .bf16) dot_S640x512_S640x1024_S512x1024_0_0_1_1_n_n none x0 x1 _ (ix2 p q)).trans ?_
  refine ((congrArg (fun z : EReal => z + _) Proof.bits_zero).trans (zero_add _)).trans ?_
  rw [← Equiv.sum_comp (contrEquiv1 dot_S640x512_S640x1024_S512x1024_0_0_1_1_n_n 640 rfl rfl).symm]
  refine Finset.sum_congr rfl fun k _ => ?_
  have hk := contrEquiv1_symm_val dot_S640x512_S640x1024_S512x1024_0_0_1_1_n_n 640 rfl rfl k
  refine congrArg₂ (fun a b : EReal => a * b) (congrArg x0 ?_) (congrArg x1 ?_)
  · exact Proof.idx2_ext hk rfl
  · exact Proof.idx2_ext hk rfl

end Cases

variable (m : (ℓ : Loc nD τ sig) → Buf (Elt Ideal) ℓ) (c : Dev nD)

/-- The two arguments. -/
abbrev A0 : S8320x512.Idx → EReal := m ((c : Thread nD τ).loc main_arg0)
abbrev A1 : S8320x1024.Idx → EReal := m ((c : Thread nD τ).loc main_arg1)

/-- Where the windows stand at each grid point. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, _)

theorem blk0_apply (t : Fin cfg0.N) (p : Fin 512) (l : Fin 640) : (iblk m c 0 t : S640x512.Idx → EReal) (ix2 l p) = Proof.at2 (A0 m c) (t.val % 13 * 640 + l.val) p.val := by
  have ht : t.val < 13 := lt_of_lt_of_eq t.isLt N_0
  obtain ⟨e0, e1, -, -⟩ := idx_facts t
  rw [Proof.at2_ix2 _ _ _ (by omega) (by omega)]
  show m _ _ = m _ _
  congr 1
  apply Proof.idx2_ext
  · show win0_0.index t 0 * 640 + 1 * l.val = t.val % 13 * 640 + l.val
    rw [e0]; omega
  · show win0_0.index t 1 * 512 + 1 * p.val = p.val
    rw [e1]; omega

theorem blk1_apply (t : Fin cfg0.N) (l : Fin 640) (q : Fin 1024) :
    (iblk m c 1 t : S640x1024.Idx → EReal) (ix2 l q) = Proof.at2 (A1 m c) (t.val % 13 * 640 + l.val) q.val := by
  have ht : t.val < 13 := lt_of_lt_of_eq t.isLt N_0
  obtain ⟨-, -, e0, e1⟩ := idx_facts t
  rw [Proof.at2_ix2 _ _ _ (by omega) (by omega)]
  show m _ _ = m _ _
  congr 1
  apply Proof.idx2_ext
  · show win0_1.index t 0 * 640 + 1 * l.val = t.val % 13 * 640 + l.val
    rw [e0]; omega
  · show win0_1.index t 1 * 1024 + 1 * q.val = q.val
    rw [e1]; omega

/-- One product of the sum that makes entry `(p, q)`. -/
def term (p : Fin 512) (q : Fin 1024) (k : ℕ) : EReal := Proof.at2 (A0 m c) k p.val * Proof.at2 (A1 m c) k q.val

theorem part_apply (t : Fin cfg0.N) (p : Fin 512) (q : Fin 1024) :
    k0_pay1 (iblk m c 0 t) (iblk m c 1 t) (ix2 p q) = ∑ l : Fin 640, term m c p q (t.val % 13 * 640 + l.val) := by
  rw [pay_apply]
  exact Finset.sum_congr rfl fun l _ => congrArg₂ (· * ·) (blk0_apply m c t p l) (blk1_apply m c t l q)

/-- What the accumulator holds after each grid point. -/
theorem scratch_eq (p : Fin 512) (q : Fin 1024) : ∀ (t : ℕ) (h : t < cfg0.N),
    ((outsAt0 m c t h).2 (ix2 p q) : EReal) = ∑ k ∈ Finset.range ((t % 13 + 1) * 640), term m c p q k := by
  refine Proof.fold_blocks cfg0.N 13 640 (fun t h => (outsAt0 m c t h).2 (ix2 p q)) (fun _ => term m c p q) ?_ ?_
  · intro t h h0
    have ht : t < 13 := lt_of_lt_of_eq h N_0
    rw [outsAt0_A m c ⟨t, h⟩ h0 (by dsimp only; omega) (by dsimp only; omega), scratch_A]
    exact part_apply m c ⟨t, h⟩ p q
  · intro t h h0
    have ht : t < 13 := lt_of_lt_of_eq h N_0
    by_cases h4 : t % 13 = 12
    · rw [outsAt0_C m c ⟨t, h⟩ h0 (by dsimp only; omega) h4, scratch_C]
      exact congrArg (fun z : EReal => _ + z) (part_apply m c ⟨t, h⟩ p q)
    · rw [outsAt0_B m c ⟨t, h⟩ h0 (by dsimp only; omega) h4, scratch_B]
      exact congrArg (fun z : EReal => _ + z) (part_apply m c ⟨t, h⟩ p q)

/-- What is written out at the last grid point. -/
theorem out_eq (t : ℕ) (h : t < cfg0.N) (h4 : t % 13 = 12) (p : Fin 512) (q : Fin 1024) :
    ((outsAt0 m c t h).1 (ix2 p q) : EReal) = ∑ k : Fin 8320, term m c p q k.val := by
  have e := scratch_eq m c p q t h
  rw [show (t % 13 + 1) * 640 = 8320 by omega, Finset.sum_range] at e
  rw [outsAt0_C m c ⟨t, h⟩ (by dsimp only; omega) (by dsimp only; omega) h4] at e ⊢
  rw [scratch_C] at e
  rw [out_C]
  exact e

/-- The sum that makes an entry of the result. -/
def result : S512x1024.Idx → EReal := fun i => ∑ k : Fin 8320, A0 m c (ix2 k (i 0)) * A1 m c (ix2 k (i 1))

theorem G2_eq : (Value.G2 m c : S512x1024.Idx → EReal) = result m c := by
  rw [Value.G2_last, ← Value.outsAt0_sweep m c 12 (lt_of_lt_of_eq (by decide) N_0.symm)]
  funext i
  refine (congrArg _ (eq_ix2 i)).trans ((out_eq m c 12 _ (by decide) (i 0) (i 1)).trans (Finset.sum_congr rfl fun k _ => ?_))
  exact congrArg₂ (fun a b : EReal => a * b) (Proof.at2_ix2 _ _ _ k.isLt (i 0).isLt) (Proof.at2_ix2 _ _ _ k.isLt (i 1).isLt)

end Cert.Kernel21Ideal.Product

namespace Cert.Reference21Ideal.Product

open Read Idealize.ShloMosaic
open Idealize.ShloMosaic.ValueIdx

/-- The reference's array, entry by entry. -/
theorem val_eq (a : S8320x512.Idx → EReal) (b : S8320x1024.Idx → EReal) :
    (val_main_v5 (F := Ideal) a b : S512x1024.Idx → EReal) = fun i => ∑ k : Fin 8320, a (ix2 k (i 0)) * b (ix2 k (i 1)) := by
  funext i
  rw [val_main_v5_apply, val_main_v4_apply]
  refine Finset.sum_congr rfl fun k _ => ?_
  rw [val_main_v3_apply, val_main_v1_apply]
  show b _ * a _ = a _ * b _
  rw [mul_comm]
  exact congrArg₂ (fun a b : EReal => a * b) (congrArg a (Proof.idx2_ext rfl rfl)) (congrArg b (Proof.idx2_ext rfl rfl))

end Cert.Reference21Ideal.Product

end
-- ==== Proof.UqFwd.lean ====
/- The queries' up projection: each block is one product, and the array equals the reference's. -/
module

public import proofs.«01_k».proof.Proof.Sums
public import proofs.«01_k».proof.Proof.Gen.Kernel22Ideal.Value
public import proofs.«01_k».proof.Proof.Gen.Reference22Ideal.Run
public import proofs.«01_k».proof.Proof.Gen.Reference22Ideal.Read
public import Idealize.ShloMosaic.Lib.MatmulPlain
public import Idealize.ShloMosaic.Lib.Tactic

@[expose] public section

noncomputable section

namespace Cert.Kernel22Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay_apply (x0 : Vec Ideal S640x384 .bf16) (x1 : Vec Ideal S384x2048 .bf16) (p : Fin 640) (q : Fin 2048) :
    (k0_pay1 x0 x1 (ix2 p q) : EReal) = (∑ l : Fin 384, (x0 (ix2 p l) : EReal) * (x1 (ix2 l q) : EReal)) := by
  unfold k0_pay1
  exact ((Ideal.matmul_plain_apply (φ₁ := .bf16) (φ₂ := .bf16) none _ _ _ p q).trans ((congrArg (fun z : EReal => z + _) Proof.bits_zero).trans (zero_add _)))

variable (m : (ℓ : Loc nD τ sig) → Buf (Elt Ideal) ℓ) (c : Dev nD)

/-- The arguments. -/
abbrev A0 : S8320x384.Idx → EReal := m ((c : Thread nD τ).loc main_arg0)
abbrev A1 : S384x2048.Idx → EReal := m ((c : Thread nD τ).loc main_arg1)

/-- The sum that makes an entry of the result. -/
def result : S8320x2048.Idx → EReal := fun i => (∑ k : Fin 384, A0 m c (ix2 (i 0) k) * A1 m c (ix2 k (i 1)))

/-- Where the windows stand at each grid point. -/
theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

theorem blk0_apply (t : Fin cfg0.N) (p : Fin 640) (l : Fin 384) (r : Fin 8320) (hr : r.val = t.val * 640 + p.val) :
    (iblk m c 0 t : S640x384.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 384 + 1 * l.val = l.val
    rw [e1]; omega

theorem blk1_apply (t : Fin cfg0.N) (p : Fin 384) (l : Fin 2048) : (iblk m c 1 t : S384x2048.Idx → EReal) (ix2 p l) = A1 m c (ix2 p l) := by
  obtain ⟨-, -, e0, e1, -⟩ := idx_facts t
  show m _ _ = m _ _
  congr 1
  apply Proof.idx2_ext
  · show win0_1.index t 0 * 384 + 1 * p.val = p.val
    rw [e0]; omega
  · show win0_1.index t 1 * 2048 + 1 * l.val = l.val
    rw [e1]; omega

theorem flushed (t : Fin cfg0.N) : (dats m 0 c).flushed 2 t = ((cfg0.win 2).blk t).view.read (Elt Ideal) (result m c) := by
  rw [Value.flushed2]
  unfold out0_2
  rw [View.canon_unit_zero origin]
  simp only [View.ld_unit_zero (S := S640x384) origin, View.ld_unit_zero (S := S384x2048) origin]
  funext j
  have ht : t.val < 13 := lt_of_lt_of_eq t.isLt N_0
  obtain ⟨-, -, -, -, e0, e1⟩ := idx_facts t
  have j0 : (j 0).val < 640 := (j 0).isLt
  have j1 : (j 1).val < 2048 := (j 1).isLt
  have e : ((cfg0.win 2).blk t).view.emb j = (ix2 (⟨t.val * 640 + (j 0).val, by omega⟩ : Fin 8320) (⟨(j 1).val, j1⟩ : Fin 2048) : S8320x2048.Idx) := by
    apply Proof.idx2_ext
    · show win0_2.index t 0 * 640 + 1 * (j 0).val = t.val * 640 + (j 0).val
      rw [e0]; omega
    · show win0_2.index t 1 * 2048 + 1 * (j 1).val = (j 1).val
      rw [e1]; omega
  rw [View.read_apply, e]
  have hj : j = ix2 (⟨(j 0).val, j0⟩ : Fin 640) (⟨(j 1).val, j1⟩ : Fin 2048) := Proof.idx2_ext rfl rfl
  show (k0_pay1 (iblk m c 0 t) (iblk m c 1 t) j : EReal) = _
  refine (congrArg (k0_pay1 (iblk m c 0 t) (iblk m c 1 t) : S640x2048.Idx → EReal) hj).trans ?_
  rw [pay_apply]
  rw [Finset.sum_congr rfl fun l _ => congrArg₂ (fun y z : EReal => y * z) (blk0_apply m c t ⟨(j 0).val, j0⟩ l ⟨t.val * 640 + (j 0).val, by omega⟩ rfl) (blk1_apply m c t l ⟨(j 1).val, j1⟩)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 2048 := (i 1).isLt
    have hN : cfg0.N = 13 := N_0
    let t : Fin cfg0.N := ⟨(i 0).val / 640, by rw [hN]; omega⟩
    obtain ⟨-, -, -, -, e0, e1⟩ := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show (i 0).val / 640 * 640 ≤ (i 0).val ∧ (i 0).val < (i 0).val / 640 * 640 + 640; omega
    | ⟨1, _⟩ =>
      show win0_2.index t 1 * 2048 ≤ (i 1).val ∧ (i 1).val < win0_2.index t 1 * 2048 + 2048
      rw [e1]; omega

end Cert.Kernel22Ideal.Product

namespace Cert.Reference22Ideal.Product

open Read Idealize.ShloMosaic
open Idealize.ShloMosaic.ValueIdx

/-- The reference's array, entry by entry. -/
theorem val_eq (a : S8320x384.Idx → EReal) (b : S384x2048.Idx → EReal) :
    (val_main_v2 (F := Ideal) a b : S8320x2048.Idx → EReal) = fun i => (∑ k : Fin 384, a (ix2 (i 0) k) * b (ix2 k (i 1))) := by
  funext i
  rw [val_main_v2_apply]
  refine Finset.sum_congr rfl fun k _ => ?_
  rw [val_main_v0_apply, val_main_v1_apply]
  exact congrArg₂ (fun a b : EReal => a * b) (congrArg a (Proof.idx2_ext rfl rfl)) (congrArg b (Proof.idx2_ext rfl rfl))

end Cert.Reference22Ideal.Product

end
-- ==== Proof.UkvFwd.lean ====
/- The keys' and values' up projection: each block is one product, and the array equals the reference's. -/
module

public import proofs.«01_k».proof.Proof.Sums
public import proofs.«01_k».proof.Proof.Gen.Kernel23Ideal.Value
public import proofs.«01_k».proof.Proof.Gen.Reference23Ideal.Run
public import proofs.«01_k».proof.Proof.Gen.Reference23Ideal.Read
public import Idealize.ShloMosaic.Lib.MatmulPlain
public import Idealize.ShloMosaic.Lib.Tactic

@[expose] public section

noncomputable section

namespace Cert.Kernel23Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay_apply (x0 : Vec Ideal S640x256 .bf16) (x1 : Vec Ideal S256x1024 .bf16) (p : Fin 640) (q : Fin 1024) :
    (k0_pay1 x0 x1 (ix2 p q) : EReal) = (∑ l : Fin 256, (x0 (ix2 p l) : EReal) * (x1 (ix2 l q) : EReal)) := by
  unfold k0_pay1
  exact ((Ideal.matmul_plain_apply (φ₁ := .bf16) (φ₂ := .bf16) none _ _ _ p q).trans ((congrArg (fun z : EReal => z + _) Proof.bits_zero).trans (zero_add _)))

variable (m : (ℓ : Loc nD τ sig) → Buf (Elt Ideal) ℓ) (c : Dev nD)

/-- The arguments. -/
abbrev A0 : S8320x256.Idx → EReal := m ((c : Thread nD τ).loc main_arg0)
abbrev A1 : S256x1024.Idx → EReal := m ((c : Thread nD τ).loc main_arg1)

/-- The sum that makes an entry of the result. -/
def result : S8320x1024.Idx → EReal := fun i => (∑ k : Fin 256, A0 m c (ix2 (i 0) k) * A1 m c (ix2 k (i 1)))

/-- Where the windows stand at each grid point. -/
theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

theorem blk0_apply (t : Fin cfg0.N) (p : Fin 640) (l : Fin 256) (r : Fin 8320) (hr : r.val = t.val * 640 + p.val) :
    (iblk m c 0 t : S640x256.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 256 + 1 * l.val = l.val
    rw [e1]; omega

theorem blk1_apply (t : Fin cfg0.N) (p : Fin 256) (l : Fin 1024) : (iblk m c 1 t : S256x1024.Idx → EReal) (ix2 p l) = A1 m c (ix2 p l) := by
  obtain ⟨-, -, e0, e1, -⟩ := idx_facts t
  show m _ _ = m _ _
  congr 1
  apply Proof.idx2_ext
  · show win0_1.index t 0 * 256 + 1 * p.val = p.val
    rw [e0]; omega
  · show win0_1.index t 1 * 1024 + 1 * l.val = l.val
    rw [e1]; omega

theorem flushed (t : Fin cfg0.N) : (dats m 0 c).flushed 2 t = ((cfg0.win 2).blk t).view.read (Elt Ideal) (result m c) := by
  rw [Value.flushed2]
  unfold out0_2
  rw [View.canon_unit_zero origin]
  simp only [View.ld_unit_zero (S := S640x256) origin, View.ld_unit_zero (S := S256x1024) origin]
  funext j
  have ht : t.val < 13 := lt_of_lt_of_eq t.isLt N_0
  obtain ⟨-, -, -, -, e0, e1⟩ := idx_facts t
  have j0 : (j 0).val < 640 := (j 0).isLt
  have j1 : (j 1).val < 1024 := (j 1).isLt
  have e : ((cfg0.win 2).blk t).view.emb j = (ix2 (⟨t.val * 640 + (j 0).val, by omega⟩ : Fin 8320) (⟨(j 1).val, j1⟩ : Fin 1024) : S8320x1024.Idx) := by
    apply Proof.idx2_ext
    · show win0_2.index t 0 * 640 + 1 * (j 0).val = t.val * 640 + (j 0).val
      rw [e0]; omega
    · show win0_2.index t 1 * 1024 + 1 * (j 1).val = (j 1).val
      rw [e1]; omega
  rw [View.read_apply, e]
  have hj : j = ix2 (⟨(j 0).val, j0⟩ : Fin 640) (⟨(j 1).val, j1⟩ : Fin 1024) := Proof.idx2_ext rfl rfl
  show (k0_pay1 (iblk m c 0 t) (iblk m c 1 t) j : EReal) = _
  refine (congrArg (k0_pay1 (iblk m c 0 t) (iblk m c 1 t) : S640x1024.Idx → EReal) hj).trans ?_
  rw [pay_apply]
  rw [Finset.sum_congr rfl fun l _ => congrArg₂ (fun y z : EReal => y * z) (blk0_apply m c t ⟨(j 0).val, j0⟩ l ⟨t.val * 640 + (j 0).val, by omega⟩ rfl) (blk1_apply m c t l ⟨(j 1).val, j1⟩)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 1024 := (i 1).isLt
    have hN : cfg0.N = 13 := N_0
    let t : Fin cfg0.N := ⟨(i 0).val / 640, by rw [hN]; omega⟩
    obtain ⟨-, -, -, -, e0, e1⟩ := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show (i 0).val / 640 * 640 ≤ (i 0).val ∧ (i 0).val < (i 0).val / 640 * 640 + 640; omega
    | ⟨1, _⟩ =>
      show win0_2.index t 1 * 1024 ≤ (i 1).val ∧ (i 1).val < win0_2.index t 1 * 1024 + 1024
      rw [e1]; omega

end Cert.Kernel23Ideal.Product

namespace Cert.Reference23Ideal.Product

open Read Idealize.ShloMosaic
open Idealize.ShloMosaic.ValueIdx

/-- The reference's array, entry by entry. -/
theorem val_eq (a : S8320x256.Idx → EReal) (b : S256x1024.Idx → EReal) :
    (val_main_v2 (F := Ideal) a b : S8320x1024.Idx → EReal) = fun i => (∑ k : Fin 256, a (ix2 (i 0) k) * b (ix2 k (i 1))) := by
  funext i
  rw [val_main_v2_apply]
  refine Finset.sum_congr rfl fun k _ => ?_
  rw [val_main_v0_apply, val_main_v1_apply]
  exact congrArg₂ (fun a b : EReal => a * b) (congrArg a (Proof.idx2_ext rfl rfl)) (congrArg b (Proof.idx2_ext rfl rfl))

end Cert.Reference23Ideal.Product

end
-- ==== Proof.Dqn.lean ====
/- The gradient of the normed queries, `dqa · w_aᵀ + dqb · w_bᵀ`: each block is the sum of two products, and the array equals the reference's. -/
module

public import proofs.«01_k».proof.Proof.Sums
public import proofs.«01_k».proof.Proof.Gen.Kernel24Ideal.Value
public import proofs.«01_k».proof.Proof.Gen.Reference24Ideal.Run
public import proofs.«01_k».proof.Proof.Gen.Reference24Ideal.Read
public import Idealize.ShloMosaic.Lib.MatmulPlain
public import Idealize.ShloMosaic.Lib.Tactic

@[expose] public section

noncomputable section

namespace Cert.Kernel24Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay_apply (x0 : Vec Ideal S640x1024 .bf16) (x1 : Vec Ideal S384x1024 .bf16) (x2 : Vec Ideal S640x1024 .bf16) (x3 : Vec Ideal S384x1024 .bf16) (p : Fin 640) (q : Fin 384) :
    (k0_pay1 x0 x1 x2 x3 (ix2 p q) : EReal) = (∑ l : Fin 1024, (x0 (ix2 p l) : EReal) * (x1 (ix2 q l) : EReal)) + (∑ l : Fin 1024, (x2 (ix2 p l) : EReal) * (x3 (ix2 q l) : EReal)) := by
  unfold k0_pay1
  exact congrArg₂ (fun y z : EReal => y + z) ((Ideal.matmul_transposedRhs_apply (φ₁ := .bf16) (φ₂ := .bf16) none _ _ _ p q).trans ((congrArg (fun z : EReal => z + _) Proof.bits_zero).trans (zero_add _))) ((Ideal.matmul_transposedRhs_apply (φ₁ := .bf16) (φ₂ := .bf16) none _ _ _ p q).trans ((congrArg (fun z : EReal => z + _) Proof.bits_zero).trans (zero_add _)))

variable (m : (ℓ : Loc nD τ sig) → Buf (Elt Ideal) ℓ) (c : Dev nD)

/-- The arguments. -/
abbrev A0 : S8320x1024.Idx → EReal := m ((c : Thread nD τ).loc main_arg0)
abbrev A1 : S384x1024.Idx → EReal := m ((c : Thread nD τ).loc main_arg1)
abbrev A2 : S8320x1024.Idx → EReal := m ((c : Thread nD τ).loc main_arg2)
abbrev A3 : S384x1024.Idx → EReal := m ((c : Thread nD τ).loc main_arg3)

/-- The sum that makes an entry of the result. -/
def result : S8320x384.Idx → EReal := fun i => (∑ k : Fin 1024, A0 m c (ix2 (i 0) k) * A1 m c (ix2 (i 1) k)) + (∑ k : Fin 1024, A2 m c (ix2 (i 0) k) * A3 m c (ix2 (i 1) k))

/-- Where the windows stand at each grid point. -/
theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 ∧ win0_3.index t 0 = 0 ∧ win0_3.index t 1 = 0 ∧ win0_4.index t 0 = t.val ∧ win0_4.index t 1 = 0 :=
  (by decide +kernel : ∀ t : Fin grid0.N, _)

theorem blk0_apply (t : Fin cfg0.N) (p : Fin 640) (l : Fin 1024) (r : Fin 8320) (hr : r.val = t.val * 640 + p.val) :
    (iblk m c 0 t : S640x1024.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 1024 + 1 * l.val = l.val
    rw [e1]; omega

theorem blk1_apply (t : Fin cfg0.N) (p : Fin 384) (l : Fin 1024) : (iblk m c 1 t : S384x1024.Idx → EReal) (ix2 p l) = A1 m c (ix2 p l) := by
  obtain ⟨-, -, e0, e1, -⟩ := idx_facts t
  show m _ _ = m _ _
  congr 1
  apply Proof.idx2_ext
  · show win0_1.index t 0 * 384 + 1 * p.val = p.val
    rw [e0]; omega
  · show win0_1.index t 1 * 1024 + 1 * l.val = l.val
    rw [e1]; omega

theorem blk2_apply (t : Fin cfg0.N) (p : Fin 640) (l : Fin 1024) (r : Fin 8320) (hr : r.val = t.val * 640 + p.val) :
    (iblk m c 2 t : S640x1024.Idx → EReal) (ix2 p l) = A2 m c (ix2 r l) := by
  obtain ⟨-, -, -, -, e0, e1, -⟩ := idx_facts t
  show m _ _ = m _ _
  congr 1
  apply Proof.idx2_ext
  · show win0_2.index t 0 * 640 + 1 * p.val = r.val
    rw [e0]; omega
  · show win0_2.index t 1 * 1024 + 1 * l.val = l.val
    rw [e1]; omega

theorem blk3_apply (t : Fin cfg0.N) (p : Fin 384) (l : Fin 1024) : (iblk m c 3 t : S384x1024.Idx → EReal) (ix2 p l) = A3 m c (ix2 p l) := by
  obtain ⟨-, -, -, -, -, -, e0, e1, -⟩ := idx_facts t
  show m _ _ = m _ _
  congr 1
  apply Proof.idx2_ext
  · show win0_3.index t 0 * 384 + 1 * p.val = p.val
    rw [e0]; omega
  · show win0_3.index t 1 * 1024 + 1 * l.val = l.val
    rw [e1]; omega

theorem flushed (t : Fin cfg0.N) : (dats m 0 c).flushed 4 t = ((cfg0.win 4).blk t).view.read (Elt Ideal) (result m c) := by
  rw [Value.flushed4]
  unfold out0_4
  rw [View.canon_unit_zero origin]
  simp only [View.ld_unit_zero (S := S640x1024) origin, View.ld_unit_zero (S := S384x1024) origin]
  funext j
  have ht : t.val < 13 := lt_of_lt_of_eq t.isLt N_0
  obtain ⟨-, -, -, -, -, -, -, -, e0, e1⟩ := idx_facts t
  have j0 : (j 0).val < 640 := (j 0).isLt
  have j1 : (j 1).val < 384 := (j 1).isLt
  have e : ((cfg0.win 4).blk t).view.emb j = (ix2 (⟨t.val * 640 + (j 0).val, by omega⟩ : Fin 8320) (⟨(j 1).val, j1⟩ : Fin 384) : S8320x384.Idx) := by
    apply Proof.idx2_ext
    · show win0_4.index t 0 * 640 + 1 * (j 0).val = t.val * 640 + (j 0).val
      rw [e0]; omega
    · show win0_4.index t 1 * 384 + 1 * (j 1).val = (j 1).val
      rw [e1]; omega
  rw [View.read_apply, e]
  have hj : j = ix2 (⟨(j 0).val, j0⟩ : Fin 640) (⟨(j 1).val, j1⟩ : Fin 384) := Proof.idx2_ext rfl rfl
  show (k0_pay1 (iblk m c 0 t) (iblk m c 1 t) (iblk m c 2 t) (iblk m c 3 t) j : EReal) = _
  refine (congrArg (k0_pay1 (iblk m c 0 t) (iblk m c 1 t) (iblk m c 2 t) (iblk m c 3 t) : S640x384.Idx → EReal) hj).trans ?_
  rw [pay_apply]
  exact congrArg₂ (fun y z : EReal => y + z) (Finset.sum_congr rfl fun l _ => congrArg₂ (fun y z : EReal => y * z) (blk0_apply m c t ⟨(j 0).val, j0⟩ l ⟨t.val * 640 + (j 0).val, by omega⟩ rfl) (blk1_apply m c t ⟨(j 1).val, j1⟩ l))
    (Finset.sum_congr rfl fun l _ => congrArg₂ (fun y z : EReal => y * z) (blk2_apply m c t ⟨(j 0).val, j0⟩ l ⟨t.val * 640 + (j 0).val, by omega⟩ rfl) (blk3_apply m c t ⟨(j 1).val, j1⟩ l))

theorem final : (dats m 0 c).arrAt 4 cfg0.N = result m c :=
  (dats m 0 c).arrAt_eq_of_cover 4 _ (fun t _ => flushed m c t) fun i => by
    have h0 : (i 0).val < 8320 := (i 0).isLt
    have h1 : (i 1).val < 384 := (i 1).isLt
    have hN : cfg0.N = 13 := N_0
    let t : Fin cfg0.N := ⟨(i 0).val / 640, by rw [hN]; omega⟩
    obtain ⟨-, -, -, -, -, -, -, -, e0, e1⟩ := idx_facts t
    refine ⟨t, flush0_4 t, ?_⟩
    show i ∈ ((View.whole main_v0).slice (win0_4.rect t)).set
    rw [View.set_slice_whole, Rect.mem_set_unit]
    intro a
    match a with
    | ⟨0, _⟩ =>
      show win0_4.index t 0 * 640 ≤ (i 0).val ∧ (i 0).val < win0_4.index t 0 * 640 + 640
      rw [e0]; show (i 0).val / 640 * 640 ≤ (i 0).val ∧ (i 0).val < (i 0).val / 640 * 640 + 640; omega
    | ⟨1, _⟩ =>
      show win0_4.index t 1 * 384 ≤ (i 1).val ∧ (i 1).val < win0_4.index t 1 * 384 + 384
      rw [e1]; omega

end Cert.Kernel24Ideal.Product

namespace Cert.Reference24Ideal.Product

open Read Idealize.ShloMosaic
open Idealize.ShloMosaic.ValueIdx

/-- The reference's array, entry by entry. -/
theorem val_eq (a : S8320x1024.Idx → EReal) (b : S384x1024.Idx → EReal) (a' : S8320x1024.Idx → EReal) (b' : S384x1024.Idx → EReal) :
    (val_main_v9 (F := Ideal) a b a' b' : S8320x384.Idx → EReal) = fun i => (∑ k : Fin 1024, a (ix2 (i 0) k) * b (ix2 (i 1) k)) + (∑ k : Fin 1024, a' (ix2 (i 0) k) * b' (ix2 (i 1) k)) := by
  funext i
  rw [val_main_v9_apply, val_main_v8_apply, val_main_v7_apply]
  refine (add_comm _ _).trans ?_
  refine congrArg₂ (fun y z : EReal => y + z) (Finset.sum_congr rfl fun k _ => ?_) (Finset.sum_congr rfl fun k _ => ?_)
  · rw [val_main_v5_apply, val_main_v1_apply]
    exact congrArg₂ (fun a b : EReal => a * b) (congrArg a (Proof.idx2_ext rfl rfl)) (congrArg b (Proof.idx2_ext rfl rfl))
  · rw [val_main_v6_apply, val_main_v2_apply]
    exact congrArg₂ (fun a b : EReal => a * b) (congrArg a' (Proof.idx2_ext rfl rfl)) (congrArg b' (Proof.idx2_ext rfl rfl))

end Cert.Reference24Ideal.Product

end
-- ==== Proof.Dwqa.lean ====
/- The gradient of the queries' up projection's weight: the sum over all the rows, five blocks of 1664 rows added up, equals the reference's. -/
module

public import proofs.«01_k».proof.Proof.Sums
public import proofs.«01_k».proof.Proof.Gen.Kernel25Ideal.Value
public import proofs.«01_k».proof.Proof.Gen.Reference25Ideal.Run
public import proofs.«01_k».proof.Proof.Gen.Reference25Ideal.Read
public import Idealize.ShloMosaic.Lib.MatmulPlain
public import Idealize.ShloMosaic.Lib.Tactic

@[expose] public section

noncomputable section

namespace Cert.Kernel25Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

section Cases

variable (c : Dev nD) (i : grid0.Coords) (a3 : Memref sig .tc .vmem S384x1664 .bf16) (h3 : a3.IsWhole)
  (a4 : Memref sig .tc .vmem S1664x1024 .bf16) (h4 : a4.IsWhole) (a5 : Memref sig .tc .vmem S384x1024 .f32) (h5 : a5.IsWhole)
  (a6 : Memref sig .tc .vmem S384x1024 .f32) (h6 : a6.IsWhole)
  (x0 : Vec Ideal S384x1664 .bf16) (x1 : Vec Ideal S1664x1024 .bf16) (xs : Vec Ideal S384x1024 .f32)

/-- The first block's product starts the sum. -/
theorem scratch_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  unfold k0_pay2
  simp only [View.readAt_eq_ld, h3.read_unread, h4.read_unread, h6.read_unread, View.ld_unit_zero (S := S384x1664) origin, View.ld_unit_zero (S := S1664x1024) origin, View.ld_unit_zero (S := S384x1024) origin, shapeCast_self]

/-- A later block's product is added. -/
theorem scratch_B (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero origin]
  unfold k0_pay3
  simp only [View.readAt_eq_ld, h3.read_unread, h4.read_unread, h6.read_unread, View.ld_unit_zero (S := S384x1664) origin, View.ld_unit_zero (S := S1664x1024) origin, View.ld_unit_zero (S := S384x1024) origin, shapeCast_self]

/-- So is the last block's. -/
theorem scratch_C (hc0 : ¬cond0_0 i) (hc1 : cond0_1 i) (hc2 : cond0_2 i) : sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero origin]
  unfold k0_pay3
  simp only [View.readAt_eq_ld, h3.read_unread, h4.read_unread, h6.read_unread, View.ld_unit_zero (S := S384x1664) origin, View.ld_unit_zero (S := S1664x1024) origin, View.ld_unit_zero (S := S384x1024) origin, shapeCast_self]

/-- The sum is written out. -/
theorem out_C (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero origin, View.readCov_unit_zero (S := S384x1024) _ origin]
  unfold k0_pay3
  simp only [View.readAt_eq_ld, h3.read_unread, h4.read_unread, h6.read_unread, View.ld_unit_zero (S := S384x1664) origin, View.ld_unit_zero (S := S1664x1024) origin, View.ld_unit_zero (S := S384x1024) origin, shapeCast_self]

/-- A block's product, entry by entry. -/
theorem pay_apply (p : Fin 384) (q : Fin 1024) :
    k0_pay1 x0 x1 (ix2 p q) = ∑ l : Fin 1664, (x0 (ix2 p l) : EReal) * (x1 (ix2 l q) : EReal) := by
  unfold k0_pay1
  exact (Ideal.matmul_plain_apply (φ₁ := .bf16) (φ₂ := .bf16) none _ _ _ p q).trans ((congrArg (fun z : EReal => z + _) Proof.bits_zero).trans (zero_add _))

end Cases

variable (m : (ℓ : Loc nD τ sig) → Buf (Elt Ideal) ℓ) (c : Dev nD)

/-- The two arguments. -/
abbrev A0 : S384x8320.Idx → EReal := m ((c : Thread nD τ).loc main_arg0)
abbrev A1 : S8320x1024.Idx → EReal := m ((c : Thread nD τ).loc main_arg1)

/-- Where the windows stand at each grid point. -/
theorem idx_facts : ∀ t : Fin cfg0.N, win0_0.index t 0 = 0 ∧ win0_0.index t 1 = t.val ∧ win0_1.index t 0 = t.val ∧ win0_1.index t 1 = 0 :=
  (by decide +kernel : ∀ t : Fin grid0.N, _)

theorem blk0_apply (t : Fin cfg0.N) (p : Fin 384) (l : Fin 1664) : (iblk m c 0 t : S384x1664.Idx → EReal) (ix2 p l) = Proof.at2 (A0 m c) p.val (t.val % 5 * 1664 + l.val) := by
  have ht : t.val < 5 := lt_of_lt_of_eq t.isLt N_0
  obtain ⟨e0, e1, -, -⟩ := idx_facts t
  rw [Proof.at2_ix2 _ _ _ (by omega) (by omega)]
  show m _ _ = m _ _
  congr 1
  apply Proof.idx2_ext
  · show win0_0.index t 0 * 384 + 1 * p.val = p.val
    rw [e0]; omega
  · show win0_0.index t 1 * 1664 + 1 * l.val = t.val % 5 * 1664 + l.val
    rw [e1]; omega

theorem blk1_apply (t : Fin cfg0.N) (l : Fin 1664) (q : Fin 1024) :
    (iblk m c 1 t : S1664x1024.Idx → EReal) (ix2 l q) = Proof.at2 (A1 m c) (t.val % 5 * 1664 + l.val) q.val := by
  have ht : t.val < 5 := lt_of_lt_of_eq t.isLt N_0
  obtain ⟨-, -, e0, e1⟩ := idx_facts t
  rw [Proof.at2_ix2 _ _ _ (by omega) (by omega)]
  show m _ _ = m _ _
  congr 1
  apply Proof.idx2_ext
  · show win0_1.index t 0 * 1664 + 1 * l.val = t.val % 5 * 1664 + l.val
    rw [e0]; omega
  · show win0_1.index t 1 * 1024 + 1 * q.val = q.val
    rw [e1]; omega

/-- One product of the sum that makes entry `(p, q)`. -/
def term (p : Fin 384) (q : Fin 1024) (k : ℕ) : EReal := Proof.at2 (A0 m c) p.val k * Proof.at2 (A1 m c) k q.val

theorem part_apply (t : Fin cfg0.N) (p : Fin 384) (q : Fin 1024) :
    k0_pay1 (iblk m c 0 t) (iblk m c 1 t) (ix2 p q) = ∑ l : Fin 1664, term m c p q (t.val % 5 * 1664 + l.val) := by
  rw [pay_apply]
  exact Finset.sum_congr rfl fun l _ => congrArg₂ (· * ·) (blk0_apply m c t p l) (blk1_apply m c t l q)

/-- What the accumulator holds after each grid point. -/
theorem scratch_eq (p : Fin 384) (q : Fin 1024) : ∀ (t : ℕ) (h : t < cfg0.N),
    ((outsAt0 m c t h).2 (ix2 p q) : EReal) = ∑ k ∈ Finset.range ((t % 5 + 1) * 1664), term m c p q k := by
  refine Proof.fold_blocks cfg0.N 5 1664 (fun t h => (outsAt0 m c t h).2 (ix2 p q)) (fun _ => term m c p q) ?_ ?_
  · intro t h h0
    have ht : t < 5 := lt_of_lt_of_eq h N_0
    rw [outsAt0_A m c ⟨t, h⟩ h0 (by dsimp only; omega) (by dsimp only; omega), scratch_A]
    exact part_apply m c ⟨t, h⟩ p q
  · intro t h h0
    have ht : t < 5 := lt_of_lt_of_eq h N_0
    by_cases h4 : t % 5 = 4
    · rw [outsAt0_C m c ⟨t, h⟩ h0 (by dsimp only; omega) h4, scratch_C]
      exact congrArg (fun z : EReal => _ + z) (part_apply m c ⟨t, h⟩ p q)
    · rw [outsAt0_B m c ⟨t, h⟩ h0 (by dsimp only; omega) h4, scratch_B]
      exact congrArg (fun z : EReal => _ + z) (part_apply m c ⟨t, h⟩ p q)

/-- What is written out at the last grid point. -/
theorem out_eq (t : ℕ) (h : t < cfg0.N) (h4 : t % 5 = 4) (p : Fin 384) (q : Fin 1024) :
    ((outsAt0 m c t h).1 (ix2 p q) : EReal) = ∑ k : Fin 8320, term m c p q k.val := by
  have e := scratch_eq m c p q t h
  rw [show (t % 5 + 1) * 1664 = 8320 by omega, Finset.sum_range] at e
  rw [outsAt0_C m c ⟨t, h⟩ (by dsimp only; omega) (by dsimp only; omega) h4] at e ⊢
  rw [scratch_C] at e
  rw [out_C]
  exact e

/-- The sum that makes an entry of the result. -/
def result : S384x1024.Idx → EReal := fun i => ∑ k : Fin 8320, A0 m c (ix2 (i 0) k) * A1 m c (ix2 k (i 1))

theorem G2_eq : (Value.G2 m c : S384x1024.Idx → EReal) = result m c := by
  rw [Value.G2_last, ← Value.outsAt0_sweep m c 4 (lt_of_lt_of_eq (by decide) N_0.symm)]
  funext i
  refine (congrArg _ (eq_ix2 i)).trans ((out_eq m c 4 _ (by decide) (i 0) (i 1)).trans (Finset.sum_congr rfl fun k _ => ?_))
  exact congrArg₂ (fun a b : EReal => a * b) (Proof.at2_ix2 _ _ _ (i 0).isLt k.isLt) (Proof.at2_ix2 _ _ _ k.isLt (i 1).isLt)

end Cert.Kernel25Ideal.Product

namespace Cert.Reference25Ideal.Product

open Read Idealize.ShloMosaic
open Idealize.ShloMosaic.ValueIdx

/-- The reference's array, entry by entry. -/
theorem val_eq (a : S384x8320.Idx → EReal) (b : S8320x1024.Idx → EReal) :
    (val_main_v6 (F := Ideal) a b : S384x1024.Idx → EReal) = fun i => ∑ k : Fin 8320, a (ix2 (i 0) k) * b (ix2 k (i 1)) := by
  funext i
  rw [val_main_v6_apply, val_main_v5_apply]
  refine Finset.sum_congr rfl fun k _ => ?_
  rw [val_main_v4_apply, val_main_v2_apply, val_main_v1_apply]
  show b _ * a _ = a _ * b _
  rw [mul_comm]
  exact congrArg₂ (fun a b : EReal => a * b) (congrArg a (Proof.idx2_ext rfl rfl)) (congrArg b (Proof.idx2_ext rfl rfl))

end Cert.Reference25Ideal.Product

end
-- ==== Proof.Dkvn.lean ====
/- The gradient of the normed keys and values, `dkv · w_ukvᵀ`: each block is one product, and the array equals the reference's. -/
module

public import proofs.«01_k».proof.Proof.Sums
public import proofs.«01_k».proof.Proof.Gen.Kernel26Ideal.Value
public import proofs.«01_k».proof.Proof.Gen.Reference26Ideal.Run
public import proofs.«01_k».proof.Proof.Gen.Reference26Ideal.Read
public import Idealize.ShloMosaic.Lib.MatmulPlain
public import Idealize.ShloMosaic.Lib.Tactic

@[expose] public section

noncomputable section

namespace Cert.Kernel26Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

/-- A block's product, entry by entry. -/
theorem pay_apply (x0 : Vec Ideal S640x1024 .bf16) (x1 : Vec Ideal S256x1024 .bf16) (p : Fin 640) (q : Fin 256) :
    (k0_pay1 x0 x1 (ix2 p q) : EReal) = (∑ l : Fin 1024, (x0 (ix2 p l) : EReal) * (x1 (ix2 q l) : EReal)) := by
  unfold k0_pay1
  exact ((Ideal.matmul_transposedRhs_apply (φ₁ := .bf16) (φ₂ := .bf16) none _ _ _ p q).trans ((congrArg (fun z : EReal => z + _) Proof.bits_zero).trans (zero_add _)))

variable (m : (ℓ : Loc nD τ sig) → Buf (Elt Ideal) ℓ) (c : Dev nD)

/-- The arguments. -/
abbrev A0 : S8320x1024.Idx → EReal := m ((c : Thread nD τ).loc main_arg0)
abbrev A1 : S256x1024.Idx → EReal := m ((c : Thread nD τ).loc main_arg1)

/-- The sum that makes an entry of the result. -/
def result : S8320x256.Idx → EReal := fun i => (∑ k : Fin 1024, A0 m c (ix2 (i 0) k) * A1 m c (ix2 (i 1) k))

/-- Where the windows stand at each grid point. -/
theorem idx_facts : ∀ t : Fin cfg0.N,
    win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

theorem blk0_apply (t : Fin cfg0.N) (p : Fin 640) (l : Fin 1024) (r : Fin 8320) (hr : r.val = t.val * 640 + p.val) :
    (iblk m c 0 t : S640x1024.Idx → EReal) (ix2 p l) = A0 m c (ix2 r l) := by
  obtain ⟨e0, e1, -⟩ := idx_facts t
  show m _ _ = m _ _
  congr 1
  apply Proof.idx2_ext
  · show win0_0.index t 0 * 640 + 1 * p.val = r.val
    rw [e0]; omega
  · show win0_0.index t 1 * 1024 + 1 * l.val = l.val
    rw [e1]; omega

theorem blk1_apply (t : Fin cfg0.N) (p : Fin 256) (l : Fin 1024) : (iblk m c 1 t : S256x1024.Idx → EReal) (ix2 p l) = A1 m c (ix2 p l) := by
  obtain ⟨-, -, e0, e1, -⟩ := idx_facts t
  show m _ _ = m _ _
  congr 1
  apply Proof.idx2_ext
  · show win0_1.index t 0 * 256 + 1 * p.val = p.val
    rw [e0]; omega
  · show win0_1.index t 1 * 1024 + 1 * l.val = l.val
    rw [e1]; omega

theorem flushed (t : Fin cfg0.N) : (dats m 0 c).flushed 2 t = ((cfg0.win 2).blk t).view.read (Elt Ideal) (result m c) := by
  rw [Value.flushed2]
  unfold out0_2
  rw [View.canon_unit_zero origin]
  simp only [View.ld_unit_zero (S := S640x1024) origin, View.ld_unit_zero (S := S256x1024) origin]
  funext j
  have ht : t.val < 13 := lt_of_lt_of_eq t.isLt N_0
  obtain ⟨-, -, -, -, e0, e1⟩ := idx_facts t
  have j0 : (j 0).val < 640 := (j 0).isLt
  have j1 : (j 1).val < 256 := (j 1).isLt
  have e : ((cfg0.win 2).blk t).view.emb j = (ix2 (⟨t.val * 640 + (j 0).val, by omega⟩ : Fin 8320) (⟨(j 1).val, j1⟩ : Fin 256) : S8320x256.Idx) := by
    apply Proof.idx2_ext
    · show win0_2.index t 0 * 640 + 1 * (j 0).val = t.val * 640 + (j 0).val
      rw [e0]; omega
    · show win0_2.index t 1 * 256 + 1 * (j 1).val = (j 1).val
      rw [e1]; omega
  rw [View.read_apply, e]
  have hj : j = ix2 (⟨(j 0).val, j0⟩ : Fin 640) (⟨(j 1).val, j1⟩ : Fin 256) := Proof.idx2_ext rfl rfl
  show (k0_pay1 (iblk m c 0 t) (iblk m c 1 t) j : EReal) = _
  refine (congrArg (k0_pay1 (iblk m c 0 t) (iblk m c 1 t) : S640x256.Idx → EReal) hj).trans ?_
  rw [pay_apply]
  rw [Finset.sum_congr rfl fun l _ => congrArg₂ (fun y z : EReal => y * z) (blk0_apply m c t ⟨(j 0).val, j0⟩ l ⟨t.val * 640 + (j 0).val, by omega⟩ rfl) (blk1_apply m c t ⟨(j 1).val, j1⟩ l)]
  rfl

theorem final : (dats m 0 c).arrAt 2 cfg0.N = result m c :=
  (dats m 0 c).arrAt_eq_of_cover 2 _ (fun t _ => flushed m c t) fun i => by
    have h0 : (i 0).val < 8320 := (i 0).isLt
    have h1 : (i 1).val < 256 := (i 1).isLt
    have hN : cfg0.N = 13 := N_0
    let t : Fin cfg0.N := ⟨(i 0).val / 640, by rw [hN]; omega⟩
    obtain ⟨-, -, -, -, e0, e1⟩ := idx_facts t
    refine ⟨t, flush0_2 t, ?_⟩
    show i ∈ ((View.whole main_v0).slice (win0_2.rect t)).set
    rw [View.set_slice_whole, Rect.mem_set_unit]
    intro a
    match a with
    | ⟨0, _⟩ =>
      show win0_2.index t 0 * 640 ≤ (i 0).val ∧ (i 0).val < win0_2.index t 0 * 640 + 640
      rw [e0]; show (i 0).val / 640 * 640 ≤ (i 0).val ∧ (i 0).val < (i 0).val / 640 * 640 + 640; omega
    | ⟨1, _⟩ =>
      show win0_2.index t 1 * 256 ≤ (i 1).val ∧ (i 1).val < win0_2.index t 1 * 256 + 256
      rw [e1]; omega

end Cert.Kernel26Ideal.Product

namespace Cert.Reference26Ideal.Product

open Read Idealize.ShloMosaic
open Idealize.ShloMosaic.ValueIdx

/-- The reference's array, entry by entry. -/
theorem val_eq (a : S8320x1024.Idx → EReal) (b : S256x1024.Idx → EReal) :
    (val_main_v4 (F := Ideal) a b : S8320x256.Idx → EReal) = fun i => (∑ k : Fin 1024, a (ix2 (i 0) k) * b (ix2 (i 1) k)) := by
  funext i
  rw [val_main_v4_apply]
  refine Finset.sum_congr rfl fun k _ => ?_
  rw [val_main_v3_apply, val_main_v1_apply]
  exact congrArg₂ (fun a b : EReal => a * b) (congrArg a (Proof.idx2_ext rfl rfl)) (congrArg b (Proof.idx2_ext rfl rfl))

end Cert.Reference26Ideal.Product

end
-- ==== Proof.Dwkv.lean ====
/- The gradient of the keys' and values' up projection's weight: the sum over all the rows, five blocks of 1664 rows added up, equals the reference's. -/
module

public import proofs.«01_k».proof.Proof.Sums
public import proofs.«01_k».proof.Proof.Gen.Kernel27Ideal.Value
public import proofs.«01_k».proof.Proof.Gen.Reference27Ideal.Run
public import proofs.«01_k».proof.Proof.Gen.Reference27Ideal.Read
public import Idealize.ShloMosaic.Lib.MatmulPlain
public import Idealize.ShloMosaic.Lib.Tactic

@[expose] public section

noncomputable section

namespace Cert.Kernel27Ideal.Product

open Gen Idealize.ShloMosaic Idealize.ShloMosaic.TcCoe Idealize.SL.Sem
open Idealize.ShloMosaic.ValueIdx

theorem origin : (![0, 0] : Fin 2 → Nat) = fun _ => 0 := funext fun a => by fin_cases a <;> rfl

section Cases

variable (c : Dev nD) (i : grid0.Coords) (a3 : Memref sig .tc .vmem S256x1664 .bf16) (h3 : a3.IsWhole)
  (a4 : Memref sig .tc .vmem S1664x1024 .bf16) (h4 : a4.IsWhole) (a5 : Memref sig .tc .vmem S256x1024 .f32) (h5 : a5.IsWhole)
  (a6 : Memref sig .tc .vmem S256x1024 .f32) (h6 : a6.IsWhole)
  (x0 : Vec Ideal S256x1664 .bf16) (x1 : Vec Ideal S1664x1024 .bf16) (xs : Vec Ideal S256x1024 .f32)

/-- The first block's product starts the sum. -/
theorem scratch_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  unfold k0_pay2
  simp only [View.readAt_eq_ld, h3.read_unread, h4.read_unread, h6.read_unread, View.ld_unit_zero (S := S256x1664) origin, View.ld_unit_zero (S := S1664x1024) origin, View.ld_unit_zero (S := S256x1024) origin, shapeCast_self]

/-- A later block's product is added. -/
theorem scratch_B (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero origin]
  unfold k0_pay3
  simp only [View.readAt_eq_ld, h3.read_unread, h4.read_unread, h6.read_unread, View.ld_unit_zero (S := S256x1664) origin, View.ld_unit_zero (S := S1664x1024) origin, View.ld_unit_zero (S := S256x1024) origin, shapeCast_self]

/-- So is the last block's. -/
theorem scratch_C (hc0 : ¬cond0_0 i) (hc1 : cond0_1 i) (hc2 : cond0_2 i) : sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero origin]
  unfold k0_pay3
  simp only [View.readAt_eq_ld, h3.read_unread, h4.read_unread, h6.read_unread, View.ld_unit_zero (S := S256x1664) origin, View.ld_unit_zero (S := S1664x1024) origin, View.ld_unit_zero (S := S256x1024) origin, shapeCast_self]

/-- The sum is written out. -/
theorem out_C (hc0 : ¬cond0_0 i) (hc1 : cond0_1 i) (hc2 : cond0_2 i) : out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero origin, View.readCov_unit_zero (S := S256x1024) _ origin]
  unfold k0_pay3
  simp only [View.readAt_eq_ld, h3.read_unread, h4.read_unread, h6.read_unread, View.ld_unit_zero (S := S256x1664) origin, View.ld_unit_zero (S := S1664x1024) origin, View.ld_unit_zero (S := S256x1024) origin, shapeCast_self]

/-- A block's product, entry by entry. -/
theorem pay_apply (p : Fin 256) (q : Fin 1024) :
    k0_pay1 x0 x1 (ix2 p q) = ∑ l : Fin 1664, (x0 (ix2 p l) : EReal) * (x1 (ix2 l q) : EReal) := by
  unfold k0_pay1
  exact (Ideal.matmul_plain_apply (φ₁ := .bf16) (φ₂ := .bf16) none _ _ _ p q).trans ((congrArg (fun z : EReal => z + _) Proof.bits_zero).trans (zero_add _))

end Cases

variable (m : (ℓ : Loc nD τ sig) → Buf (Elt Ideal) ℓ) (c : Dev nD)

/-- The two arguments. -/
abbrev A0 : S256x8320.Idx → EReal := m ((c : Thread nD τ).loc main_arg0)
abbrev A1 : S8320x1024.Idx → EReal := m ((c : Thread nD τ).loc main_arg1)

/-- Where the windows stand at each grid point. -/
theorem idx_facts : ∀ t : Fin cfg0.N, win0_0.index t 0 = 0 ∧ win0_0.index t 1 = t.val ∧ win0_1.index t 0 = t.val ∧ win0_1.index t 1 = 0 :=
  (by decide +kernel : ∀ t : Fin grid0.N, _)

theorem blk0_apply (t : Fin cfg0.N) (p : Fin 256) (l : Fin 1664) : (iblk m c 0 t : S256x1664.Idx → EReal) (ix2 p l) = Proof.at2 (A0 m c) p.val (t.val % 5 * 1664 + l.val) := by
  have ht : t.val < 5 := lt_of_lt_of_eq t.isLt N_0
  obtain ⟨e0, e1, -, -⟩ := idx_facts t
  rw [Proof.at2_ix2 _ _ _ (by omega) (by omega)]
  show m _ _ = m _ _
  congr 1
  apply Proof.idx2_ext
  · show win0_0.index t 0 * 256 + 1 * p.val = p.val
    rw [e0]; omega
  · show win0_0.index t 1 * 1664 + 1 * l.val = t.val % 5 * 1664 + l.val
    rw [e1]; omega

theorem blk1_apply (t : Fin cfg0.N) (l : Fin 1664) (q : Fin 1024) :
    (iblk m c 1 t : S1664x1024.Idx → EReal) (ix2 l q) = Proof.at2 (A1 m c) (t.val % 5 * 1664 + l.val) q.val := by
  have ht : t.val < 5 := lt_of_lt_of_eq t.isLt N_0
  obtain ⟨-, -, e0, e1⟩ := idx_facts t
  rw [Proof.at2_ix2 _ _ _ (by omega) (by omega)]
  show m _ _ = m _ _
  congr 1
  apply Proof.idx2_ext
  · show win0_1.index t 0 * 1664 + 1 * l.val = t.val % 5 * 1664 + l.val
    rw [e0]; omega
  · show win0_1.index t 1 * 1024 + 1 * q.val = q.val
    rw [e1]; omega

/-- One product of the sum that makes entry `(p, q)`. -/
def term (p : Fin 256) (q : Fin 1024) (k : ℕ) : EReal := Proof.at2 (A0 m c) p.val k * Proof.at2 (A1 m c) k q.val

theorem part_apply (t : Fin cfg0.N) (p : Fin 256) (q : Fin 1024) :
    k0_pay1 (iblk m c 0 t) (iblk m c 1 t) (ix2 p q) = ∑ l : Fin 1664, term m c p q (t.val % 5 * 1664 + l.val) := by
  rw [pay_apply]
  exact Finset.sum_congr rfl fun l _ => congrArg₂ (· * ·) (blk0_apply m c t p l) (blk1_apply m c t l q)

/-- What the accumulator holds after each grid point. -/
theorem scratch_eq (p : Fin 256) (q : Fin 1024) : ∀ (t : ℕ) (h : t < cfg0.N),
    ((outsAt0 m c t h).2 (ix2 p q) : EReal) = ∑ k ∈ Finset.range ((t % 5 + 1) * 1664), term m c p q k := by
  refine Proof.fold_blocks cfg0.N 5 1664 (fun t h => (outsAt0 m c t h).2 (ix2 p q)) (fun _ => term m c p q) ?_ ?_
  · intro t h h0
    have ht : t < 5 := lt_of_lt_of_eq h N_0
    rw [outsAt0_A m c ⟨t, h⟩ h0 (by dsimp only; omega) (by dsimp only; omega), scratch_A]
    exact part_apply m c ⟨t, h⟩ p q
  · intro t h h0
    have ht : t < 5 := lt_of_lt_of_eq h N_0
    by_cases h4 : t % 5 = 4
    · rw [outsAt0_C m c ⟨t, h⟩ h0 (by dsimp only; omega) h4, scratch_C]
      exact congrArg (fun z : EReal => _ + z) (part_apply m c ⟨t, h⟩ p q)
    · rw [outsAt0_B m c ⟨t, h⟩ h0 (by dsimp only; omega) h4, scratch_B]
      exact congrArg (fun z : EReal => _ + z) (part_apply m c ⟨t, h⟩ p q)

/-- What is written out at the last grid point. -/
theorem out_eq (t : ℕ) (h : t < cfg0.N) (h4 : t % 5 = 4) (p : Fin 256) (q : Fin 1024) :
    ((outsAt0 m c t h).1 (ix2 p q) : EReal) = ∑ k : Fin 8320, term m c p q k.val := by
  have e := scratch_eq m c p q t h
  rw [show (t % 5 + 1) * 1664 = 8320 by omega, Finset.sum_range] at e
  rw [outsAt0_C m c ⟨t, h⟩ (by dsimp only; omega) (by dsimp only; omega) h4] at e ⊢
  rw [scratch_C] at e
  rw [out_C]
  exact e

/-- The sum that makes an entry of the result. -/
def result : S256x1024.Idx → EReal := fun i => ∑ k : Fin 8320, A0 m c (ix2 (i 0) k) * A1 m c (ix2 k (i 1))

theorem G2_eq : (Value.G2 m c : S256x1024.Idx → EReal) = result m c := by
  rw [Value.G2_last, ← Value.outsAt0_sweep m c 4 (lt_of_lt_of_eq (by decide) N_0.symm)]
  funext i
  refine (congrArg _ (eq_ix2 i)).trans ((out_eq m c 4 _ (by decide) (i 0) (i 1)).trans (Finset.sum_congr rfl fun k _ => ?_))
  exact congrArg₂ (fun a b : EReal => a * b) (Proof.at2_ix2 _ _ _ (i 0).isLt k.isLt) (Proof.at2_ix2 _ _ _ k.isLt (i 1).isLt)

end Cert.Kernel27Ideal.Product

namespace Cert.Reference27Ideal.Product

open Read Idealize.ShloMosaic
open Idealize.ShloMosaic.ValueIdx

/-- The reference's array, entry by entry. -/
theorem val_eq (a : S256x8320.Idx → EReal) (b : S8320x1024.Idx → EReal) :
    (val_main_v6 (F := Ideal) a b : S256x1024.Idx → EReal) = fun i => ∑ k : Fin 8320, a (ix2 (i 0) k) * b (ix2 k (i 1)) := by
  funext i
  rw [val_main_v6_apply, val_main_v5_apply]
  refine Finset.sum_congr rfl fun k _ => ?_
  rw [val_main_v4_apply, val_main_v2_apply, val_main_v1_apply]
  show b _ * a _ = a _ * b _
  rw [mul_comm]
  exact congrArg₂ (fun a b : EReal => a * b) (congrArg a (Proof.idx2_ext rfl rfl)) (congrArg b (Proof.idx2_ext rfl rfl))

end Cert.Reference27Ideal.Product

end
-- ==== Proof.Adamw.lean ====
/- The AdamW update: the kernel's three arrays are the reference's, element by element. -/
module

public import proofs.«01_k».proof.Proof.Real
public import proofs.«01_k».proof.Proof.Gen.Kernel30Ideal.Value
public import proofs.«01_k».proof.Proof.Gen.Reference30Ideal.Read

@[expose] public section

noncomputable section

namespace Cert.Proof

open Idealize.ShloMosaic Kernel30Ideal Reference30Ideal.Read

variable (w g m v : Kernel30Ideal.S4096x1408.Idx → Elt Ideal .f32)

theorem adamw_m : Value.G5 (F := Ideal) g m = val_main_v4 (F := Ideal) g m := by
  funext i
  rw [val_main_v4_apply, val_main_v1_apply, val_main_v0_apply, val_main_v3_apply, val_main_v2_apply]
  rfl

theorem adamw_v : Value.G6 (F := Ideal) g v = val_main_v10 (F := Ideal) g v := by
  funext i
  rw [val_main_v10_apply, val_main_v6_apply, val_main_v5_apply, val_main_v9_apply, val_main_v8_apply]
  rfl

theorem adamw_delta : Value.G4 (F := Ideal) g m v w = val_main_v23 (F := Ideal) w g m v := by
  funext i
  rw [val_main_v23_apply, val_main_v22_apply, val_main_v21_apply, val_main_v18_apply, val_main_v12_apply, val_main_v11_apply,
    val_main_v17_apply, val_main_v16_apply, val_main_v15_apply, val_main_v14_apply, val_main_v13_apply, val_main_v20_apply,
    val_main_v19_apply, ← adamw_m, ← adamw_v]
  rfl

end Cert.Proof

end
-- ==== Proof.SwigluFwd.lean ====
/- `silu(gate) · up` and its transpose: the kernel's two arrays are the reference's. -/
module

public import proofs.«01_k».proof.Proof.Gate
public import proofs.«01_k».proof.Proof.Gen.Kernel28Ideal.Value
public import proofs.«01_k».proof.Proof.Gen.Reference28Ideal.Read

@[expose] public section

noncomputable section

namespace Cert.Kernel28Ideal.Act

open Gen Reference28Ideal.Read Idealize.ShloMosaic Idealize.ShloMosaic.TcCoe Idealize.SL.Sem
open KernelIdeal.Gate (origin sig_spelt)

theorem ref (g u : S8320x2816.Idx → EReal) (i : S8320x2816.Idx) :
    val_main_v3 (F := Ideal) g u i = g i * Proof.sig (g i) * u i := by
  rw [val_main_v3_apply, val_main_v1_apply, val_main_call0_v5_apply, val_main_call0_v4_apply, val_main_call0_v3_apply,
    val_main_call0_v2_apply]
  show g i * Ideal.div (Ideal.ofBits .f32 0x3F800000#32) (Ideal.ofBits .f32 0x3F800000#32 + Ideal.exp (-g i)) * u i = _
  rw [Proof.bits_one]; rfl

theorem idx_facts : ∀ t : Fin cfg0.N, (∀ a : Fin 2, win0_0.index t a = win0_2.index t a ∧ win0_1.index t a = win0_2.index t a)
    ∧ win0_3.index t 0 = win0_2.index t 1 ∧ win0_3.index t 1 = win0_2.index t 0 :=
  (by decide +kernel : ∀ t : Fin grid0.N, _)

theorem onto : ∀ (p : Fin 13) (q : Fin 2), ∃ t : Fin cfg0.N, win0_2.index t 0 = p.val ∧ win0_2.index t 1 = q.val :=
  (by decide +kernel : ∀ (p : Fin 13) (q : Fin 2), ∃ t : Fin grid0.N, win0_2.index t 0 = p.val ∧ win0_2.index t 1 = q.val)

variable (m : (ℓ : Loc nD τ sig) → Buf (Elt Ideal) ℓ) (c : Dev nD) (t : Fin cfg0.N)

abbrev A0 : S8320x2816.Idx → EReal := m ((c : Thread nD τ).loc main_arg0)
abbrev A1 : S8320x2816.Idx → EReal := m ((c : Thread nD τ).loc main_arg1)
abbrev B0 : S640x1408.Idx → EReal := iblk m c 0 t
abbrev B1 : S640x1408.Idx → EReal := iblk m c 1 t

/-- An entry of the arguments' blocks, at the array index it stands for. -/
theorem blk (j : S640x1408.Idx) (i : S8320x2816.Idx) (h0 : (i 0).val = win0_2.index t 0 * 640 + 1 * (j 0).val)
    (h1 : (i 1).val = win0_2.index t 1 * 1408 + 1 * (j 1).val) : B0 m c t j = A0 m c i ∧ B1 m c t j = A1 m c i := by
  obtain ⟨e, _, _⟩ := idx_facts t
  constructor
  all_goals
    show m _ _ = m _ _
    congr 1; funext a; apply Fin.ext
  · match a with
    | ⟨0, _⟩ => show win0_0.index t 0 * 640 + 1 * (j 0).val = (i 0).val; rw [h0, (e 0).1]
    | ⟨1, _⟩ => show win0_0.index t 1 * 1408 + 1 * (j 1).val = (i 1).val; rw [h1, (e 1).1]
  · match a with
    | ⟨0, _⟩ => show win0_1.index t 0 * 640 + 1 * (j 0).val = (i 0).val; rw [h0, (e 0).2]
    | ⟨1, _⟩ => show win0_1.index t 1 * 1408 + 1 * (j 1).val = (i 1).val; rw [h1, (e 1).2]

theorem spelt (j : S640x1408.Idx) (i : S8320x2816.Idx) (h0 : (i 0).val = win0_2.index t 0 * 640 + 1 * (j 0).val)
    (h1 : (i 1).val = win0_2.index t 1 * 1408 + 1 * (j 1).val) :
    B0 m c t j * Ideal.div (Ideal.ofBits .f32 0x3F800000#32) (Ideal.ofBits .f32 0x3F800000#32
      + Ideal.exp (Ideal.ofBits .f32 0x00000000#32 - B0 m c t j)) * B1 m c t j = val_main_v3 (F := Ideal) (A0 m c) (A1 m c) i := by
  rw [ref, sig_spelt, (blk m c t j i h0 h1).1, (blk m c t j i h0 h1).2]

theorem final2 : (dats m 0 c).arrAt 2 cfg0.N = val_main_v4 (F := Ideal) (A0 m c) (A1 m c) :=
  (dats m 0 c).arrAt_eq_of_cover 2 _ (fun t _ => by
    rw [Value.flushed2]
    unfold out0_2
    rw [View.canon_unit_zero origin]
    simp only [View.ld_unit_zero (S := S640x1408) origin]
    funext j
    exact spelt m c t j _ rfl rfl) fun i => by
    have i0 : (i 0).val < 8320 := (i 0).isLt
    have i1 : (i 1).val < 2816 := (i 1).isLt
    obtain ⟨t, h0, h1⟩ := onto ⟨(i 0).val / 640, by omega⟩ ⟨(i 1).val / 1408, by omega⟩
    refine ⟨t, flush0_2 t, ?_⟩
    show i ∈ ((View.whole main_v0_0).slice (win0_2.rect t)).set
    rw [View.set_slice_whole, Rect.mem_set_unit]
    intro a
    match a with
    | ⟨0, _⟩ => show win0_2.index t 0 * 640 ≤ (i 0).val ∧ (i 0).val < win0_2.index t 0 * 640 + 640; rw [h0]; dsimp only; omega
    | ⟨1, _⟩ => show win0_2.index t 1 * 1408 ≤ (i 1).val ∧ (i 1).val < win0_2.index t 1 * 1408 + 1408; rw [h1]; dsimp only; omega

theorem final3 : (dats m 0 c).arrAt 3 cfg0.N = val_main_v6 (F := Ideal) (A0 m c) (A1 m c) :=
  (dats m 0 c).arrAt_eq_of_cover 3 _ (fun t _ => by
    rw [Value.flushed3]
    unfold out0_3
    simp only [View.ld_unit_zero (S := S640x1408) origin]
    obtain ⟨_, e0, e1⟩ := idx_facts t
    funext j
    refine (Value.canon3_eq (F := Ideal) (B0 m c t) (B1 m c t) j).trans ?_
    rw [View.read_apply, val_main_v6_apply, val_main_v5_apply]
    exact spelt m c t (Value.ix3_0 j) _ (congrArg (· * 640 + 1 * (j 1).val) e1) (congrArg (· * 1408 + 1 * (j 0).val) e0)) fun i => by
    have i0 : (i 0).val < 2816 := (i 0).isLt
    have i1 : (i 1).val < 8320 := (i 1).isLt
    obtain ⟨t, h0, h1⟩ := onto ⟨(i 1).val / 640, by omega⟩ ⟨(i 0).val / 1408, by omega⟩
    refine ⟨t, flush0_3 t, ?_⟩
    show i ∈ ((View.whole main_v0_1).slice (win0_3.rect t)).set
    rw [View.set_slice_whole, Rect.mem_set_unit]
    intro a
    match a with
    | ⟨0, _⟩ => show win0_3.index t 0 * 1408 ≤ (i 0).val ∧ (i 0).val < win0_3.index t 0 * 1408 + 1408; rw [(idx_facts t).2.1, h1]; dsimp only; omega
    | ⟨1, _⟩ => show win0_3.index t 1 * 640 ≤ (i 1).val ∧ (i 1).val < win0_3.index t 1 * 640 + 640; rw [(idx_facts t).2.2, h0]; dsimp only; omega

end Cert.Kernel28Ideal.Act

end
-- ==== Proof.MergeFwd.lean ====
/- `sigmoid(ga) · ya + sigmoid(gb) · yb` and its transpose: the kernel's two arrays are the reference's. -/
module

public import proofs.«01_k».proof.Proof.Gate
public import proofs.«01_k».proof.Proof.Gen.Kernel29Ideal.Value
public import proofs.«01_k».proof.Proof.Gen.Reference29Ideal.Read

@[expose] public section

noncomputable section

namespace Cert.Kernel29Ideal.Merge

open Gen Reference29Ideal.Read Idealize.ShloMosaic Idealize.ShloMosaic.TcCoe Idealize.SL.Sem
open KernelIdeal.Gate (origin sig_spelt zcol)

theorem ref (ya yb : S8320x1024.Idx → EReal) (z : S8320x5120.Idx → EReal) (i : S8320x1024.Idx) :
    val_main_v18 (F := Ideal) ya yb z i
      = Proof.sig (z (zcol 1024 (by omega) i)) * ya i + Proof.sig (z (zcol 2048 (by omega) i)) * yb i := by
  rw [val_main_v18_apply, val_main_v9_apply, val_main_v7_apply, val_main_v6_apply, val_main_v5_apply, val_main_v4_apply,
    val_main_v3_apply, val_main_v2_apply, val_main_v0_apply, val_main_v17_apply, val_main_v15_apply, val_main_v14_apply,
    val_main_v13_apply, val_main_v12_apply, val_main_v11_apply, val_main_v10_apply, val_main_v1_apply]
  show Ideal.div (Ideal.ofBits .f32 0x3F800000#32) (Ideal.ofBits .f32 0x3F800000#32 + Ideal.exp (-z (zcol 1024 (by omega) i))) * ya i
    + Ideal.div (Ideal.ofBits .f32 0x3F800000#32) (Ideal.ofBits .f32 0x3F800000#32 + Ideal.exp (-z (zcol 2048 (by omega) i))) * yb i = _
  rw [Proof.bits_one]; rfl

theorem idx_facts : ∀ t : Fin cfg0.N, (∀ a : Fin 2, win0_0.index t a = win0_4.index t a ∧ win0_1.index t a = win0_4.index t a)
    ∧ win0_2.index t 0 = win0_4.index t 0 ∧ win0_2.index t 1 = win0_4.index t 1 + 2
    ∧ win0_3.index t 0 = win0_4.index t 0 ∧ win0_3.index t 1 = win0_4.index t 1 + 4
    ∧ win0_5.index t 0 = win0_4.index t 1 ∧ win0_5.index t 1 = win0_4.index t 0 :=
  (by decide +kernel : ∀ t : Fin grid0.N, _)

theorem onto : ∀ (p : Fin 13) (q : Fin 2), ∃ t : Fin cfg0.N, win0_4.index t 0 = p.val ∧ win0_4.index t 1 = q.val :=
  (by decide +kernel : ∀ (p : Fin 13) (q : Fin 2), ∃ t : Fin grid0.N, win0_4.index t 0 = p.val ∧ win0_4.index t 1 = q.val)

variable (m : (ℓ : Loc nD τ sig) → Buf (Elt Ideal) ℓ) (c : Dev nD) (t : Fin cfg0.N)

abbrev A0 : S8320x1024.Idx → EReal := m ((c : Thread nD τ).loc main_arg0)
abbrev A1 : S8320x1024.Idx → EReal := m ((c : Thread nD τ).loc main_arg1)
abbrev A2 : S8320x5120.Idx → EReal := m ((c : Thread nD τ).loc main_arg2)
abbrev B0 : S640x512.Idx → EReal := iblk m c 0 t
abbrev B1 : S640x512.Idx → EReal := iblk m c 1 t
abbrev B2 : S640x512.Idx → EReal := iblk m c 2 t
abbrev B3 : S640x512.Idx → EReal := iblk m c 3 t

/-- The body's value at an entry of the blocks, at the array index the entry stands for. -/
theorem spelt (j : S640x512.Idx) (i : S8320x1024.Idx) (h0 : (i 0).val = win0_4.index t 0 * 640 + 1 * (j 0).val)
    (h1 : (i 1).val = win0_4.index t 1 * 512 + 1 * (j 1).val) :
    Ideal.div (Ideal.ofBits .f32 0x3F800000#32) (Ideal.ofBits .f32 0x3F800000#32
      + Ideal.exp (Ideal.ofBits .f32 0x00000000#32 - B2 m c t j)) * B0 m c t j
    + Ideal.div (Ideal.ofBits .f32 0x3F800000#32) (Ideal.ofBits .f32 0x3F800000#32
      + Ideal.exp (Ideal.ofBits .f32 0x00000000#32 - B3 m c t j)) * B1 m c t j
    = val_main_v18 (F := Ideal) (A0 m c) (A1 m c) (A2 m c) i := by
  obtain ⟨e, e2, e2', e3, e3', _⟩ := idx_facts t
  rw [ref, sig_spelt, sig_spelt]
  refine congrArg₂ _ (congrArg₂ (fun a b : EReal => Proof.sig a * b) ?_ ?_) (congrArg₂ (fun a b : EReal => Proof.sig a * b) ?_ ?_)
  all_goals
    show m _ _ = m _ _
    congr 1; funext a; apply Fin.ext
  · match a with
    | ⟨0, _⟩ => show win0_2.index t 0 * 640 + 1 * (j 0).val = (i 0).val; omega
    | ⟨1, _⟩ => show win0_2.index t 1 * 512 + 1 * (j 1).val = 1024 + (i 1).val; omega
  · match a with
    | ⟨0, _⟩ => show win0_0.index t 0 * 640 + 1 * (j 0).val = (i 0).val; rw [h0, (e 0).1]
    | ⟨1, _⟩ => show win0_0.index t 1 * 512 + 1 * (j 1).val = (i 1).val; rw [h1, (e 1).1]
  · match a with
    | ⟨0, _⟩ => show win0_3.index t 0 * 640 + 1 * (j 0).val = (i 0).val; omega
    | ⟨1, _⟩ => show win0_3.index t 1 * 512 + 1 * (j 1).val = 2048 + (i 1).val; omega
  · match a with
    | ⟨0, _⟩ => show win0_1.index t 0 * 640 + 1 * (j 0).val = (i 0).val; rw [h0, (e 0).2]
    | ⟨1, _⟩ => show win0_1.index t 1 * 512 + 1 * (j 1).val = (i 1).val; rw [h1, (e 1).2]

theorem final4 : (dats m 0 c).arrAt 4 cfg0.N = val_main_v19 (F := Ideal) (A0 m c) (A1 m c) (A2 m c) :=
  (dats m 0 c).arrAt_eq_of_cover 4 _ (fun t _ => by
    rw [Value.flushed4]
    unfold out0_4
    rw [View.canon_unit_zero origin]
    simp only [View.ld_unit_zero (S := S640x512) origin]
    funext j
    exact spelt m c t j _ rfl rfl) fun i => by
    have i0 : (i 0).val < 8320 := (i 0).isLt
    have i1 : (i 1).val < 1024 := (i 1).isLt
    obtain ⟨t, h0, h1⟩ := onto ⟨(i 0).val / 640, by omega⟩ ⟨(i 1).val / 512, by omega⟩
    refine ⟨t, flush0_4 t, ?_⟩
    show i ∈ ((View.whole main_v0_0).slice (win0_4.rect t)).set
    rw [View.set_slice_whole, Rect.mem_set_unit]
    intro a
    match a with
    | ⟨0, _⟩ => show win0_4.index t 0 * 640 ≤ (i 0).val ∧ (i 0).val < win0_4.index t 0 * 640 + 640; rw [h0]; dsimp only; omega
    | ⟨1, _⟩ => show win0_4.index t 1 * 512 ≤ (i 1).val ∧ (i 1).val < win0_4.index t 1 * 512 + 512; rw [h1]; dsimp only; omega

theorem final5 : (dats m 0 c).arrAt 5 cfg0.N = val_main_v21 (F := Ideal) (A0 m c) (A1 m c) (A2 m c) :=
  (dats m 0 c).arrAt_eq_of_cover 5 _ (fun t _ => by
    rw [Value.flushed5]
    unfold out0_5
    simp only [View.ld_unit_zero (S := S640x512) origin]
    obtain ⟨_, _, _, _, _, e0, e1⟩ := idx_facts t
    funext j
    refine (Value.canon5_eq (F := Ideal) (B2 m c t) (B0 m c t) (B3 m c t) (B1 m c t) j).trans ?_
    rw [View.read_apply, val_main_v21_apply, val_main_v20_apply]
    exact spelt m c t (Value.ix5_0 j) _ (congrArg (· * 640 + 1 * (j 1).val) e1) (congrArg (· * 512 + 1 * (j 0).val) e0)) fun i => by
    have i0 : (i 0).val < 1024 := (i 0).isLt
    have i1 : (i 1).val < 8320 := (i 1).isLt
    obtain ⟨t, h0, h1⟩ := onto ⟨(i 1).val / 640, by omega⟩ ⟨(i 0).val / 512, by omega⟩
    refine ⟨t, flush0_5 t, ?_⟩
    obtain ⟨_, _, _, _, _, e0, e1⟩ := idx_facts t
    show i ∈ ((View.whole main_v0_1).slice (win0_5.rect t)).set
    rw [View.set_slice_whole, Rect.mem_set_unit]
    intro a
    match a with
    | ⟨0, _⟩ => show win0_5.index t 0 * 512 ≤ (i 0).val ∧ (i 0).val < win0_5.index t 0 * 512 + 512; rw [e0, h1]; dsimp only; omega
    | ⟨1, _⟩ => show win0_5.index t 1 * 640 ≤ (i 1).val ∧ (i 1).val < win0_5.index t 1 * 640 + 640; rw [e1, h0]; dsimp only; omega

end Cert.Kernel29Ideal.Merge

end
-- ==== Proof.NormFwd.lean ====
/- The root-mean-square norm and its transpose: the kernel's two arrays are the reference's. -/
module

public import proofs.«01_k».proof.Proof.Gate
public import proofs.«01_k».proof.Proof.Gen.Kernel31Ideal.Value
public import proofs.«01_k».proof.Proof.Gen.Reference31Ideal.Read

@[expose] public section

noncomputable section

namespace Cert.Kernel31Ideal.Norm

open Gen Reference31Ideal.Read Idealize.ShloMosaic Idealize.ShloMosaic.TcCoe Idealize.SL.Sem
open KernelIdeal.Gate (origin)

/-- Entry `(r, k)` of the argument. -/
abbrev at_ (i : S8320x1024.Idx) (k : Fin 1024) : S8320x1024.Idx := fun a => match a with
  | ⟨0, _⟩ => ⟨(i 0).val, (i 0).isLt⟩
  | ⟨1, _⟩ => ⟨k.val, k.isLt⟩

def norm (x : EReal) (row : Fin 1024 → EReal) (w : EReal) : EReal :=
  x * Ideal.rsqrt (Ideal.div (∑ k, row k * row k) (Ideal.ofBits .f32 0x44800000#32) + Ideal.ofBits .f32 0x358637BD#32) * w

theorem ref (x : S8320x1024.Idx → EReal) (w : S1024.Idx → EReal) (i : S8320x1024.Idx) :
    val_main_v12 (F := Ideal) x w i = norm (x i) (fun k => x (at_ i k)) (w (idx_main_v10 (idx_main_v11 i))) := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  show x i * Ideal.rsqrt (Ideal.div (Ideal.ofBits .f32 0x00000000#32 + ∑ k : Fin 1024, x (at_ i k) * x (at_ i k)) _ + _) * _ = _
  rw [Proof.bits_zero, zero_add]; rfl

theorem idx_facts : ∀ t : Fin cfg0.N, (∀ a : Fin 2, win0_0.index t a = win0_2.index t a ∧ win0_1.index t a = 0)
    ∧ win0_2.index t 1 = 0 ∧ win0_3.index t 0 = 0 ∧ win0_3.index t 1 = win0_2.index t 0 :=
  (by decide +kernel : ∀ t : Fin grid0.N, _)

theorem onto : ∀ p : Fin 13, ∃ t : Fin cfg0.N, win0_2.index t 0 = p.val :=
  (by decide +kernel : ∀ p : Fin 13, ∃ t : Fin grid0.N, win0_2.index t 0 = p.val)

variable (m : (ℓ : Loc nD τ sig) → Buf (Elt Ideal) ℓ) (c : Dev nD) (t : Fin cfg0.N)

abbrev A0 : S8320x1024.Idx → EReal := m ((c : Thread nD τ).loc main_arg0)
abbrev A1 : S1024.Idx → EReal := m ((c : Thread nD τ).loc main_arg1)
abbrev B0 : S640x1024.Idx → EReal := iblk m c 0 t
abbrev B1 : S1x1024.Idx → EReal := iblk m c 1 t

theorem blk (j : S640x1024.Idx) (i : S8320x1024.Idx) (h0 : (i 0).val = win0_2.index t 0 * 640 + 1 * (j 0).val)
    (h1 : (i 1).val = (j 1).val) : B0 m c t j = A0 m c i := by
  obtain ⟨e, e1, _⟩ := idx_facts t
  show V m c main_arg0 _ = _
  rw [V_main_arg0]
  refine congrArg (A0 m c) (funext fun a => Fin.ext ?_)
  match a with
  | ⟨0, _⟩ => show win0_0.index t 0 * 640 + 1 * (j 0).val = (i 0).val; rw [h0, (e 0).1]
  | ⟨1, _⟩ => show win0_0.index t 1 * 1024 + 1 * (j 1).val = (i 1).val; rw [h1, (e 1).1, e1]; omega

theorem row (w : S1024.Idx → EReal) (j : S1x1024.Idx) (k : S1024.Idx) (h : (k 0).val = (j 1).val) :
    shapeCast S1x1024 w shapeCasts_S1024_S1x1024 j = w k := by
  refine shapeCast_apply _ _ _ k ((Shape.rowMajor_val_one k).trans (h.trans ?_))
  have h0 : (j 0).val < 1 := (j 0).isLt
  refine (Nat.zero_add _).symm.trans (Eq.trans ?_ (Shape.rowMajor_val_two j).symm)
  rw [Nat.lt_one_iff.mp h0, Nat.zero_mul]

theorem weight (j : S1x1024.Idx) (k : S1024.Idx) (h : (k 0).val = (j 1).val) : B1 m c t j = A1 m c k := by
  refine Eq.trans ?_ (row (A1 m c) j k h)
  show V m c main_v0 _ = V m c main_v0 j
  refine congrArg (V m c main_v0) (funext fun a => Fin.ext ?_)
  match a with
  | ⟨0, _⟩ => show win0_1.index t 0 * 1 + 1 * (j 0).val = (j 0).val; rw [((idx_facts t).1 0).2]; omega
  | ⟨1, _⟩ => show win0_1.index t 1 * 1024 + 1 * (j 1).val = (j 1).val; rw [((idx_facts t).1 1).2]; omega

/-- The body's value at an entry of the blocks, at the array index the entry stands for. -/
theorem spelt (j : S640x1024.Idx) (r : S640.Idx) (q : S1x1024.Idx) (i : S8320x1024.Idx)
    (h0 : (i 0).val = win0_2.index t 0 * 640 + 1 * (j 0).val) (h1 : (i 1).val = (j 1).val) (hr : (r 0).val = (j 0).val)
    (hq : (q 1).val = (j 1).val) :
    B0 m c t j * Ideal.rsqrt (Ideal.div (multiReduction (F := Ideal) (φ := .f32) .add [1] S640 (mulf (F := Ideal) (φ := .f32) (B0 m c t) (B0 m c t)) 0x00000000#32 reduces_S640x1024_S640 (.inl rfl) rfl r)
      (Ideal.ofBits .f32 0x44800000#32) + Ideal.ofBits .f32 0x358637BD#32) * B1 m c t q
    = val_main_v12 (F := Ideal) (A0 m c) (A1 m c) i := by
  rw [ref, blk m c t j i h0 h1, weight m c t q (idx_main_v10 (idx_main_v11 i)) (h1.trans hq.symm)]
  refine congrArg (fun s : EReal => A0 m c i * Ideal.rsqrt (Ideal.div s _ + _) * _)
    ((Ideal.multiReduction_add_single _ _ _ _ _ r).trans (Finset.sum_congr rfl fun k _ => ?_))
  have e := blk m c t (reduces_S640x1024_S640.lift r k) (at_ i k) (by show (i 0).val = _ * _ + 1 * (r 0).val; rw [h0, hr]) rfl
  exact congrArg₂ (fun a b : EReal => a * b) e e

theorem final2 : (dats m 0 c).arrAt 2 cfg0.N = val_main_v13 (F := Ideal) (A0 m c) (A1 m c) :=
  (dats m 0 c).arrAt_eq_of_cover 2 _ (fun t _ => by
    rw [Value.flushed2]
    unfold out0_2
    simp only [View.ld_unit_zero (S := S640x1024) origin, View.ld_unit_zero (S := S1x1024) origin]
    have e0 := (idx_facts t).2.1
    funext j
    refine (Value.canon2_eq (F := Ideal) (B0 m c t) (B1 m c t) j).trans ?_
    rw [View.read_apply, val_main_v13_apply]
    refine spelt m c t (Value.ix2_0 j) (Value.ix2_1 j) (Value.ix2_2 j) _ ?_ ?_ rfl rfl
    · rfl
    show win0_2.index t 1 * 1024 + 1 * (j 1).val = (j 1).val
    rw [e0]; omega) fun i => by
    have i0 : (i 0).val < 8320 := (i 0).isLt
    have i1 : (i 1).val < 1024 := (i 1).isLt
    obtain ⟨t, h0⟩ := onto ⟨(i 0).val / 640, by omega⟩
    refine ⟨t, flush0_2 t, ?_⟩
    show i ∈ ((View.whole main_v1_0).slice (win0_2.rect t)).set
    rw [View.set_slice_whole, Rect.mem_set_unit]
    intro a
    match a with
    | ⟨0, _⟩ => show win0_2.index t 0 * 640 ≤ (i 0).val ∧ (i 0).val < win0_2.index t 0 * 640 + 640; rw [h0]; dsimp only; omega
    | ⟨1, _⟩ => show win0_2.index t 1 * 1024 ≤ (i 1).val ∧ (i 1).val < win0_2.index t 1 * 1024 + 1024; rw [(idx_facts t).2.1]; omega

theorem final3 : (dats m 0 c).arrAt 3 cfg0.N = val_main_v15 (F := Ideal) (A0 m c) (A1 m c) :=
  (dats m 0 c).arrAt_eq_of_cover 3 _ (fun t _ => by
    rw [Value.flushed3]
    unfold out0_3
    simp only [View.ld_unit_zero (S := S640x1024) origin, View.ld_unit_zero (S := S1x1024) origin]
    obtain ⟨_, _, e0, e1⟩ := idx_facts t
    funext j
    refine (Value.canon3_eq (F := Ideal) (B0 m c t) (B1 m c t) j).trans ?_
    rw [View.read_apply, val_main_v15_apply, val_main_v14_apply]
    refine spelt m c t (Value.ix3_0 j) (Value.ix3_1 j) (Value.ix3_2 j) _ (congrArg (· * 640 + 1 * (j 1).val) e1) ?_ rfl rfl
    show win0_3.index t 0 * 1024 + 1 * (j 0).val = (j 0).val
    rw [e0]; omega) fun i => by
    have i0 : (i 0).val < 1024 := (i 0).isLt
    have i1 : (i 1).val < 8320 := (i 1).isLt
    obtain ⟨t, h0⟩ := onto ⟨(i 1).val / 640, by omega⟩
    refine ⟨t, flush0_3 t, ?_⟩
    obtain ⟨_, _, e0, e1⟩ := idx_facts t
    show i ∈ ((View.whole main_v1_1).slice (win0_3.rect t)).set
    rw [View.set_slice_whole, Rect.mem_set_unit]
    intro a
    match a with
    | ⟨0, _⟩ => show win0_3.index t 0 * 1024 ≤ (i 0).val ∧ (i 0).val < win0_3.index t 0 * 1024 + 1024; rw [e0]; omega
    | ⟨1, _⟩ => show win0_3.index t 1 * 640 ≤ (i 1).val ∧ (i 1).val < win0_3.index t 1 * 640 + 640; rw [e1, h0]; dsimp only; omega

end Cert.Kernel31Ideal.Norm

end
-- ==== Proof.AttnTables.lean ====
module

public import proofs.«01_k».proof.Proof.Gen.Kernel9Ideal.Launch
public import proofs.«01_k».proof.Proof.Gen.Kernel9Ideal.Skeleton
public import Idealize.ShloMosaic.Lib.Pipeline.FrameBody
public import Idealize.ShloMosaic.Lib.Ring
public import Idealize.ShloMosaic.Lib.Tactic
public import Idealize.ShloMosaic.Lib.WordCmp

set_option maxRecDepth 16384
@[expose] public section
noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A table's points-to at half share. -/
abbrev tbPt (c : Dev nD) (M : Memref sig .tc .smem S91 .i32) (f : Buf (Elt F) (M.view.loc (c : Thread nD τ))) : sProp 𝕄 :=
  M.view.loc (c : Thread nD τ) ↦{fullShare.right} f

/-- The word of a table at the grid point. -/
def wordAt (c : Dev nD) (i : grid0.Coords) (M : Memref sig .tc .smem S91 .i32) (f : Buf (Elt F) (M.view.loc (c : Thread nD τ))) : Elt F .i32 :=
  (M.access (Rect.unit (s := S91) (k0_off1 i) S1.size (k0_off1_inb i))).read (Elt F) f (Shape.Idx.first (numel1_S1.symm ▸ Nat.one_pos))

/-- A scalar load of a table's word, continued at a name for the word. -/
theorem wp_word (c : Dev nD) (i : grid0.Coords) (M : Memref sig .tc .smem S91 .i32) (f : Buf (Elt F) (M.view.loc (c : Thread nD τ))) (w : Elt F .i32) (hw : w = wordAt c i M f)
    {h : EltTy.i32.packing = 1} {β : Type} {E : Set ℕ} {K : Elt F .i32 → Prog (TpuEff nD τ sig (Elt F) Λ₀ .tc) β} {Q : β → sProp 𝕄} :
    tbPt c M f ⊢ iprop((tbPt c M f -∗ wp frame (wpE (defs₀ (F := F)) Variants.none (c : Thread nD τ) none) E (K w) Q)
      -∗ wp frame (wpE (defs₀ (F := F)) Variants.none (c : Thread nD τ) none) E (smemLoad M (Rect.unit (s := S91) (k0_off1 i) S1.size (k0_off1_inb i)) numel1_S1 h >>= K) Q) := by
  subst hw
  exact wp_smemLoadElt Variants.none (c : Thread nD τ) none E (m := M) (r := Rect.unit (s := S91) (k0_off1 i) S1.size (k0_off1_inb i)) (x := Shape.Idx.first (numel1_S1.symm ▸ Nat.one_pos)) (S := Finset.univ) (hw := View.loads_smem_one h numel1_S1) (Finset.subset_univ _)

/-- The two tables' contents: the query blocks and the key blocks of the grid's steps. -/
def tbl : pre0.Contents (Elt F) := fun
  | 0 => fun i => lit0 (S91.rowMajor i)
  | 1 => fun i => lit1 (S91.rowMajor i)
  | ⟨_ + 2, h⟩ => absurd h (Nat.not_lt.2 (Nat.le_add_left _ _))

/-- Every block the tables name is inside its array. -/
theorem ok : ok0 (F := F) tbl := of_decide_eq_true (by sl_kernel_rfl)

/-- The tables as admissible contents, and the pipeline at them. -/
abbrev adm : (pcfg0 (F := F)).Adm := ⟨tbl, ok⟩
abbrev cfgM : Pipeline.Cfg sig Λ₀ := cfg0 (F := F) adm

abbrev tbM0_0 : Memref sig .tc .smem S91 .i32 := Memref.whole main_c
abbrev tbM0_1 : Memref sig .tc .smem S91 .i32 := Memref.whole main_c_0

theorem wordAt_0 (c : Dev nD) (i : grid0.Coords) : wordAt (F := F) c i tbM0_0 (tbl 0) = lit0 (i 1) := by
  unfold wordAt
  have h : ∀ i : grid0.Coords, ((tbM0_0.access (Rect.unit (s := S91) (k0_off1 i) S1.size (k0_off1_inb i))).read (Elt F) (tbl 0) (Shape.Idx.first (numel1_S1.symm ▸ Nat.one_pos)) : BitVec 32) = lit0 (i 1) :=
    of_decide_eq_true (by sl_kernel_rfl)
  exact h i
theorem wordAt_1 (c : Dev nD) (i : grid0.Coords) : wordAt (F := F) c i tbM0_1 (tbl 1) = lit1 (i 1) := by
  unfold wordAt
  have h : ∀ i : grid0.Coords, ((tbM0_1.access (Rect.unit (s := S91) (k0_off1 i) S1.size (k0_off1_inb i))).read (Elt F) (tbl 1) (Shape.Idx.first (numel1_S1.symm ▸ Nat.one_pos)) : BitVec 32) = lit1 (i 1) :=
    of_decide_eq_true (by sl_kernel_rfl)
  exact h i

/-- The first condition of the body: the step is the key block's first. -/
abbrev k0_cond1 (v1 v3 : BitVec 32) : BitVec 1 := Scalar.cmpi .ne (Scalar.extui (Scalar.cmpi .eq v1 v3) : BitVec 32) 0#32

/-- The seven ways the body's conditions fall out. -/
abbrev CaseA (v1 v3 : BitVec 32) : Prop := k0_cond1 v1 v3 = 1#1 ∧ ¬ k0_cond2 v1 v3 = 1#1 ∧ ¬ k0_cond5 v1 v3 = 1#1 ∧ k0_cond8 v1 v3 = 1#1 ∧ k0_cond9 v3 = 1#1 ∧ ¬ k0_cond10 v3 = 1#1 ∧ ¬ k0_cond11 v1 = 1#1
abbrev CaseB (v1 v3 : BitVec 32) : Prop := ¬ k0_cond1 v1 v3 = 1#1 ∧ ¬ k0_cond2 v1 v3 = 1#1 ∧ k0_cond5 v1 v3 = 1#1 ∧ k0_cond6 v3 = 1#1 ∧ ¬ k0_cond7 v3 = 1#1 ∧ ¬ k0_cond8 v1 v3 = 1#1 ∧ ¬ k0_cond11 v1 = 1#1
abbrev CaseC (v1 v3 : BitVec 32) : Prop := ¬ k0_cond1 v1 v3 = 1#1 ∧ ¬ k0_cond2 v1 v3 = 1#1 ∧ k0_cond5 v1 v3 = 1#1 ∧ k0_cond6 v3 = 1#1 ∧ ¬ k0_cond7 v3 = 1#1 ∧ ¬ k0_cond8 v1 v3 = 1#1 ∧ k0_cond11 v1 = 1#1
abbrev CaseD (v1 v3 : BitVec 32) : Prop := k0_cond1 v1 v3 = 1#1 ∧ ¬ k0_cond2 v1 v3 = 1#1 ∧ ¬ k0_cond5 v1 v3 = 1#1 ∧ k0_cond8 v1 v3 = 1#1 ∧ ¬ k0_cond9 v3 = 1#1 ∧ k0_cond10 v3 = 1#1 ∧ ¬ k0_cond11 v1 = 1#1
abbrev CaseE (v1 v3 : BitVec 32) : Prop := k0_cond1 v1 v3 = 1#1 ∧ ¬ k0_cond2 v1 v3 = 1#1 ∧ ¬ k0_cond5 v1 v3 = 1#1 ∧ k0_cond8 v1 v3 = 1#1 ∧ ¬ k0_cond9 v3 = 1#1 ∧ k0_cond10 v3 = 1#1 ∧ k0_cond11 v1 = 1#1
abbrev CaseG (v1 v3 : BitVec 32) : Prop := ¬ k0_cond1 v1 v3 = 1#1 ∧ k0_cond2 v1 v3 = 1#1 ∧ ¬ k0_cond3 v3 = 1#1 ∧ k0_cond4 v3 = 1#1 ∧ ¬ k0_cond5 v1 v3 = 1#1 ∧ ¬ k0_cond8 v1 v3 = 1#1 ∧ ¬ k0_cond11 v1 = 1#1
abbrev CaseH (v1 v3 : BitVec 32) : Prop := ¬ k0_cond1 v1 v3 = 1#1 ∧ k0_cond2 v1 v3 = 1#1 ∧ ¬ k0_cond3 v3 = 1#1 ∧ k0_cond4 v3 = 1#1 ∧ ¬ k0_cond5 v1 v3 = 1#1 ∧ ¬ k0_cond8 v1 v3 = 1#1 ∧ k0_cond11 v1 = 1#1

theorem chk_at : ∀ s : Fin 91, k0_chk1 (lit0 s) (lit1 s) := by decide +kernel
/-- Every step is one of the seven. -/
theorem cases_at : ∀ s : Fin 91, CaseA (lit0 s) (lit1 s) ∨ CaseB (lit0 s) (lit1 s) ∨ CaseC (lit0 s) (lit1 s) ∨ CaseD (lit0 s) (lit1 s) ∨ CaseE (lit0 s) (lit1 s) ∨ CaseG (lit0 s) (lit1 s) ∨ CaseH (lit0 s) (lit1 s) := by
  decide +kernel

end Cert.Kernel9Ideal.Gen

end
-- ==== Proof.AttnRun.lean ====
module

public import proofs.«01_k».proof.Proof.AttnTables

set_option maxRecDepth 16384
@[expose] public section
noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (a2 : Memref sig .tc .smem S91 .i32) (h2 : a2.IsWhole) (a3 : Memref sig .tc .smem S91 .i32) (h3 : a3.IsWhole)
    (a4 : Memref sig .tc .vmem S640x256 .bf16) (h4 : a4.IsWhole) (a5 : Memref sig .tc .vmem S640x256 .bf16) (h5 : a5.IsWhole) (a6 : Memref sig .tc .vmem S640x256 .bf16) (h6 : a6.IsWhole) (a7 : Memref sig .tc .vmem S640x256 .f32) (h7 : a7.IsWhole) (a8 : Memref sig .tc .vmem S640x256 .f32) (h8 : a8.IsWhole) (a9 : Memref sig .tc .vmem S640x256 .f32) (h9 : a9.IsWhole) (a10 : Memref sig .tc .vmem S1x640x640 .f32) (h10 : a10.IsWhole) (a11 : Memref sig .tc .vmem S1x640 .f32) (h11 : a11.IsWhole) (a12 : Memref sig .tc .vmem S8320x256 .f32) (h12 : a12.IsWhole) (a13 : Memref sig .tc .vmem S640x256 .f32) (h13 : a13.IsWhole) (a14 : Memref sig .tc .vmem S640x256 .f32) (h14 : a14.IsWhole) (a15 : Memref sig .tc .vmem S640x256 .f32) (h15 : a15.IsWhole) (a16 : Memref sig .tc .vmem S640x256 .f32) (h16 : a16.IsWhole)
    (t2 : Buf (Elt F) (a2.view.loc (c : Thread nD τ))) (t3 : Buf (Elt F) (a3.view.loc (c : Thread nD τ)))
    (v1 v3 : Elt F .i32) (hv1 : v1 = wordAt c i a2 t2) (hv3 : v3 = wordAt c i a3 t3) (hchk : k0_chk1 v1 v3)

set_option pp.maxSteps 1500 in
set_option maxHeartbeats 4000000 in
/-- The body run at the first step of the first key block: what its stores leave in each written buffer, as pieces (last first), with the proof that the body runs to them. -/
noncomputable def runA
    (hc1 : Scalar.cmpi .ne (Scalar.extui (Scalar.cmpi .eq v1 v3)) 0#32 = 1#1) (hc2 : ¬ k0_cond2 v1 v3 = 1#1) (hc5 : ¬ k0_cond5 v1 v3 = 1#1) (hc8 : k0_cond8 v1 v3 = 1#1) (hc9 : k0_cond9 v3 = 1#1) (hc10 : ¬ k0_cond10 v3 = 1#1) (hc11 : ¬ k0_cond11 v1 = 1#1)
    (x0 x1 x2 : Vec F S640x256 .bf16) (x3 x4 x5 : Vec F S640x256 .f32) (x6 : Vec F S1x640x640 .f32) (x7 : Vec F S1x640 .f32) (y8 : Vec F S8320x256 .f32) (xs0 xs1 : Vec F S640x256 .f32) :
    Σ' (L8 : List (View.Piece (Elt F) S8320x256 .f32)) (LS0 : List (View.Piece (Elt F) S640x256 .f32)), { LS1 : List (View.Piece (Elt F) S640x256 .f32) //
      ∀ (E : Set ℕ) (K : PUnit → sProp 𝕄),
        iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare y8 ∗ owns (c : Thread nD τ) a15 fullShare xs0 ∗ owns (c : Thread nD τ) a16 fullShare xs1
            ∗ (iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare (a12.view.read (Elt F) (a12.view.writes (Elt F) (h12.unread y8) L8)) ∗ owns (c : Thread nD τ) a15 fullShare (a15.view.read (Elt F) (a15.view.writes (Elt F) (h15.unread xs0) LS0)) ∗ owns (c : Thread nD τ) a16 fullShare (a16.view.read (Elt F) (a16.view.writes (Elt F) (h16.unread xs1) LS1))) -∗ K ⟨⟩))
          ⊢ wp frame (wpE (defs₀ (F := F)) Variants.none c none) E (cc0_dattn i a2 h2 a3 h3 a4 h4 a5 h5 a6 h6 a7 h7 a8 h8 a9 h9 a10 h10 a11 h11 a12 h12 a13 h13 a14 h14 a15 h15 a16 h16) K } := by
  refine ⟨?_, ?_, ?_, fun E K => ?run⟩
  case run =>
    rw [cc0_dattn_eq_skeleton]; unfold cc0_dattn_skel
    rw [k0_part1_eq_skeleton, k0_part2_eq_skeleton, k0_part3_eq_skeleton, k0_part4_eq_skeleton, k0_part5_eq_skeleton, k0_part6_eq_skeleton]
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩, Hk⟩
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h15.eq_unread hf15
    obtain rfl := h16.eq_unread hf16
    iapply (wp_word c i a2 t2 v1 hv1) $$ HT2
    iintro HT2
    iapply (wp_word c i a3 t3 v3 hv3) $$ HT3
    iintro HT3
    sl_exec (disch := first | sl_exact hchk | sl_exact hc1 | sl_exact hc2 | sl_exact hc5 | sl_exact hc8 | sl_exact hc9 | sl_exact hc10 | sl_exact hc11)
    sl_step
    iapply Hk
    isplitl [HT2]; · iexact HT2
    isplitl [HT3]; · iexact HT3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; swap; · iexact H12
      ipureintro; rfl
    isplitl [H15]
    · iexists _; isplitr; swap; · iexact H15
      ipureintro; rfl
    iexists _; isplitr; swap; · iexact H16
    ipureintro; rfl

set_option pp.maxSteps 1500 in
set_option maxHeartbeats 4000000 in
/-- The body run at a later step of the first key block: what its stores leave in each written buffer, as pieces (last first), with the proof that the body runs to them. -/
noncomputable def runB
    (hc1 : ¬ Scalar.cmpi .ne (Scalar.extui (Scalar.cmpi .eq v1 v3)) 0#32 = 1#1) (hc2 : ¬ k0_cond2 v1 v3 = 1#1) (hc5 : k0_cond5 v1 v3 = 1#1) (hc6 : k0_cond6 v3 = 1#1) (hc7 : ¬ k0_cond7 v3 = 1#1) (hc8 : ¬ k0_cond8 v1 v3 = 1#1) (hc11 : ¬ k0_cond11 v1 = 1#1)
    (x0 x1 x2 : Vec F S640x256 .bf16) (x3 x4 x5 : Vec F S640x256 .f32) (x6 : Vec F S1x640x640 .f32) (x7 : Vec F S1x640 .f32) (y8 : Vec F S8320x256 .f32) (xs0 xs1 : Vec F S640x256 .f32) :
    Σ' (L8 : List (View.Piece (Elt F) S8320x256 .f32)) (LS0 : List (View.Piece (Elt F) S640x256 .f32)), { LS1 : List (View.Piece (Elt F) S640x256 .f32) //
      ∀ (E : Set ℕ) (K : PUnit → sProp 𝕄),
        iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare y8 ∗ owns (c : Thread nD τ) a15 fullShare xs0 ∗ owns (c : Thread nD τ) a16 fullShare xs1
            ∗ (iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare (a12.view.read (Elt F) (a12.view.writes (Elt F) (h12.unread y8) L8)) ∗ owns (c : Thread nD τ) a15 fullShare (a15.view.read (Elt F) (a15.view.writes (Elt F) (h15.unread xs0) LS0)) ∗ owns (c : Thread nD τ) a16 fullShare (a16.view.read (Elt F) (a16.view.writes (Elt F) (h16.unread xs1) LS1))) -∗ K ⟨⟩))
          ⊢ wp frame (wpE (defs₀ (F := F)) Variants.none c none) E (cc0_dattn i a2 h2 a3 h3 a4 h4 a5 h5 a6 h6 a7 h7 a8 h8 a9 h9 a10 h10 a11 h11 a12 h12 a13 h13 a14 h14 a15 h15 a16 h16) K } := by
  refine ⟨?_, ?_, ?_, fun E K => ?run⟩
  case run =>
    rw [cc0_dattn_eq_skeleton]; unfold cc0_dattn_skel
    rw [k0_part1_eq_skeleton, k0_part2_eq_skeleton, k0_part3_eq_skeleton, k0_part4_eq_skeleton, k0_part5_eq_skeleton, k0_part6_eq_skeleton]
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩, Hk⟩
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h15.eq_unread hf15
    obtain rfl := h16.eq_unread hf16
    iapply (wp_word c i a2 t2 v1 hv1) $$ HT2
    iintro HT2
    iapply (wp_word c i a3 t3 v3 hv3) $$ HT3
    iintro HT3
    sl_exec (disch := first | sl_exact hchk | sl_exact hc1 | sl_exact hc2 | sl_exact hc5 | sl_exact hc6 | sl_exact hc7 | sl_exact hc8 | sl_exact hc11)
    sl_step
    iapply Hk
    isplitl [HT2]; · iexact HT2
    isplitl [HT3]; · iexact HT3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; swap; · iexact H12
      ipureintro; rfl
    isplitl [H15]
    · iexists _; isplitr; swap; · iexact H15
      ipureintro; rfl
    iexists _; isplitr; swap; · iexact H16
    ipureintro; rfl

set_option pp.maxSteps 1500 in
set_option maxHeartbeats 4000000 in
/-- The body run at the first step of another key block: what its stores leave in each written buffer, as pieces (last first), with the proof that the body runs to them. -/
noncomputable def runD
    (hc1 : Scalar.cmpi .ne (Scalar.extui (Scalar.cmpi .eq v1 v3)) 0#32 = 1#1) (hc2 : ¬ k0_cond2 v1 v3 = 1#1) (hc5 : ¬ k0_cond5 v1 v3 = 1#1) (hc8 : k0_cond8 v1 v3 = 1#1) (hc9 : ¬ k0_cond9 v3 = 1#1) (hc10 : k0_cond10 v3 = 1#1) (hc11 : ¬ k0_cond11 v1 = 1#1)
    (x0 x1 x2 : Vec F S640x256 .bf16) (x3 x4 x5 : Vec F S640x256 .f32) (x6 : Vec F S1x640x640 .f32) (x7 : Vec F S1x640 .f32) (y8 : Vec F S8320x256 .f32) (xs0 xs1 : Vec F S640x256 .f32) :
    Σ' (L8 : List (View.Piece (Elt F) S8320x256 .f32)) (LS0 : List (View.Piece (Elt F) S640x256 .f32)), { LS1 : List (View.Piece (Elt F) S640x256 .f32) //
      ∀ (E : Set ℕ) (K : PUnit → sProp 𝕄),
        iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare y8 ∗ owns (c : Thread nD τ) a15 fullShare xs0 ∗ owns (c : Thread nD τ) a16 fullShare xs1
            ∗ (iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare (a12.view.read (Elt F) (a12.view.writes (Elt F) (h12.unread y8) L8)) ∗ owns (c : Thread nD τ) a15 fullShare (a15.view.read (Elt F) (a15.view.writes (Elt F) (h15.unread xs0) LS0)) ∗ owns (c : Thread nD τ) a16 fullShare (a16.view.read (Elt F) (a16.view.writes (Elt F) (h16.unread xs1) LS1))) -∗ K ⟨⟩))
          ⊢ wp frame (wpE (defs₀ (F := F)) Variants.none c none) E (cc0_dattn i a2 h2 a3 h3 a4 h4 a5 h5 a6 h6 a7 h7 a8 h8 a9 h9 a10 h10 a11 h11 a12 h12 a13 h13 a14 h14 a15 h15 a16 h16) K } := by
  refine ⟨?_, ?_, ?_, fun E K => ?run⟩
  case run =>
    rw [cc0_dattn_eq_skeleton]; unfold cc0_dattn_skel
    rw [k0_part1_eq_skeleton, k0_part2_eq_skeleton, k0_part3_eq_skeleton, k0_part4_eq_skeleton, k0_part5_eq_skeleton, k0_part6_eq_skeleton]
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩, Hk⟩
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h15.eq_unread hf15
    obtain rfl := h16.eq_unread hf16
    iapply (wp_word c i a2 t2 v1 hv1) $$ HT2
    iintro HT2
    iapply (wp_word c i a3 t3 v3 hv3) $$ HT3
    iintro HT3
    sl_exec (disch := first | sl_exact hchk | sl_exact hc1 | sl_exact hc2 | sl_exact hc5 | sl_exact hc8 | sl_exact hc9 | sl_exact hc10 | sl_exact hc11)
    sl_step
    iapply Hk
    isplitl [HT2]; · iexact HT2
    isplitl [HT3]; · iexact HT3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; swap; · iexact H12
      ipureintro; rfl
    isplitl [H15]
    · iexists _; isplitr; swap; · iexact H15
      ipureintro; rfl
    iexists _; isplitr; swap; · iexact H16
    ipureintro; rfl

set_option pp.maxSteps 1500 in
set_option maxHeartbeats 4000000 in
/-- The body run at a middle step of another key block: what its stores leave in each written buffer, as pieces (last first), with the proof that the body runs to them. -/
noncomputable def runG
    (hc1 : ¬ Scalar.cmpi .ne (Scalar.extui (Scalar.cmpi .eq v1 v3)) 0#32 = 1#1) (hc2 : k0_cond2 v1 v3 = 1#1) (hc3 : ¬ k0_cond3 v3 = 1#1) (hc4 : k0_cond4 v3 = 1#1) (hc5 : ¬ k0_cond5 v1 v3 = 1#1) (hc8 : ¬ k0_cond8 v1 v3 = 1#1) (hc11 : ¬ k0_cond11 v1 = 1#1)
    (x0 x1 x2 : Vec F S640x256 .bf16) (x3 x4 x5 : Vec F S640x256 .f32) (x6 : Vec F S1x640x640 .f32) (x7 : Vec F S1x640 .f32) (y8 : Vec F S8320x256 .f32) (xs0 xs1 : Vec F S640x256 .f32) :
    Σ' (L8 : List (View.Piece (Elt F) S8320x256 .f32)) (LS0 : List (View.Piece (Elt F) S640x256 .f32)), { LS1 : List (View.Piece (Elt F) S640x256 .f32) //
      ∀ (E : Set ℕ) (K : PUnit → sProp 𝕄),
        iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare y8 ∗ owns (c : Thread nD τ) a15 fullShare xs0 ∗ owns (c : Thread nD τ) a16 fullShare xs1
            ∗ (iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare (a12.view.read (Elt F) (a12.view.writes (Elt F) (h12.unread y8) L8)) ∗ owns (c : Thread nD τ) a15 fullShare (a15.view.read (Elt F) (a15.view.writes (Elt F) (h15.unread xs0) LS0)) ∗ owns (c : Thread nD τ) a16 fullShare (a16.view.read (Elt F) (a16.view.writes (Elt F) (h16.unread xs1) LS1))) -∗ K ⟨⟩))
          ⊢ wp frame (wpE (defs₀ (F := F)) Variants.none c none) E (cc0_dattn i a2 h2 a3 h3 a4 h4 a5 h5 a6 h6 a7 h7 a8 h8 a9 h9 a10 h10 a11 h11 a12 h12 a13 h13 a14 h14 a15 h15 a16 h16) K } := by
  refine ⟨?_, ?_, ?_, fun E K => ?run⟩
  case run =>
    rw [cc0_dattn_eq_skeleton]; unfold cc0_dattn_skel
    rw [k0_part1_eq_skeleton, k0_part2_eq_skeleton, k0_part3_eq_skeleton, k0_part4_eq_skeleton, k0_part5_eq_skeleton, k0_part6_eq_skeleton]
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩, Hk⟩
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h15.eq_unread hf15
    obtain rfl := h16.eq_unread hf16
    iapply (wp_word c i a2 t2 v1 hv1) $$ HT2
    iintro HT2
    iapply (wp_word c i a3 t3 v3 hv3) $$ HT3
    iintro HT3
    sl_exec (disch := first | sl_exact hchk | sl_exact hc1 | sl_exact hc2 | sl_exact hc3 | sl_exact hc4 | sl_exact hc5 | sl_exact hc8 | sl_exact hc11)
    sl_step
    iapply Hk
    isplitl [HT2]; · iexact HT2
    isplitl [HT3]; · iexact HT3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; swap; · iexact H12
      ipureintro; rfl
    isplitl [H15]
    · iexists _; isplitr; swap; · iexact H15
      ipureintro; rfl
    iexists _; isplitr; swap; · iexact H16
    ipureintro; rfl

end Cert.Kernel9Ideal.Gen

end
-- ==== Proof.AttnRunLast.lean ====
module

public import proofs.«01_k».proof.Proof.AttnTables

set_option maxRecDepth 16384
@[expose] public section
noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (a2 : Memref sig .tc .smem S91 .i32) (h2 : a2.IsWhole) (a3 : Memref sig .tc .smem S91 .i32) (h3 : a3.IsWhole)
    (a4 : Memref sig .tc .vmem S640x256 .bf16) (h4 : a4.IsWhole) (a5 : Memref sig .tc .vmem S640x256 .bf16) (h5 : a5.IsWhole) (a6 : Memref sig .tc .vmem S640x256 .bf16) (h6 : a6.IsWhole) (a7 : Memref sig .tc .vmem S640x256 .f32) (h7 : a7.IsWhole) (a8 : Memref sig .tc .vmem S640x256 .f32) (h8 : a8.IsWhole) (a9 : Memref sig .tc .vmem S640x256 .f32) (h9 : a9.IsWhole) (a10 : Memref sig .tc .vmem S1x640x640 .f32) (h10 : a10.IsWhole) (a11 : Memref sig .tc .vmem S1x640 .f32) (h11 : a11.IsWhole) (a12 : Memref sig .tc .vmem S8320x256 .f32) (h12 : a12.IsWhole) (a13 : Memref sig .tc .vmem S640x256 .f32) (h13 : a13.IsWhole) (a14 : Memref sig .tc .vmem S640x256 .f32) (h14 : a14.IsWhole) (a15 : Memref sig .tc .vmem S640x256 .f32) (h15 : a15.IsWhole) (a16 : Memref sig .tc .vmem S640x256 .f32) (h16 : a16.IsWhole)
    (t2 : Buf (Elt F) (a2.view.loc (c : Thread nD τ))) (t3 : Buf (Elt F) (a3.view.loc (c : Thread nD τ)))
    (v1 v3 : Elt F .i32) (hv1 : v1 = wordAt c i a2 t2) (hv3 : v3 = wordAt c i a3 t3) (hchk : k0_chk1 v1 v3)

set_option pp.maxSteps 1500 in
set_option maxHeartbeats 4000000 in
/-- The body run at the last step of the first key block: what its stores leave in each written buffer, as pieces (last first), with the proof that the body runs to them. -/
noncomputable def runC
    (hc1 : ¬ Scalar.cmpi .ne (Scalar.extui (Scalar.cmpi .eq v1 v3)) 0#32 = 1#1) (hc2 : ¬ k0_cond2 v1 v3 = 1#1) (hc5 : k0_cond5 v1 v3 = 1#1) (hc6 : k0_cond6 v3 = 1#1) (hc7 : ¬ k0_cond7 v3 = 1#1) (hc8 : ¬ k0_cond8 v1 v3 = 1#1) (hc11 : k0_cond11 v1 = 1#1)
    (x0 x1 x2 : Vec F S640x256 .bf16) (x3 x4 x5 : Vec F S640x256 .f32) (x6 : Vec F S1x640x640 .f32) (x7 : Vec F S1x640 .f32) (y8 : Vec F S8320x256 .f32) (y9 y10 : Vec F S640x256 .f32) (xs0 xs1 : Vec F S640x256 .f32) :
    Σ' (L8 : List (View.Piece (Elt F) S8320x256 .f32)) (L9 : List (View.Piece (Elt F) S640x256 .f32)) (L10 : List (View.Piece (Elt F) S640x256 .f32)) (LS0 : List (View.Piece (Elt F) S640x256 .f32)), { LS1 : List (View.Piece (Elt F) S640x256 .f32) //
      ∀ (E : Set ℕ) (K : PUnit → sProp 𝕄),
        iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare y8 ∗ owns (c : Thread nD τ) a13 fullShare y9 ∗ owns (c : Thread nD τ) a14 fullShare y10 ∗ owns (c : Thread nD τ) a15 fullShare xs0 ∗ owns (c : Thread nD τ) a16 fullShare xs1
            ∗ (iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare (a12.view.read (Elt F) (a12.view.writes (Elt F) (h12.unread y8) L8)) ∗ owns (c : Thread nD τ) a13 fullShare (a13.view.read (Elt F) (a13.view.writes (Elt F) (h13.unread y9) L9)) ∗ owns (c : Thread nD τ) a14 fullShare (a14.view.read (Elt F) (a14.view.writes (Elt F) (h14.unread y10) L10)) ∗ owns (c : Thread nD τ) a15 fullShare (a15.view.read (Elt F) (a15.view.writes (Elt F) (h15.unread xs0) LS0)) ∗ owns (c : Thread nD τ) a16 fullShare (a16.view.read (Elt F) (a16.view.writes (Elt F) (h16.unread xs1) LS1))) -∗ K ⟨⟩))
          ⊢ wp frame (wpE (defs₀ (F := F)) Variants.none c none) E (cc0_dattn i a2 h2 a3 h3 a4 h4 a5 h5 a6 h6 a7 h7 a8 h8 a9 h9 a10 h10 a11 h11 a12 h12 a13 h13 a14 h14 a15 h15 a16 h16) K } := by
  refine ⟨?_, ?_, ?_, ?_, ?_, fun E K => ?run⟩
  case run =>
    rw [cc0_dattn_eq_skeleton]; unfold cc0_dattn_skel
    rw [k0_part1_eq_skeleton, k0_part2_eq_skeleton, k0_part3_eq_skeleton, k0_part4_eq_skeleton, k0_part5_eq_skeleton, k0_part6_eq_skeleton]
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h13.eq_unread hf13
    obtain rfl := h14.eq_unread hf14
    obtain rfl := h15.eq_unread hf15
    obtain rfl := h16.eq_unread hf16
    iapply (wp_word c i a2 t2 v1 hv1) $$ HT2
    iintro HT2
    iapply (wp_word c i a3 t3 v3 hv3) $$ HT3
    iintro HT3
    sl_exec (disch := first | sl_exact hchk | sl_exact hc1 | sl_exact hc2 | sl_exact hc5 | sl_exact hc6 | sl_exact hc7 | sl_exact hc8 | sl_exact hc11)
    sl_step
    iapply Hk
    isplitl [HT2]; · iexact HT2
    isplitl [HT3]; · iexact HT3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    iexists _; isplitr; swap; · iexact H16
    ipureintro; rfl

set_option pp.maxSteps 1500 in
set_option maxHeartbeats 4000000 in
/-- The body run at the only step of the last key block: what its stores leave in each written buffer, as pieces (last first), with the proof that the body runs to them. -/
noncomputable def runE
    (hc1 : Scalar.cmpi .ne (Scalar.extui (Scalar.cmpi .eq v1 v3)) 0#32 = 1#1) (hc2 : ¬ k0_cond2 v1 v3 = 1#1) (hc5 : ¬ k0_cond5 v1 v3 = 1#1) (hc8 : k0_cond8 v1 v3 = 1#1) (hc9 : ¬ k0_cond9 v3 = 1#1) (hc10 : k0_cond10 v3 = 1#1) (hc11 : k0_cond11 v1 = 1#1)
    (x0 x1 x2 : Vec F S640x256 .bf16) (x3 x4 x5 : Vec F S640x256 .f32) (x6 : Vec F S1x640x640 .f32) (x7 : Vec F S1x640 .f32) (y8 : Vec F S8320x256 .f32) (y9 y10 : Vec F S640x256 .f32) (xs0 xs1 : Vec F S640x256 .f32) :
    Σ' (L8 : List (View.Piece (Elt F) S8320x256 .f32)) (L9 : List (View.Piece (Elt F) S640x256 .f32)) (L10 : List (View.Piece (Elt F) S640x256 .f32)) (LS0 : List (View.Piece (Elt F) S640x256 .f32)), { LS1 : List (View.Piece (Elt F) S640x256 .f32) //
      ∀ (E : Set ℕ) (K : PUnit → sProp 𝕄),
        iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare y8 ∗ owns (c : Thread nD τ) a13 fullShare y9 ∗ owns (c : Thread nD τ) a14 fullShare y10 ∗ owns (c : Thread nD τ) a15 fullShare xs0 ∗ owns (c : Thread nD τ) a16 fullShare xs1
            ∗ (iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare (a12.view.read (Elt F) (a12.view.writes (Elt F) (h12.unread y8) L8)) ∗ owns (c : Thread nD τ) a13 fullShare (a13.view.read (Elt F) (a13.view.writes (Elt F) (h13.unread y9) L9)) ∗ owns (c : Thread nD τ) a14 fullShare (a14.view.read (Elt F) (a14.view.writes (Elt F) (h14.unread y10) L10)) ∗ owns (c : Thread nD τ) a15 fullShare (a15.view.read (Elt F) (a15.view.writes (Elt F) (h15.unread xs0) LS0)) ∗ owns (c : Thread nD τ) a16 fullShare (a16.view.read (Elt F) (a16.view.writes (Elt F) (h16.unread xs1) LS1))) -∗ K ⟨⟩))
          ⊢ wp frame (wpE (defs₀ (F := F)) Variants.none c none) E (cc0_dattn i a2 h2 a3 h3 a4 h4 a5 h5 a6 h6 a7 h7 a8 h8 a9 h9 a10 h10 a11 h11 a12 h12 a13 h13 a14 h14 a15 h15 a16 h16) K } := by
  refine ⟨?_, ?_, ?_, ?_, ?_, fun E K => ?run⟩
  case run =>
    rw [cc0_dattn_eq_skeleton]; unfold cc0_dattn_skel
    rw [k0_part1_eq_skeleton, k0_part2_eq_skeleton, k0_part3_eq_skeleton, k0_part4_eq_skeleton, k0_part5_eq_skeleton, k0_part6_eq_skeleton]
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h13.eq_unread hf13
    obtain rfl := h14.eq_unread hf14
    obtain rfl := h15.eq_unread hf15
    obtain rfl := h16.eq_unread hf16
    iapply (wp_word c i a2 t2 v1 hv1) $$ HT2
    iintro HT2
    iapply (wp_word c i a3 t3 v3 hv3) $$ HT3
    iintro HT3
    sl_exec (disch := first | sl_exact hchk | sl_exact hc1 | sl_exact hc2 | sl_exact hc5 | sl_exact hc8 | sl_exact hc9 | sl_exact hc10 | sl_exact hc11)
    sl_step
    iapply Hk
    isplitl [HT2]; · iexact HT2
    isplitl [HT3]; · iexact HT3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    iexists _; isplitr; swap; · iexact H16
    ipureintro; rfl

set_option pp.maxSteps 1500 in
set_option maxHeartbeats 4000000 in
/-- The body run at the last step of another key block: what its stores leave in each written buffer, as pieces (last first), with the proof that the body runs to them. -/
noncomputable def runH
    (hc1 : ¬ Scalar.cmpi .ne (Scalar.extui (Scalar.cmpi .eq v1 v3)) 0#32 = 1#1) (hc2 : k0_cond2 v1 v3 = 1#1) (hc3 : ¬ k0_cond3 v3 = 1#1) (hc4 : k0_cond4 v3 = 1#1) (hc5 : ¬ k0_cond5 v1 v3 = 1#1) (hc8 : ¬ k0_cond8 v1 v3 = 1#1) (hc11 : k0_cond11 v1 = 1#1)
    (x0 x1 x2 : Vec F S640x256 .bf16) (x3 x4 x5 : Vec F S640x256 .f32) (x6 : Vec F S1x640x640 .f32) (x7 : Vec F S1x640 .f32) (y8 : Vec F S8320x256 .f32) (y9 y10 : Vec F S640x256 .f32) (xs0 xs1 : Vec F S640x256 .f32) :
    Σ' (L8 : List (View.Piece (Elt F) S8320x256 .f32)) (L9 : List (View.Piece (Elt F) S640x256 .f32)) (L10 : List (View.Piece (Elt F) S640x256 .f32)) (LS0 : List (View.Piece (Elt F) S640x256 .f32)), { LS1 : List (View.Piece (Elt F) S640x256 .f32) //
      ∀ (E : Set ℕ) (K : PUnit → sProp 𝕄),
        iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare y8 ∗ owns (c : Thread nD τ) a13 fullShare y9 ∗ owns (c : Thread nD τ) a14 fullShare y10 ∗ owns (c : Thread nD τ) a15 fullShare xs0 ∗ owns (c : Thread nD τ) a16 fullShare xs1
            ∗ (iprop(tbPt c a2 t2 ∗ tbPt c a3 t3 ∗ owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5 ∗ owns (c : Thread nD τ) a10 fullShare x6 ∗ owns (c : Thread nD τ) a11 fullShare x7 ∗ owns (c : Thread nD τ) a12 fullShare (a12.view.read (Elt F) (a12.view.writes (Elt F) (h12.unread y8) L8)) ∗ owns (c : Thread nD τ) a13 fullShare (a13.view.read (Elt F) (a13.view.writes (Elt F) (h13.unread y9) L9)) ∗ owns (c : Thread nD τ) a14 fullShare (a14.view.read (Elt F) (a14.view.writes (Elt F) (h14.unread y10) L10)) ∗ owns (c : Thread nD τ) a15 fullShare (a15.view.read (Elt F) (a15.view.writes (Elt F) (h15.unread xs0) LS0)) ∗ owns (c : Thread nD τ) a16 fullShare (a16.view.read (Elt F) (a16.view.writes (Elt F) (h16.unread xs1) LS1))) -∗ K ⟨⟩))
          ⊢ wp frame (wpE (defs₀ (F := F)) Variants.none c none) E (cc0_dattn i a2 h2 a3 h3 a4 h4 a5 h5 a6 h6 a7 h7 a8 h8 a9 h9 a10 h10 a11 h11 a12 h12 a13 h13 a14 h14 a15 h15 a16 h16) K } := by
  refine ⟨?_, ?_, ?_, ?_, ?_, fun E K => ?run⟩
  case run =>
    rw [cc0_dattn_eq_skeleton]; unfold cc0_dattn_skel
    rw [k0_part1_eq_skeleton, k0_part2_eq_skeleton, k0_part3_eq_skeleton, k0_part4_eq_skeleton, k0_part5_eq_skeleton, k0_part6_eq_skeleton]
    unfold owns
    iintro ⟨HT2, HT3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h13.eq_unread hf13
    obtain rfl := h14.eq_unread hf14
    obtain rfl := h15.eq_unread hf15
    obtain rfl := h16.eq_unread hf16
    iapply (wp_word c i a2 t2 v1 hv1) $$ HT2
    iintro HT2
    iapply (wp_word c i a3 t3 v3 hv3) $$ HT3
    iintro HT3
    sl_exec (disch := first | sl_exact hchk | sl_exact hc1 | sl_exact hc2 | sl_exact hc3 | sl_exact hc4 | sl_exact hc5 | sl_exact hc8 | sl_exact hc11)
    sl_step
    iapply Hk
    isplitl [HT2]; · iexact HT2
    isplitl [HT3]; · iexact HT3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    iexists _; isplitr; swap; · iexact H16
    ipureintro; rfl

end Cert.Kernel9Ideal.Gen

end
-- ==== Proof.AttnStep.lean ====
module

public import proofs.«01_k».proof.Proof.AttnRun
public import proofs.«01_k».proof.Proof.AttnRunLast
public import Idealize.ShloMosaic.Lib.Claim

set_option maxRecDepth 16384
@[expose] public section
noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch memory with @main's host operations done. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' apply And.intro
  all_goals rfl

theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

set_option maxHeartbeats 4000000 in
theorem V_table_0 (c : Dev nD) : V m c main_c = fun i => lit0 (S91.rowMajor i) := by
  unfold V; after_results; rfl
set_option maxHeartbeats 4000000 in
theorem V_table_1 (c : Dev nD) : V m c main_c_0 = fun i => lit1 (S91.rowMajor i) := by
  unfold V; after_results; rfl
theorem V_pre (c : Dev nD) (j : Fin 2) : V m c (pre0.ref j) = tbl (F := F) j := by
  fin_cases j
  · exact V_table_0 m c
  · exact V_table_1 m c
set_option maxHeartbeats 4000000 in
theorem V_main_arg0 (c : Dev nD) : V m c main_arg0 = m ((c : Thread nD τ).loc main_arg0) := by
  unfold V; after_results
set_option maxHeartbeats 4000000 in
theorem V_main_arg1 (c : Dev nD) : V m c main_arg1 = m ((c : Thread nD τ).loc main_arg1) := by
  unfold V; after_results
set_option maxHeartbeats 4000000 in
theorem V_main_arg2 (c : Dev nD) : V m c main_arg2 = m ((c : Thread nD τ).loc main_arg2) := by
  unfold V; after_results
set_option maxHeartbeats 4000000 in
theorem V_main_arg3 (c : Dev nD) : V m c main_arg3 = m ((c : Thread nD τ).loc main_arg3) := by
  unfold V; after_results

theorem PhiT0_eq (c : Dev nD) : (Pipeline.ΦT pre0 (tbl (F := F)) c : sProp 𝕄) = iprop(tbPt c tbM0_0 (tbl 0) ∗ tbPt c tbM0_1 (tbl 1)) := by
  unfold Pipeline.ΦT Pipeline.prefHeld
  rw [bigSep_univ_eq_bigSepL [(0 : Fin 2), (1 : Fin 2)] (by decide) (by decide)]
  rfl

/-- Window `w`'s block at point `t`, read off its array as the region finds it. -/
def iblk (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V m c (Pipeline.arrRef spec0 w))

section
variable (t : Fin (cfgM (F := F)).N)
abbrev ms0_0 : Memref sig .tc .vmem S640x256 .bf16 := spec0_0.stage ((cfgM (F := F)).slots t 0)
abbrev hs0_0 : (ms0_0 (F := F) t).IsWhole := hstage0_0 (((cfgM (F := F)).slots t 0).cast nbuf0_0)
abbrev ms0_1 : Memref sig .tc .vmem S640x256 .bf16 := spec0_1.stage ((cfgM (F := F)).slots t 1)
abbrev hs0_1 : (ms0_1 (F := F) t).IsWhole := hstage0_1 (((cfgM (F := F)).slots t 1).cast nbuf0_1)
abbrev ms0_2 : Memref sig .tc .vmem S640x256 .bf16 := spec0_2.stage ((cfgM (F := F)).slots t 2)
abbrev hs0_2 : (ms0_2 (F := F) t).IsWhole := hstage0_2 (((cfgM (F := F)).slots t 2).cast nbuf0_2)
abbrev ms0_3 : Memref sig .tc .vmem S640x256 .f32 := spec0_3.stage ((cfgM (F := F)).slots t 3)
abbrev hs0_3 : (ms0_3 (F := F) t).IsWhole := hstage0_3 (((cfgM (F := F)).slots t 3).cast nbuf0_3)
abbrev ms0_4 : Memref sig .tc .vmem S640x256 .f32 := spec0_4.stage ((cfgM (F := F)).slots t 4)
abbrev hs0_4 : (ms0_4 (F := F) t).IsWhole := hstage0_4 (((cfgM (F := F)).slots t 4).cast nbuf0_4)
abbrev ms0_5 : Memref sig .tc .vmem S640x256 .f32 := spec0_5.stage ((cfgM (F := F)).slots t 5)
abbrev hs0_5 : (ms0_5 (F := F) t).IsWhole := hstage0_5 (((cfgM (F := F)).slots t 5).cast nbuf0_5)
abbrev ms0_6 : Memref sig .tc .vmem S1x640x640 .f32 := spec0_6.stage ((cfgM (F := F)).slots t 6)
abbrev hs0_6 : (ms0_6 (F := F) t).IsWhole := hstage0_6 (((cfgM (F := F)).slots t 6).cast nbuf0_6)
abbrev ms0_7 : Memref sig .tc .vmem S1x640 .f32 := spec0_7.stage ((cfgM (F := F)).slots t 7)
abbrev hs0_7 : (ms0_7 (F := F) t).IsWhole := hstage0_7 (((cfgM (F := F)).slots t 7).cast nbuf0_7)
abbrev ms0_8 : Memref sig .tc .vmem S8320x256 .f32 := spec0_8.stage ((cfgM (F := F)).slots t 8)
abbrev hs0_8 : (ms0_8 (F := F) t).IsWhole := hstage0_8 (((cfgM (F := F)).slots t 8).cast nbuf0_8)
abbrev ms0_9 : Memref sig .tc .vmem S640x256 .f32 := spec0_9.stage ((cfgM (F := F)).slots t 9)
abbrev hs0_9 : (ms0_9 (F := F) t).IsWhole := hstage0_9 (((cfgM (F := F)).slots t 9).cast nbuf0_9)
abbrev ms0_10 : Memref sig .tc .vmem S640x256 .f32 := spec0_10.stage ((cfgM (F := F)).slots t 10)
abbrev hs0_10 : (ms0_10 (F := F) t).IsWhole := hstage0_10 (((cfgM (F := F)).slots t 10).cast nbuf0_10)
end
/-- The two accumulators' buffers. -/
abbrev scM0_0 : Memref sig .tc .vmem S640x256 .f32 := Memref.whole cc0_scratch0
abbrev scM0_1 : Memref sig .tc .vmem S640x256 .f32 := Memref.whole cc0_scratch1
theorem PhiA0_eq (c : Dev nD) :
    (Pipeline.ΦA (U := UR sig nD τ) (Val := Elt F) spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The words of the tables at point `t`. -/
abbrev qw (t : Fin (cfgM (F := F)).N) : BitVec 32 := lit0 ((grid0.coords t) 1)
abbrev kw (t : Fin (cfgM (F := F)).N) : BitVec 32 := lit1 ((grid0.coords t) 1)

/-- What a step is run on: the eight input blocks. -/
abbrev xs (c : Dev nD) (w : Fin (cfgM (F := F)).W) (t : Fin (cfgM (F := F)).N) := iblk m c w t

variable (c : Dev nD) (t : Fin (cfgM (F := F)).N)

section
variable (h : CaseA (qw t) (kw t)) (y8 : Vec F S8320x256 .f32) (s0 s1 : Vec F S640x256 .f32)
/-- The run of case A at point `t`. -/
def atA :=
  runA (F := F) c (grid0.coords t) tbM0_0 (Memref.isWhole_whole _) tbM0_1 (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (tbl 0) (tbl 1) (qw t) (kw t) (wordAt_0 c _).symm (wordAt_1 c _).symm (chk_at _) h.1 h.2.1 h.2.2.1 h.2.2.2.1 h.2.2.2.2.1 h.2.2.2.2.2.1 h.2.2.2.2.2.2
    (iblk m c 0 t) (iblk m c 1 t) (iblk m c 2 t) (iblk m c 3 t) (iblk m c 4 t) (iblk m c 5 t) (iblk m c 6 t) (iblk m c 7 t) y8 s0 s1
def outA_8 : Vec F S8320x256 .f32 :=
  (ms0_8 t).view.read (Elt F) ((ms0_8 t).view.writes (Elt F) ((hs0_8 t).unread y8) (atA m c t h y8 s0 s1).1)
def outA_s0 : Vec F S640x256 .f32 :=
  (scM0_0).view.read (Elt F) ((scM0_0).view.writes (Elt F) ((Memref.isWhole_whole cc0_scratch0).unread s0) (atA m c t h y8 s0 s1).2.1)
def outA_s1 : Vec F S640x256 .f32 :=
  (scM0_1).view.read (Elt F) ((scM0_1).view.writes (Elt F) ((Memref.isWhole_whole cc0_scratch1).unread s1) (atA m c t h y8 s0 s1).2.2.1)
end
section
variable (h : CaseB (qw t) (kw t)) (y8 : Vec F S8320x256 .f32) (s0 s1 : Vec F S640x256 .f32)
/-- The run of case B at point `t`. -/
def atB :=
  runB (F := F) c (grid0.coords t) tbM0_0 (Memref.isWhole_whole _) tbM0_1 (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (tbl 0) (tbl 1) (qw t) (kw t) (wordAt_0 c _).symm (wordAt_1 c _).symm (chk_at _) h.1 h.2.1 h.2.2.1 h.2.2.2.1 h.2.2.2.2.1 h.2.2.2.2.2.1 h.2.2.2.2.2.2
    (iblk m c 0 t) (iblk m c 1 t) (iblk m c 2 t) (iblk m c 3 t) (iblk m c 4 t) (iblk m c 5 t) (iblk m c 6 t) (iblk m c 7 t) y8 s0 s1
def outB_8 : Vec F S8320x256 .f32 :=
  (ms0_8 t).view.read (Elt F) ((ms0_8 t).view.writes (Elt F) ((hs0_8 t).unread y8) (atB m c t h y8 s0 s1).1)
def outB_s0 : Vec F S640x256 .f32 :=
  (scM0_0).view.read (Elt F) ((scM0_0).view.writes (Elt F) ((Memref.isWhole_whole cc0_scratch0).unread s0) (atB m c t h y8 s0 s1).2.1)
def outB_s1 : Vec F S640x256 .f32 :=
  (scM0_1).view.read (Elt F) ((scM0_1).view.writes (Elt F) ((Memref.isWhole_whole cc0_scratch1).unread s1) (atB m c t h y8 s0 s1).2.2.1)
end
section
variable (h : CaseC (qw t) (kw t)) (y8 : Vec F S8320x256 .f32) (y9 y10 s0 s1 : Vec F S640x256 .f32)
/-- The run of case C at point `t`. -/
def atC :=
  runC (F := F) c (grid0.coords t) tbM0_0 (Memref.isWhole_whole _) tbM0_1 (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (tbl 0) (tbl 1) (qw t) (kw t) (wordAt_0 c _).symm (wordAt_1 c _).symm (chk_at _) h.1 h.2.1 h.2.2.1 h.2.2.2.1 h.2.2.2.2.1 h.2.2.2.2.2.1 h.2.2.2.2.2.2
    (iblk m c 0 t) (iblk m c 1 t) (iblk m c 2 t) (iblk m c 3 t) (iblk m c 4 t) (iblk m c 5 t) (iblk m c 6 t) (iblk m c 7 t) y8 y9 y10 s0 s1
def outC_8 : Vec F S8320x256 .f32 :=
  (ms0_8 t).view.read (Elt F) ((ms0_8 t).view.writes (Elt F) ((hs0_8 t).unread y8) (atC m c t h y8 y9 y10 s0 s1).1)
def outC_9 : Vec F S640x256 .f32 :=
  (ms0_9 t).view.read (Elt F) ((ms0_9 t).view.writes (Elt F) ((hs0_9 t).unread y9) (atC m c t h y8 y9 y10 s0 s1).2.1)
def outC_10 : Vec F S640x256 .f32 :=
  (ms0_10 t).view.read (Elt F) ((ms0_10 t).view.writes (Elt F) ((hs0_10 t).unread y10) (atC m c t h y8 y9 y10 s0 s1).2.2.1)
def outC_s0 : Vec F S640x256 .f32 :=
  (scM0_0).view.read (Elt F) ((scM0_0).view.writes (Elt F) ((Memref.isWhole_whole cc0_scratch0).unread s0) (atC m c t h y8 y9 y10 s0 s1).2.2.2.1)
def outC_s1 : Vec F S640x256 .f32 :=
  (scM0_1).view.read (Elt F) ((scM0_1).view.writes (Elt F) ((Memref.isWhole_whole cc0_scratch1).unread s1) (atC m c t h y8 y9 y10 s0 s1).2.2.2.2.1)
end
section
variable (h : CaseD (qw t) (kw t)) (y8 : Vec F S8320x256 .f32) (s0 s1 : Vec F S640x256 .f32)
/-- The run of case D at point `t`. -/
def atD :=
  runD (F := F) c (grid0.coords t) tbM0_0 (Memref.isWhole_whole _) tbM0_1 (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (tbl 0) (tbl 1) (qw t) (kw t) (wordAt_0 c _).symm (wordAt_1 c _).symm (chk_at _) h.1 h.2.1 h.2.2.1 h.2.2.2.1 h.2.2.2.2.1 h.2.2.2.2.2.1 h.2.2.2.2.2.2
    (iblk m c 0 t) (iblk m c 1 t) (iblk m c 2 t) (iblk m c 3 t) (iblk m c 4 t) (iblk m c 5 t) (iblk m c 6 t) (iblk m c 7 t) y8 s0 s1
def outD_8 : Vec F S8320x256 .f32 :=
  (ms0_8 t).view.read (Elt F) ((ms0_8 t).view.writes (Elt F) ((hs0_8 t).unread y8) (atD m c t h y8 s0 s1).1)
def outD_s0 : Vec F S640x256 .f32 :=
  (scM0_0).view.read (Elt F) ((scM0_0).view.writes (Elt F) ((Memref.isWhole_whole cc0_scratch0).unread s0) (atD m c t h y8 s0 s1).2.1)
def outD_s1 : Vec F S640x256 .f32 :=
  (scM0_1).view.read (Elt F) ((scM0_1).view.writes (Elt F) ((Memref.isWhole_whole cc0_scratch1).unread s1) (atD m c t h y8 s0 s1).2.2.1)
end
section
variable (h : CaseE (qw t) (kw t)) (y8 : Vec F S8320x256 .f32) (y9 y10 s0 s1 : Vec F S640x256 .f32)
/-- The run of case E at point `t`. -/
def atE :=
  runE (F := F) c (grid0.coords t) tbM0_0 (Memref.isWhole_whole _) tbM0_1 (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (tbl 0) (tbl 1) (qw t) (kw t) (wordAt_0 c _).symm (wordAt_1 c _).symm (chk_at _) h.1 h.2.1 h.2.2.1 h.2.2.2.1 h.2.2.2.2.1 h.2.2.2.2.2.1 h.2.2.2.2.2.2
    (iblk m c 0 t) (iblk m c 1 t) (iblk m c 2 t) (iblk m c 3 t) (iblk m c 4 t) (iblk m c 5 t) (iblk m c 6 t) (iblk m c 7 t) y8 y9 y10 s0 s1
def outE_8 : Vec F S8320x256 .f32 :=
  (ms0_8 t).view.read (Elt F) ((ms0_8 t).view.writes (Elt F) ((hs0_8 t).unread y8) (atE m c t h y8 y9 y10 s0 s1).1)
def outE_9 : Vec F S640x256 .f32 :=
  (ms0_9 t).view.read (Elt F) ((ms0_9 t).view.writes (Elt F) ((hs0_9 t).unread y9) (atE m c t h y8 y9 y10 s0 s1).2.1)
def outE_10 : Vec F S640x256 .f32 :=
  (ms0_10 t).view.read (Elt F) ((ms0_10 t).view.writes (Elt F) ((hs0_10 t).unread y10) (atE m c t h y8 y9 y10 s0 s1).2.2.1)
def outE_s0 : Vec F S640x256 .f32 :=
  (scM0_0).view.read (Elt F) ((scM0_0).view.writes (Elt F) ((Memref.isWhole_whole cc0_scratch0).unread s0) (atE m c t h y8 y9 y10 s0 s1).2.2.2.1)
def outE_s1 : Vec F S640x256 .f32 :=
  (scM0_1).view.read (Elt F) ((scM0_1).view.writes (Elt F) ((Memref.isWhole_whole cc0_scratch1).unread s1) (atE m c t h y8 y9 y10 s0 s1).2.2.2.2.1)
end
section
variable (h : CaseG (qw t) (kw t)) (y8 : Vec F S8320x256 .f32) (s0 s1 : Vec F S640x256 .f32)
/-- The run of case G at point `t`. -/
def atG :=
  runG (F := F) c (grid0.coords t) tbM0_0 (Memref.isWhole_whole _) tbM0_1 (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (tbl 0) (tbl 1) (qw t) (kw t) (wordAt_0 c _).symm (wordAt_1 c _).symm (chk_at _) h.1 h.2.1 h.2.2.1 h.2.2.2.1 h.2.2.2.2.1 h.2.2.2.2.2.1 h.2.2.2.2.2.2
    (iblk m c 0 t) (iblk m c 1 t) (iblk m c 2 t) (iblk m c 3 t) (iblk m c 4 t) (iblk m c 5 t) (iblk m c 6 t) (iblk m c 7 t) y8 s0 s1
def outG_8 : Vec F S8320x256 .f32 :=
  (ms0_8 t).view.read (Elt F) ((ms0_8 t).view.writes (Elt F) ((hs0_8 t).unread y8) (atG m c t h y8 s0 s1).1)
def outG_s0 : Vec F S640x256 .f32 :=
  (scM0_0).view.read (Elt F) ((scM0_0).view.writes (Elt F) ((Memref.isWhole_whole cc0_scratch0).unread s0) (atG m c t h y8 s0 s1).2.1)
def outG_s1 : Vec F S640x256 .f32 :=
  (scM0_1).view.read (Elt F) ((scM0_1).view.writes (Elt F) ((Memref.isWhole_whole cc0_scratch1).unread s1) (atG m c t h y8 s0 s1).2.2.1)
end
section
variable (h : CaseH (qw t) (kw t)) (y8 : Vec F S8320x256 .f32) (y9 y10 s0 s1 : Vec F S640x256 .f32)
/-- The run of case H at point `t`. -/
def atH :=
  runH (F := F) c (grid0.coords t) tbM0_0 (Memref.isWhole_whole _) tbM0_1 (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (tbl 0) (tbl 1) (qw t) (kw t) (wordAt_0 c _).symm (wordAt_1 c _).symm (chk_at _) h.1 h.2.1 h.2.2.1 h.2.2.2.1 h.2.2.2.2.1 h.2.2.2.2.2.1 h.2.2.2.2.2.2
    (iblk m c 0 t) (iblk m c 1 t) (iblk m c 2 t) (iblk m c 3 t) (iblk m c 4 t) (iblk m c 5 t) (iblk m c 6 t) (iblk m c 7 t) y8 y9 y10 s0 s1
def outH_8 : Vec F S8320x256 .f32 :=
  (ms0_8 t).view.read (Elt F) ((ms0_8 t).view.writes (Elt F) ((hs0_8 t).unread y8) (atH m c t h y8 y9 y10 s0 s1).1)
def outH_9 : Vec F S640x256 .f32 :=
  (ms0_9 t).view.read (Elt F) ((ms0_9 t).view.writes (Elt F) ((hs0_9 t).unread y9) (atH m c t h y8 y9 y10 s0 s1).2.1)
def outH_10 : Vec F S640x256 .f32 :=
  (ms0_10 t).view.read (Elt F) ((ms0_10 t).view.writes (Elt F) ((hs0_10 t).unread y10) (atH m c t h y8 y9 y10 s0 s1).2.2.1)
def outH_s0 : Vec F S640x256 .f32 :=
  (scM0_0).view.read (Elt F) ((scM0_0).view.writes (Elt F) ((Memref.isWhole_whole cc0_scratch0).unread s0) (atH m c t h y8 y9 y10 s0 s1).2.2.2.1)
def outH_s1 : Vec F S640x256 .f32 :=
  (scM0_1).view.read (Elt F) ((scM0_1).view.writes (Elt F) ((Memref.isWhole_whole cc0_scratch1).unread s1) (atH m c t h y8 y9 y10 s0 s1).2.2.2.2.1)
end

/-- What a step makes of the buffers it writes. -/
def Rel (y8 : Vec F S8320x256 .f32) (y9 y10 s0 s1 : Vec F S640x256 .f32) (z8 : Vec F S8320x256 .f32) (z9 z10 r0 r1 : Vec F S640x256 .f32) : Prop :=
  (∀ h : CaseA (qw t) (kw t), z8 = outA_8 m c t h y8 s0 s1 ∧ z9 = y9 ∧ z10 = y10 ∧ r0 = outA_s0 m c t h y8 s0 s1 ∧ r1 = outA_s1 m c t h y8 s0 s1) ∧
  (∀ h : CaseB (qw t) (kw t), z8 = outB_8 m c t h y8 s0 s1 ∧ z9 = y9 ∧ z10 = y10 ∧ r0 = outB_s0 m c t h y8 s0 s1 ∧ r1 = outB_s1 m c t h y8 s0 s1) ∧
  (∀ h : CaseC (qw t) (kw t), z8 = outC_8 m c t h y8 y9 y10 s0 s1 ∧ z9 = outC_9 m c t h y8 y9 y10 s0 s1 ∧ z10 = outC_10 m c t h y8 y9 y10 s0 s1 ∧ r0 = outC_s0 m c t h y8 y9 y10 s0 s1 ∧ r1 = outC_s1 m c t h y8 y9 y10 s0 s1) ∧
  (∀ h : CaseD (qw t) (kw t), z8 = outD_8 m c t h y8 s0 s1 ∧ z9 = y9 ∧ z10 = y10 ∧ r0 = outD_s0 m c t h y8 s0 s1 ∧ r1 = outD_s1 m c t h y8 s0 s1) ∧
  (∀ h : CaseE (qw t) (kw t), z8 = outE_8 m c t h y8 y9 y10 s0 s1 ∧ z9 = outE_9 m c t h y8 y9 y10 s0 s1 ∧ z10 = outE_10 m c t h y8 y9 y10 s0 s1 ∧ r0 = outE_s0 m c t h y8 y9 y10 s0 s1 ∧ r1 = outE_s1 m c t h y8 y9 y10 s0 s1) ∧
  (∀ h : CaseG (qw t) (kw t), z8 = outG_8 m c t h y8 s0 s1 ∧ z9 = y9 ∧ z10 = y10 ∧ r0 = outG_s0 m c t h y8 s0 s1 ∧ r1 = outG_s1 m c t h y8 s0 s1) ∧
  (∀ h : CaseH (qw t) (kw t), z8 = outH_8 m c t h y8 y9 y10 s0 s1 ∧ z9 = outH_9 m c t h y8 y9 y10 s0 s1 ∧ z10 = outH_10 m c t h y8 y9 y10 s0 s1 ∧ r0 = outH_s0 m c t h y8 y9 y10 s0 s1 ∧ r1 = outH_s1 m c t h y8 y9 y10 s0 s1)

/-- The contents the accumulators may have before point `n`. -/
def Reach (c : Dev nD) : ℕ → Vec F S640x256 .f32 → Vec F S640x256 .f32 → Prop
  | 0, _, _ => True
  | n + 1, r0, r1 => ∃ h : n < (cfgM (F := F)).N, ∃ y8 y9 y10 s0 s1 z8 z9 z10, Reach c n s0 s1 ∧ Rel m c ⟨n, h⟩ y8 y9 y10 s0 s1 z8 z9 z10 r0 r1

/-- The invariant before point `t`: the accumulators at contents they may have, the generator register, the tables. -/
def PhiK (c : Dev nD) (n : ℕ) : sProp 𝕄 :=
  iprop((∃ s0 s1, ⌜Reach m c n s0 s1⌝ ∗ owns (c : Thread nD τ) scM0_0 fullShare s0 ∗ owns (c : Thread nD τ) scM0_1 fullShare s1) ∗ (∃ r, prngReg c r) ∗ tbPt c tbM0_0 (tbl (F := F) 0) ∗ tbPt c tbM0_1 (tbl (F := F) 1))

/-- The pipeline's data: each input block is left as found; an output block is left as a step makes it of what it found. -/
def rdat (c : Dev nD) : Pipeline.RDat τ (Elt F) Unit ℕ (UR sig nD τ) ℕ (cfgM (F := F)) c where
  A w := V m c (Pipeline.arrRef spec0 w)
  after w t := match w with
    | ⟨8, _⟩ => fun Y X => ∃ y9 y10 s0 s1 z9 z10 r0 r1, Reach m c t.val s0 s1 ∧ Rel m c t Y y9 y10 s0 s1 X z9 z10 r0 r1
    | ⟨9, _⟩ => fun Y X => ∃ y8 y10 s0 s1 z8 z10 r0 r1, Reach m c t.val s0 s1 ∧ Rel m c t y8 Y y10 s0 s1 z8 X z10 r0 r1
    | ⟨10, _⟩ => fun Y X => ∃ y8 y9 s0 s1 z8 z9 r0 r1, Reach m c t.val s0 s1 ∧ Rel m c t y8 y9 Y s0 s1 z8 z9 X r0 r1
    | _ => fun Y X => X = Y
  Φ t := PhiK m c t.val
  q _ := fullShare
  owed _ := 0

theorem A_eq (c : Dev nD) (w : Fin (cfgM (F := F)).W) : (rdat m c).A w = V m c (Pipeline.arrRef spec0 w) := by
  dsimp only [rdat]
theorem keep_0 (Y X) : (rdat m c).after 0 t Y X = (X = Y) := rfl
theorem finds_0 (Y) (h : (rdat m c).Finds 0 t Y) : Y = iblk m c 0 t := by
  obtain ⟨d, rfl⟩ := (rdat m c).finds_in_eq_fetched 0 rfl (fun _ _ _ => rfl) (fun t Y X h => (keep_0 m c t Y X) ▸ h) t Y h
  unfold Pipeline.RDat.fetched Pipeline.RDat.blockOf iblk; rw [A_eq]; try rfl
theorem keep_1 (Y X) : (rdat m c).after 1 t Y X = (X = Y) := rfl
theorem finds_1 (Y) (h : (rdat m c).Finds 1 t Y) : Y = iblk m c 1 t := by
  obtain ⟨d, rfl⟩ := (rdat m c).finds_in_eq_fetched 1 rfl (fun _ _ _ => rfl) (fun t Y X h => (keep_1 m c t Y X) ▸ h) t Y h
  unfold Pipeline.RDat.fetched Pipeline.RDat.blockOf iblk; rw [A_eq]; try rfl
theorem keep_2 (Y X) : (rdat m c).after 2 t Y X = (X = Y) := rfl
theorem finds_2 (Y) (h : (rdat m c).Finds 2 t Y) : Y = iblk m c 2 t := by
  obtain ⟨d, rfl⟩ := (rdat m c).finds_in_eq_fetched 2 rfl (fun _ _ _ => rfl) (fun t Y X h => (keep_2 m c t Y X) ▸ h) t Y h
  unfold Pipeline.RDat.fetched Pipeline.RDat.blockOf iblk; rw [A_eq]; try rfl
theorem keep_3 (Y X) : (rdat m c).after 3 t Y X = (X = Y) := rfl
theorem finds_3 (Y) (h : (rdat m c).Finds 3 t Y) : Y = iblk m c 3 t := by
  obtain ⟨d, rfl⟩ := (rdat m c).finds_in_eq_fetched 3 rfl (fun _ _ _ => rfl) (fun t Y X h => (keep_3 m c t Y X) ▸ h) t Y h
  unfold Pipeline.RDat.fetched Pipeline.RDat.blockOf iblk; rw [A_eq]; try rfl
theorem keep_4 (Y X) : (rdat m c).after 4 t Y X = (X = Y) := rfl
theorem finds_4 (Y) (h : (rdat m c).Finds 4 t Y) : Y = iblk m c 4 t := by
  obtain ⟨d, rfl⟩ := (rdat m c).finds_in_eq_fetched 4 rfl (fun _ _ _ => rfl) (fun t Y X h => (keep_4 m c t Y X) ▸ h) t Y h
  unfold Pipeline.RDat.fetched Pipeline.RDat.blockOf iblk; rw [A_eq]; try rfl
theorem keep_5 (Y X) : (rdat m c).after 5 t Y X = (X = Y) := rfl
theorem finds_5 (Y) (h : (rdat m c).Finds 5 t Y) : Y = iblk m c 5 t := by
  obtain ⟨d, rfl⟩ := (rdat m c).finds_in_eq_fetched 5 rfl (fun _ _ _ => rfl) (fun t Y X h => (keep_5 m c t Y X) ▸ h) t Y h
  unfold Pipeline.RDat.fetched Pipeline.RDat.blockOf iblk; rw [A_eq]; try rfl
theorem keep_6 (Y X) : (rdat m c).after 6 t Y X = (X = Y) := rfl
theorem finds_6 (Y) (h : (rdat m c).Finds 6 t Y) : Y = iblk m c 6 t := by
  obtain ⟨d, rfl⟩ := (rdat m c).finds_in_eq_fetched 6 rfl (fun _ _ _ => rfl) (fun t Y X h => (keep_6 m c t Y X) ▸ h) t Y h
  unfold Pipeline.RDat.fetched Pipeline.RDat.blockOf iblk; rw [A_eq]; try rfl
theorem keep_7 (Y X) : (rdat m c).after 7 t Y X = (X = Y) := rfl
theorem finds_7 (Y) (h : (rdat m c).Finds 7 t Y) : Y = iblk m c 7 t := by
  obtain ⟨d, rfl⟩ := (rdat m c).finds_in_eq_fetched 7 rfl (fun _ _ _ => rfl) (fun t Y X h => (keep_7 m c t Y X) ▸ h) t Y h
  unfold Pipeline.RDat.fetched Pipeline.RDat.blockOf iblk; rw [A_eq]; try rfl

/-- The body at a point, as the pipeline calls it. -/
abbrev bodyAt0 (t : Fin (cfgM (F := F)).N) : Prog (TpuEff nD τ sig (Elt F) Λ₀ .tc) PUnit :=
  cc0_dattn (grid0.coords t) tbM0_0 (Memref.isWhole_whole _) tbM0_1 (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)

theorem defs₀_row (t : Fin (cfgM (F := F)).N) :
    defs₀ (F := F) .tc (cfgM (F := F)).body ((cfgM (F := F)).bodyArgs t ((cfgM (F := F)).slots t)) = bodyAt0 t := by
  unfold defs₀; rw [Defs.onTc_tc]

/-- No two cases hold together. -/
theorem excl (v1 v3 : BitVec 32) : (CaseA v1 v3 → ¬ CaseB v1 v3 ∧ ¬ CaseC v1 v3 ∧ ¬ CaseD v1 v3 ∧ ¬ CaseE v1 v3 ∧ ¬ CaseG v1 v3 ∧ ¬ CaseH v1 v3) ∧ (CaseB v1 v3 → ¬ CaseA v1 v3 ∧ ¬ CaseC v1 v3 ∧ ¬ CaseD v1 v3 ∧ ¬ CaseE v1 v3 ∧ ¬ CaseG v1 v3 ∧ ¬ CaseH v1 v3) ∧ (CaseC v1 v3 → ¬ CaseA v1 v3 ∧ ¬ CaseB v1 v3 ∧ ¬ CaseD v1 v3 ∧ ¬ CaseE v1 v3 ∧ ¬ CaseG v1 v3 ∧ ¬ CaseH v1 v3) ∧ (CaseD v1 v3 → ¬ CaseA v1 v3 ∧ ¬ CaseB v1 v3 ∧ ¬ CaseC v1 v3 ∧ ¬ CaseE v1 v3 ∧ ¬ CaseG v1 v3 ∧ ¬ CaseH v1 v3) ∧ (CaseE v1 v3 → ¬ CaseA v1 v3 ∧ ¬ CaseB v1 v3 ∧ ¬ CaseC v1 v3 ∧ ¬ CaseD v1 v3 ∧ ¬ CaseG v1 v3 ∧ ¬ CaseH v1 v3) ∧ (CaseG v1 v3 → ¬ CaseA v1 v3 ∧ ¬ CaseB v1 v3 ∧ ¬ CaseC v1 v3 ∧ ¬ CaseD v1 v3 ∧ ¬ CaseE v1 v3 ∧ ¬ CaseH v1 v3) ∧ (CaseH v1 v3 → ¬ CaseA v1 v3 ∧ ¬ CaseB v1 v3 ∧ ¬ CaseC v1 v3 ∧ ¬ CaseD v1 v3 ∧ ¬ CaseE v1 v3 ∧ ¬ CaseG v1 v3) := by
  unfold CaseA CaseB CaseC CaseD CaseE CaseG CaseH
  refine ⟨?_, ?_, ?_, ?_, ?_, ?_, ?_⟩ <;> intro h <;> refine ⟨?_, ?_, ?_, ?_, ?_, ?_⟩ <;> intro h' <;> simp_all

/-- One step: from the buffers at what they hold, the body runs to the buffers at what the step makes of them. -/
theorem step (y8 : Vec F S8320x256 .f32) (y9 y10 s0 s1 : Vec F S640x256 .f32) (K : PUnit → sProp 𝕄) :
    iprop(tbPt c tbM0_0 (tbl (F := F) 0) ∗ tbPt c tbM0_1 (tbl (F := F) 1) ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t)
        ∗ owns (c : Thread nD τ) (ms0_8 t) fullShare y8 ∗ owns (c : Thread nD τ) (ms0_9 t) fullShare y9 ∗ owns (c : Thread nD τ) (ms0_10 t) fullShare y10
        ∗ owns (c : Thread nD τ) scM0_0 fullShare s0 ∗ owns (c : Thread nD τ) scM0_1 fullShare s1
        ∗ (∀ z8 z9 z10 r0 r1, ⌜Rel m c t y8 y9 y10 s0 s1 z8 z9 z10 r0 r1⌝ -∗ iprop(tbPt c tbM0_0 (tbl (F := F) 0) ∗ tbPt c tbM0_1 (tbl (F := F) 1) ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t)
        ∗ owns (c : Thread nD τ) (ms0_8 t) fullShare z8 ∗ owns (c : Thread nD τ) (ms0_9 t) fullShare z9 ∗ owns (c : Thread nD τ) (ms0_10 t) fullShare z10
        ∗ owns (c : Thread nD τ) scM0_0 fullShare r0 ∗ owns (c : Thread nD τ) scM0_1 fullShare r1) -∗ K ⟨⟩))
      ⊢ wp frame (wpE (defs₀ (F := F)) Variants.none c none) Set.univ (bodyAt0 t) K := by
  have hex := excl (qw t) (kw t)
  rcases cases_at ((grid0.coords t) 1) with h | h | h | h | h | h | h
  on_goal 1 =>
    obtain ⟨nB, nC, nD, nE, nG, nH⟩ := hex.1 h
    iintro ⟨HT0, HT1, H0, H1, H2, H3, H4, H5, H6, H7, H8, H9, H10, HS0, HS1, Hk⟩
    iapply ((atA m c t h y8 s0 s1).2.2.2 Set.univ _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨HT0, HT1, H0, H1, H2, H3, H4, H5, H6, H7, H8, HS0, HS1⟩
    iapply Hk $$ %(outA_8 m c t h y8 s0 s1) %y9 %y10 %(outA_s0 m c t h y8 s0 s1) %(outA_s1 m c t h y8 s0 s1)
    · ipureintro; exact ⟨fun _ => ⟨rfl, rfl, rfl, rfl, rfl⟩, fun h' => absurd h' nB, fun h' => absurd h' nC, fun h' => absurd h' nD, fun h' => absurd h' nE, fun h' => absurd h' nG, fun h' => absurd h' nH⟩
  on_goal 2 =>
    obtain ⟨nA, nC, nD, nE, nG, nH⟩ := hex.2.1 h
    iintro ⟨HT0, HT1, H0, H1, H2, H3, H4, H5, H6, H7, H8, H9, H10, HS0, HS1, Hk⟩
    iapply ((atB m c t h y8 s0 s1).2.2.2 Set.univ _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨HT0, HT1, H0, H1, H2, H3, H4, H5, H6, H7, H8, HS0, HS1⟩
    iapply Hk $$ %(outB_8 m c t h y8 s0 s1) %y9 %y10 %(outB_s0 m c t h y8 s0 s1) %(outB_s1 m c t h y8 s0 s1)
    · ipureintro; exact ⟨fun h' => absurd h' nA, fun _ => ⟨rfl, rfl, rfl, rfl, rfl⟩, fun h' => absurd h' nC, fun h' => absurd h' nD, fun h' => absurd h' nE, fun h' => absurd h' nG, fun h' => absurd h' nH⟩
  on_goal 3 =>
    obtain ⟨nA, nB, nD, nE, nG, nH⟩ := hex.2.2.1 h
    iintro ⟨HT0, HT1, H0, H1, H2, H3, H4, H5, H6, H7, H8, H9, H10, HS0, HS1, Hk⟩
    iapply ((atC m c t h y8 y9 y10 s0 s1).2.2.2.2.2 Set.univ _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨HT0, HT1, H0, H1, H2, H3, H4, H5, H6, H7, H8, H9, H10, HS0, HS1⟩
    iapply Hk $$ %(outC_8 m c t h y8 y9 y10 s0 s1) %(outC_9 m c t h y8 y9 y10 s0 s1) %(outC_10 m c t h y8 y9 y10 s0 s1) %(outC_s0 m c t h y8 y9 y10 s0 s1) %(outC_s1 m c t h y8 y9 y10 s0 s1)
    · ipureintro; exact ⟨fun h' => absurd h' nA, fun h' => absurd h' nB, fun _ => ⟨rfl, rfl, rfl, rfl, rfl⟩, fun h' => absurd h' nD, fun h' => absurd h' nE, fun h' => absurd h' nG, fun h' => absurd h' nH⟩
  on_goal 4 =>
    obtain ⟨nA, nB, nC, nE, nG, nH⟩ := hex.2.2.2.1 h
    iintro ⟨HT0, HT1, H0, H1, H2, H3, H4, H5, H6, H7, H8, H9, H10, HS0, HS1, Hk⟩
    iapply ((atD m c t h y8 s0 s1).2.2.2 Set.univ _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨HT0, HT1, H0, H1, H2, H3, H4, H5, H6, H7, H8, HS0, HS1⟩
    iapply Hk $$ %(outD_8 m c t h y8 s0 s1) %y9 %y10 %(outD_s0 m c t h y8 s0 s1) %(outD_s1 m c t h y8 s0 s1)
    · ipureintro; exact ⟨fun h' => absurd h' nA, fun h' => absurd h' nB, fun h' => absurd h' nC, fun _ => ⟨rfl, rfl, rfl, rfl, rfl⟩, fun h' => absurd h' nE, fun h' => absurd h' nG, fun h' => absurd h' nH⟩
  on_goal 5 =>
    obtain ⟨nA, nB, nC, nD, nG, nH⟩ := hex.2.2.2.2.1 h
    iintro ⟨HT0, HT1, H0, H1, H2, H3, H4, H5, H6, H7, H8, H9, H10, HS0, HS1, Hk⟩
    iapply ((atE m c t h y8 y9 y10 s0 s1).2.2.2.2.2 Set.univ _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨HT0, HT1, H0, H1, H2, H3, H4, H5, H6, H7, H8, H9, H10, HS0, HS1⟩
    iapply Hk $$ %(outE_8 m c t h y8 y9 y10 s0 s1) %(outE_9 m c t h y8 y9 y10 s0 s1) %(outE_10 m c t h y8 y9 y10 s0 s1) %(outE_s0 m c t h y8 y9 y10 s0 s1) %(outE_s1 m c t h y8 y9 y10 s0 s1)
    · ipureintro; exact ⟨fun h' => absurd h' nA, fun h' => absurd h' nB, fun h' => absurd h' nC, fun h' => absurd h' nD, fun _ => ⟨rfl, rfl, rfl, rfl, rfl⟩, fun h' => absurd h' nG, fun h' => absurd h' nH⟩
  on_goal 6 =>
    obtain ⟨nA, nB, nC, nD, nE, nH⟩ := hex.2.2.2.2.2.1 h
    iintro ⟨HT0, HT1, H0, H1, H2, H3, H4, H5, H6, H7, H8, H9, H10, HS0, HS1, Hk⟩
    iapply ((atG m c t h y8 s0 s1).2.2.2 Set.univ _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨HT0, HT1, H0, H1, H2, H3, H4, H5, H6, H7, H8, HS0, HS1⟩
    iapply Hk $$ %(outG_8 m c t h y8 s0 s1) %y9 %y10 %(outG_s0 m c t h y8 s0 s1) %(outG_s1 m c t h y8 s0 s1)
    · ipureintro; exact ⟨fun h' => absurd h' nA, fun h' => absurd h' nB, fun h' => absurd h' nC, fun h' => absurd h' nD, fun h' => absurd h' nE, fun _ => ⟨rfl, rfl, rfl, rfl, rfl⟩, fun h' => absurd h' nH⟩
  on_goal 7 =>
    obtain ⟨nA, nB, nC, nD, nE, nG⟩ := hex.2.2.2.2.2.2 h
    iintro ⟨HT0, HT1, H0, H1, H2, H3, H4, H5, H6, H7, H8, H9, H10, HS0, HS1, Hk⟩
    iapply ((atH m c t h y8 y9 y10 s0 s1).2.2.2.2.2 Set.univ _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨HT0, HT1, H0, H1, H2, H3, H4, H5, H6, H7, H8, H9, H10, HS0, HS1⟩
    iapply Hk $$ %(outH_8 m c t h y8 y9 y10 s0 s1) %(outH_9 m c t h y8 y9 y10 s0 s1) %(outH_10 m c t h y8 y9 y10 s0 s1) %(outH_s0 m c t h y8 y9 y10 s0 s1) %(outH_s1 m c t h y8 y9 y10 s0 s1)
    · ipureintro; exact ⟨fun h' => absurd h' nA, fun h' => absurd h' nB, fun h' => absurd h' nC, fun h' => absurd h' nD, fun h' => absurd h' nE, fun h' => absurd h' nG, fun _ => ⟨rfl, rfl, rfl, rfl, rfl⟩⟩
  all_goals
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    iexact HS1
end Cert.Kernel9Ideal.Gen

end
-- ==== Proof.AttnReal.lean ====
/- Causal attention over the real numbers: scores, weights and the three gradients, each as a finite
   sum, and the facts about extended reals which bring both programs to these sums. -/
module

public import proofs.«01_k».proof.Proof.Real
public import Idealize.ShloMosaic.Lib.ValueIdx
public import Idealize.ShloMosaic.Lib.KernelVsHost
public import Idealize.ShloMosaic.PureOps.Ideal.Laws

@[expose] public section

noncomputable section

namespace Cert.Attn

open Idealize.ShloMosaic

/-! ## Extended reals -/

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem bits_bot : Ideal.ofBits .f32 0xFF800000#32 = (⊥ : EReal) := by
  simp [Ideal.ofBits, Ideal.ieee, -EReal.coe_mul]
theorem bits_96 : Ideal.ofBits .f32 0x42C00000#32 = ((96 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num

/-- The scale of the scores. -/
def c0 : ℝ := 1 / √96
/-- The number of a natural logarithm's units in a binary one. -/
def ilog : ℝ := 1 / Real.log 2

theorem div_sqrt : Ideal.div (Ideal.ofBits .f32 0x3F800000#32) (Ideal.sqrt (Ideal.ofBits .f32 0x42C00000#32)) = ((c0 : ℝ) : EReal) := by
  rw [Proof.bits_one, bits_96, Ideal.sqrt_coe, if_neg (by norm_num), Ideal.div_coe (by positivity), one_mul]; rfl
theorem log2_ne : Real.log 2 ≠ 0 := (Real.log_pos (by norm_num)).ne'
theorem div_log : Ideal.div (Ideal.ofBits .f32 0x3F800000#32) (Ideal.log (Ideal.ofBits .f32 0x40000000#32)) = ((ilog : ℝ) : EReal) := by
  rw [Proof.bits_one, bits_2, Ideal.log_coe, if_neg (by norm_num), Ideal.div_coe log2_ne, one_mul]; rfl

/-- A running maximum of numbers none of which is `⊤`, one of which is real, is real. -/
theorem fold_max {α : Type} (l : List α) (g : α → EReal) (b : EReal) (hb : b ≠ ⊤) (hg : ∀ n, g n ≠ ⊤) (n0 : α) (h0 : n0 ∈ l) (hn : g n0 ≠ ⊥) :
    ∃ r : ℝ, l.foldl (fun r n => max r (g n)) b = r := by
  have up : ∀ (l : List α) (b : EReal), b ≠ ⊤ → l.foldl (fun r n => max r (g n)) b ≠ ⊤ := by
    intro l
    induction l with
    | nil => exact fun b hb => hb
    | cons a l ih => exact fun b hb => ih _ (by show max b (g a) ≠ ⊤; rcases max_choice b (g a) with h | h <;> rw [h]; exacts [hb, hg a])
  have mono : ∀ (l : List α) (b : EReal), b ≤ l.foldl (fun r n => max r (g n)) b := by
    intro l
    induction l with
    | nil => exact fun b => le_rfl
    | cons a l ih => exact fun b => (le_max_left _ _).trans (ih _)
  have mem : ∀ (l : List α) (b : EReal), n0 ∈ l → g n0 ≤ l.foldl (fun r n => max r (g n)) b := by
    intro l
    induction l with
    | nil => exact fun b h => absurd h (List.not_mem_nil)
    | cons a l ih =>
      intro b h
      rcases List.mem_cons.mp h with h | h
      · subst h; exact (le_max_right _ _).trans (mono l _)
      · exact ih _ h
  have hbot : l.foldl (fun r n => max r (g n)) b ≠ ⊥ := fun e => hn (le_bot_iff.mp (e ▸ mem l b h0))
  exact ⟨_, (EReal.coe_toReal (up l b hb) hbot).symm⟩

theorem exp_mask (c r : ℕ) (x m : ℝ) :
    Ideal.exp ((if c ≤ r then (x : EReal) else ⊥) - (m : EReal)) = ((Real.exp (-m) * (if c ≤ r then Real.exp x else 0) : ℝ) : EReal) := by
  by_cases h : c ≤ r
  · rw [if_pos h, if_pos h, ← EReal.coe_sub, Ideal.exp_coe, ← Real.exp_add]
    congr 2; ring
  · rw [if_neg h, if_neg h, mul_zero, EReal.bot_sub]; rfl

/-- Comparing small printed indices. -/
theorem sle_ofNat (a b : ℕ) (ha : a < 2 ^ 31) (hb : b < 2 ^ 31) : (BitVec.ofNat 32 a).sle (BitVec.ofNat 32 b) = decide (a ≤ b) := by
  rw [BitVec.sle_eq_decide, BitVec.toInt_ofNat', BitVec.toInt_ofNat']
  congr 1
  rw [Int.bmod_eq_of_le (by omega) (by omega), Int.bmod_eq_of_le (by omega) (by omega)]
  exact propext (by omega)

theorem slt_ofNat (a b : ℕ) (ha : a < 2 ^ 31) (hb : b < 2 ^ 31) : (BitVec.ofNat 32 a).slt (BitVec.ofNat 32 b) = decide (a < b) := by
  rw [BitVec.slt_eq_decide, BitVec.toInt_ofNat', BitVec.toInt_ofNat']
  congr 1
  rw [Int.bmod_eq_of_le (by omega) (by omega), Int.bmod_eq_of_le (by omega) (by omega)]
  exact propext (by omega)

theorem ofBool_or (a b : Bool) : IntOp.ori (BitVec.ofBool a) (BitVec.ofBool b) = BitVec.ofBool (a || b) := by cases a <;> cases b <;> rfl
theorem ofBool_and (a b : Bool) : IntOp.andi (BitVec.ofBool a) (BitVec.ofBool b) = BitVec.ofBool (a && b) := by cases a <;> cases b <;> rfl

/-! ## Attention over the reals -/

/-- The real entry of an array, zero outside it. -/
def rd {D : ℕ} (X : (⟨3, ![8208, 8, D]⟩ : Shape).Idx → EReal) (r h e : ℕ) : ℝ :=
  if H : r < 8208 ∧ h < 8 ∧ e < D then (X (ValueIdx.ix3 ⟨r, H.1⟩ ⟨h, H.2.1⟩ ⟨e, H.2.2⟩)).toReal else 0

theorem rd_eq {D : ℕ} (X : (⟨3, ![8208, 8, D]⟩ : Shape).Idx → EReal) (hX : ∀ i, ∃ x : ℝ, X i = x) (i : (⟨3, ![8208, 8, D]⟩ : Shape).Idx)
    (r h e : ℕ) (hr : (i 0).val = r) (hh : (i 1).val = h) (he : (i 2).val = e) : X i = ((rd X r h e : ℝ) : EReal) := by
  subst hr hh he
  have h0 : (i 0).val < 8208 := (i 0).isLt
  have h1 : (i 1).val < 8 := (i 1).isLt
  have h2 : (i 2).val < D := (i 2).isLt
  obtain ⟨x, hx⟩ := hX i
  have e : i = ValueIdx.ix3 ⟨(i 0).val, h0⟩ ⟨(i 1).val, h1⟩ ⟨(i 2).val, h2⟩ := ValueIdx.eq_ix3 i
  rw [rd, dif_pos ⟨h0, h1, h2⟩, ← e, hx, EReal.toReal_coe]

section
variable (q k : (⟨3, ![8208, 8, 96]⟩ : Shape).Idx → EReal) (v w : (⟨3, ![8208, 8, 64]⟩ : Shape).Idx → EReal)

/-- The scores. -/
def S (r c h : ℕ) : ℝ := ∑ e : Fin 96, rd q r h e * rd k c h e
/-- The exponential of a score a row sees. -/
def E (r c h : ℕ) : ℝ := if c ≤ r then Real.exp (S q k r c h * c0) else 0
/-- A row's normaliser. -/
def L (r h : ℕ) : ℝ := ∑ c : Fin 8208, E q k r c h
/-- The weights. -/
def P (r c h : ℕ) : ℝ := E q k r c h / L q k r h
/-- The cotangent of the weights. -/
def DP (r c h : ℕ) : ℝ := ∑ d : Fin 64, rd w r h d * rd v c h d
/-- The weighted mean of a row's cotangents. -/
def Dl (r h : ℕ) : ℝ := ∑ c : Fin 8208, P q k r c h * DP v w r c h
/-- The cotangent of the scores. -/
def DS (r c h : ℕ) : ℝ := P q k r c h * (DP v w r c h - Dl q k v w r h) * c0

theorem E_nonneg (r c h : ℕ) : 0 ≤ E q k r c h := by unfold E; split_ifs <;> positivity
theorem L_pos (r h : ℕ) (hr : r < 8208) : 0 < L q k r h :=
  lt_of_lt_of_le (b := E q k r (⟨r, hr⟩ : Fin 8208).val h) (by unfold E; rw [if_pos le_rfl]; exact Real.exp_pos _)
    (Finset.single_le_sum (f := fun c : Fin 8208 => E q k r c.val h) (fun c _ => E_nonneg q k r c h) (Finset.mem_univ _))

theorem Dl_eq (r h : ℕ) : Dl q k v w r h = ∑ d : Fin 64, rd w r h d * ∑ c : Fin 8208, P q k r c h * rd v c h d := by
  unfold Dl DP
  simp only [Finset.mul_sum]
  rw [Finset.sum_comm]
  exact Finset.sum_congr rfl fun _ _ => Finset.sum_congr rfl fun _ _ => by ring

/-- The three gradients. -/
def rdq (r h e : ℕ) : ℝ := ∑ c : Fin 8208, DS q k v w r c h * rd k c h e
def rdk (c h e : ℕ) : ℝ := ∑ r : Fin 8208, DS q k v w r c h * rd q r h e
def rdv (c h d : ℕ) : ℝ := ∑ r : Fin 8208, P q k r c h * rd w r h d

theorem rd_out {D : ℕ} (X : (⟨3, ![8208, 8, D]⟩ : Shape).Idx → EReal) (r h e : ℕ) (H : ¬(r < 8208 ∧ h < 8 ∧ e < D)) : rd X r h e = 0 := dif_neg H
theorem P_out (r c h : ℕ) (H : r < c) : P q k r c h = 0 := by rw [P, E, if_neg (not_le.mpr H), zero_div]
theorem DS_out (r c h : ℕ) (H : r < c) : DS q k v w r c h = 0 := by rw [DS, P_out q k r c h H, zero_mul, zero_mul]
theorem DP_out (r c h : ℕ) (H : ¬r < 8208) : DP v w r c h = 0 :=
  Finset.sum_eq_zero fun d _ => by rw [rd_out w r h d (fun h => H h.1), zero_mul]
theorem Dl_out (r h : ℕ) (H : ¬r < 8208) : Dl q k v w r h = 0 :=
  Finset.sum_eq_zero fun c _ => by rw [DP_out v w r c h H, mul_zero]
theorem DS_row (r c h : ℕ) (H : ¬r < 8208) : DS q k v w r c h = 0 := by rw [DS, DP_out v w r c h H, Dl_out q k v w r h H, sub_zero, mul_zero, zero_mul]

theorem rdq_out (r h e : ℕ) (H : ¬(r < 8208 ∧ h < 8 ∧ e < 96)) : rdq q k v w r h e = 0 := by
  refine Finset.sum_eq_zero fun c _ => ?_
  by_cases hr : r < 8208
  · rw [rd_out k c h e (fun h => H ⟨hr, h.2⟩), mul_zero]
  · rw [DS_row q k v w r c h hr, zero_mul]
theorem rdk_out (c h e : ℕ) (H : ¬(c < 8208 ∧ h < 8 ∧ e < 96)) : rdk q k v w c h e = 0 := by
  refine Finset.sum_eq_zero fun r _ => ?_
  by_cases hc : c < 8208
  · rw [rd_out q r h e (fun h => H ⟨hc, h.2⟩), mul_zero]
  · rw [DS_out q k v w r c h (by have := r.isLt; omega), zero_mul]
theorem rdv_out (c h d : ℕ) (H : ¬(c < 8208 ∧ h < 8 ∧ d < 64)) : rdv q k w c h d = 0 := by
  refine Finset.sum_eq_zero fun r _ => ?_
  by_cases hc : c < 8208
  · rw [rd_out w r h d (fun h => H ⟨hc, h.2⟩), mul_zero]
  · rw [P_out q k r c h (by have := r.isLt; omega), zero_mul]

end

/-! ## The padded layout: 48 rows before, and lanes `lo …` of 128 per head -/

def pd (lo : ℕ) (f : ℕ → ℕ → ℕ → ℝ) (R H e : ℕ) : ℝ := if 48 ≤ R ∧ lo ≤ e then f (R - 48) H (e - lo) else 0

theorem pad_at {D lo hi : ℕ} (x : (⟨3, ![8208, 8, D]⟩ : Shape).Idx → EReal) {u : Shape} (z : u.Idx → EReal)
    (hP : Shape.Pads (⟨3, ![8208, 8, D]⟩ : Shape) ![48, 0, lo] ![64, 0, hi] ![0, 0, 0] (⟨3, ![8320, 8, 128]⟩ : Shape)) (hu : 0 < u.numel)
    (f : ℕ → ℕ → ℕ → ℝ) (hx : ∀ i, x i = ((f (i 0) (i 1) (i 2) : ℝ) : EReal))
    (hf : ∀ r h e, ¬(r < 8208 ∧ h < 8 ∧ e < D) → f r h e = 0) (hz : ∀ i, z i = 0) (j : (⟨3, ![8320, 8, 128]⟩ : Shape).Idx) :
    pad (⟨3, ![8320, 8, 128]⟩ : Shape) ![48, 0, lo] ![64, 0, hi] ![0, 0, 0] x z hP hu j = ((pd lo f (j 0) (j 1) (j 2) : ℝ) : EReal) := by
  have hj1 : (j 1).val < 8 := (j 1).isLt
  by_cases H : (48 ≤ (j 0).val ∧ (j 0).val < 8256) ∧ lo ≤ (j 2).val ∧ (j 2).val < lo + D
  · have a0 : (j 0).val - 48 < 8208 := by omega
    have a2 : (j 2).val - lo < D := by omega
    refine (pad_apply_of_inside _ _ _ x z hP hu j (ValueIdx.ix3 ⟨(j 0).val - 48, a0⟩ ⟨(j 1).val, hj1⟩ ⟨(j 2).val - lo, a2⟩) ?_).trans ?_
    · intro a
      match a with
      | ⟨0, _⟩ => show (j 0).val = 48 + ((j 0).val - 48) * 1; omega
      | ⟨1, _⟩ => show (j 1).val = 0 + (j 1).val * 1; omega
      | ⟨2, _⟩ => show (j 2).val = lo + ((j 2).val - lo) * 1; omega
    · rw [hx, pd, if_pos ⟨H.1.1, H.2.1⟩]; rfl
  · have hpd : pd lo f (j 0) (j 1) (j 2) = 0 := by
      unfold pd
      split_ifs with h
      · exact hf _ _ _ (by omega)
      · rfl
    rw [hpd]
    by_cases h0 : 48 ≤ (j 0).val ∧ (j 0).val < 8256
    · refine (pad_apply_of_not_inside _ _ _ x z hP hu j (2 : Fin 3) ?_).trans (hz _)
      rintro ⟨b0, _, b2⟩
      have b0' : lo ≤ (j 2).val := b0
      have b2' : ((j 2).val - lo) / 1 < D := b2
      omega
    · refine (pad_apply_of_not_inside _ _ _ x z hP hu j (0 : Fin 3) ?_).trans (hz _)
      rintro ⟨b0, _, b2⟩
      have b0' : 48 ≤ (j 0).val := b0
      have b2' : ((j 0).val - 48) / 1 < 8208 := b2
      omega

/-- Reading the heads' lanes side by side. -/
theorem pd_rs (lo : ℕ) (f : ℕ → ℕ → ℕ → ℝ) (a : ℕ) {b : ℕ} (hb : b < 1024) :
    ((pd lo f ((a * 1024 + b) / 1024) ((a * 1024 + b) / 128 % 8) ((a * 1024 + b) % 128) : ℝ) : EReal) = ((pd lo f a (b / 128) (b % 128) : ℝ) : EReal) := by
  rw [show (a * 1024 + b) / 1024 = a by omega, show (a * 1024 + b) / 128 % 8 = b / 128 by omega, show (a * 1024 + b) % 128 = b % 128 by omega]

end Cert.Attn

end
-- ==== Proof.AttnPad.lean ====
/- The attention gradient over the padded rows and lanes, as the blocked kernel computes it, is the plain one. -/
module

public import proofs.«01_k».proof.Proof.AttnReal

@[expose] public section

noncomputable section

namespace Cert.Attn

open Idealize.ShloMosaic

/-- A sum whose terms vanish before `a` and from `a + b` on. -/
theorem sum_pad (n a b d : ℕ) (hn : n = a + b + d) (g : ℕ → ℝ) (hlo : ∀ i, i < a → g i = 0) (hhi : ∀ i, a + b ≤ i → g i = 0) :
    ∑ i : Fin n, g i = ∑ i : Fin b, g (a + i) := by
  subst hn
  rw [Fin.sum_univ_eq_sum_range g, Fin.sum_univ_eq_sum_range (fun i => g (a + i)), Finset.sum_range_add, Finset.sum_range_add]
  rw [Finset.sum_eq_zero (fun i hi => hlo i (Finset.mem_range.mp hi)), zero_add,
    Finset.sum_eq_zero (s := Finset.range d) (fun i _ => hhi (a + b + i) (Nat.le_add_right _ _)), add_zero]

/-- A sum over the rows is a sum over the blocks of rows. -/
theorem sum_blocks (f : ℕ → ℝ) : ∑ k : Fin 13, ∑ a : Fin 640, f (640 * k + a) = ∑ R : Fin 8320, f R := by
  rw [show (∑ R : Fin 8320, f R) = ∑ R : Fin (13 * 640), f R from rfl, ← Equiv.sum_comp finProdFinEquiv, Fintype.sum_prod_type]
  refine Finset.sum_congr rfl fun k _ => Finset.sum_congr rfl fun a _ => congrArg f ?_
  show _ = a.val + 640 * k.val
  omega

section
variable (q k : (⟨3, ![8208, 8, 96]⟩ : Shape).Idx → EReal) (v w : (⟨3, ![8208, 8, 64]⟩ : Shape).Idx → EReal)

/-- The padded arrays' entries. -/
def fq (r h e : ℕ) : ℝ := rd q r h e * (c0 * ilog)
def fl (r h e : ℕ) : ℝ := if r < 8208 ∧ h < 8 ∧ e < 128 then Real.log (L q k r h) * ilog else 0
def fd (r h e : ℕ) : ℝ := if r < 8208 ∧ h < 8 ∧ e < 128 then Dl q k v w r h else 0

theorem fq_out (r h e : ℕ) (H : ¬(r < 8208 ∧ h < 8 ∧ e < 96)) : fq q r h e = 0 := by rw [fq, rd_out q r h e H, zero_mul]
theorem fl_out (r h e : ℕ) (H : ¬(r < 8208 ∧ h < 8 ∧ e < 128)) : fl q k r h e = 0 := if_neg H
theorem fd_out (r h e : ℕ) (H : ¬(r < 8208 ∧ h < 8 ∧ e < 128)) : fd q k v w r h e = 0 := if_neg H

theorem pd_in (lo : ℕ) (f : ℕ → ℕ → ℕ → ℝ) (r H e : ℕ) : pd lo f (48 + r) H (lo + e) = f r H e := by
  rw [pd, if_pos ⟨by omega, by omega⟩, Nat.add_sub_cancel_left, Nat.add_sub_cancel_left]
theorem pd_in0 (f : ℕ → ℕ → ℕ → ℝ) (r H e : ℕ) : pd 0 f (48 + r) H e = f r H e := by
  rw [pd, if_pos ⟨by omega, by omega⟩, Nat.add_sub_cancel_left, Nat.sub_zero]
theorem pd_row (lo : ℕ) (f : ℕ → ℕ → ℕ → ℝ) (R H e : ℕ) (h : R < 48) : pd lo f R H e = 0 := if_neg (by omega)
theorem pd_lane (lo : ℕ) (f : ℕ → ℕ → ℕ → ℝ) (R H e : ℕ) (h : e < lo) : pd lo f R H e = 0 := if_neg (by omega)
theorem pd_past {D : ℕ} (lo : ℕ) (f : ℕ → ℕ → ℕ → ℝ) (hf : ∀ r h e, ¬(r < 8208 ∧ h < 8 ∧ e < D) → f r h e = 0) (R H e : ℕ) (h : 8256 ≤ R) : pd lo f R H e = 0 := by
  unfold pd
  split_ifs
  · exact hf _ _ _ (by omega)
  · rfl

/-- The weights over the padded rows. -/
def PK (R C H : ℕ) : ℝ := if C ≤ R ∧ 48 ≤ C then (2 : ℝ) ^ ((∑ e : Fin 128, pd 0 (fq q) R H e * pd 0 (rd k) C H e) - pd 0 (fl q k) R H 0) else 0
/-- The cotangent of the scores over the padded rows. -/
def DK (R C H : ℕ) : ℝ := PK q k R C H * ((∑ e : Fin 128, pd 64 (rd w) R H e * c0 * pd 64 (rd v) C H e) - pd 0 (fd q k v w) R H 0 * c0)

theorem score_pad (r c h : ℕ) : (∑ e : Fin 128, pd 0 (fq q) (48 + r) h e * pd 0 (rd k) (48 + c) h e) = S q k r c h * (c0 * ilog) := by
  refine (sum_pad 128 0 96 32 rfl (fun e => pd 0 (fq q) (48 + r) h e * pd 0 (rd k) (48 + c) h e) (fun i hi => absurd hi (Nat.not_lt_zero i)) (fun i hi => ?_)).trans ?_
  · show pd 0 (fq q) (48 + r) h i * _ = 0
    rw [pd_in0, fq_out q r h i (by omega), zero_mul]
  · rw [S, Finset.sum_mul]
    refine Finset.sum_congr rfl fun e _ => ?_
    rw [pd_in, pd_in, fq]; ring

theorem PK_in (r c h : ℕ) (hr : r < 8208) (hh : h < 8) : PK q k (48 + r) (48 + c) h = P q k r c h := by
  unfold PK P E
  by_cases H : c ≤ r
  · have hL := L_pos q k r h hr
    rw [if_pos ⟨by omega, by omega⟩, if_pos H, score_pad, pd_in0, fl, if_pos ⟨hr, hh, by decide⟩, Real.rpow_def_of_pos (by norm_num)]
    rw [show Real.log 2 * (S q k r c h * (c0 * ilog) - Real.log (L q k r h) * ilog) = S q k r c h * c0 - Real.log (L q k r h) by
      unfold ilog; have := log2_ne; field_simp]
    rw [Real.exp_sub, Real.exp_log hL]
  · rw [if_neg (by omega), if_neg H, zero_div]

theorem dp_pad (r c h : ℕ) : (∑ e : Fin 128, pd 64 (rd w) (48 + r) h e * c0 * pd 64 (rd v) (48 + c) h e) = DP v w r c h * c0 := by
  refine (sum_pad 128 64 64 0 rfl (fun e => pd 64 (rd w) (48 + r) h e * c0 * pd 64 (rd v) (48 + c) h e) (fun i hi => ?_) (fun i hi => ?_)).trans ?_
  · show pd 64 (rd w) (48 + r) h i * c0 * _ = 0
    rw [pd_lane _ _ _ _ _ hi, zero_mul, zero_mul]
  · obtain ⟨j, rfl⟩ := Nat.exists_eq_add_of_le (show 64 ≤ i by omega)
    show pd 64 (rd w) (48 + r) h (64 + j) * c0 * _ = 0
    rw [pd_in, rd_out w r h j (by omega), zero_mul, zero_mul]
  · rw [DP, Finset.sum_mul]
    refine Finset.sum_congr rfl fun e _ => ?_
    rw [pd_in, pd_in]; ring

theorem DK_in (r c h : ℕ) (hr : r < 8208) (hh : h < 8) : DK q k v w (48 + r) (48 + c) h = DS q k v w r c h := by
  rw [DK, PK_in q k r c h hr hh, dp_pad, pd_in0, fd, if_pos ⟨hr, hh, by decide⟩, DS]
  ring

theorem PK_low (R C H : ℕ) (h : C < 48) : PK q k R C H = 0 := if_neg (by omega)
theorem PK_up (R C H : ℕ) (h : R < C) : PK q k R C H = 0 := if_neg (by omega)
theorem DK_low (R C H : ℕ) (h : C < 48) : DK q k v w R C H = 0 := by rw [DK, PK_low q k R C H h, zero_mul]
theorem DK_up (R C H : ℕ) (h : R < C) : DK q k v w R C H = 0 := by rw [DK, PK_up q k R C H h, zero_mul]
theorem DK_past (R C H : ℕ) (h : 8256 ≤ R) : DK q k v w R C H = 0 := by
  rw [DK, pd_past 0 (fd q k v w) (fd_out q k v w) R H 0 h, Finset.sum_eq_zero (fun e _ => by rw [pd_past 64 (rd w) (rd_out w) R H e h, zero_mul, zero_mul]), zero_mul, sub_zero, mul_zero]

theorem dv_pad (C H j : ℕ) (hH : H < 8) : ∑ R : Fin 8320, PK q k R C H * pd 64 (rd w) R H j = pd 64 (rdv q k w) C H j := by
  by_cases hC : 48 ≤ C
  · by_cases hj : 64 ≤ j
    · obtain ⟨c, rfl⟩ := Nat.exists_eq_add_of_le hC
      obtain ⟨d, rfl⟩ := Nat.exists_eq_add_of_le hj
      rw [pd_in, rdv]
      refine (sum_pad 8320 48 8208 64 rfl (fun R => PK q k R (48 + c) H * pd 64 (rd w) R H (64 + d)) (fun i hi => ?_) (fun i hi => ?_)).trans (Finset.sum_congr rfl fun r _ => ?_)
      · show _ * pd 64 (rd w) i H (64 + d) = 0
        rw [pd_row _ _ _ _ _ hi, mul_zero]
      · show _ * pd 64 (rd w) i H (64 + d) = 0
        rw [pd_past 64 (rd w) (rd_out w) i H _ hi, mul_zero]
      · show PK q k (48 + r) (48 + c) H * pd 64 (rd w) (48 + r) H (64 + d) = _
        rw [pd_in, PK_in q k r c H r.isLt hH]
    · rw [pd_lane _ _ _ _ _ (by omega)]
      exact Finset.sum_eq_zero fun R _ => by rw [pd_lane _ _ _ _ _ (by omega), mul_zero]
  · rw [pd_row _ _ _ _ _ (by omega)]
    exact Finset.sum_eq_zero fun R _ => by rw [PK_low q k _ _ _ (by omega), zero_mul]

theorem unscale_eq : c0 * ilog * (√96 * Real.log 2) = 1 := by
  unfold c0 ilog
  have h1 : √(96 : ℝ) ≠ 0 := by positivity
  have h2 := log2_ne
  field_simp

theorem dk_pad (C H j : ℕ) (hH : H < 8) : (∑ R : Fin 8320, DK q k v w R C H * pd 0 (fq q) R H j) * (√96 * Real.log 2) = pd 0 (rdk q k v w) C H j := by
  by_cases hC : 48 ≤ C
  · obtain ⟨c, rfl⟩ := Nat.exists_eq_add_of_le hC
    rw [pd_in0, rdk, Finset.sum_mul]
    refine (sum_pad 8320 48 8208 64 rfl (fun R => DK q k v w R (48 + c) H * pd 0 (fq q) R H j * (√96 * Real.log 2)) (fun i hi => ?_) (fun i hi => ?_)).trans (Finset.sum_congr rfl fun r _ => ?_)
    · show _ * pd 0 (fq q) i H j * _ = 0
      rw [pd_row _ _ _ _ _ hi, mul_zero, zero_mul]
    · show _ * pd 0 (fq q) i H j * _ = 0
      rw [pd_past 0 (fq q) (fq_out q) i H _ hi, mul_zero, zero_mul]
    · show DK q k v w (48 + r) (48 + c) H * pd 0 (fq q) (48 + r) H j * _ = _
      rw [pd_in0, DK_in q k v w r c H r.isLt hH, fq]
      linear_combination (DS q k v w r c H * rd q r H j) * unscale_eq
  · rw [pd_row _ _ _ _ _ (by omega), Finset.sum_eq_zero (fun R _ => by rw [DK_low q k v w _ _ _ (by omega), zero_mul]), zero_mul]

theorem dq_pad (R H j : ℕ) (hH : H < 8) : ∑ C : Fin 8320, DK q k v w R C H * pd 0 (rd k) C H j = pd 0 (rdq q k v w) R H j := by
  by_cases hR : 48 ≤ R
  · by_cases hR' : R < 8256
    · obtain ⟨r, rfl⟩ := Nat.exists_eq_add_of_le hR
      rw [pd_in0, rdq]
      refine (sum_pad 8320 48 8208 64 rfl (fun C => DK q k v w (48 + r) C H * pd 0 (rd k) C H j) (fun i hi => ?_) (fun i hi => ?_)).trans (Finset.sum_congr rfl fun c _ => ?_)
      · show _ * pd 0 (rd k) i H j = 0
        rw [pd_row _ _ _ _ _ hi, mul_zero]
      · show _ * pd 0 (rd k) i H j = 0
        rw [pd_past 0 (rd k) (rd_out k) i H _ hi, mul_zero]
      · show DK q k v w (48 + r) (48 + c) H * pd 0 (rd k) (48 + c) H j = _
        rw [pd_in0, DK_in q k v w r c H (by omega) hH]
    · rw [pd_past 0 _ (rdq_out q k v w) R H j (by omega)]
      exact Finset.sum_eq_zero fun C _ => by rw [DK_past q k v w _ _ _ (by omega), zero_mul]
  · rw [pd_row _ _ _ _ _ (by omega)]
    refine Finset.sum_eq_zero fun C _ => ?_
    by_cases hC : C.val < 48
    · rw [DK_low q k v w _ _ _ hC, zero_mul]
    · rw [DK_up q k v w _ _ _ (by omega), zero_mul]

end

end Cert.Attn

end
-- ==== Proof.AttnPrep.lean ====
/- The preparing program's scores, weights and row sums as real numbers, entry by entry. -/
module

public import proofs.«01_k».proof.Proof.AttnPad
public import proofs.«01_k».proof.Proof.Gen.Prepare9Ideal.Read

@[expose] public section

set_option maxRecDepth 4000

noncomputable section

namespace Cert.Prepare9Ideal.Attn

open Prepare9Ideal Cert.Prepare9Ideal.Gen Cert.Prepare9Ideal.Read Cert.Attn Idealize.ShloMosaic Idealize.ShloMosaic.StableHlo

section
variable (q k : (⟨S8208x8x96, .f32⟩ : BufTy).Contents (Elt Ideal)) (v w : (⟨S8208x8x64, .f32⟩ : BufTy).Contents (Elt Ideal))
variable (hq : ∀ i, ∃ x : ℝ, (q i : EReal) = x) (hk : ∀ i, ∃ x : ℝ, (k i : EReal) = x)
variable (hv : ∀ i, ∃ x : ℝ, (v i : EReal) = x) (hw : ∀ i, ∃ x : ℝ, (w i : EReal) = x)

include hq hk in
theorem dot_at (i : S8x8208x8208.Idx) : (val_main_v0 (F := Ideal) q k i : EReal) = ((S q k (i 1) (i 2) (i 0) : ℝ) : EReal) := by
  rw [val_main_v0_apply, S, coe_sum]
  refine Finset.sum_congr rfl fun e _ => ?_
  rw [rd_eq q hq (lidx_main_v0 i e) (i 1) (i 0) e rfl rfl rfl, rd_eq k hk (ridx_main_v0 i e) (i 2) (i 0) e rfl rfl rfl, EReal.coe_mul]

theorem scale_at (i : S_.Idx) : (val_main_v2 (F := Ideal) i : EReal) = ((c0 : ℝ) : EReal) := div_sqrt

include hq hk in
theorem score_at (i : S8x8208x8208.Idx) : (val_main_v4 (F := Ideal) q k i : EReal) = ((S q k (i 1) (i 2) (i 0) * c0 : ℝ) : EReal) := by
  rw [val_main_v4_apply, val_main_v3_apply, EReal.coe_mul, ← scale_at (idx_main_v3 i), ← dot_at q k hq hk i]
  rfl

theorem mask_at (i : S8x8208x8208.Idx) : val_main_v7 (F := Ideal) i = BitVec.ofBool (decide ((i 2).val ≤ (i 1).val)) := by
  refine Eq.trans ?_ (congrArg BitVec.ofBool (sle_ofNat (i 2).val (i 1).val ?_ ?_))
  · rfl
  · have h : (i 2).val < 8208 := (i 2).isLt
    omega
  · have h : (i 1).val < 8208 := (i 1).isLt
    omega

include hq hk in
theorem masked_at (i : S8x8208x8208.Idx) : (val_main_v9 (F := Ideal) q k i : EReal) =
    if (i 2).val ≤ (i 1).val then ((S q k (i 1) (i 2) (i 0) * c0 : ℝ) : EReal) else ⊥ := by
  rw [val_main_v9_apply, mask_at, ← score_at q k hq hk i]
  unfold Scalar.select
  by_cases h : (i 2).val ≤ (i 1).val
  · rw [if_pos h, decide_eq_true h]; rfl
  · rw [if_neg h, decide_eq_false h]
    exact bits_bot

include hq hk in
theorem max_at (j : S8x8208.Idx) : ∃ m : ℝ, (val_main_v10 (F := Ideal) q k j : EReal) = m := by
  have h1 : (j 1).val < 8208 := (j 1).isLt
  have h0 : (j 0).val < 8 := (j 0).isLt
  let i0 : S8x8208x8208.Idx := ValueIdx.ix3 ⟨(j 0).val, h0⟩ ⟨(j 1).val, h1⟩ ⟨0, by decide⟩
  refine fold_max (α := Fin S8x8208x8208.numel) _ (fun n => (val_main_v9 (F := Ideal) q k (S8x8208x8208.rowMajor.symm n) : EReal)) _ ?_ ?_ (S8x8208x8208.rowMajor i0) ?_ ?_
  · show Ideal.ofBits .f32 0xFF800000#32 ≠ ⊤
    rw [bits_bot]; exact bot_ne_top
  · intro n
    rw [masked_at q k hq hk]
    split_ifs
    · exact EReal.coe_ne_top _
    · exact bot_ne_top
  · rw [List.mem_filter]
    refine ⟨List.mem_finRange _, ?_⟩
    rw [Equiv.symm_apply_apply, decide_eq_true_eq]
    funext a
    match a with
    | ⟨0, _⟩ => rfl
    | ⟨1, _⟩ => rfl
  · rw [Equiv.symm_apply_apply, masked_at q k hq hk, if_pos (show 0 ≤ (j 1).val from Nat.zero_le _)]
    exact EReal.coe_ne_bot _

include hq hk in
theorem exp_at (h r : ℕ) (hh : h < 8) (hr : r < 8208) : ∃ m : ℝ, (val_main_v10 (F := Ideal) q k (ValueIdx.ix2 ⟨h, hh⟩ ⟨r, hr⟩) : EReal) = m ∧
    ∀ i : S8x8208x8208.Idx, (i 0).val = h → (i 1).val = r →
      (val_main_v14 (F := Ideal) q k i : EReal) = ((Real.exp (-m) * E q k r (i 2) h : ℝ) : EReal) := by
  obtain ⟨m, hm⟩ := max_at q k hq hk (ValueIdx.ix2 ⟨h, hh⟩ ⟨r, hr⟩)
  refine ⟨m, hm, fun i h0 h1 => ?_⟩
  rw [val_main_v14_apply, val_main_v13_apply, val_main_v12_apply, val_main_v11_apply]
  have e : idx_main_v11 (idx_main_v12 i) = ValueIdx.ix2 ⟨h, hh⟩ ⟨r, hr⟩ := by
    funext a; apply Fin.ext
    match a with
    | ⟨0, _⟩ => exact h0
    | ⟨1, _⟩ => exact h1
  rw [e]
  subst h0 h1
  exact (congrArg Ideal.exp (congrArg₂ (fun a b : EReal => a - b) (masked_at q k hq hk i) hm)).trans (exp_mask _ _ _ _)

include hq hk in
theorem norm_at (h r : ℕ) (hh : h < 8) (hr : r < 8208) : ∃ m : ℝ, (val_main_v10 (F := Ideal) q k (ValueIdx.ix2 ⟨h, hh⟩ ⟨r, hr⟩) : EReal) = m ∧
    (∀ i : S8x8208x8208.Idx, (i 0).val = h → (i 1).val = r →
      (val_main_v14 (F := Ideal) q k i : EReal) = ((Real.exp (-m) * E q k r (i 2) h : ℝ) : EReal)) ∧
    ∀ j : S8x8208.Idx, (j 0).val = h → (j 1).val = r →
      (val_main_v15 (F := Ideal) q k j : EReal) = ((Real.exp (-m) * L q k r h : ℝ) : EReal) := by
  obtain ⟨m, hm, he⟩ := exp_at q k hq hk h r hh hr
  refine ⟨m, hm, he, fun j h0 h1 => ?_⟩
  have hz : ((val_main_cst_3 (F := Ideal)) (Shape.Idx.first h_S_) : EReal) = 0 := Proof.bits_zero
  rw [val_main_v15_apply, hz, zero_add, L, Finset.mul_sum, coe_sum]
  exact Finset.sum_congr rfl fun c _ => he (idx_main_v15 j c) h0 h1

include hq hk in
theorem weight_at (i : S8x8208x8208.Idx) : (val_main_v25 (F := Ideal) q k i : EReal) = ((P q k (i 1) (i 2) (i 0) : ℝ) : EReal) := by
  have h1 : (i 1).val < 8208 := (i 1).isLt
  have h0 : (i 0).val < 8 := (i 0).isLt
  obtain ⟨m, _, he, hs⟩ := norm_at q k hq hk (i 0) (i 1) h0 h1
  rw [val_main_v25_apply, val_main_v24_apply, val_main_v23_apply]
  have hl : Real.exp (-m) * L q k (i 1) (i 0) ≠ 0 := (mul_pos (Real.exp_pos _) (L_pos q k _ _ h1)).ne'
  refine (congrArg₂ Ideal.div (he i rfl rfl) (hs (idx_main_v23 (idx_main_v24 i)) rfl rfl)).trans ?_
  rw [Ideal.div_coe hl, ← EReal.coe_mul]
  refine congrArg Real.toEReal ?_
  unfold P
  have hL := (L_pos q k _ (i 0) h1).ne'
  have hx := (Real.exp_pos (-m)).ne'
  field_simp
include hq hk in
/-- The logarithm of a row's normaliser, in binary units. -/
theorem lse_at (i : S8208x8.Idx) : (val_main_v22 (F := Ideal) q k i : EReal) = ((Real.log (L q k (i 0) (i 1)) * ilog : ℝ) : EReal) := by
  have h1 : (i 0).val < 8208 := (i 0).isLt
  have h0 : (i 1).val < 8 := (i 1).isLt
  obtain ⟨m, hm, _, hs⟩ := norm_at q k hq hk (i 1) (i 0) h0 h1
  have e : idx_main_v22 i = ValueIdx.ix2 ⟨(i 1).val, h0⟩ ⟨(i 0).val, h1⟩ := by
    funext a; apply Fin.ext
    match a with
    | ⟨0, _⟩ => rfl
    | ⟨1, _⟩ => rfl
  have hc : (val_main_v20 (F := Ideal) (idx_main_v22 i) : EReal) = ((ilog : ℝ) : EReal) := (val_main_v20_apply (F := Ideal) _).trans div_log
  have hL := L_pos q k _ (i 1) h1
  have hs' := hs (idx_main_v22 i) rfl rfl
  have hl : (val_main_v16 (F := Ideal) q k (idx_main_v22 i) : EReal) = ((-m + Real.log (L q k (i 0) (i 1)) : ℝ) : EReal) := by
    rw [val_main_v16_apply, hs']
    refine (Ideal.log_coe _).trans ?_
    rw [if_neg (not_le.mpr (mul_pos (Real.exp_pos _) hL)), Real.log_mul (Real.exp_pos _).ne' hL.ne', Real.log_exp]
  rw [val_main_v22_apply, val_main_v21_apply, hc, val_main_v17_apply, hl, e, hm]
  refine (congrArg (fun z : EReal => z * _) (EReal.coe_add _ _).symm).trans ((EReal.coe_mul _ _).symm.trans (congrArg Real.toEReal ?_))
  ring

include hq hk hv hw in
/-- The sum over a row of the output against its cotangent. -/
theorem delta_at (i : S8208x8.Idx) : (val_main_v29 (F := Ideal) q k v w i : EReal) = ((Dl q k v w (i 0) (i 1) : ℝ) : EReal) := by
  have hz : ((val_main_cst_6 (F := Ideal)) (Shape.Idx.first h_S_) : EReal) = 0 := Proof.bits_zero
  rw [val_main_v29_apply, hz, zero_add, Dl_eq, coe_sum]
  refine Finset.sum_congr rfl fun d _ => ?_
  rw [val_main_v28_apply, val_main_v27_apply, val_main_v26_apply, EReal.coe_mul, coe_sum]
  refine congrArg₂ (fun a b : EReal => a * b) (rd_eq w hw _ _ _ _ rfl rfl rfl) (Finset.sum_congr rfl fun c _ => ?_)
  rw [weight_at q k hq hk, EReal.coe_mul]
  exact congrArg (fun z : EReal => _ * z) (rd_eq v hv _ _ _ _ rfl rfl rfl)

/-! ## The arrays the windows read -/

include hq in
theorem win0 (i : S8320x1024.Idx) : (val_main_v58 (F := Ideal) q i : EReal) = ((pd 0 (fq q) (i 0) ((i 1) / 128) ((i 1) % 128) : ℝ) : EReal) := by
  refine (val_main_v57_apply (F := Ideal) q i).trans ((pad_at _ _ _ _ (fq q) (fun j => ?_) (fq_out q) (fun _ => Proof.bits_zero) _).trans (pd_rs _ _ _ (i 1).isLt))
  have hs : (val_main_v54 (F := Ideal) j : EReal) = ((c0 * ilog : ℝ) : EReal) := by
    refine (val_main_v54_apply (F := Ideal) j).trans ?_
    refine (congrArg₂ (fun a b : EReal => a * b) div_sqrt div_log).trans (EReal.coe_mul _ _).symm
  rw [val_main_v55_apply, hs, fq]
  exact (congrArg (fun z : EReal => z * _) (rd_eq q hq j _ _ _ rfl rfl rfl)).trans (EReal.coe_mul _ _).symm
include hk in
theorem win1 (i : S8320x1024.Idx) : (val_main_v61 (F := Ideal) k i : EReal) = ((pd 0 (rd k) (i 0) ((i 1) / 128) ((i 1) % 128) : ℝ) : EReal) :=
  (val_main_v60_apply (F := Ideal) k i).trans ((pad_at _ _ _ _ (rd k) (fun j => rd_eq k hk j _ _ _ rfl rfl rfl) (rd_out k) (fun _ => Proof.bits_zero) _).trans (pd_rs _ _ _ (i 1).isLt))
include hv in
theorem win2 (i : S8320x1024.Idx) : (val_main_v64 (F := Ideal) v i : EReal) = ((pd 64 (rd v) (i 0) ((i 1) / 128) ((i 1) % 128) : ℝ) : EReal) :=
  (val_main_v63_apply (F := Ideal) v i).trans ((pad_at _ _ _ _ (rd v) (fun j => rd_eq v hv j _ _ _ rfl rfl rfl) (rd_out v) (fun _ => Proof.bits_zero) _).trans (pd_rs _ _ _ (i 1).isLt))
include hw in
theorem win3 (i : S8320x1024.Idx) : (val_main_v66 (F := Ideal) w i : EReal) = ((pd 64 (rd w) (i 0) ((i 1) / 128) ((i 1) % 128) : ℝ) : EReal) :=
  (val_main_v66_apply (F := Ideal) w i).trans ((pad_at _ _ _ _ (rd w) (fun j => rd_eq w hw j _ _ _ rfl rfl rfl) (rd_out w) (fun _ => Proof.bits_zero) _).trans (pd_rs _ _ _ (i 1).isLt))
include hq hk in
theorem win4 (i : S8320x1024.Idx) : (val_main_v70 (F := Ideal) q k i : EReal) = ((pd 0 (fl q k) (i 0) ((i 1) / 128) ((i 1) % 128) : ℝ) : EReal) := by
  refine (val_main_v70_apply (F := Ideal) q k i).trans ((pad_at _ _ _ _ (fl q k) (fun j => ?_) (fl_out q k) (fun _ => Proof.bits_zero) _).trans (pd_rs _ _ _ (i 1).isLt))
  rw [val_main_v68_apply, val_main_v67_apply, lse_at q k hq hk, fl, if_pos ⟨(j 0).isLt, (j 1).isLt, (j 2).isLt⟩]
include hq hk hv hw in
theorem win5 (i : S8320x1024.Idx) : (val_main_v74 (F := Ideal) q k v w i : EReal) = ((pd 0 (fd q k v w) (i 0) ((i 1) / 128) ((i 1) % 128) : ℝ) : EReal) := by
  refine (val_main_v74_apply (F := Ideal) q k v w i).trans ((pad_at _ _ _ _ (fd q k v w) (fun j => ?_) (fd_out q k v w) (fun _ => Proof.bits_zero) _).trans (pd_rs _ _ _ (i 1).isLt))
  rw [val_main_v72_apply, val_main_v71_apply, delta_at q k v w hq hk hv hw, fd, if_pos ⟨(j 0).isLt, (j 1).isLt, (j 2).isLt⟩]

theorem sel_bool (b : Bool) : (Scalar.select (BitVec.ofBool b) (0 : EReal) ⊥) = if b = true then 0 else ⊥ := by cases b <;> rfl

theorem win6 (i : S2x640x640.Idx) : (val_main_v42 (F := Ideal) i : EReal) = if (i 2).val ≤ (i 1).val ∧ (48 ≤ (i 2).val ∨ 0 < (i 0).val) then 0 else ⊥ := by
  have h1 : (i 1).val < 640 := (i 1).isLt
  have h2 : (i 2).val < 640 := (i 2).isLt
  have h0 : (i 0).val < 2 := (i 0).isLt
  have a : val_main_v33 (F := Ideal) i = BitVec.ofBool (decide ((i 2).val ≤ (i 1).val)) := congrArg BitVec.ofBool (sle_ofNat _ _ (by omega) (by omega))
  have b : val_main_v35 (F := Ideal) i = BitVec.ofBool (decide (48 ≤ (i 2).val)) := by
    rw [val_main_v35_apply, val_main_v34_apply]
    exact congrArg BitVec.ofBool (sle_ofNat 48 _ (by omega) (by omega))
  have d : val_main_v37 (F := Ideal) i = BitVec.ofBool (decide (0 < (i 0).val)) := by
    rw [val_main_v37_apply, val_main_v36_apply]
    exact congrArg BitVec.ofBool (slt_ofNat 0 _ (by omega) (by omega))
  have z : (val_main_v40 (F := Ideal) i : EReal) = 0 := (val_main_v40_apply (F := Ideal) i).trans Proof.bits_zero
  have n : (val_main_v41 (F := Ideal) i : EReal) = ⊥ := (val_main_v41_apply (F := Ideal) i).trans bits_bot
  rw [val_main_v42_apply, val_main_v39_apply, val_main_v38_apply, a, b, d, z, n, ofBool_or, ofBool_and, sel_bool]
  simp only [Bool.and_eq_true, Bool.or_eq_true, decide_eq_true_eq]

theorem win7 (i : S1x640.Idx) : (val_main_v48 (F := Ideal) i : EReal) = if 48 ≤ (i 1).val then 0 else ⊥ := by
  have h1 : (i 1).val < 640 := (i 1).isLt
  have b : val_main_v45 (F := Ideal) i = BitVec.ofBool (decide (48 ≤ (i 1).val)) := by
    rw [val_main_v45_apply, val_main_v44_apply]
    exact congrArg BitVec.ofBool (sle_ofNat 48 _ (by omega) (by omega))
  have z : (val_main_v46 (F := Ideal) i : EReal) = 0 := (val_main_v46_apply (F := Ideal) i).trans Proof.bits_zero
  have n : (val_main_v47 (F := Ideal) i : EReal) = ⊥ := (val_main_v47_apply (F := Ideal) i).trans bits_bot
  rw [val_main_v48_apply, b, z, n, sel_bool]
  simp only [decide_eq_true_eq]

end

end Cert.Prepare9Ideal.Attn

end
-- ==== Proof.AttnHost.lean ====
/- What the attention gradient's windows read: the arrays the host prepares, entry by entry as real numbers. -/
module

public import proofs.«01_k».proof.Proof.AttnStep
public import proofs.«01_k».proof.Proof.AttnPrep

@[expose] public section

set_option maxRecDepth 16384

noncomputable section

namespace Cert.Kernel9Ideal.Attn

open Gen Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-- The four arguments. -/
abbrev Aq : (⟨S8208x8x96, .f32⟩ : BufTy).Contents (Elt Ideal) := m ((c : Thread nD τ).loc main_arg0)
abbrev Ak : (⟨S8208x8x96, .f32⟩ : BufTy).Contents (Elt Ideal) := m ((c : Thread nD τ).loc main_arg1)
abbrev Av : (⟨S8208x8x64, .f32⟩ : BufTy).Contents (Elt Ideal) := m ((c : Thread nD τ).loc main_arg2)
abbrev Aw : (⟨S8208x8x64, .f32⟩ : BufTy).Contents (Elt Ideal) := m ((c : Thread nD τ).loc main_arg3)

set_option maxHeartbeats 4000000 in
theorem V58 : V m c main_v58 = Cert.Prepare9Ideal.Read.val_main_v58 (F := Ideal) (Aq m c) := by unfold V; after_results; rfl
set_option maxHeartbeats 4000000 in
theorem V61 : V m c main_v61 = Cert.Prepare9Ideal.Read.val_main_v61 (F := Ideal) (Ak m c) := by unfold V; after_results; rfl
set_option maxHeartbeats 4000000 in
theorem V64 : V m c main_v64 = Cert.Prepare9Ideal.Read.val_main_v64 (F := Ideal) (Av m c) := by unfold V; after_results; rfl
set_option maxHeartbeats 4000000 in
theorem V66 : V m c main_v66 = Cert.Prepare9Ideal.Read.val_main_v66 (F := Ideal) (Aw m c) := by unfold V; after_results; rfl
set_option maxHeartbeats 4000000 in
theorem V42 : V m c main_v42 = Cert.Prepare9Ideal.Read.val_main_v42 (F := Ideal) := by unfold V; after_results; rfl
set_option maxHeartbeats 4000000 in
theorem V48 : V m c main_v48 = Cert.Prepare9Ideal.Read.val_main_v48 (F := Ideal) := by unfold V; after_results; rfl
set_option maxHeartbeats 8000000 in
theorem V70 : V m c main_v70 = Cert.Prepare9Ideal.Read.val_main_v70 (F := Ideal) (Aq m c) (Ak m c) := by unfold V; after_results; rfl
set_option maxHeartbeats 8000000 in
theorem V74 : V m c main_v74 = Cert.Prepare9Ideal.Read.val_main_v74 (F := Ideal) (Aq m c) (Ak m c) (Av m c) (Aw m c) := by unfold V; after_results; rfl

end Cert.Kernel9Ideal.Attn

end
-- ==== Proof.AttnPay.lean ====
/- The attention gradient's block products: what the body's words are, entry by entry, as sums of products. -/
module

public import proofs.«01_k».proof.Proof.Sums
public import proofs.«01_k».proof.Proof.Gen.Kernel9Ideal.Skeleton
public import Idealize.ShloMosaic.Lib.MatmulPlain
public import Idealize.ShloMosaic.Lib.Pipeline.Value
public import Idealize.ShloMosaic.Lib.ValueLayout
public import Idealize.ShloMosaic.Lib.WritesUnit
public import Idealize.ShloMosaic.Lib.VecWindow
public import Idealize.ShloMosaic.Lib.WholeRead
public import Idealize.ShloMosaic.Lib.Tactic

@[expose] public section

noncomputable section

namespace Cert.Kernel9Ideal.Attn

open Gen Idealize.ShloMosaic Idealize.ShloMosaic.TcCoe Idealize.SL.Sem
open Idealize.ShloMosaic.ValueIdx

abbrev Half (φ : FTy) := FVec Ideal S640x128 φ
abbrev Sq (φ : FTy) := FVec Ideal S640x640 φ

/-- Rows against rows. -/
def nt (X Y : Half .bf16) : Sq .f32 := fun i => ∑ l : Fin 128, (X (ix2 (i 0) l) : EReal) * Y (ix2 (i 1) l)
/-- Columns against columns. -/
def tn (A : Sq .bf16) (Y : Half .bf16) : Half .f32 := fun i => ∑ r : Fin 640, (A (ix2 r (i 0)) : EReal) * Y (ix2 r (i 1))
/-- Rows against columns. -/
def nn (A : Sq .bf16) (Y : Half .bf16) : Half .f32 := fun i => ∑ c : Fin 640, (A (ix2 (i 0) c) : EReal) * Y (ix2 c (i 1))
/-- The lanes repeated along the columns. -/
def tile (X : Half .f32) : Sq .f32 := fun i => X (ix2 (i 0) ⟨(i 1).val % 128, Nat.mod_lt _ (by decide)⟩)
/-- Two halves side by side. -/
def cat (X Y : Half .f32) : FVec Ideal S640x256 .f32 := fun i =>
  if h : (i 1).val < 128 then X (ix2 (i 0) ⟨(i 1).val, h⟩) else Y (ix2 (i 0) ⟨(i 1).val - 128, by have := (i 1).isLt; simp at this; omega⟩)
/-- A head's half of a block. -/
def half {α : Type} (h : Fin 2) (X : S640x256.Idx → α) : S640x128.Idx → α := fun i => X (ix2 (i 0) ⟨128 * h.val + (i 1).val, by have := (i 1).isLt; have := h.isLt; simp at *; omega⟩)

/-- The softmax's scale. -/
abbrev sc : EReal := Named.named (F := Ideal) κ "scale" (φ := .f32) 0x3DD105EC#32

/-- The probabilities of a block, before the mask's bias is decided. -/
def pB (b : Sq .f32) (q k : Half .bf16) (l : Half .f32) : Sq .f32 := fun i => Ideal.exp2 ((nt q k i : EReal) + b i - tile l i)
/-- The gradient of the scores of a block. -/
def dsB (b : Sq .f32) (q k v : Half .bf16) (o l d : Half .f32) : Sq .f32 := fun i =>
  (pB b q k l i : EReal) * ((nt (fun j => (o j : EReal) * sc) v i : EReal) - tile (fun j => (d j : EReal) * sc) i)

theorem nt_eq (X Y : Half .bf16) : matmul dot_S640x128_S640x128_S640x640_1_1_0_0_n_n none X Y (constant S640x640 .f32 0x00000000#32) = nt X Y := by
  funext i
  rw [eq_ix2 i]
  exact (Ideal.matmul_transposedRhs_apply (φ₁ := .bf16) (φ₂ := .bf16) _ X Y _ (i 0) (i 1)).trans ((congrArg (fun z : EReal => z + _) Proof.bits_zero).trans (zero_add _))
theorem nn_eq (A : Sq .bf16) (Y : Half .bf16) : matmul dot_S640x640_S640x128_S640x128_1_0_0_1_n_n none A Y (constant S640x128 .f32 0x00000000#32) = nn A Y := by
  funext i
  rw [eq_ix2 i]
  exact (Ideal.matmul_plain_apply (φ₁ := .bf16) (φ₂ := .bf16) _ A Y _ (i 0) (i 1)).trans ((congrArg (fun z : EReal => z + _) Proof.bits_zero).trans (zero_add _))
theorem tn_eq (A : Sq .bf16) (Y : Half .bf16) : matmul dot_S640x640_S640x128_S640x128_0_0_1_1_n_n none A Y (constant S640x128 .f32 0x00000000#32) = tn A Y := by
  funext i
  refine (Ideal.matmul_apply (φ₁ := .bf16) (φ₂ := .bf16) dot_S640x640_S640x128_S640x128_0_0_1_1_n_n none A Y _ i).trans ?_
  refine ((congrArg (fun z : EReal => z + _) Proof.bits_zero).trans (zero_add _)).trans ?_
  rw [← Equiv.sum_comp (contrEquiv1 dot_S640x640_S640x128_S640x128_0_0_1_1_n_n 640 rfl rfl).symm]
  refine Finset.sum_congr rfl fun k _ => ?_
  have hk := contrEquiv1_symm_val dot_S640x640_S640x128_S640x128_0_0_1_1_n_n 640 rfl rfl k
  refine congrArg₂ (fun a b : EReal => a * b) (congrArg A ?_) (congrArg Y ?_)
  · funext a; apply Fin.ext
    match a with
    | ⟨0, _⟩ => exact hk
    | ⟨1, _⟩ => rfl
  · funext a; apply Fin.ext
    match a with
    | ⟨0, _⟩ => exact hk
    | ⟨1, _⟩ => rfl

theorem tile_eq (X : Half .f32) (h) : concatenate S640x640 1 [⟨S640x128, X⟩, ⟨S640x128, X⟩, ⟨S640x128, X⟩, ⟨S640x128, X⟩, ⟨S640x128, X⟩] h = tile X := by
  funext i
  refine concatenate_replicate_apply (t := S640x640) (1 : Fin 2) 5 X h rfl i _ ?_ ?_
  · rfl
  · intro b hb
    match b with
    | ⟨0, _⟩ => rfl
    | ⟨1, _⟩ => exact absurd rfl hb

theorem cat_eq (X Y : Half .f32) (h) : concatenate S640x256 1 [⟨S640x128, X⟩, ⟨S640x128, Y⟩] h = cat X Y := by
  funext i
  unfold cat
  by_cases hi : (i 1).val < 128
  · rw [dif_pos hi]
    refine concatenate_pair_apply_left (t := S640x256) (1 : Fin 2) X Y h i rfl _ fun b => ?_
    match b with
    | ⟨0, _⟩ => rfl
    | ⟨1, _⟩ => rfl
  · rw [dif_neg hi]
    refine concatenate_pair_apply_right (t := S640x256) (1 : Fin 2) X Y h i rfl rfl _ (fun b hb => ?_) ?_
    · match b with
      | ⟨0, _⟩ => rfl
      | ⟨1, _⟩ => exact absurd rfl hb
    · show (i 1).val - 128 + 128 = _
      omega

/-- The row bias over all rows. -/
def rowB (x : FVec Ideal S1x640 .f32) : Sq .f32 := fun i => x (ix2 (0 : Fin 1) (i 1))
theorem rowB_eq (x : FVec Ideal S1x640 .f32) (h) : broadcastTo S640x640 x h = rowB x := by
  funext i
  rw [eq_ix2 i]
  exact broadcastTo_1b_ab_apply x h (i 0) (i 1)
/-- The block bias. -/
def sqB (x : FVec Ideal S1x640x640 .f32) : Sq .f32 := fun i => x (ix3 (0 : Fin 1) (i 0) (i 1))
theorem sqB_eq (x : FVec Ideal S1x640x640 .f32) (h) : shapeCast S640x640 x h = sqB x := by
  funext i
  rw [eq_ix2 i]
  exact shapeCast_1ab_ab_apply x h (i 0) (i 1)
/-- No bias. -/
def noB : Sq .f32 := fun _ => (0 : EReal)

section Pay
variable (q k v q' k' v' : Half .bf16) (o l d s o' l' d' : Half .f32) (x6 : FVec Ideal S1x640x640 .f32) (x7 : FVec Ideal S1x640 .f32) (y : FVec Ideal S640x256 .f32)

/-- Pointwise sums. -/
def plus {S : Shape} (a b : FVec Ideal S .f32) : FVec Ideal S .f32 := fun i => (a i : EReal) + b i

/-- The parts of the three gradients a block adds. -/
def dvP (b : Sq .f32) (q k : Half .bf16) (o l : Half .f32) : Half .f32 := tn (pB b q k l) o
def dkP (b : Sq .f32) (q k v : Half .bf16) (o l d : Half .f32) : Half .f32 := tn (dsB b q k v o l d) q
def dqP (b : Sq .f32) (q k v : Half .bf16) (o l d : Half .f32) : Half .f32 := nn (dsB b q k v o l d) k

theorem pB_noB : (fun i => Ideal.exp2 ((nt q k i : EReal) - tile l i) : Sq .f32) = pB noB q k l := by
  funext i; unfold pB noB; rw [add_zero]

theorem exp2_no : (exp2 (subf (nt q k) (tile l)) : Sq .f32) = pB noB q k l := pB_noB q k l

theorem pay20_eq : k0_pay20 q k o l s = plus s (dvP noB q k o l) := by
  simp only [k0_pay20, k0_pay19, k0_pay18, k0_pay17, k0_pay16, shapeCast_self, nt_eq, tn_eq, tile_eq, exp2_no]; rfl
theorem pay28_eq : k0_pay28 q k o l s = plus s (dvP noB q k o l) := by
  simp only [k0_pay28, k0_pay27, k0_pay26, k0_pay25, k0_pay24, shapeCast_self, nt_eq, tn_eq, tile_eq, exp2_no]; rfl
theorem pay35_eq : k0_pay35 x7 q k o l s = plus s (dvP (rowB x7) q k o l) := by
  simp only [k0_pay35, k0_pay34, k0_pay33, k0_pay32, k0_pay31, k0_pay30, shapeCast_self, nt_eq, tn_eq, tile_eq, rowB_eq]; rfl
theorem pay47_eq : k0_pay47 (k0_pay30 x7) q k o l s = plus s (dvP (rowB x7) q k o l) := by
  simp only [k0_pay47, k0_pay46, k0_pay45, k0_pay43, k0_pay42, k0_pay30, shapeCast_self, nt_eq, tn_eq, tile_eq, rowB_eq]; rfl
theorem pay53_eq : k0_pay53 x6 q k o l s = plus s (dvP (sqB x6) q k o l) := by
  simp only [k0_pay53, k0_pay52, k0_pay51, k0_pay50, k0_pay49, k0_pay48, shapeCast_self, nt_eq, tn_eq, tile_eq, sqB_eq]; rfl
theorem pay65_eq : k0_pay65 (k0_pay48 x6) q k o l s = plus s (dvP (sqB x6) q k o l) := by
  simp only [k0_pay65, k0_pay64, k0_pay63, k0_pay61, k0_pay60, k0_pay48, shapeCast_self, nt_eq, tn_eq, tile_eq, sqB_eq]; rfl

theorem pay22_eq : k0_pay22 (k0_pay16 q) (k0_pay21 q k v o l d) s = plus s (dkP noB q k v o l d) := by
  simp only [k0_pay22, k0_pay21, k0_pay19, k0_pay18, k0_pay17, k0_pay16, shapeCast_self, nt_eq, tn_eq, tile_eq, exp2_no]; rfl
theorem pay4_eq : k0_pay4 (k0_pay24 q) (k0_pay27 q k l) (k0_pay29 v o) d s = plus s (dkP noB q k v o l d) := by
  simp only [k0_pay4, k0_pay3, k0_pay29, k0_pay27, k0_pay26, k0_pay25, k0_pay24, shapeCast_self, nt_eq, tn_eq, tile_eq, exp2_no]; rfl
theorem pay40_eq : k0_pay40 (k0_pay31 q) (k0_pay34 x7 q k l) (k0_pay36 v o) (k0_pay37 d) k0_pay38 s = plus s (dkP (rowB x7) q k v o l d) := by
  simp only [k0_pay40, k0_pay39, k0_pay38, k0_pay37, k0_pay36, k0_pay34, k0_pay33, k0_pay32, k0_pay31, k0_pay30, shapeCast_self, nt_eq, tn_eq, tile_eq, rowB_eq]; rfl
theorem pay8_eq : k0_pay8 (k0_pay42 q) (k0_pay44 v) (k0_pay45 o) (k0_pay46 (k0_pay30 x7) q k l) d s = plus s (dkP (rowB x7) q k v o l d) := by
  simp only [k0_pay8, k0_pay7, k0_pay46, k0_pay45, k0_pay44, k0_pay43, k0_pay42, k0_pay30, shapeCast_self, nt_eq, tn_eq, tile_eq, rowB_eq]; rfl
theorem pay58_eq : k0_pay58 (k0_pay49 q) (k0_pay52 x6 q k l) (k0_pay54 v o) (k0_pay55 d) k0_pay56 s = plus s (dkP (sqB x6) q k v o l d) := by
  simp only [k0_pay58, k0_pay57, k0_pay56, k0_pay55, k0_pay54, k0_pay52, k0_pay51, k0_pay50, k0_pay49, k0_pay48, shapeCast_self, nt_eq, tn_eq, tile_eq, sqB_eq]; rfl
theorem pay12_eq : k0_pay12 (k0_pay60 q) (k0_pay62 v) (k0_pay63 o) (k0_pay64 (k0_pay48 x6) q k l) sc d s = plus s (dkP (sqB x6) q k v o l d) := by
  simp only [k0_pay12, k0_pay11, k0_pay64, k0_pay63, k0_pay62, k0_pay61, k0_pay60, k0_pay48, shapeCast_self, nt_eq, tn_eq, tile_eq, sqB_eq]; rfl

theorem pay6_eq : k0_pay6 (k0_pay23 (k0_pay17 k) (k0_pay21 q k v o l d)) (k0_pay25 k') (k0_pay27 q' k' l') (k0_pay29 v' o') d' y
    = plus y (cat (dqP noB q k v o l d) (dqP noB q' k' v' o' l' d')) := by
  simp only [k0_pay6, k0_pay5, k0_pay3, k0_pay23, k0_pay21, k0_pay19, k0_pay18, k0_pay17, k0_pay16, k0_pay29, k0_pay27, k0_pay26, k0_pay25, k0_pay24, shapeCast_self, nt_eq, nn_eq, tile_eq, exp2_no, cat_eq]; rfl
theorem pay9_eq : k0_pay9 (k0_pay41 (k0_pay32 k) (k0_pay34 x7 q k l) (k0_pay36 v o) (k0_pay37 d) k0_pay38) (k0_pay43 k') (k0_pay44 v') (k0_pay45 o') (k0_pay46 (k0_pay30 x7) q' k' l') d'
    = cat (dqP (rowB x7) q k v o l d) (dqP (rowB x7) q' k' v' o' l' d') := by
  simp only [k0_pay9, k0_pay7, k0_pay41, k0_pay39, k0_pay38, k0_pay37, k0_pay36, k0_pay34, k0_pay33, k0_pay32, k0_pay31, k0_pay30, k0_pay46, k0_pay45, k0_pay44, k0_pay43, k0_pay42, shapeCast_self, nt_eq, nn_eq, tile_eq, rowB_eq, cat_eq]; rfl
theorem pay13_eq : k0_pay13 (k0_pay59 (k0_pay50 k) (k0_pay52 x6 q k l) (k0_pay54 v o) (k0_pay55 d) k0_pay56) (k0_pay61 k') (k0_pay62 v') (k0_pay63 o') (k0_pay64 (k0_pay48 x6) q' k' l') sc d'
    = cat (dqP (sqB x6) q k v o l d) (dqP (sqB x6) q' k' v' o' l' d') := by
  simp only [k0_pay13, k0_pay11, k0_pay59, k0_pay57, k0_pay56, k0_pay55, k0_pay54, k0_pay52, k0_pay51, k0_pay50, k0_pay49, k0_pay48, k0_pay64, k0_pay63, k0_pay62, k0_pay61, k0_pay60, shapeCast_self, nt_eq, nn_eq, tile_eq, sqB_eq, cat_eq]; rfl
theorem pay14_eq : k0_pay14 (k0_pay59 (k0_pay50 k) (k0_pay52 x6 q k l) (k0_pay54 v o) (k0_pay55 d) k0_pay56) (k0_pay61 k') (k0_pay62 v') (k0_pay63 o') (k0_pay64 (k0_pay48 x6) q' k' l') sc d' y
    = plus y (cat (dqP (sqB x6) q k v o l d) (dqP (sqB x6) q' k' v' o' l' d')) := by
  simp only [k0_pay14, shapeCast_self, pay13_eq]; rfl
theorem pay15_eq : k0_pay15 y = fun i => (y i : EReal) * Named.named (F := Ideal) κ "unscale" (φ := .f32) 0x40D95360#32 := rfl
theorem pay1_eq : (k0_pay1 : FVec Ideal S640x256 .f32) = fun _ => (0 : EReal) := by
  unfold k0_pay1; simp only [shapeCast_self]; funext i; exact Proof.bits_zero
theorem pay2_eq : (k0_pay2 : FVec Ideal S640x256 .f32) = fun _ => (0 : EReal) := by
  unfold k0_pay2; simp only [shapeCast_self]; funext i; exact Proof.bits_zero

end Pay

end Cert.Kernel9Ideal.Attn

end
-- ==== Proof.AttnOut.lean ====
/- The attention gradient's step: what each way through the body leaves in the accumulators and in the written blocks. -/
module

public import proofs.«01_k».proof.Proof.AttnPay
public import proofs.«01_k».proof.Proof.AttnStep

@[expose] public section

set_option maxRecDepth 16384

noncomputable section

namespace Cert.Kernel9Ideal.Attn

open Gen Idealize.ShloMosaic Idealize.ShloMosaic.TcCoe Idealize.ShloMosaic.Tactic Idealize.SL.Sem
open Idealize.ShloMosaic.ValueIdx

abbrev Blk (φ : FTy) := FVec Ideal S640x256 φ

section Reads
variable {e : EltTy} (M : Memref sig .tc .vmem S640x256 e) (hM : M.IsWhole) (X : Vec Ideal S640x256 e)

theorem rd_lo (inb) : View.readAt (Elt Ideal) M.view (Rect.unit (s := S640x256) ![0, 0] ![640, 128] inb).toLoadRect (hM.unread X) = half 0 X := by
  funext i
  refine (hM.readAt_unread X _ i).trans (congrArg X ?_)
  funext a; apply Fin.ext
  match a with
  | ⟨0, _⟩ => show 0 + 1 * (i 0).val = (i 0).val; omega
  | ⟨1, _⟩ => show 0 + 1 * (i 1).val = 128 * 0 + (i 1).val; omega
theorem rd_hi (inb) : View.readAt (Elt Ideal) M.view (Rect.unit (s := S640x256) ![0, 128] ![640, 128] inb).toLoadRect (hM.unread X) = half 1 X := by
  funext i
  refine (hM.readAt_unread X _ i).trans (congrArg X ?_)
  funext a; apply Fin.ext
  match a with
  | ⟨0, _⟩ => show 0 + 1 * (i 0).val = (i 0).val; omega
  | ⟨1, _⟩ => show 128 + 1 * (i 1).val = 128 * 1 + (i 1).val; omega
end Reads

theorem sc0_lo (X : Blk .f32) (inb) : View.readAt (Elt Ideal) (View.whole cc0_scratch0) (Rect.unit (s := S640x256) ![0, 0] ![640, 128] inb).toLoadRect ((Memref.isWhole_whole cc0_scratch0).unread X) = half 0 X :=
  rd_lo scM0_0 (Memref.isWhole_whole cc0_scratch0) X inb
theorem sc0_hi (X : Blk .f32) (inb) : View.readAt (Elt Ideal) (View.whole cc0_scratch0) (Rect.unit (s := S640x256) ![0, 128] ![640, 128] inb).toLoadRect ((Memref.isWhole_whole cc0_scratch0).unread X) = half 1 X :=
  rd_hi scM0_0 (Memref.isWhole_whole cc0_scratch0) X inb
theorem sc1_lo (X : Blk .f32) (inb) : View.readAt (Elt Ideal) (View.whole cc0_scratch1) (Rect.unit (s := S640x256) ![0, 0] ![640, 128] inb).toLoadRect ((Memref.isWhole_whole cc0_scratch1).unread X) = half 0 X :=
  rd_lo scM0_1 (Memref.isWhole_whole cc0_scratch1) X inb
theorem sc1_hi (X : Blk .f32) (inb) : View.readAt (Elt Ideal) (View.whole cc0_scratch1) (Rect.unit (s := S640x256) ![0, 128] ![640, 128] inb).toLoadRect ((Memref.isWhole_whole cc0_scratch1).unread X) = half 1 X :=
  rd_hi scM0_1 (Memref.isWhole_whole cc0_scratch1) X inb
theorem rd_row (M : Memref sig .tc .vmem S1x640 .f32) (hM : M.IsWhole) (X : Vec Ideal S1x640 .f32) (inb) :
    View.readAt (Elt Ideal) M.view (Rect.unit (s := S1x640) ![0, 0] ![1, 640] inb).toLoadRect (hM.unread X) = X := by
  rw [View.readAt_full, hM.read_unread]
theorem rd_sq (M : Memref sig .tc .vmem S1x640x640 .f32) (hM : M.IsWhole) (X : Vec Ideal S1x640x640 .f32) (inb) :
    View.readAt (Elt Ideal) M.view (Rect.unit (s := S1x640x640) ![0, 0, 0] ![1, 640, 640] inb).toLoadRect (hM.unread X) = X := by
  rw [View.readAt_full, hM.read_unread]

section Writes
variable (V : View sig .tc .vmem S640x256 .f32) (f : V.ty.Contents (Elt Ideal)) (P1 P0 : Half .f32) (w : Blk .f32) (L : List (View.Piece (Elt Ideal) S640x256 .f32))

/-- The two halves written last are what is left. -/
theorem wr_cat (inb1 inb0) : V.read (Elt Ideal) (V.writes (Elt Ideal) f (⟨Rect.unit (s := S640x256) ![0, 128] ![640, 128] inb1, P1⟩ :: ⟨Rect.unit (s := S640x256) ![0, 0] ![640, 128] inb0, P0⟩ :: L)) = cat P0 P1 := by
  funext i
  unfold cat
  have h1 : (i 1).val < 256 := (i 1).isLt
  by_cases hi : (i 1).val < 128
  · rw [dif_pos hi, View.read_writes_cons_unit_of_not_mem V f inb1 P1 _ i rfl (1 : Fin 2) (Or.inl hi)]
    refine View.read_writes_cons_unit_of_mem V f inb0 P0 L i _ rfl (Fin.forall_fin_two.mpr ⟨?_, ?_⟩)
    · show (i 0).val = 0 + (i 0).val; omega
    · show (i 1).val = 0 + (i 1).val; omega
  · rw [dif_neg hi]
    refine View.read_writes_cons_unit_of_mem V f inb1 P1 _ i _ rfl (Fin.forall_fin_two.mpr ⟨?_, ?_⟩)
    · show (i 0).val = 0 + (i 0).val; omega
    · show (i 1).val = 128 + ((i 1).val - 128); omega
theorem cov_cat (inb1 inb0 inb) : View.readCov (Val := Elt Ideal) V (⟨Rect.unit (s := S640x256) ![0, 128] ![640, 128] inb1, P1⟩ :: ⟨Rect.unit (s := S640x256) ![0, 0] ![640, 128] inb0, P0⟩ :: L) (Rect.unit (s := S640x256) ![0, 0] ![640, 256] inb).toLoadRect = cat P0 P1 := by
  unfold View.readCov
  rw [View.readAt_full]
  exact wr_cat V V.junk P1 P0 L inb1 inb0
/-- A half read back from a whole block written before. -/
theorem lo_of (G : Blk .f32) (inb0) (h : ∀ y : S640x256.Idx, (y 1).val < 128 → G y = w y) (i : S640x128.Idx) :
    G ((Rect.unit (s := S640x256) ![0, 0] ![640, 128] inb0).toLoadRect.idx i) = half 0 w i := by
  have e : (Rect.unit (s := S640x256) ![0, 0] ![640, 128] inb0).toLoadRect.idx i = (ix2 (i 0) ⟨128 * (0 : Fin 2).val + (i 1).val, by have h1 : (i 1).val < 128 := (i 1).isLt; show 128 * 0 + (i 1).val < 256; omega⟩ : S640x256.Idx) := by
    funext a; apply Fin.ext
    match a with
    | ⟨0, _⟩ => show 0 + 1 * (i 0).val = (i 0).val; omega
    | ⟨1, _⟩ => show 0 + 1 * (i 1).val = 128 * 0 + (i 1).val; omega
  have hi : (i 1).val < 128 := (i 1).isLt
  rw [e, h _ (by show 128 * 0 + (i 1).val < 128; omega)]
  rfl
theorem hi_of (G : Blk .f32) (inb0) (h : ∀ y : S640x256.Idx, 128 ≤ (y 1).val → G y = w y) (i : S640x128.Idx) :
    G ((Rect.unit (s := S640x256) ![0, 128] ![640, 128] inb0).toLoadRect.idx i) = half 1 w i := by
  have e : (Rect.unit (s := S640x256) ![0, 128] ![640, 128] inb0).toLoadRect.idx i = (ix2 (i 0) ⟨128 * (1 : Fin 2).val + (i 1).val, by have h1 : (i 1).val < 128 := (i 1).isLt; show 128 * 1 + (i 1).val < 256; omega⟩ : S640x256.Idx) := by
    funext a; apply Fin.ext
    match a with
    | ⟨0, _⟩ => show 0 + 1 * (i 0).val = (i 0).val; omega
    | ⟨1, _⟩ => show 128 + 1 * (i 1).val = 128 * 1 + (i 1).val; omega
  rw [e, h _ (by show 128 ≤ 128 * 1 + (i 1).val; omega)]
  rfl
theorem full_of (inb1) (y : S640x256.Idx) : V.read (Elt Ideal) (V.writes (Elt Ideal) f [⟨Rect.unit (s := S640x256) ![0, 0] ![640, 256] inb1, w⟩]) y = w y := by
  refine View.read_writes_cons_unit_of_mem V f inb1 w [] y y rfl (Fin.forall_fin_two.mpr ⟨?_, ?_⟩)
  · show (y 0).val = 0 + (y 0).val; omega
  · show (y 1).val = 0 + (y 1).val; omega
theorem cov_lo (inb1 inb0) : View.readCov (Val := Elt Ideal) V [⟨Rect.unit (s := S640x256) ![0, 0] ![640, 256] inb1, w⟩] (Rect.unit (s := S640x256) ![0, 0] ![640, 128] inb0).toLoadRect = half 0 w :=
  funext fun i => lo_of w (V.read (Elt Ideal) (V.writes (Elt Ideal) V.junk [⟨Rect.unit (s := S640x256) ![0, 0] ![640, 256] inb1, w⟩])) inb0 (fun y _ => full_of V (View.junk V) w inb1 y) i
theorem past_of (inb2) (L : List (View.Piece (Elt Ideal) S640x256 .f32)) (y : S640x256.Idx) (hy : 128 ≤ (y 1).val) : V.read (Elt Ideal) (V.writes (Elt Ideal) f (⟨Rect.unit (s := S640x256) ![0, 0] ![640, 128] inb2, P0⟩ :: L)) y = V.read (Elt Ideal) (V.writes (Elt Ideal) f L) y := by
  rw [View.read_writes_cons_unit_of_not_mem V f inb2 P0 _ y rfl (1 : Fin 2) (Or.inr hy)]
theorem cov_hi (inb1 inb2 inb0) : View.readCov (Val := Elt Ideal) V [⟨Rect.unit (s := S640x256) ![0, 0] ![640, 128] inb2, P0⟩, ⟨Rect.unit (s := S640x256) ![0, 0] ![640, 256] inb1, w⟩] (Rect.unit (s := S640x256) ![0, 128] ![640, 128] inb0).toLoadRect = half 1 w :=
  funext fun i => hi_of w (V.read (Elt Ideal) (V.writes (Elt Ideal) V.junk [⟨Rect.unit (s := S640x256) ![0, 0] ![640, 128] inb2, P0⟩, ⟨Rect.unit (s := S640x256) ![0, 0] ![640, 256] inb1, w⟩])) inb0 (fun y hy =>
    (past_of V (View.junk V) P0 inb2 _ y hy).trans (full_of V (View.junk V) w inb1 y)) i
end Writes

theorem cat_plus (s : Blk .f32) (A B : Half .f32) : cat (plus (half 0 s) A) (plus (half 1 s) B) = plus s (cat A B) := by
  funext i
  by_cases hi : (i 1).val < 128
  · refine (dif_pos hi).trans (Eq.trans ?_ (congrArg (fun z : EReal => s i + z) (dif_pos hi).symm))
    refine congrArg (fun z : EReal => z + _) (congrArg s ?_)
    funext a; apply Fin.ext
    match a with
    | ⟨0, _⟩ => rfl
    | ⟨1, _⟩ => show 128 * 0 + (i 1).val = (i 1).val; omega
  · refine (dif_neg hi).trans (Eq.trans ?_ (congrArg (fun z : EReal => s i + z) (dif_neg hi).symm))
    refine congrArg (fun z : EReal => z + _) (congrArg s ?_)
    funext a; apply Fin.ext
    match a with
    | ⟨0, _⟩ => rfl
    | ⟨1, _⟩ => show 128 * 1 + ((i 1).val - 128) = (i 1).val; omega

/-- Rows of a tall block set, or added to. -/
def setRows (o : ℕ) (y : FVec Ideal S8320x256 .f32) (w : Blk .f32) : FVec Ideal S8320x256 .f32 := fun i =>
  if h : o ≤ (i 0).val ∧ (i 0).val < o + 640 then w (ix2 ⟨(i 0).val - o, by omega⟩ (i 1)) else y i
def addRows (o : ℕ) (y : FVec Ideal S8320x256 .f32) (w : Blk .f32) : FVec Ideal S8320x256 .f32 := fun i =>
  if h : o ≤ (i 0).val ∧ (i 0).val < o + 640 then (y i : EReal) + w (ix2 ⟨(i 0).val - o, by omega⟩ (i 1)) else y i

section Rows
variable (M : Memref sig .tc .vmem S8320x256 .f32) (hM : M.IsWhole) (y : Vec Ideal S8320x256 .f32) (w : Blk .f32) {off : Fin 2 → ℕ} {o : ℕ}
theorem wr_set (hoff : off = ![o, 0]) (inb) :
    M.view.read (Elt Ideal) (M.view.writes (Elt Ideal) (hM.unread y) [⟨Rect.unit (s := S8320x256) off ![640, 256] inb, w⟩]) = setRows o y w := by
  funext i
  by_cases h : o ≤ (i 0).val ∧ (i 0).val < o + 640
  · refine Eq.trans ?_ (dif_pos h).symm
    exact View.read_writes_cons_rows_of_mem M.view (hM.unread y) inb w [] i (ix2 ⟨(i 0).val - o, by omega⟩ (i 1)) hoff (Nat.add_sub_cancel' h.1).symm rfl
  · refine Eq.trans ?_ (dif_neg h).symm
    refine (View.read_writes_cons_rows_of_not_mem M.view (hM.unread y) inb w [] i hoff rfl (by show (i 0).val < o ∨ o + 640 ≤ (i 0).val; omega)).trans ?_
    rw [View.writes_nil, hM.read_unread]
theorem wr_add (hoff : off = ![o, 0]) (inb inb') :
    M.view.read (Elt Ideal) (M.view.writes (Elt Ideal) (hM.unread y) [⟨Rect.unit (s := S8320x256) off ![640, 256] inb,
      plus (View.readAt (Elt Ideal) M.view (Rect.unit (s := S8320x256) off ![640, 256] inb').toLoadRect (hM.unread y)) w⟩]) = addRows o y w := by
  rw [wr_set M hM y _ hoff inb]
  subst hoff
  funext i
  by_cases h : o ≤ (i 0).val ∧ (i 0).val < o + 640
  · refine (dif_pos h).trans (Eq.trans ?_ (dif_pos h).symm)
    refine congrArg (fun z : EReal => z + _) ((hM.readAt_unread y _ _).trans (congrArg y ?_))
    funext a; apply Fin.ext
    match a with
    | ⟨0, _⟩ => exact (congrArg (o + ·) (Nat.one_mul _)).trans (Nat.add_sub_cancel' h.1)
    | ⟨1, _⟩ => exact (Nat.zero_add _).trans (Nat.one_mul _)
  · refine Eq.trans ?_ (dif_neg h).symm
    exact dif_neg h
end Rows

/-- The parts a step adds to the three gradients. -/
def dvB (b : Sq .f32) (x0 x1 : Blk .bf16) (x3 x4 : Blk .f32) : Blk .f32 :=
  cat (dvP b (half 0 x0) (half 0 x1) (half 0 x3) (half 0 x4)) (dvP b (half 1 x0) (half 1 x1) (half 1 x3) (half 1 x4))
def dkB (b : Sq .f32) (x0 x1 x2 : Blk .bf16) (x3 x4 x5 : Blk .f32) : Blk .f32 :=
  cat (dkP b (half 0 x0) (half 0 x1) (half 0 x2) (half 0 x3) (half 0 x4) (half 0 x5)) (dkP b (half 1 x0) (half 1 x1) (half 1 x2) (half 1 x3) (half 1 x4) (half 1 x5))
def dqB (b : Sq .f32) (x0 x1 x2 : Blk .bf16) (x3 x4 x5 : Blk .f32) : Blk .f32 :=
  cat (dqP b (half 0 x0) (half 0 x1) (half 0 x2) (half 0 x3) (half 0 x4) (half 0 x5)) (dqP b (half 1 x0) (half 1 x1) (half 1 x2) (half 1 x3) (half 1 x4) (half 1 x5))
/-- The whole block's last product with the reciprocal of the queries' scale. -/
def unsc (y : Blk .f32) : Blk .f32 := fun i => (y i : EReal) * Named.named (F := Ideal) κ "unscale" (φ := .f32) 0x40D95360#32
def zeroB : Blk .f32 := fun _ => (0 : EReal)
theorem pay1_zero : (k0_pay1 : Blk .f32) = zeroB := pay1_eq
theorem pay2_zero : (k0_pay2 : Blk .f32) = zeroB := pay2_eq
theorem pay15_uns (y : Blk .f32) : k0_pay15 y = unsc y := rfl

theorem offs (s : Fin 91) : k0_off3 (lit0 s) = ![640 * (lit0 s).toNat, 0] ∧ k0_off4 (lit0 s) = ![640 * (lit0 s).toNat, 0] ∧ k0_off6 (lit0 s) = ![640 * (lit0 s).toNat, 0] ∧ k0_off7 (lit0 s) = ![640 * (lit0 s).toNat, 0] := by
  revert s; decide +kernel

variable (m : (ℓ : Loc nD τ sig) → Buf (Elt Ideal) ℓ) (c : Dev nD) (t : Fin (cfgM (F := Ideal)).N)
  (y8 : Vec Ideal S8320x256 .f32) (y9 y10 s0 s1 : Vec Ideal S640x256 .f32)

/-- The bias of the step's block. -/
abbrev dvT (b : Sq .f32) : Blk .f32 := dvB b (iblk m c 0 t) (iblk m c 1 t) (iblk m c 3 t) (iblk m c 4 t)
abbrev dkT (b : Sq .f32) : Blk .f32 := dkB b (iblk m c 0 t) (iblk m c 1 t) (iblk m c 2 t) (iblk m c 3 t) (iblk m c 4 t) (iblk m c 5 t)
abbrev dqT (b : Sq .f32) : Blk .f32 := dqB b (iblk m c 0 t) (iblk m c 1 t) (iblk m c 2 t) (iblk m c 3 t) (iblk m c 4 t) (iblk m c 5 t)
abbrev bD : Sq .f32 := sqB (iblk m c 6 t)
abbrev bF : Sq .f32 := rowB (iblk m c 7 t)

theorem outA_s0_eq (h : CaseA (qw t) (kw t)) : outA_s0 m c t h y8 s0 s1 = plus zeroB (dkT m c t (bD m c t)) := by
  unfold outA_s0 atA runA
  dsimp only
  sl_unfold_words
  simp only [sc0_lo, sc0_hi, sc1_lo, sc1_hi, rd_lo, rd_hi, rd_row, rd_sq, cov_lo, cov_hi, cov_cat, pay1_zero, pay2_zero, pay15_uns, pay58_eq, pay12_eq]
  exact (wr_cat _ _ _ _ _ _ _).trans (cat_plus _ _ _)
theorem outA_s1_eq (h : CaseA (qw t) (kw t)) : outA_s1 m c t h y8 s0 s1 = plus zeroB (dvT m c t (bD m c t)) := by
  unfold outA_s1 atA runA
  dsimp only
  sl_unfold_words
  simp only [sc0_lo, sc0_hi, sc1_lo, sc1_hi, rd_lo, rd_hi, rd_row, rd_sq, cov_lo, cov_hi, cov_cat, pay1_zero, pay2_zero, pay15_uns, pay53_eq, pay65_eq]
  exact (wr_cat _ _ _ _ _ _ _).trans (cat_plus _ _ _)
theorem outA_8_eq (h : CaseA (qw t) (kw t)) : outA_8 m c t h y8 s0 s1 = setRows (640 * (qw t).toNat) y8 (dqT m c t (bD m c t)) := by
  unfold outA_8 atA runA
  dsimp only
  sl_unfold_words
  simp only [sc0_lo, sc0_hi, sc1_lo, sc1_hi, rd_lo, rd_hi, rd_row, rd_sq, cov_lo, cov_hi, cov_cat, pay1_zero, pay2_zero, pay15_uns, pay13_eq]
  exact wr_set _ _ _ _ (offs _).2.2.1 _
theorem outB_s0_eq (h : CaseB (qw t) (kw t)) : outB_s0 m c t h y8 s0 s1 = plus s0 (dkT m c t (bF m c t)) := by
  unfold outB_s0 atB runB
  dsimp only
  sl_unfold_words
  simp only [sc0_lo, sc0_hi, sc1_lo, sc1_hi, rd_lo, rd_hi, rd_row, rd_sq, cov_lo, cov_hi, cov_cat, pay1_zero, pay2_zero, pay15_uns, pay40_eq, pay8_eq]
  exact (wr_cat _ _ _ _ _ _ _).trans (cat_plus _ _ _)
theorem outB_s1_eq (h : CaseB (qw t) (kw t)) : outB_s1 m c t h y8 s0 s1 = plus s1 (dvT m c t (bF m c t)) := by
  unfold outB_s1 atB runB
  dsimp only
  sl_unfold_words
  simp only [sc0_lo, sc0_hi, sc1_lo, sc1_hi, rd_lo, rd_hi, rd_row, rd_sq, cov_lo, cov_hi, cov_cat, pay1_zero, pay2_zero, pay15_uns, pay35_eq, pay47_eq]
  exact (wr_cat _ _ _ _ _ _ _).trans (cat_plus _ _ _)
theorem outB_8_eq (h : CaseB (qw t) (kw t)) : outB_8 m c t h y8 s0 s1 = setRows (640 * (qw t).toNat) y8 (dqT m c t (bF m c t)) := by
  unfold outB_8 atB runB
  dsimp only
  sl_unfold_words
  simp only [sc0_lo, sc0_hi, sc1_lo, sc1_hi, rd_lo, rd_hi, rd_row, rd_sq, cov_lo, cov_hi, cov_cat, pay1_zero, pay2_zero, pay15_uns, pay9_eq]
  exact wr_set _ _ _ _ (offs _).2.1 _
theorem outC_s0_eq (h : CaseC (qw t) (kw t)) : outC_s0 m c t h y8 y9 y10 s0 s1 = plus s0 (dkT m c t (bF m c t)) := by
  unfold outC_s0 atC runC
  dsimp only
  sl_unfold_words
  simp only [sc0_lo, sc0_hi, sc1_lo, sc1_hi, rd_lo, rd_hi, rd_row, rd_sq, cov_lo, cov_hi, cov_cat, pay1_zero, pay2_zero, pay15_uns, pay40_eq, pay8_eq]
  exact (wr_cat _ _ _ _ _ _ _).trans (cat_plus _ _ _)
theorem outC_s1_eq (h : CaseC (qw t) (kw t)) : outC_s1 m c t h y8 y9 y10 s0 s1 = plus s1 (dvT m c t (bF m c t)) := by
  unfold outC_s1 atC runC
  dsimp only
  sl_unfold_words
  simp only [sc0_lo, sc0_hi, sc1_lo, sc1_hi, rd_lo, rd_hi, rd_row, rd_sq, cov_lo, cov_hi, cov_cat, pay1_zero, pay2_zero, pay15_uns, pay35_eq, pay47_eq]
  exact (wr_cat _ _ _ _ _ _ _).trans (cat_plus _ _ _)
theorem outC_8_eq (h : CaseC (qw t) (kw t)) : outC_8 m c t h y8 y9 y10 s0 s1 = setRows (640 * (qw t).toNat) y8 (dqT m c t (bF m c t)) := by
  unfold outC_8 atC runC
  dsimp only
  sl_unfold_words
  simp only [sc0_lo, sc0_hi, sc1_lo, sc1_hi, rd_lo, rd_hi, rd_row, rd_sq, cov_lo, cov_hi, cov_cat, pay1_zero, pay2_zero, pay15_uns, pay9_eq]
  exact wr_set _ _ _ _ (offs _).2.1 _
theorem outC_9_eq (h : CaseC (qw t) (kw t)) : outC_9 m c t h y8 y9 y10 s0 s1 = unsc (plus s0 (dkT m c t (bF m c t))) := by
  unfold outC_9 atC runC
  dsimp only
  sl_unfold_words
  simp only [sc0_lo, sc0_hi, sc1_lo, sc1_hi, rd_lo, rd_hi, rd_row, rd_sq, cov_lo, cov_hi, cov_cat, pay1_zero, pay2_zero, pay15_uns, pay40_eq, pay8_eq]
  exact (View.read_writes_full _ _ _ _ _).trans (congrArg unsc (cat_plus _ _ _))
theorem outC_10_eq (h : CaseC (qw t) (kw t)) : outC_10 m c t h y8 y9 y10 s0 s1 = plus s1 (dvT m c t (bF m c t)) := by
  unfold outC_10 atC runC
  dsimp only
  sl_unfold_words
  simp only [sc0_lo, sc0_hi, sc1_lo, sc1_hi, rd_lo, rd_hi, rd_row, rd_sq, cov_lo, cov_hi, cov_cat, pay1_zero, pay2_zero, pay15_uns, pay35_eq, pay47_eq]
  exact (View.read_writes_full _ _ _ _ _).trans (cat_plus _ _ _)
theorem outD_s0_eq (h : CaseD (qw t) (kw t)) : outD_s0 m c t h y8 s0 s1 = plus zeroB (dkT m c t (bD m c t)) := by
  unfold outD_s0 atD runD
  dsimp only
  sl_unfold_words
  simp only [sc0_lo, sc0_hi, sc1_lo, sc1_hi, rd_lo, rd_hi, rd_row, rd_sq, cov_lo, cov_hi, cov_cat, pay1_zero, pay2_zero, pay15_uns, pay58_eq, pay12_eq]
  exact (wr_cat _ _ _ _ _ _ _).trans (cat_plus _ _ _)
theorem outD_s1_eq (h : CaseD (qw t) (kw t)) : outD_s1 m c t h y8 s0 s1 = plus zeroB (dvT m c t (bD m c t)) := by
  unfold outD_s1 atD runD
  dsimp only
  sl_unfold_words
  simp only [sc0_lo, sc0_hi, sc1_lo, sc1_hi, rd_lo, rd_hi, rd_row, rd_sq, cov_lo, cov_hi, cov_cat, pay1_zero, pay2_zero, pay15_uns, pay53_eq, pay65_eq]
  exact (wr_cat _ _ _ _ _ _ _).trans (cat_plus _ _ _)
theorem outD_8_eq (h : CaseD (qw t) (kw t)) : outD_8 m c t h y8 s0 s1 = addRows (640 * (qw t).toNat) y8 (dqT m c t (bD m c t)) := by
  unfold outD_8 atD runD
  dsimp only
  sl_unfold_words
  simp only [sc0_lo, sc0_hi, sc1_lo, sc1_hi, rd_lo, rd_hi, rd_row, rd_sq, cov_lo, cov_hi, cov_cat, pay1_zero, pay2_zero, pay15_uns, pay14_eq]
  exact wr_add _ _ _ _ (offs _).2.2.2 _ _
theorem outE_s0_eq (h : CaseE (qw t) (kw t)) : outE_s0 m c t h y8 y9 y10 s0 s1 = plus zeroB (dkT m c t (bD m c t)) := by
  unfold outE_s0 atE runE
  dsimp only
  sl_unfold_words
  simp only [sc0_lo, sc0_hi, sc1_lo, sc1_hi, rd_lo, rd_hi, rd_row, rd_sq, cov_lo, cov_hi, cov_cat, pay1_zero, pay2_zero, pay15_uns, pay58_eq, pay12_eq]
  exact (wr_cat _ _ _ _ _ _ _).trans (cat_plus _ _ _)
theorem outE_s1_eq (h : CaseE (qw t) (kw t)) : outE_s1 m c t h y8 y9 y10 s0 s1 = plus zeroB (dvT m c t (bD m c t)) := by
  unfold outE_s1 atE runE
  dsimp only
  sl_unfold_words
  simp only [sc0_lo, sc0_hi, sc1_lo, sc1_hi, rd_lo, rd_hi, rd_row, rd_sq, cov_lo, cov_hi, cov_cat, pay1_zero, pay2_zero, pay15_uns, pay53_eq, pay65_eq]
  exact (wr_cat _ _ _ _ _ _ _).trans (cat_plus _ _ _)
theorem outE_8_eq (h : CaseE (qw t) (kw t)) : outE_8 m c t h y8 y9 y10 s0 s1 = addRows (640 * (qw t).toNat) y8 (dqT m c t (bD m c t)) := by
  unfold outE_8 atE runE
  dsimp only
  sl_unfold_words
  simp only [sc0_lo, sc0_hi, sc1_lo, sc1_hi, rd_lo, rd_hi, rd_row, rd_sq, cov_lo, cov_hi, cov_cat, pay1_zero, pay2_zero, pay15_uns, pay14_eq]
  exact wr_add _ _ _ _ (offs _).2.2.2 _ _
theorem outE_9_eq (h : CaseE (qw t) (kw t)) : outE_9 m c t h y8 y9 y10 s0 s1 = unsc (plus zeroB (dkT m c t (bD m c t))) := by
  unfold outE_9 atE runE
  dsimp only
  sl_unfold_words
  simp only [sc0_lo, sc0_hi, sc1_lo, sc1_hi, rd_lo, rd_hi, rd_row, rd_sq, cov_lo, cov_hi, cov_cat, pay1_zero, pay2_zero, pay15_uns, pay58_eq, pay12_eq]
  exact (View.read_writes_full _ _ _ _ _).trans (congrArg unsc (cat_plus _ _ _))
theorem outE_10_eq (h : CaseE (qw t) (kw t)) : outE_10 m c t h y8 y9 y10 s0 s1 = plus zeroB (dvT m c t (bD m c t)) := by
  unfold outE_10 atE runE
  dsimp only
  sl_unfold_words
  simp only [sc0_lo, sc0_hi, sc1_lo, sc1_hi, rd_lo, rd_hi, rd_row, rd_sq, cov_lo, cov_hi, cov_cat, pay1_zero, pay2_zero, pay15_uns, pay53_eq, pay65_eq]
  exact (View.read_writes_full _ _ _ _ _).trans (cat_plus _ _ _)
theorem outG_s0_eq (h : CaseG (qw t) (kw t)) : outG_s0 m c t h y8 s0 s1 = plus s0 (dkT m c t noB) := by
  unfold outG_s0 atG runG
  dsimp only
  sl_unfold_words
  simp only [sc0_lo, sc0_hi, sc1_lo, sc1_hi, rd_lo, rd_hi, rd_row, rd_sq, cov_lo, cov_hi, cov_cat, pay1_zero, pay2_zero, pay15_uns, pay22_eq, pay4_eq]
  exact (wr_cat _ _ _ _ _ _ _).trans (cat_plus _ _ _)
theorem outG_s1_eq (h : CaseG (qw t) (kw t)) : outG_s1 m c t h y8 s0 s1 = plus s1 (dvT m c t noB) := by
  unfold outG_s1 atG runG
  dsimp only
  sl_unfold_words
  simp only [sc0_lo, sc0_hi, sc1_lo, sc1_hi, rd_lo, rd_hi, rd_row, rd_sq, cov_lo, cov_hi, cov_cat, pay1_zero, pay2_zero, pay15_uns, pay20_eq, pay28_eq]
  exact (wr_cat _ _ _ _ _ _ _).trans (cat_plus _ _ _)
theorem outG_8_eq (h : CaseG (qw t) (kw t)) : outG_8 m c t h y8 s0 s1 = addRows (640 * (qw t).toNat) y8 (dqT m c t noB) := by
  unfold outG_8 atG runG
  dsimp only
  sl_unfold_words
  simp only [sc0_lo, sc0_hi, sc1_lo, sc1_hi, rd_lo, rd_hi, rd_row, rd_sq, cov_lo, cov_hi, cov_cat, pay1_zero, pay2_zero, pay15_uns, pay6_eq]
  exact wr_add _ _ _ _ (offs _).1 _ _
theorem outH_s0_eq (h : CaseH (qw t) (kw t)) : outH_s0 m c t h y8 y9 y10 s0 s1 = plus s0 (dkT m c t noB) := by
  unfold outH_s0 atH runH
  dsimp only
  sl_unfold_words
  simp only [sc0_lo, sc0_hi, sc1_lo, sc1_hi, rd_lo, rd_hi, rd_row, rd_sq, cov_lo, cov_hi, cov_cat, pay1_zero, pay2_zero, pay15_uns, pay22_eq, pay4_eq]
  exact (wr_cat _ _ _ _ _ _ _).trans (cat_plus _ _ _)
theorem outH_s1_eq (h : CaseH (qw t) (kw t)) : outH_s1 m c t h y8 y9 y10 s0 s1 = plus s1 (dvT m c t noB) := by
  unfold outH_s1 atH runH
  dsimp only
  sl_unfold_words
  simp only [sc0_lo, sc0_hi, sc1_lo, sc1_hi, rd_lo, rd_hi, rd_row, rd_sq, cov_lo, cov_hi, cov_cat, pay1_zero, pay2_zero, pay15_uns, pay20_eq, pay28_eq]
  exact (wr_cat _ _ _ _ _ _ _).trans (cat_plus _ _ _)
theorem outH_8_eq (h : CaseH (qw t) (kw t)) : outH_8 m c t h y8 y9 y10 s0 s1 = addRows (640 * (qw t).toNat) y8 (dqT m c t noB) := by
  unfold outH_8 atH runH
  dsimp only
  sl_unfold_words
  simp only [sc0_lo, sc0_hi, sc1_lo, sc1_hi, rd_lo, rd_hi, rd_row, rd_sq, cov_lo, cov_hi, cov_cat, pay1_zero, pay2_zero, pay15_uns, pay6_eq]
  exact wr_add _ _ _ _ (offs _).1 _ _
theorem outH_9_eq (h : CaseH (qw t) (kw t)) : outH_9 m c t h y8 y9 y10 s0 s1 = unsc (plus s0 (dkT m c t noB)) := by
  unfold outH_9 atH runH
  dsimp only
  sl_unfold_words
  simp only [sc0_lo, sc0_hi, sc1_lo, sc1_hi, rd_lo, rd_hi, rd_row, rd_sq, cov_lo, cov_hi, cov_cat, pay1_zero, pay2_zero, pay15_uns, pay22_eq, pay4_eq]
  exact (View.read_writes_full _ _ _ _ _).trans (congrArg unsc (cat_plus _ _ _))
theorem outH_10_eq (h : CaseH (qw t) (kw t)) : outH_10 m c t h y8 y9 y10 s0 s1 = plus s1 (dvT m c t noB) := by
  unfold outH_10 atH runH
  dsimp only
  sl_unfold_words
  simp only [sc0_lo, sc0_hi, sc1_lo, sc1_hi, rd_lo, rd_hi, rd_row, rd_sq, cov_lo, cov_hi, cov_cat, pay1_zero, pay2_zero, pay15_uns, pay20_eq, pay28_eq]
  exact (View.read_writes_full _ _ _ _ _).trans (cat_plus _ _ _)

end Cert.Kernel9Ideal.Attn

end
-- ==== Proof.AttnChain.lean ====
/- The attention gradient's step by step sums: what the accumulators and the written blocks hold after each step. -/
module

public import proofs.«01_k».proof.Proof.AttnOut
public import Idealize.ShloMosaic.Lib.Pipeline.ArrRel
public import Idealize.ShloMosaic.Lib.Pipeline.ValueKit

@[expose] public section

set_option maxRecDepth 16384

noncomputable section

namespace Cert.Kernel9Ideal.Attn

open Gen Idealize.ShloMosaic Idealize.ShloMosaic.TcCoe Idealize.ShloMosaic.Tactic Idealize.SL.Sem

/-- The query block and the key block of a step of a pair of heads. -/
def qs (s : Fin 91) : ℕ := (lit0 s).toNat
def ks (s : Fin 91) : ℕ := (lit1 s).toNat

theorem fact_A : ∀ s : Fin 91, CaseA (lit0 s) (lit1 s) → qs s = ks s ∧ ks s = 0 ∧ qs s ≠ 12 := by decide +kernel
theorem fact_B : ∀ s : Fin 91, CaseB (lit0 s) (lit1 s) → qs s ≠ ks s ∧ ks s = 0 ∧ qs s ≠ 12 := by decide +kernel
theorem fact_C : ∀ s : Fin 91, CaseC (lit0 s) (lit1 s) → qs s ≠ ks s ∧ ks s = 0 ∧ qs s = 12 := by decide +kernel
theorem fact_D : ∀ s : Fin 91, CaseD (lit0 s) (lit1 s) → qs s = ks s ∧ ks s ≠ 0 ∧ qs s ≠ 12 := by decide +kernel
theorem fact_E : ∀ s : Fin 91, CaseE (lit0 s) (lit1 s) → qs s = ks s ∧ ks s ≠ 0 ∧ qs s = 12 := by decide +kernel
theorem fact_G : ∀ s : Fin 91, CaseG (lit0 s) (lit1 s) → qs s ≠ ks s ∧ ks s ≠ 0 ∧ qs s ≠ 12 := by decide +kernel
theorem fact_H : ∀ s : Fin 91, CaseH (lit0 s) (lit1 s) → qs s ≠ ks s ∧ ks s ≠ 0 ∧ qs s = 12 := by decide +kernel
theorem fact_first : ∀ s : Fin 91, qs s = ks s → ∀ s' : Fin 91, s' < s → ks s' ≠ ks s := by decide +kernel
theorem fact_zero : qs ⟨0 % 91, Nat.mod_lt _ (by decide)⟩ = ks ⟨0 % 91, Nat.mod_lt _ (by decide)⟩ := by decide +kernel
theorem fact_zero' : ks ⟨0 % 91, Nat.mod_lt _ (by decide)⟩ = 0 := by decide +kernel
theorem fact_next : ∀ s : Fin 91, qs s ≠ ks s → 0 < s.val ∧ ∀ s' : Fin 91, s'.val + 1 = s.val → ks s' = ks s := by decide +kernel
theorem fact_new : ∀ s : Fin 91, ks s = 0 → ∀ s' : Fin 91, s' < s → qs s' ≠ qs s := by decide +kernel
theorem fact_old : ∀ s : Fin 91, ks s ≠ 0 → ∃ s' : Fin 91, s' < s ∧ qs s' = qs s := by decide +kernel
theorem fact_last : ∀ s : Fin 91, qs s = 12 → ∀ s' : Fin 91, ks s' = ks s → s' ≤ s := by decide +kernel
theorem fact_lt : ∀ s : Fin 91, qs s < 13 ∧ ks s ≤ qs s := by decide +kernel
theorem fact_all : ∀ s : Fin 91, s.val = 90 → ∀ b : Fin 13, ∃ s' : Fin 91, s' ≤ s ∧ qs s' = b.val := by decide +kernel
theorem fact_q : ∀ b : Fin 13, ((Finset.univ.filter fun s : Fin 91 => qs s = b.val).image fun s => (⟨ks s % 13, Nat.mod_lt _ (by decide)⟩ : Fin 13)) = Finset.univ.filter fun k : Fin 13 => k ≤ b := by decide +kernel
theorem fact_k : ∀ b : Fin 13, ((Finset.univ.filter fun s : Fin 91 => ks s = b.val).image fun s => (⟨qs s % 13, Nat.mod_lt _ (by decide)⟩ : Fin 13)) = Finset.univ.filter fun k : Fin 13 => b ≤ k := by decide +kernel
theorem fact_inj : ∀ s s' : Fin 91, qs s = qs s' → ks s = ks s' → s = s' := by decide +kernel

theorem N_364 : (cfgM (F := Ideal)).N = 364 := N_0
abbrev Pt := Fin (cfgM (F := Ideal)).N
/-- A point's step of its pair of heads, and its pair of heads. -/
def stp (t : Pt) : Fin 91 := ⟨t.val % 91, Nat.mod_lt _ (by decide)⟩
def hpr (t : Pt) : ℕ := t.val / 91
/-- The point of a pair of heads and a step. -/
def pt (h : ℕ) (s : Fin 91) : Pt := ⟨(91 * h + s.val) % 364, by rw [N_364]; exact Nat.mod_lt _ (by decide)⟩
theorem pt_self (t : Pt) : pt (hpr t) (stp t) = t := Fin.ext (by have := lt_of_lt_of_eq t.isLt N_364; show (91 * (t.val / 91) + t.val % 91) % 364 = t.val; omega)
theorem stp_pt (h : ℕ) (s : Fin 91) (hh : h < 4) : stp (pt h s) = s := Fin.ext (by have := s.isLt; show (91 * h + s.val) % 364 % 91 = s.val; omega)
theorem hpr_pt (h : ℕ) (s : Fin 91) (hh : h < 4) : hpr (pt h s) = h := by have := s.isLt; show (91 * h + s.val) % 364 / 91 = h; omega

theorem coord_facts : ∀ t : Pt, ((cfgM (F := Ideal)).grid.coords t 1).val = t.val % 91 :=
  (by decide +kernel : ∀ t : Fin grid0.N, (grid0.coords t 1).val = t.val % 91)
theorem qw_eq (t : Pt) : qw t = lit0 (stp t) := congrArg lit0 (Fin.ext (coord_facts t))
theorem kw_eq (t : Pt) : kw t = lit1 (stp t) := congrArg lit1 (Fin.ext (coord_facts t))

variable (m : (ℓ : Loc nD τ sig) → Buf (Elt Ideal) ℓ) (c : Dev nD)

/-- The bias of a step's block: along the diagonal the triangular one, in the first column the front rows', else none. -/
def bias (t : Pt) : Sq .f32 := if qs (stp t) = ks (stp t) then bD m c t else if ks (stp t) = 0 then bF m c t else noB
def dkC (t : Pt) : Blk .f32 := dkT m c t (bias m c t)
def dvC (t : Pt) : Blk .f32 := dvT m c t (bias m c t)
def dqC (t : Pt) : Blk .f32 := dqT m c t (bias m c t)

/-- One step, in one statement for all the ways through the body. -/
theorem step_eq (t : Pt) (y8 : Vec Ideal S8320x256 .f32) (y9 y10 s0 s1 : Vec Ideal S640x256 .f32) (z8 : Vec Ideal S8320x256 .f32) (z9 z10 r0 r1 : Vec Ideal S640x256 .f32)
    (h : Rel m c t y8 y9 y10 s0 s1 z8 z9 z10 r0 r1) :
    r0 = plus (if qs (stp t) = ks (stp t) then zeroB else s0) (dkC m c t) ∧ r1 = plus (if qs (stp t) = ks (stp t) then zeroB else s1) (dvC m c t)
    ∧ z8 = (if ks (stp t) = 0 then setRows (640 * qs (stp t)) y8 (dqC m c t) else addRows (640 * qs (stp t)) y8 (dqC m c t))
    ∧ (qs (stp t) = 12 → z9 = unsc r0 ∧ z10 = r1) := by
  obtain ⟨hA, hB, hC, hD, hE, hG, hH⟩ := h
  have eq : (qw t).toNat = qs (stp t) := by rw [qw_eq]; rfl
  have fA := fact_A (stp t)
  have fB := fact_B (stp t)
  have fC := fact_C (stp t)
  have fD := fact_D (stp t)
  have fE := fact_E (stp t)
  have fG := fact_G (stp t)
  have fH := fact_H (stp t)
  rw [← qw_eq, ← kw_eq] at fA fB fC fD fE fG fH
  unfold dkC dvC dqC bias
  rw [← eq] at *
  have hc := cases_at (stp t)
  rw [← qw_eq, ← kw_eq] at hc
  rcases hc with h | h | h | h | h | h | h
  · obtain ⟨e1, e2, e3⟩ := fA h
    obtain ⟨e8, -, -, er0, er1⟩ := hA h
    rw [outA_8_eq] at e8; rw [outA_s0_eq] at er0; rw [outA_s1_eq] at er1
    simp only [if_pos e1, if_pos e2]
    exact ⟨er0, er1, e8, fun h => absurd h e3⟩
  · obtain ⟨e1, e2, e3⟩ := fB h
    obtain ⟨e8, -, -, er0, er1⟩ := hB h
    rw [outB_8_eq] at e8; rw [outB_s0_eq] at er0; rw [outB_s1_eq] at er1
    simp only [if_neg e1, if_pos e2]
    exact ⟨er0, er1, e8, fun h => absurd h e3⟩
  · obtain ⟨e1, e2, e3⟩ := fC h
    obtain ⟨e8, e9, e10, er0, er1⟩ := hC h
    rw [outC_8_eq] at e8; rw [outC_s0_eq] at er0; rw [outC_s1_eq] at er1; rw [outC_9_eq, ← er0] at e9; rw [outC_10_eq, ← er1] at e10
    simp only [if_neg e1, if_pos e2]
    exact ⟨er0, er1, e8, fun _ => ⟨e9, e10⟩⟩
  · obtain ⟨e1, e2, e3⟩ := fD h
    obtain ⟨e8, -, -, er0, er1⟩ := hD h
    rw [outD_8_eq] at e8; rw [outD_s0_eq] at er0; rw [outD_s1_eq] at er1
    simp only [if_pos e1, if_neg e2]
    exact ⟨er0, er1, e8, fun h => absurd h e3⟩
  · obtain ⟨e1, e2, e3⟩ := fE h
    obtain ⟨e8, e9, e10, er0, er1⟩ := hE h
    rw [outE_8_eq] at e8; rw [outE_s0_eq] at er0; rw [outE_s1_eq] at er1; rw [outE_9_eq, ← er0] at e9; rw [outE_10_eq, ← er1] at e10
    simp only [if_pos e1, if_neg e2]
    exact ⟨er0, er1, e8, fun _ => ⟨e9, e10⟩⟩
  · obtain ⟨e1, e2, e3⟩ := fG h
    obtain ⟨e8, -, -, er0, er1⟩ := hG h
    rw [outG_8_eq] at e8; rw [outG_s0_eq] at er0; rw [outG_s1_eq] at er1
    simp only [if_neg e1, if_neg e2]
    exact ⟨er0, er1, e8, fun h => absurd h e3⟩
  · obtain ⟨e1, e2, e3⟩ := fH h
    obtain ⟨e8, e9, e10, er0, er1⟩ := hH h
    rw [outH_8_eq] at e8; rw [outH_s0_eq] at er0; rw [outH_s1_eq] at er1; rw [outH_9_eq, ← er0] at e9; rw [outH_10_eq, ← er1] at e10
    simp only [if_neg e1, if_neg e2]
    exact ⟨er0, er1, e8, fun _ => ⟨e9, e10⟩⟩

/-- The sum of the parts of a pair of heads' steps so far that are at one key block. -/
def upK (f : Pt → Blk .f32) (t : Pt) (i : S640x256.Idx) : EReal :=
  ∑ s ∈ Finset.univ.filter fun s : Fin 91 => s ≤ stp t ∧ ks s = ks (stp t), (f (pt (hpr t) s) i : EReal)

theorem upK_first (f : Pt → Blk .f32) (t : Pt) (h : qs (stp t) = ks (stp t)) (i : S640x256.Idx) : upK f t i = f t i := by
  unfold upK
  rw [show (Finset.univ.filter fun s : Fin 91 => s ≤ stp t ∧ ks s = ks (stp t)) = {stp t} from ?_, Finset.sum_singleton, pt_self]
  ext s
  simp only [Finset.mem_filter, Finset.mem_univ, true_and, Finset.mem_singleton]
  constructor
  · rintro ⟨h1, h2⟩
    rcases lt_or_eq_of_le h1 with h3 | h3
    · exact absurd h2 (fact_first _ h s h3)
    · exact h3
  · rintro rfl; exact ⟨le_refl _, rfl⟩

theorem prev (t : Pt) (h : 0 < (stp t).val) (t' : Pt) (ht : t'.val + 1 = t.val) : (stp t').val + 1 = (stp t).val ∧ hpr t' = hpr t := by
  have h' : 0 < t.val % 91 := h
  constructor
  · show t'.val % 91 + 1 = t.val % 91; omega
  · show t'.val / 91 = t.val / 91; omega

theorem upK_next (f : Pt → Blk .f32) (t t' : Pt) (ht : t'.val + 1 = t.val) (h : qs (stp t) ≠ ks (stp t)) (i : S640x256.Idx) : upK f t i = upK f t' i + f t i := by
  obtain ⟨h0, hk⟩ := fact_next _ h
  obtain ⟨hs, hh⟩ := prev t h0 t' ht
  have hk := hk _ hs
  unfold upK
  rw [hh, hk, show (Finset.univ.filter fun s : Fin 91 => s ≤ stp t ∧ ks s = ks (stp t)) = insert (stp t) (Finset.univ.filter fun s : Fin 91 => s ≤ stp t' ∧ ks s = ks (stp t)) from ?_,
    Finset.sum_insert ?_, pt_self, add_comm]
  · simp only [Finset.mem_filter, Finset.mem_univ, true_and, not_and]
    intro h; exact absurd (Fin.le_def.mp h) (by omega)
  · ext s
    simp only [Finset.mem_filter, Finset.mem_univ, true_and, Finset.mem_insert, Fin.le_def, Fin.ext_iff]
    constructor
    · rintro ⟨h1, h2⟩
      by_cases h3 : s.val = (stp t).val
      · exact .inl h3
      · exact .inr ⟨by omega, h2⟩
    · rintro (h1 | ⟨h1, h2⟩)
      · exact ⟨by omega, by rw [Fin.ext h1]⟩
      · exact ⟨by omega, h2⟩

/-- What the accumulators hold after a step. -/
theorem reach_eq : ∀ (n : ℕ) (h : n < (cfgM (F := Ideal)).N) (r0 r1 : Vec Ideal S640x256 .f32), Reach m c (n + 1) r0 r1 →
    (∀ i, (r0 i : EReal) = upK (dkC m c) ⟨n, h⟩ i) ∧ (∀ i, (r1 i : EReal) = upK (dvC m c) ⟨n, h⟩ i) := by
  intro n
  induction n with
  | zero =>
    intro h r0 r1 hr
    obtain ⟨_, y8, y9, y10, s0, s1, z8, z9, z10, -, hr⟩ := hr
    obtain ⟨e0, e1, -, -⟩ := step_eq m c _ _ _ _ _ _ _ _ _ _ _ hr
    have h0 : qs (stp ⟨0, h⟩) = ks (stp ⟨0, h⟩) := fact_zero
    rw [if_pos h0] at e0 e1
    exact ⟨fun i => (congrFun e0 i).trans ((zero_add _).trans (upK_first _ _ h0 i).symm), fun i => (congrFun e1 i).trans ((zero_add _).trans (upK_first _ _ h0 i).symm)⟩
  | succ n ih =>
    intro h r0 r1 hr
    obtain ⟨_, y8, y9, y10, s0, s1, z8, z9, z10, hs, hr⟩ := hr
    obtain ⟨e0, e1, -, -⟩ := step_eq m c _ _ _ _ _ _ _ _ _ _ _ hr
    by_cases h0 : qs (stp ⟨n + 1, h⟩) = ks (stp ⟨n + 1, h⟩)
    · rw [if_pos h0] at e0 e1
      exact ⟨fun i => (congrFun e0 i).trans ((zero_add _).trans (upK_first _ _ h0 i).symm), fun i => (congrFun e1 i).trans ((zero_add _).trans (upK_first _ _ h0 i).symm)⟩
    · rw [if_neg h0] at e0 e1
      obtain ⟨i0, i1⟩ := ih (by omega) s0 s1 hs
      exact ⟨fun i => (congrFun e0 i).trans ((congrArg (fun z : EReal => z + _) (i0 i)).trans (upK_next (dkC m c) ⟨n + 1, h⟩ ⟨n, by omega⟩ rfl h0 i).symm),
        fun i => (congrFun e1 i).trans ((congrArg (fun z : EReal => z + _) (i1 i)).trans (upK_next (dvC m c) ⟨n + 1, h⟩ ⟨n, by omega⟩ rfl h0 i).symm)⟩

/-- The sum over all of a pair of heads' steps at a key block, and at a query block. -/
def allK (f : Pt → Blk .f32) (hp b : ℕ) (i : S640x256.Idx) : EReal := ∑ s ∈ Finset.univ.filter fun s : Fin 91 => ks s = b, (f (pt hp s) i : EReal)
def allQ (f : Pt → Blk .f32) (hp b : ℕ) (i : S640x256.Idx) : EReal := ∑ s ∈ Finset.univ.filter fun s : Fin 91 => qs s = b, (f (pt hp s) i : EReal)

theorem upK_last (f : Pt → Blk .f32) (t : Pt) (h : qs (stp t) = 12) (i : S640x256.Idx) : upK f t i = allK f (hpr t) (ks (stp t)) i := by
  unfold upK allK
  refine Finset.sum_congr (Finset.filter_congr fun s _ => ?_) fun _ _ => rfl
  exact ⟨fun h => h.2, fun h' => ⟨fact_last _ h s h', h'⟩⟩

theorem flush9 (t : Pt) (h : qs (stp t) = 12) (X : Vec Ideal S640x256 .f32) (hX : (rdat m c).Leaves 9 t X) (i : S640x256.Idx) :
    (X i : EReal) = allK (dkC m c) (hpr t) (ks (stp t)) i * Named.named (F := Ideal) κ "unscale" (φ := .f32) 0x40D95360#32 := by
  obtain ⟨Y, -, hX⟩ := hX
  obtain ⟨y8, y10, s0, s1, z8, z10, r0, r1, hr, hR⟩ := hX
  obtain ⟨e0, -, -, e9⟩ := step_eq m c _ _ _ _ _ _ _ _ _ _ _ hR
  obtain ⟨e9, -⟩ := e9 h
  obtain ⟨i0, -⟩ := reach_eq m c t.val t.isLt r0 r1 ⟨t.isLt, _, _, _, _, _, _, _, _, hr, hR⟩
  exact (congrFun e9 i).trans (congrArg (fun z : EReal => z * _) ((i0 i).trans (upK_last _ t h i)))
theorem flush10 (t : Pt) (h : qs (stp t) = 12) (X : Vec Ideal S640x256 .f32) (hX : (rdat m c).Leaves 10 t X) (i : S640x256.Idx) :
    (X i : EReal) = allK (dvC m c) (hpr t) (ks (stp t)) i := by
  obtain ⟨Y, -, hX⟩ := hX
  obtain ⟨y8, y9, s0, s1, z8, z9, r0, r1, hr, hR⟩ := hX
  obtain ⟨-, e1, -, e9⟩ := step_eq m c _ _ _ _ _ _ _ _ _ _ _ hR
  obtain ⟨-, e10⟩ := e9 h
  obtain ⟨-, i1⟩ := reach_eq m c t.val t.isLt r0 r1 ⟨t.isLt, _, _, _, _, _, _, _, _, hr, hR⟩
  exact (congrFun e10 i).trans ((i1 i).trans (upK_last _ t h i))

/-- What the queries' gradient block holds after a step: a row block already met holds the sum of the parts so far. -/
def upQ (f : Pt → Blk .f32) (t : Pt) (b : ℕ) (i : S640x256.Idx) : EReal :=
  ∑ s ∈ Finset.univ.filter fun s : Fin 91 => s ≤ stp t ∧ qs s = b, (f (pt (hpr t) s) i : EReal)
/-- An entry of the whole block and the entry of its row block. -/
def rowOf (i : S8320x256.Idx) : S640x256.Idx := ValueIdx.ix2 ⟨(i 0).val % 640, Nat.mod_lt _ (by decide)⟩ (i 1)

theorem upQ_new (f : Pt → Blk .f32) (t : Pt) (h : ks (stp t) = 0) (i : S640x256.Idx) : upQ f t (qs (stp t)) i = f t i := by
  unfold upQ
  rw [show (Finset.univ.filter fun s : Fin 91 => s ≤ stp t ∧ qs s = qs (stp t)) = {stp t} from ?_, Finset.sum_singleton, pt_self]
  ext s
  simp only [Finset.mem_filter, Finset.mem_univ, true_and, Finset.mem_singleton]
  constructor
  · rintro ⟨h1, h2⟩
    rcases lt_or_eq_of_le h1 with h3 | h3
    · exact absurd h2 (fact_new _ h s h3)
    · exact h3
  · rintro rfl; exact ⟨le_refl _, rfl⟩

theorem upQ_add (f : Pt → Blk .f32) (t t' : Pt) (ht : t'.val + 1 = t.val) (h0 : 0 < (stp t).val) (i : S640x256.Idx) : upQ f t (qs (stp t)) i = upQ f t' (qs (stp t)) i + f t i := by
  obtain ⟨hs, hh⟩ := prev t h0 t' ht
  unfold upQ
  rw [hh, show (Finset.univ.filter fun s : Fin 91 => s ≤ stp t ∧ qs s = qs (stp t)) = insert (stp t) (Finset.univ.filter fun s : Fin 91 => s ≤ stp t' ∧ qs s = qs (stp t)) from ?_,
    Finset.sum_insert ?_, pt_self, add_comm]
  · simp only [Finset.mem_filter, Finset.mem_univ, true_and, not_and]
    intro h; exact absurd (Fin.le_def.mp h) (by omega)
  · ext s
    simp only [Finset.mem_filter, Finset.mem_univ, true_and, Finset.mem_insert, Fin.le_def, Fin.ext_iff]
    constructor
    · rintro ⟨h1, h2⟩
      by_cases h3 : s.val = (stp t).val
      · exact .inl h3
      · exact .inr ⟨by omega, h2⟩
    · rintro (h1 | ⟨h1, h2⟩)
      · exact ⟨by omega, by rw [Fin.ext h1]⟩
      · exact ⟨by omega, h2⟩

theorem upQ_keep (f : Pt → Blk .f32) (t t' : Pt) (ht : t'.val + 1 = t.val) (h0 : 0 < (stp t).val) (b : ℕ) (hb : qs (stp t) ≠ b) (i : S640x256.Idx) : upQ f t b i = upQ f t' b i := by
  obtain ⟨hs, hh⟩ := prev t h0 t' ht
  unfold upQ
  rw [hh]
  refine Finset.sum_congr (Finset.filter_congr fun s _ => ?_) fun _ _ => rfl
  rw [Fin.le_def, Fin.le_def]
  constructor
  · rintro ⟨h1, h2⟩
    refine ⟨?_, h2⟩
    have : s.val ≠ (stp t).val := fun e => hb ((congrArg qs (Fin.ext e)).symm.trans h2)
    omega
  · rintro ⟨h1, h2⟩; exact ⟨by omega, h2⟩

theorem fetch8 : ∀ t : Pt, ((cfgM (F := Ideal)).win 8).fetch t = false := by decide +kernel
theorem flush8_iff : ∀ t : Pt, ((cfgM (F := Ideal)).win 8).flush t = true ↔ t.val % 91 = 90 := by decide +kernel
theorem flush9_iff : ∀ t : Pt, ((cfgM (F := Ideal)).win 9).flush t = true ↔ qs ⟨t.val % 91, Nat.mod_lt _ (by decide)⟩ = 12 := by decide +kernel
theorem flush10_iff : ∀ t : Pt, ((cfgM (F := Ideal)).win 10).flush t = true ↔ qs ⟨t.val % 91, Nat.mod_lt _ (by decide)⟩ = 12 := by decide +kernel

theorem finds8 (t t' : Pt) (ht : t'.val + 1 = t.val) (h0 : 0 < (stp t).val) (Y : Vec Ideal S8320x256 .f32) (hY : (rdat m c).Finds 8 t Y) : (rdat m c).Leaves 8 t' Y := by
  have h' : 0 < t.val % 91 := h0
  rw [(rdat m c).finds_of_pos (fetch8 t) (by omega)] at hY
  have e : (⟨t.val - 1, Nat.lt_of_le_of_lt (Nat.sub_le _ _) t.isLt⟩ : Pt) = t' := Fin.ext (by show t.val - 1 = t'.val; omega)
  rw [e, flush8_iff] at hY
  exact hY.resolve_left (by omega)

theorem rows_in (o b : ℕ) (i : S8320x256.Idx) (hi : (i 0).val / 640 = b) (ho : o = b) : 640 * o ≤ (i 0).val ∧ (i 0).val < 640 * o + 640 := by subst ho; omega
theorem rows_out (o b : ℕ) (i : S8320x256.Idx) (hi : (i 0).val / 640 = b) (ho : o ≠ b) : ¬ (640 * o ≤ (i 0).val ∧ (i 0).val < 640 * o + 640) := by omega
theorem rowOf_eq (o : ℕ) (i : S8320x256.Idx) (h : 640 * o ≤ (i 0).val ∧ (i 0).val < 640 * o + 640) (p) :
    (ValueIdx.ix2 ⟨(i 0).val - 640 * o, p⟩ (i 1) : S640x256.Idx) = rowOf i := by
  unfold rowOf
  refine congrArg (fun z => (ValueIdx.ix2 z (i 1) : S640x256.Idx)) (Fin.ext ?_)
  show (i 0).val - 640 * o = (i 0).val % 640
  omega

theorem leaves8 : ∀ (n : ℕ) (h : n < (cfgM (F := Ideal)).N) (X : Vec Ideal S8320x256 .f32), (rdat m c).Leaves 8 ⟨n, h⟩ X →
    ∀ b : ℕ, (∃ s : Fin 91, s ≤ stp ⟨n, h⟩ ∧ qs s = b) → ∀ i : S8320x256.Idx, (i 0).val / 640 = b → (X i : EReal) = upQ (dqC m c) ⟨n, h⟩ b (rowOf i) := by
  intro n
  induction n with
  | zero =>
    intro h X hX b hb i hi
    obtain ⟨Y, -, y9, y10, s0, s1, z9, z10, r0, r1, -, hR⟩ := hX
    obtain ⟨-, -, e8, -⟩ := step_eq m c _ _ _ _ _ _ _ _ _ _ _ hR
    obtain ⟨s, hs, hb⟩ := hb
    have es : s = stp ⟨0, h⟩ := le_antisymm hs (Fin.le_def.mpr (Nat.zero_le _))
    rw [es] at hb
    have h0 : ks (stp ⟨0, h⟩) = 0 := fact_zero'
    rw [if_pos h0] at e8
    rw [← hb, upQ_new _ _ h0]
    have hin := rows_in _ _ i hi hb
    refine (congrFun e8 i).trans ((dif_pos hin).trans (congrArg (dqC m c _) (rowOf_eq _ i hin _)))
  | succ n ih =>
    intro h X hX b hb i hi
    obtain ⟨Y, hY, y9, y10, s0, s1, z9, z10, r0, r1, -, hR⟩ := hX
    obtain ⟨-, -, e8, -⟩ := step_eq m c _ _ _ _ _ _ _ _ _ _ _ hR
    have e8 := congrFun e8 i
    have hn : n < (cfgM (F := Ideal)).N := by omega
    have old : ∀ b', (∃ s : Fin 91, s < stp ⟨n + 1, h⟩ ∧ qs s = b') → 0 < (stp ⟨n + 1, h⟩).val ∧ ∀ i : S8320x256.Idx, (i 0).val / 640 = b' → (Y i : EReal) = upQ (dqC m c) ⟨n, hn⟩ b' (rowOf i) := by
      rintro b' ⟨s, hs, hb'⟩
      have hs' := Fin.lt_def.mp hs
      have h0 : 0 < (stp ⟨n + 1, h⟩).val := by omega
      refine ⟨h0, ih hn Y (finds8 m c ⟨n + 1, h⟩ ⟨n, hn⟩ rfl h0 Y hY) b' ⟨s, ?_, hb'⟩⟩
      have := (prev ⟨n + 1, h⟩ h0 ⟨n, hn⟩ rfl).1
      rw [Fin.le_def]; omega
    by_cases hb0 : qs (stp ⟨n + 1, h⟩) = b
    · have hin := rows_in _ _ i hi hb0
      by_cases h0 : ks (stp ⟨n + 1, h⟩) = 0
      · rw [if_pos h0] at e8
        rw [← hb0, upQ_new _ _ h0]
        exact e8.trans ((dif_pos hin).trans (congrArg (dqC m c _) (rowOf_eq _ i hin _)))
      · rw [if_neg h0] at e8
        obtain ⟨hp, ho⟩ := old b (by obtain ⟨s, h1, h2⟩ := fact_old _ h0; exact ⟨s, h1, h2.trans hb0⟩)
        rw [← hb0, upQ_add _ _ ⟨n, hn⟩ rfl hp, hb0]
        exact e8.trans ((dif_pos hin).trans (congrArg₂ (fun a b : EReal => a + b) (ho i hi) (congrArg (dqC m c _) (rowOf_eq _ i hin _))))
    · have hout := rows_out _ _ i hi hb0
      obtain ⟨hp, ho⟩ := old b (by
        obtain ⟨s, h1, h2⟩ := hb
        exact ⟨s, lt_of_le_of_ne h1 fun e => hb0 ((congrArg qs e).symm.trans h2), h2⟩)
      rw [upQ_keep _ _ ⟨n, hn⟩ rfl hp b hb0, ← ho i hi]
      by_cases h0 : ks (stp ⟨n + 1, h⟩) = 0
      · rw [if_pos h0] at e8; exact e8.trans (dif_neg hout)
      · rw [if_neg h0] at e8; exact e8.trans (dif_neg hout)

theorem flush8 (t : Pt) (h : (stp t).val = 90) (X : Vec Ideal S8320x256 .f32) (hX : (rdat m c).Leaves 8 t X) (i : S8320x256.Idx) :
    (X i : EReal) = allQ (dqC m c) (hpr t) ((i 0).val / 640) (rowOf i) := by
  have hi : (i 0).val < 8320 := (i 0).isLt
  rw [leaves8 m c t.val t.isLt X hX _ (fact_all _ h ⟨(i 0).val / 640, by omega⟩) i rfl]
  unfold upQ allQ
  refine Finset.sum_congr (Finset.filter_congr fun s _ => ?_) fun _ _ => rfl
  have h90 : (stp ⟨t.val, t.isLt⟩).val = 90 := h
  exact ⟨fun h => h.2, fun h' => ⟨by have := s.isLt; rw [Fin.le_def]; omega, h'⟩⟩

/-- The three arrays the region leaves. -/
def G8 : S8320x1024.Idx → EReal := fun i => allQ (dqC m c) ((i 1).val / 256) ((i 0).val / 640) (ValueIdx.ix2 ⟨(i 0).val % 640, Nat.mod_lt _ (by decide)⟩ ⟨(i 1).val % 256, Nat.mod_lt _ (by decide)⟩)
def G9 : S8320x1024.Idx → EReal := fun i => allK (dkC m c) ((i 1).val / 256) ((i 0).val / 640) (ValueIdx.ix2 ⟨(i 0).val % 640, Nat.mod_lt _ (by decide)⟩ ⟨(i 1).val % 256, Nat.mod_lt _ (by decide)⟩)
  * Named.named (F := Ideal) κ "unscale" (φ := .f32) 0x40D95360#32
def G10 : S8320x1024.Idx → EReal := fun i => allK (dvC m c) ((i 1).val / 256) ((i 0).val / 640) (ValueIdx.ix2 ⟨(i 0).val % 640, Nat.mod_lt _ (by decide)⟩ ⟨(i 1).val % 256, Nat.mod_lt _ (by decide)⟩)

theorem idx8 : ∀ t : Pt, ((cfgM (F := Ideal)).win 8).index t (0 : Fin 2) = 0 ∧ ((cfgM (F := Ideal)).win 8).index t (1 : Fin 2) = t.val / 91 := by decide +kernel
theorem idx9 : ∀ t : Pt, ((cfgM (F := Ideal)).win 9).index t (0 : Fin 2) = ks ⟨t.val % 91, Nat.mod_lt _ (by decide)⟩ ∧ ((cfgM (F := Ideal)).win 9).index t (1 : Fin 2) = t.val / 91 := by decide +kernel
theorem idx10 : ∀ t : Pt, ((cfgM (F := Ideal)).win 10).index t (0 : Fin 2) = ks ⟨t.val % 91, Nat.mod_lt _ (by decide)⟩ ∧ ((cfgM (F := Ideal)).win 10).index t (1 : Fin 2) = t.val / 91 := by decide +kernel

theorem at8 (hp : ℕ) (y : S8320x256.Idx) (j : S8320x1024.Idx) (h0 : (j 0).val = (y 0).val) (h1 : (j 1).val = 256 * hp + (y 1).val) :
    allQ (dqC m c) hp ((y 0).val / 640) (rowOf y) = G8 m c j := by
  have hy : (y 1).val < 256 := (y 1).isLt
  unfold G8 rowOf
  rw [show (j 1).val / 256 = hp by omega]
  simp only [h0]
  refine congrArg (fun z => allQ (dqC m c) hp ((y 0).val / 640) (ValueIdx.ix2 _ z)) (Fin.ext ?_)
  show (y 1).val = (j 1).val % 256
  omega
theorem at9 (f : Pt → Blk .f32) (hp kb : ℕ) (y : S640x256.Idx) (j : S8320x1024.Idx) (h0 : (j 0).val = 640 * kb + (y 0).val) (h1 : (j 1).val = 256 * hp + (y 1).val) :
    allK f hp kb y = allK f ((j 1).val / 256) ((j 0).val / 640) (ValueIdx.ix2 ⟨(j 0).val % 640, Nat.mod_lt _ (by decide)⟩ ⟨(j 1).val % 256, Nat.mod_lt _ (by decide)⟩) := by
  have hy : (y 1).val < 256 := (y 1).isLt
  have hy0 : (y 0).val < 640 := (y 0).isLt
  rw [show (j 1).val / 256 = hp by omega, show (j 0).val / 640 = kb by omega]
  refine congrArg (allK f hp kb) (funext fun a => Fin.ext ?_)
  match a with
  | ⟨0, _⟩ => show (y 0).val = (j 0).val % 640; omega
  | ⟨1, _⟩ => show (y 1).val = (j 1).val % 256; omega
theorem arr8 (A : Buf (Elt Ideal) ((((cfgM (F := Ideal)).win 8).arr.view.loc (c.tc : Thread nD τ)))) (hA : (rdat m c).ArrAt 8 (cfgM (F := Ideal)).N A) : A = G8 m c := by
  obtain ⟨X, hX, hE⟩ := hA.exists_exact
  rw [hE (Function.update (fun _ _ _ => Classical.arbitrary _) 8 X) fun u _ _ => by rw [Function.update_self]]
  refine Pipeline.Dat.arrAt_eq_of_covers _ 8 _ (by decide +kernel) fun t hf y => ?_
  rw [Pipeline.RDat.withAfter_after, Function.update_self]
  have hl := (flush8_iff t).mp hf
  obtain ⟨e0, e1⟩ := idx8 t
  have v0 : ((((cfgM (F := Ideal)).win 8).index t (0 : Fin 2)) * 8320 + 1 * (y (0 : Fin 2)).val) = (y (0 : Fin 2)).val := by
    rw [e0]; omega
  have v1 : ((((cfgM (F := Ideal)).win 8).index t (1 : Fin 2)) * 256 + 1 * (y (1 : Fin 2)).val) = 256 * hpr t + (y (1 : Fin 2)).val := by
    rw [e1]; show t.val / 91 * 256 + 1 * _ = 256 * (t.val / 91) + _; omega
  refine (flush8 m c t hl (X t) (hX t t.isLt hf) y).trans ?_
  exact at8 m c (hpr t) y _ v0 v1
theorem arr9 (A : Buf (Elt Ideal) ((((cfgM (F := Ideal)).win 9).arr.view.loc (c.tc : Thread nD τ)))) (hA : (rdat m c).ArrAt 9 (cfgM (F := Ideal)).N A) : A = G9 m c := by
  obtain ⟨X, hX, hE⟩ := hA.exists_exact
  rw [hE (Function.update (fun _ _ _ => Classical.arbitrary _) 9 X) fun u _ _ => by rw [Function.update_self]]
  refine Pipeline.Dat.arrAt_eq_of_covers _ 9 _ (by decide +kernel) fun t hf y => ?_
  rw [Pipeline.RDat.withAfter_after, Function.update_self]
  have hl := (flush9_iff t).mp hf
  obtain ⟨e0, e1⟩ := idx9 t
  have v0 : ((((cfgM (F := Ideal)).win 9).index t (0 : Fin 2)) * 640 + 1 * (y (0 : Fin 2)).val) = 640 * ks (stp t) + (y (0 : Fin 2)).val := by
    rw [e0]; show ks (stp t) * 640 + 1 * _ = _; omega
  have v1 : ((((cfgM (F := Ideal)).win 9).index t (1 : Fin 2)) * 256 + 1 * (y (1 : Fin 2)).val) = 256 * hpr t + (y (1 : Fin 2)).val := by
    rw [e1]; show t.val / 91 * 256 + 1 * _ = 256 * (t.val / 91) + _; omega
  refine (flush9 m c t hl (X t) (hX t t.isLt hf) y).trans ?_
  exact congrArg (fun z : EReal => z * _) (at9 (dkC m c) (hpr t) (ks (stp t)) y _ v0 v1)
theorem arr10 (A : Buf (Elt Ideal) ((((cfgM (F := Ideal)).win 10).arr.view.loc (c.tc : Thread nD τ)))) (hA : (rdat m c).ArrAt 10 (cfgM (F := Ideal)).N A) : A = G10 m c := by
  obtain ⟨X, hX, hE⟩ := hA.exists_exact
  rw [hE (Function.update (fun _ _ _ => Classical.arbitrary _) 10 X) fun u _ _ => by rw [Function.update_self]]
  refine Pipeline.Dat.arrAt_eq_of_covers _ 10 _ (by decide +kernel) fun t hf y => ?_
  rw [Pipeline.RDat.withAfter_after, Function.update_self]
  have hl := (flush10_iff t).mp hf
  obtain ⟨e0, e1⟩ := idx10 t
  have v0 : ((((cfgM (F := Ideal)).win 10).index t (0 : Fin 2)) * 640 + 1 * (y (0 : Fin 2)).val) = 640 * ks (stp t) + (y (0 : Fin 2)).val := by
    rw [e0]; show ks (stp t) * 640 + 1 * _ = _; omega
  have v1 : ((((cfgM (F := Ideal)).win 10).index t (1 : Fin 2)) * 256 + 1 * (y (1 : Fin 2)).val) = 256 * hpr t + (y (1 : Fin 2)).val := by
    rw [e1]; show t.val / 91 * 256 + 1 * _ = 256 * (t.val / 91) + _; omega
  refine (flush10 m c t hl (X t) (hX t t.isLt hf) y).trans ?_
  exact at9 (dvC m c) (hpr t) (ks (stp t)) y _ v0 v1

/-- The steps at one key block are the query blocks from it on, and those at one query block the key blocks up to it. -/
theorem sumK (g : ℕ → EReal) (b : Fin 13) : (∑ s ∈ Finset.univ.filter fun s : Fin 91 => ks s = b.val, g (qs s)) = ∑ k : Fin 13, if b ≤ k then g k.val else 0 := by
  rw [← Finset.sum_filter, ← fact_k b, Finset.sum_image]
  · refine Finset.sum_congr rfl fun s _ => congrArg g ?_
    exact (Nat.mod_eq_of_lt (fact_lt s).1).symm
  · intro s hs s' hs' e
    have hs := (Finset.mem_filter.mp hs).2
    have hs' := (Finset.mem_filter.mp hs').2
    have e : qs s % 13 = qs s' % 13 := congrArg Fin.val e
    rw [Nat.mod_eq_of_lt (fact_lt s).1, Nat.mod_eq_of_lt (fact_lt s').1] at e
    exact fact_inj _ _ e (hs.trans hs'.symm)
theorem sumQ (g : ℕ → EReal) (b : Fin 13) : (∑ s ∈ Finset.univ.filter fun s : Fin 91 => qs s = b.val, g (ks s)) = ∑ k : Fin 13, if k ≤ b then g k.val else 0 := by
  rw [← Finset.sum_filter, ← fact_q b, Finset.sum_image]
  · refine Finset.sum_congr rfl fun s _ => congrArg g ?_
    exact (Nat.mod_eq_of_lt (lt_of_le_of_lt (fact_lt s).2 (fact_lt s).1)).symm
  · intro s hs s' hs' e
    have hs := (Finset.mem_filter.mp hs).2
    have hs' := (Finset.mem_filter.mp hs').2
    have e : ks s % 13 = ks s' % 13 := congrArg Fin.val e
    rw [Nat.mod_eq_of_lt (lt_of_le_of_lt (fact_lt s).2 (fact_lt s).1), Nat.mod_eq_of_lt (lt_of_le_of_lt (fact_lt s').2 (fact_lt s').1)] at e
    exact fact_inj _ _ (hs.trans hs'.symm) e

end Cert.Kernel9Ideal.Attn

end
-- ==== Proof.AttnVal.lean ====
/- The attention gradient's arrays as real numbers: the kernel's sums over blocks are the plain gradients. -/
module

public import proofs.«01_k».proof.Proof.AttnHost
public import proofs.«01_k».proof.Proof.AttnChain

@[expose] public section

set_option maxRecDepth 16384

noncomputable section

namespace Cert.Kernel9Ideal.Attn

open Gen Cert.Attn Idealize.ShloMosaic Idealize.ShloMosaic.TcCoe Idealize.ShloMosaic.Tactic Idealize.SL.Sem

variable (m : (ℓ : Loc nD τ sig) → Buf (Elt Ideal) ℓ) (c : Dev nD)

/-! ## Where the windows stand -/

theorem idxq : ∀ t : Pt, (((cfgM (F := Ideal)).win 0).index t (0 : Fin 2) = qs ⟨t.val % 91, Nat.mod_lt _ (by decide)⟩ ∧ ((cfgM (F := Ideal)).win 0).index t (1 : Fin 2) = t.val / 91) ∧
    (((cfgM (F := Ideal)).win 3).index t (0 : Fin 2) = qs ⟨t.val % 91, Nat.mod_lt _ (by decide)⟩ ∧ ((cfgM (F := Ideal)).win 3).index t (1 : Fin 2) = t.val / 91) ∧
    (((cfgM (F := Ideal)).win 4).index t (0 : Fin 2) = qs ⟨t.val % 91, Nat.mod_lt _ (by decide)⟩ ∧ ((cfgM (F := Ideal)).win 4).index t (1 : Fin 2) = t.val / 91) ∧
    (((cfgM (F := Ideal)).win 5).index t (0 : Fin 2) = qs ⟨t.val % 91, Nat.mod_lt _ (by decide)⟩ ∧ ((cfgM (F := Ideal)).win 5).index t (1 : Fin 2) = t.val / 91) := by decide +kernel
theorem idxk : ∀ t : Pt, (((cfgM (F := Ideal)).win 1).index t (0 : Fin 2) = ks ⟨t.val % 91, Nat.mod_lt _ (by decide)⟩ ∧ ((cfgM (F := Ideal)).win 1).index t (1 : Fin 2) = t.val / 91) ∧
    (((cfgM (F := Ideal)).win 2).index t (0 : Fin 2) = ks ⟨t.val % 91, Nat.mod_lt _ (by decide)⟩ ∧ ((cfgM (F := Ideal)).win 2).index t (1 : Fin 2) = t.val / 91) := by decide +kernel
theorem idxd : ∀ t : Pt, ((cfgM (F := Ideal)).win 6).index t (0 : Fin 3) = min (qs ⟨t.val % 91, Nat.mod_lt _ (by decide)⟩) 1 ∧ ((cfgM (F := Ideal)).win 6).index t (1 : Fin 3) = 0 ∧ ((cfgM (F := Ideal)).win 6).index t (2 : Fin 3) = 0 := by decide +kernel
theorem idxf : ∀ t : Pt, ((cfgM (F := Ideal)).win 7).index t (0 : Fin 2) = 0 ∧ ((cfgM (F := Ideal)).win 7).index t (1 : Fin 2) = 0 := by decide +kernel

/-- A block's entry of a padded array. -/
theorem at_block (lo : ℕ) (f : ℕ → ℕ → ℕ → ℝ) (R R' C C' : ℕ) (hR : R = R') (hC : C = C') :
    ((pd lo f R (C / 128) (C % 128) : ℝ) : EReal) = ((pd lo f R' (C' / 128) (C' % 128) : ℝ) : EReal) := by rw [hR, hC]

theorem one_of (x b : ℕ) (h : x = b) : x * 1 + 1 * 0 = b := by omega
theorem zero_of (x y : ℕ) (h : x = 0) : x * 640 + 1 * y = y := by omega
theorem row_of (t : Pt) (x b y : ℕ) (h : x = b) : x * 640 + 1 * y = 640 * b + y := by rw [h]; omega
theorem col_of (t : Pt) (x y : ℕ) (h : x = t.val / 91) : x * 256 + 1 * y = 256 * hpr t + y := by rw [h]; show t.val / 91 * 256 + _ = 256 * (t.val / 91) + _; omega

section
variable (hq : ∀ i, ∃ x : ℝ, (Aq m c i : EReal) = x) (hk : ∀ i, ∃ x : ℝ, (Ak m c i : EReal) = x)
variable (hv : ∀ i, ∃ x : ℝ, (Av m c i : EReal) = x) (hw : ∀ i, ∃ x : ℝ, (Aw m c i : EReal) = x)

include hq in
theorem blk0 (t : Pt) (y : S640x256.Idx) : (iblk m c 0 t y : EReal) = ((pd 0 (fq (Aq m c)) (640 * qs (stp t) + (y 0).val) ((256 * hpr t + (y 1).val) / 128) ((256 * hpr t + (y 1).val) % 128) : ℝ) : EReal) :=
  (congrFun (V58 m c) _).trans ((Cert.Prepare9Ideal.Attn.win0 (Aq m c) hq _).trans (at_block _ _ _ _ _ _ (row_of t _ _ _ (idxq t).1.1) (col_of t _ _ (idxq t).1.2)))
include hk in
theorem blk1 (t : Pt) (y : S640x256.Idx) : (iblk m c 1 t y : EReal) = ((pd 0 (rd (Ak m c)) (640 * ks (stp t) + (y 0).val) ((256 * hpr t + (y 1).val) / 128) ((256 * hpr t + (y 1).val) % 128) : ℝ) : EReal) :=
  (congrFun (V61 m c) _).trans ((Cert.Prepare9Ideal.Attn.win1 (Ak m c) hk _).trans (at_block _ _ _ _ _ _ (row_of t _ _ _ (idxk t).1.1) (col_of t _ _ (idxk t).1.2)))
include hv in
theorem blk2 (t : Pt) (y : S640x256.Idx) : (iblk m c 2 t y : EReal) = ((pd 64 (rd (Av m c)) (640 * ks (stp t) + (y 0).val) ((256 * hpr t + (y 1).val) / 128) ((256 * hpr t + (y 1).val) % 128) : ℝ) : EReal) :=
  (congrFun (V64 m c) _).trans ((Cert.Prepare9Ideal.Attn.win2 (Av m c) hv _).trans (at_block _ _ _ _ _ _ (row_of t _ _ _ (idxk t).2.1) (col_of t _ _ (idxk t).2.2)))
include hw in
theorem blk3 (t : Pt) (y : S640x256.Idx) : (iblk m c 3 t y : EReal) = ((pd 64 (rd (Aw m c)) (640 * qs (stp t) + (y 0).val) ((256 * hpr t + (y 1).val) / 128) ((256 * hpr t + (y 1).val) % 128) : ℝ) : EReal) :=
  (congrFun (V66 m c) _).trans ((Cert.Prepare9Ideal.Attn.win3 (Aw m c) hw _).trans (at_block _ _ _ _ _ _ (row_of t _ _ _ (idxq t).2.1.1) (col_of t _ _ (idxq t).2.1.2)))
include hq hk in
theorem blk4 (t : Pt) (y : S640x256.Idx) : (iblk m c 4 t y : EReal) = ((pd 0 (fl (Aq m c) (Ak m c)) (640 * qs (stp t) + (y 0).val) ((256 * hpr t + (y 1).val) / 128) ((256 * hpr t + (y 1).val) % 128) : ℝ) : EReal) :=
  (congrFun (V70 m c) _).trans ((Cert.Prepare9Ideal.Attn.win4 (Aq m c) (Ak m c) hq hk _).trans (at_block _ _ _ _ _ _ (row_of t _ _ _ (idxq t).2.2.1.1) (col_of t _ _ (idxq t).2.2.1.2)))
include hq hk hv hw in
theorem blk5 (t : Pt) (y : S640x256.Idx) : (iblk m c 5 t y : EReal) = ((pd 0 (fd (Aq m c) (Ak m c) (Av m c) (Aw m c)) (640 * qs (stp t) + (y 0).val) ((256 * hpr t + (y 1).val) / 128) ((256 * hpr t + (y 1).val) % 128) : ℝ) : EReal) :=
  (congrFun (V74 m c) _).trans ((Cert.Prepare9Ideal.Attn.win5 (Aq m c) (Ak m c) (Av m c) (Aw m c) hq hk hv hw _).trans (at_block _ _ _ _ _ _ (row_of t _ _ _ (idxq t).2.2.2.1) (col_of t _ _ (idxq t).2.2.2.2)))

/-- The bias lets a row see the real columns up to its own. -/
theorem bias_at (t : Pt) (i : S640x640.Idx) : (bias m c t i : EReal) =
    if 640 * ks (stp t) + (i 1).val ≤ 640 * qs (stp t) + (i 0).val ∧ 48 ≤ 640 * ks (stp t) + (i 1).val then 0 else ⊥ := by
  have h0 : (i 0).val < 640 := (i 0).isLt
  have h1 : (i 1).val < 640 := (i 1).isLt
  obtain ⟨-, hle⟩ := fact_lt (stp t)
  unfold bias
  by_cases e : qs (stp t) = ks (stp t)
  · rw [if_pos e]
    refine (congrFun (V42 m c) _).trans ((Cert.Prepare9Ideal.Attn.win6 _).trans ?_)
    obtain ⟨d0, d1, d2⟩ := idxd t
    have v0 : ((cfgM (F := Ideal)).win 6).index t (0 : Fin 3) * 1 + 1 * 0 = min (qs (stp t)) 1 := one_of _ _ d0
    have v1 : ((cfgM (F := Ideal)).win 6).index t (1 : Fin 3) * 640 + 1 * (i 0).val = (i 0).val := zero_of _ _ d1
    have v2 : ((cfgM (F := Ideal)).win 6).index t (2 : Fin 3) * 640 + 1 * (i 1).val = (i 1).val := zero_of _ _ d2
    refine if_congr ?_ rfl rfl
    show (((cfgM (F := Ideal)).win 6).index t (2 : Fin 3) * 640 + 1 * (i 1).val ≤ ((cfgM (F := Ideal)).win 6).index t (1 : Fin 3) * 640 + 1 * (i 0).val ∧ (48 ≤ ((cfgM (F := Ideal)).win 6).index t (2 : Fin 3) * 640 + 1 * (i 1).val ∨ 0 < ((cfgM (F := Ideal)).win 6).index t (0 : Fin 3) * 1 + 1 * 0)) ↔ _
    rw [v0, v1, v2]
    omega
  by_cases z : ks (stp t) = 0
  · rw [if_neg e, if_pos z]
    refine (congrFun (V48 m c) _).trans ((Cert.Prepare9Ideal.Attn.win7 _).trans ?_)
    obtain ⟨-, d1⟩ := idxf t
    have v1 : ((cfgM (F := Ideal)).win 7).index t (1 : Fin 2) * 640 + 1 * (i 1).val = (i 1).val := zero_of _ _ d1
    refine if_congr ?_ rfl rfl
    show 48 ≤ ((cfgM (F := Ideal)).win 7).index t (1 : Fin 2) * 640 + 1 * (i 1).val ↔ _
    rw [v1]
    omega
  rw [if_neg e, if_neg z]
  exact (if_pos (by omega)).symm

/-! ## One block's parts -/

/-- A head's half of a block of a padded array. -/
theorem half_at (X : S640x256.Idx → EReal) (lo : ℕ) (f : ℕ → ℕ → ℕ → ℝ) (b hp : ℕ)
    (hX : ∀ y : S640x256.Idx, X y = ((pd lo f (640 * b + (y 0).val) ((256 * hp + (y 1).val) / 128) ((256 * hp + (y 1).val) % 128) : ℝ) : EReal)) (h : Fin 2) (i : S640x128.Idx) :
    half h X i = ((pd lo f (640 * b + (i 0).val) (2 * hp + h.val) (i 1).val : ℝ) : EReal) := by
  have h1 : (i 1).val < 128 := (i 1).isLt
  refine (hX _).trans ?_
  show ((pd lo f (640 * b + (i 0).val) ((256 * hp + (128 * h.val + (i 1).val)) / 128) ((256 * hp + (128 * h.val + (i 1).val)) % 128) : ℝ) : EReal) = _
  rw [show (256 * hp + (128 * h.val + (i 1).val)) / 128 = 2 * hp + h.val by omega, show (256 * hp + (128 * h.val + (i 1).val)) % 128 = (i 1).val by omega]

/-- Two halves side by side, head by head. -/
theorem cat_at (A B : Half .f32) (f : ℕ → ℕ → ℕ → ℝ) (hp : ℕ) (hA : ∀ i : S640x128.Idx, (A i : EReal) = ((f (2 * hp + (0 : Fin 2).val) (i 0) (i 1) : ℝ) : EReal))
    (hB : ∀ i : S640x128.Idx, (B i : EReal) = ((f (2 * hp + (1 : Fin 2).val) (i 0) (i 1) : ℝ) : EReal)) (y : S640x256.Idx) :
    (cat A B y : EReal) = ((f ((256 * hp + (y 1).val) / 128) (y 0) ((y 1).val % 128) : ℝ) : EReal) := by
  have h1 : (y 1).val < 256 := (y 1).isLt
  unfold cat
  split_ifs with h
  · refine (hA _).trans ?_
    show ((f (2 * hp + 0) (y 0).val (y 1).val : ℝ) : EReal) = _
    rw [show (256 * hp + (y 1).val) / 128 = 2 * hp + 0 by omega, show (y 1).val % 128 = (y 1).val by omega]
  · refine (hB _).trans ?_
    show ((f (2 * hp + 1) (y 0).val ((y 1).val - 128) : ℝ) : EReal) = _
    rw [show (256 * hp + (y 1).val) / 128 = 2 * hp + 1 by omega, show (y 1).val % 128 = (y 1).val - 128 by omega]

theorem fl_lane (q k : (⟨3, ![8208, 8, 96]⟩ : Shape).Idx → EReal) (R H e : ℕ) (he : e < 128) : pd 0 (fl q k) R H e = pd 0 (fl q k) R H 0 := by
  unfold pd fl
  split_ifs <;> first | rfl | omega
theorem fd_lane (q k : (⟨3, ![8208, 8, 96]⟩ : Shape).Idx → EReal) (v w : (⟨3, ![8208, 8, 64]⟩ : Shape).Idx → EReal) (R H e : ℕ) (he : e < 128) : pd 0 (fd q k v w) R H e = pd 0 (fd q k v w) R H 0 := by
  unfold pd fd
  split_ifs <;> first | rfl | omega

theorem sc_eq : (sc : EReal) = ((c0 : ℝ) : EReal) :=
  (IdealRules.named_const.ideal_named_scalar _ _ _ _ rfl : Named.named (F := Ideal) κ "scale" (φ := .f32) 0x3DD105EC#32 = (((√96)⁻¹ : ℝ) : EReal)).trans (congrArg Real.toEReal (one_div _).symm)

include hq hk in
/-- The weights of a block. -/
theorem pB_at (t : Pt) (h : Fin 2) (i : S640x640.Idx) :
    (pB (bias m c t) (half h (iblk m c 0 t)) (half h (iblk m c 1 t)) (half h (iblk m c 4 t)) i : EReal) =
      ((PK (Aq m c) (Ak m c) (640 * qs (stp t) + (i 0).val) (640 * ks (stp t) + (i 1).val) (2 * hpr t + h.val) : ℝ) : EReal) := by
  have e1 : (nt (half h (iblk m c 0 t)) (half h (iblk m c 1 t)) i : EReal) = ((∑ e : Fin 128, pd 0 (fq (Aq m c)) (640 * qs (stp t) + (i 0).val) (2 * hpr t + h.val) e * pd 0 (rd (Ak m c)) (640 * ks (stp t) + (i 1).val) (2 * hpr t + h.val) e : ℝ) : EReal) := by
    unfold nt
    rw [coe_sum]
    refine Finset.sum_congr rfl fun e _ => ?_
    rw [EReal.coe_mul]
    exact congrArg₂ (fun a b : EReal => a * b) (half_at _ _ _ _ _ (blk0 m c hq t) h _) (half_at _ _ _ _ _ (blk1 m c hk t) h _)
  have e2 : (tile (half h (iblk m c 4 t)) i : EReal) = ((pd 0 (fl (Aq m c) (Ak m c)) (640 * qs (stp t) + (i 0).val) (2 * hpr t + h.val) 0 : ℝ) : EReal) := by
    unfold tile
    refine (half_at _ _ _ _ _ (blk4 m c hq hk t) h _).trans ?_
    exact congrArg Real.toEReal (fl_lane _ _ _ _ _ (Nat.mod_lt _ (by decide)))
  unfold pB
  rw [e1, e2, bias_at, PK]
  split_ifs with H
  · rw [add_zero, ← EReal.coe_sub, Ideal.exp2_coe]; rfl
  · rw [EReal.add_bot, EReal.bot_sub]; rfl

include hq hk hv hw in
/-- The scores' cotangent of a block. -/
theorem dsB_at (t : Pt) (h : Fin 2) (i : S640x640.Idx) :
    (dsB (bias m c t) (half h (iblk m c 0 t)) (half h (iblk m c 1 t)) (half h (iblk m c 2 t)) (half h (iblk m c 3 t)) (half h (iblk m c 4 t)) (half h (iblk m c 5 t)) i : EReal) =
      ((DK (Aq m c) (Ak m c) (Av m c) (Aw m c) (640 * qs (stp t) + (i 0).val) (640 * ks (stp t) + (i 1).val) (2 * hpr t + h.val) : ℝ) : EReal) := by
  have e1 : (nt (fun j => (half h (iblk m c 3 t) j : EReal) * sc) (half h (iblk m c 2 t)) i : EReal) = ((∑ e : Fin 128, pd 64 (rd (Aw m c)) (640 * qs (stp t) + (i 0).val) (2 * hpr t + h.val) e * c0 * pd 64 (rd (Av m c)) (640 * ks (stp t) + (i 1).val) (2 * hpr t + h.val) e : ℝ) : EReal) := by
    unfold nt
    rw [coe_sum]
    refine Finset.sum_congr rfl fun e _ => ?_
    rw [EReal.coe_mul, EReal.coe_mul]
    exact congrArg₂ (fun a b : EReal => a * b) (congrArg₂ (fun a b : EReal => a * b) (half_at _ _ _ _ _ (blk3 m c hw t) h _) sc_eq) (half_at _ _ _ _ _ (blk2 m c hv t) h _)
  have e2 : (tile (fun j => (half h (iblk m c 5 t) j : EReal) * sc) i : EReal) = ((pd 0 (fd (Aq m c) (Ak m c) (Av m c) (Aw m c)) (640 * qs (stp t) + (i 0).val) (2 * hpr t + h.val) 0 * c0 : ℝ) : EReal) := by
    unfold tile
    rw [EReal.coe_mul]
    refine congrArg₂ (fun a b : EReal => a * b) ((half_at _ _ _ _ _ (blk5 m c hq hk hv hw t) h _).trans ?_) sc_eq
    exact congrArg Real.toEReal (fd_lane _ _ _ _ _ _ _ (Nat.mod_lt _ (by decide)))
  unfold dsB
  rw [e1, e2, pB_at m c hq hk, DK]
  exact (congrArg (fun z : EReal => _ * z) (EReal.coe_sub _ _).symm).trans (EReal.coe_mul _ _).symm

include hq hk hw in
theorem dvC_at (t : Pt) (y : S640x256.Idx) : (dvC m c t y : EReal) =
    ((∑ a : Fin 640, PK (Aq m c) (Ak m c) (640 * qs (stp t) + a) (640 * ks (stp t) + (y 0).val) ((256 * hpr t + (y 1).val) / 128) * pd 64 (rd (Aw m c)) (640 * qs (stp t) + a) ((256 * hpr t + (y 1).val) / 128) ((y 1).val % 128) : ℝ) : EReal) := by
  have key : ∀ (h : Fin 2) (i : S640x128.Idx), (dvP (bias m c t) (half h (iblk m c 0 t)) (half h (iblk m c 1 t)) (half h (iblk m c 3 t)) (half h (iblk m c 4 t)) i : EReal) =
      ((∑ a : Fin 640, PK (Aq m c) (Ak m c) (640 * qs (stp t) + a) (640 * ks (stp t) + (i 0).val) (2 * hpr t + h.val) * pd 64 (rd (Aw m c)) (640 * qs (stp t) + a) (2 * hpr t + h.val) (i 1).val : ℝ) : EReal) := by
    intro h i
    unfold dvP tn
    rw [coe_sum]
    refine Finset.sum_congr rfl fun a _ => ?_
    rw [EReal.coe_mul]
    exact congrArg₂ (fun a b : EReal => a * b) (pB_at m c hq hk t h _) (half_at _ _ _ _ _ (blk3 m c hw t) h _)
  exact cat_at _ _ (fun H a l => ∑ r : Fin 640, PK (Aq m c) (Ak m c) (640 * qs (stp t) + r) (640 * ks (stp t) + a) H * pd 64 (rd (Aw m c)) (640 * qs (stp t) + r) H l) (hpr t) (key 0) (key 1) y

include hq hk hv hw in
theorem dkC_at (t : Pt) (y : S640x256.Idx) : (dkC m c t y : EReal) =
    ((∑ a : Fin 640, DK (Aq m c) (Ak m c) (Av m c) (Aw m c) (640 * qs (stp t) + a) (640 * ks (stp t) + (y 0).val) ((256 * hpr t + (y 1).val) / 128) * pd 0 (fq (Aq m c)) (640 * qs (stp t) + a) ((256 * hpr t + (y 1).val) / 128) ((y 1).val % 128) : ℝ) : EReal) := by
  have key : ∀ (h : Fin 2) (i : S640x128.Idx), (dkP (bias m c t) (half h (iblk m c 0 t)) (half h (iblk m c 1 t)) (half h (iblk m c 2 t)) (half h (iblk m c 3 t)) (half h (iblk m c 4 t)) (half h (iblk m c 5 t)) i : EReal) =
      ((∑ a : Fin 640, DK (Aq m c) (Ak m c) (Av m c) (Aw m c) (640 * qs (stp t) + a) (640 * ks (stp t) + (i 0).val) (2 * hpr t + h.val) * pd 0 (fq (Aq m c)) (640 * qs (stp t) + a) (2 * hpr t + h.val) (i 1).val : ℝ) : EReal) := by
    intro h i
    unfold dkP tn
    rw [coe_sum]
    refine Finset.sum_congr rfl fun a _ => ?_
    rw [EReal.coe_mul]
    exact congrArg₂ (fun a b : EReal => a * b) (dsB_at m c hq hk hv hw t h _) (half_at _ _ _ _ _ (blk0 m c hq t) h _)
  exact cat_at _ _ (fun H a l => ∑ r : Fin 640, DK (Aq m c) (Ak m c) (Av m c) (Aw m c) (640 * qs (stp t) + r) (640 * ks (stp t) + a) H * pd 0 (fq (Aq m c)) (640 * qs (stp t) + r) H l) (hpr t) (key 0) (key 1) y

include hq hk hv hw in
theorem dqC_at (t : Pt) (y : S640x256.Idx) : (dqC m c t y : EReal) =
    ((∑ a : Fin 640, DK (Aq m c) (Ak m c) (Av m c) (Aw m c) (640 * qs (stp t) + (y 0).val) (640 * ks (stp t) + a) ((256 * hpr t + (y 1).val) / 128) * pd 0 (rd (Ak m c)) (640 * ks (stp t) + a) ((256 * hpr t + (y 1).val) / 128) ((y 1).val % 128) : ℝ) : EReal) := by
  have key : ∀ (h : Fin 2) (i : S640x128.Idx), (dqP (bias m c t) (half h (iblk m c 0 t)) (half h (iblk m c 1 t)) (half h (iblk m c 2 t)) (half h (iblk m c 3 t)) (half h (iblk m c 4 t)) (half h (iblk m c 5 t)) i : EReal) =
      ((∑ a : Fin 640, DK (Aq m c) (Ak m c) (Av m c) (Aw m c) (640 * qs (stp t) + (i 0).val) (640 * ks (stp t) + a) (2 * hpr t + h.val) * pd 0 (rd (Ak m c)) (640 * ks (stp t) + a) (2 * hpr t + h.val) (i 1).val : ℝ) : EReal) := by
    intro h i
    unfold dqP nn
    rw [coe_sum]
    refine Finset.sum_congr rfl fun a _ => ?_
    rw [EReal.coe_mul]
    exact congrArg₂ (fun a b : EReal => a * b) (dsB_at m c hq hk hv hw t h _) (half_at _ _ _ _ _ (blk1 m c hk t) h _)
  exact cat_at _ _ (fun H a l => ∑ r : Fin 640, DK (Aq m c) (Ak m c) (Av m c) (Aw m c) (640 * qs (stp t) + a) (640 * ks (stp t) + r) H * pd 0 (rd (Ak m c)) (640 * ks (stp t) + r) H l) (hpr t) (key 0) (key 1) y

/-! ## The whole arrays -/

theorem masked_sum (F : ℕ → ℝ) (p : Fin 13 → Prop) [DecidablePred p] (hF : ∀ k : Fin 13, ¬p k → ∀ a : Fin 640, F (640 * k.val + a.val) = 0) :
    (∑ k : Fin 13, if p k then ((∑ a : Fin 640, F (640 * k.val + a.val) : ℝ) : EReal) else 0) = ((∑ R : Fin 8320, F R : ℝ) : EReal) := by
  rw [← sum_blocks, coe_sum]
  refine Finset.sum_congr rfl fun k _ => ?_
  split_ifs with h
  · rfl
  · rw [Finset.sum_eq_zero (fun a _ => hF k h a)]; rfl

theorem allK_at (f : Pt → Blk .f32) (F : ℕ → ℕ → ℕ → ℕ → ℝ) (hf : ∀ t y, (f t y : EReal) = ((∑ a : Fin 640, F (640 * qs (stp t) + a) (640 * ks (stp t) + (y 0).val) ((256 * hpr t + (y 1).val) / 128) ((y 1).val % 128) : ℝ) : EReal))
    (hF : ∀ R C H l, R < C → F R C H l = 0) (i : S8320x1024.Idx) (p0 p1) :
    allK f ((i 1).val / 256) ((i 0).val / 640) (ValueIdx.ix2 ⟨(i 0).val % 640, p0⟩ ⟨(i 1).val % 256, p1⟩) = ((∑ R : Fin 8320, F R (i 0).val ((i 1).val / 128) ((i 1).val % 128) : ℝ) : EReal) := by
  have h0 : (i 0).val < 8320 := (i 0).isLt
  have h1 : (i 1).val < 1024 := (i 1).isLt
  unfold allK
  rw [← masked_sum (fun R => F R (i 0).val ((i 1).val / 128) ((i 1).val % 128)) (fun k => (⟨(i 0).val / 640, by omega⟩ : Fin 13) ≤ k), ← sumK (fun b => ((∑ a : Fin 640, F (640 * b + a.val) (i 0).val ((i 1).val / 128) ((i 1).val % 128) : ℝ) : EReal)) ⟨(i 0).val / 640, by omega⟩]
  · refine Finset.sum_congr rfl fun s hs => ?_
    have hs' : ks s = (i 0).val / 640 := (Finset.mem_filter.mp hs).2
    refine (hf _ _).trans (congrArg Real.toEReal (Finset.sum_congr rfl fun a _ => ?_))
    rw [stp_pt _ _ (by omega), hpr_pt _ _ (by omega), hs']
    show F _ (640 * ((i 0).val / 640) + (i 0).val % 640) ((256 * ((i 1).val / 256) + (i 1).val % 256) / 128) ((i 1).val % 256 % 128) = _
    rw [show 640 * ((i 0).val / 640) + (i 0).val % 640 = (i 0).val by omega, show (256 * ((i 1).val / 256) + (i 1).val % 256) / 128 = (i 1).val / 128 by omega, show (i 1).val % 256 % 128 = (i 1).val % 128 by omega]
  · intro k hk a
    have hk' : ¬ (i 0).val / 640 ≤ k.val := hk
    exact hF _ _ _ _ (by omega)

theorem allQ_at (f : Pt → Blk .f32) (F : ℕ → ℕ → ℕ → ℕ → ℝ) (hf : ∀ t y, (f t y : EReal) = ((∑ a : Fin 640, F (640 * qs (stp t) + (y 0).val) (640 * ks (stp t) + a) ((256 * hpr t + (y 1).val) / 128) ((y 1).val % 128) : ℝ) : EReal))
    (hF : ∀ R C H l, R < C → F R C H l = 0) (i : S8320x1024.Idx) (p0 p1) :
    allQ f ((i 1).val / 256) ((i 0).val / 640) (ValueIdx.ix2 ⟨(i 0).val % 640, p0⟩ ⟨(i 1).val % 256, p1⟩) = ((∑ C : Fin 8320, F (i 0).val C ((i 1).val / 128) ((i 1).val % 128) : ℝ) : EReal) := by
  have h0 : (i 0).val < 8320 := (i 0).isLt
  have h1 : (i 1).val < 1024 := (i 1).isLt
  unfold allQ
  rw [← masked_sum (fun C => F (i 0).val C ((i 1).val / 128) ((i 1).val % 128)) (fun k => k ≤ (⟨(i 0).val / 640, by omega⟩ : Fin 13)), ← sumQ (fun b => ((∑ a : Fin 640, F (i 0).val (640 * b + a.val) ((i 1).val / 128) ((i 1).val % 128) : ℝ) : EReal)) ⟨(i 0).val / 640, by omega⟩]
  · refine Finset.sum_congr rfl fun s hs => ?_
    have hs' : qs s = (i 0).val / 640 := (Finset.mem_filter.mp hs).2
    refine (hf _ _).trans (congrArg Real.toEReal (Finset.sum_congr rfl fun a _ => ?_))
    rw [stp_pt _ _ (by omega), hpr_pt _ _ (by omega), hs']
    show F (640 * ((i 0).val / 640) + (i 0).val % 640) _ ((256 * ((i 1).val / 256) + (i 1).val % 256) / 128) ((i 1).val % 256 % 128) = _
    rw [show 640 * ((i 0).val / 640) + (i 0).val % 640 = (i 0).val by omega, show (256 * ((i 1).val / 256) + (i 1).val % 256) / 128 = (i 1).val / 128 by omega, show (i 1).val % 256 % 128 = (i 1).val % 128 by omega]
  · intro k hk a
    have hk' : ¬ k.val ≤ (i 0).val / 640 := hk
    exact hF _ _ _ _ (by omega)

theorem unscale_val : Named.named (F := Ideal) κ "unscale" (φ := .f32) 0x40D95360#32 = ((√96 * Real.log 2 : ℝ) : EReal) :=
  IdealRules.named_const.ideal_named_scalar _ _ _ _ rfl

include hq hk hv hw in
theorem G8_at (i : S8320x1024.Idx) : G8 m c i = ((pd 0 (rdq (Aq m c) (Ak m c) (Av m c) (Aw m c)) (i 0) ((i 1) / 128) ((i 1) % 128) : ℝ) : EReal) := by
  have h1 : (i 1).val < 1024 := (i 1).isLt
  refine (allQ_at (dqC m c) (fun R C H l => DK (Aq m c) (Ak m c) (Av m c) (Aw m c) R C H * pd 0 (rd (Ak m c)) C H l) (dqC_at m c hq hk hv hw) (fun R C H l h => by
    show DK _ _ _ _ R C H * _ = 0
    rw [DK_up _ _ _ _ R C H h, zero_mul]) i _ _).trans (congrArg Real.toEReal ?_)
  exact dq_pad _ _ _ _ _ _ _ (by omega)
include hq hk hv hw in
theorem G9_at (i : S8320x1024.Idx) : G9 m c i = ((pd 0 (rdk (Aq m c) (Ak m c) (Av m c) (Aw m c)) (i 0) ((i 1) / 128) ((i 1) % 128) : ℝ) : EReal) := by
  have h1 : (i 1).val < 1024 := (i 1).isLt
  unfold G9
  rw [unscale_val]
  refine (congrArg (fun z : EReal => z * _) (allK_at (dkC m c) (fun R C H l => DK (Aq m c) (Ak m c) (Av m c) (Aw m c) R C H * pd 0 (fq (Aq m c)) R H l) (dkC_at m c hq hk hv hw) (fun R C H l h => by
    show DK _ _ _ _ R C H * _ = 0
    rw [DK_up _ _ _ _ R C H h, zero_mul]) i _ _)).trans ((EReal.coe_mul _ _).symm.trans (congrArg Real.toEReal ?_))
  exact dk_pad _ _ _ _ _ _ _ (by omega)
include hq hk hw in
theorem G10_at (i : S8320x1024.Idx) : G10 m c i = ((pd 64 (rdv (Aq m c) (Ak m c) (Aw m c)) (i 0) ((i 1) / 128) ((i 1) % 128) : ℝ) : EReal) := by
  have h1 : (i 1).val < 1024 := (i 1).isLt
  refine (allK_at (dvC m c) (fun R C H l => PK (Aq m c) (Ak m c) R C H * pd 64 (rd (Aw m c)) R H l) (dvC_at m c hq hk hw) (fun R C H l h => by
    show PK _ _ R C H * _ = 0
    rw [PK_up _ _ R C H h, zero_mul]) i _ _).trans (congrArg Real.toEReal ?_)
  exact dv_pad _ _ _ _ _ _ (by omega)

end

end Cert.Kernel9Ideal.Attn

end
-- ==== Proof.AttnRef.lean ====
/- The reference program's scores, weights and row sums as real numbers, entry by entry. -/
module

public import proofs.«01_k».proof.Proof.AttnPad
public import proofs.«01_k».proof.Proof.Gen.Reference9Ideal.Read

@[expose] public section

set_option maxRecDepth 4000

noncomputable section

namespace Cert.Reference9Ideal.Attn

open Reference9Ideal Cert.Reference9Ideal.Gen Cert.Reference9Ideal.Read Cert.Attn Idealize.ShloMosaic Idealize.ShloMosaic.StableHlo

section
variable (q k : (⟨S8208x8x96, .f32⟩ : BufTy).Contents (Elt Ideal)) (v w : (⟨S8208x8x64, .f32⟩ : BufTy).Contents (Elt Ideal))
variable (hq : ∀ i, ∃ x : ℝ, (q i : EReal) = x) (hk : ∀ i, ∃ x : ℝ, (k i : EReal) = x)
variable (hv : ∀ i, ∃ x : ℝ, (v i : EReal) = x) (hw : ∀ i, ∃ x : ℝ, (w i : EReal) = x)

include hq hk in
theorem dot_at (i : S8x8208x8208.Idx) : (val_main_v0 (F := Ideal) q k i : EReal) = ((S q k (i 1) (i 2) (i 0) : ℝ) : EReal) := by
  rw [val_main_v0_apply, S, coe_sum]
  refine Finset.sum_congr rfl fun e _ => ?_
  rw [rd_eq q hq (lidx_main_v0 i e) (i 1) (i 0) e rfl rfl rfl, rd_eq k hk (ridx_main_v0 i e) (i 2) (i 0) e rfl rfl rfl, EReal.coe_mul]

theorem scale_at (i : S_.Idx) : (val_main_v2 (F := Ideal) i : EReal) = ((c0 : ℝ) : EReal) := div_sqrt

include hq hk in
theorem score_at (i : S8x8208x8208.Idx) : (val_main_v4 (F := Ideal) q k i : EReal) = ((S q k (i 1) (i 2) (i 0) * c0 : ℝ) : EReal) := by
  rw [val_main_v4_apply, val_main_v3_apply, EReal.coe_mul, ← scale_at (idx_main_v3 i), ← dot_at q k hq hk i]
  rfl

theorem mask_at (i : S8x8208x8208.Idx) : val_main_v8_1 (F := Ideal) i = BitVec.ofBool (decide ((i 2).val ≤ (i 1).val)) := by
  refine Eq.trans ?_ (congrArg BitVec.ofBool (sle_ofNat (i 2).val (i 1).val ?_ ?_))
  · rw [val_main_v8_1_apply]; rfl
  · have h : (i 2).val < 8208 := (i 2).isLt
    omega
  · have h : (i 1).val < 8208 := (i 1).isLt
    omega

include hq hk in
theorem masked_at (i : S8x8208x8208.Idx) : (val_main_v8_0 (F := Ideal) q k i : EReal) =
    if (i 2).val ≤ (i 1).val then ((S q k (i 1) (i 2) (i 0) * c0 : ℝ) : EReal) else ⊥ := by
  rw [val_main_v8_0_apply, mask_at, ← score_at q k hq hk i]
  unfold Scalar.select
  by_cases h : (i 2).val ≤ (i 1).val
  · rw [if_pos h, decide_eq_true h]; rfl
  · rw [if_neg h, decide_eq_false h]
    exact bits_bot

include hq hk in
theorem max_at (j : S8x8208.Idx) : ∃ m : ℝ, (val_main_v9 (F := Ideal) q k j : EReal) = m := by
  have h1 : (j 1).val < 8208 := (j 1).isLt
  have h0 : (j 0).val < 8 := (j 0).isLt
  let i0 : S8x8208x8208.Idx := ValueIdx.ix3 ⟨(j 0).val, h0⟩ ⟨(j 1).val, h1⟩ ⟨0, by decide⟩
  refine fold_max (α := Fin S8x8208x8208.numel) _ (fun n => (val_main_v8_0 (F := Ideal) q k (S8x8208x8208.rowMajor.symm n) : EReal)) _ ?_ ?_ (S8x8208x8208.rowMajor i0) ?_ ?_
  · show Ideal.ofBits .f32 0xFF800000#32 ≠ ⊤
    rw [bits_bot]; exact bot_ne_top
  · intro n
    rw [masked_at q k hq hk]
    split_ifs
    · exact EReal.coe_ne_top _
    · exact bot_ne_top
  · rw [List.mem_filter]
    refine ⟨List.mem_finRange _, ?_⟩
    rw [Equiv.symm_apply_apply, decide_eq_true_eq]
    funext a
    match a with
    | ⟨0, _⟩ => rfl
    | ⟨1, _⟩ => rfl
  · rw [Equiv.symm_apply_apply, masked_at q k hq hk, if_pos (show 0 ≤ (j 1).val from Nat.zero_le _)]
    exact EReal.coe_ne_bot _

include hq hk in
theorem maxx_at (j : S8x8208.Idx) : ∃ m : ℝ, (val_main_v16 (F := Ideal) q k j : EReal) = m := by
  obtain ⟨m, hm⟩ := max_at q k hq hk j
  refine ⟨m, ?_⟩
  have hz : (val_main_v15 (F := Ideal) j : EReal) = ⊥ := (val_main_v15_apply (F := Ideal) j).trans bits_bot
  rw [val_main_v16_apply, hm, hz]
  exact max_eq_right bot_le

include hq hk in
theorem exp_at (h r : ℕ) (hh : h < 8) (hr : r < 8208) : ∃ m : ℝ, (val_main_v16 (F := Ideal) q k (ValueIdx.ix2 ⟨h, hh⟩ ⟨r, hr⟩) : EReal) = m ∧
    ∀ i : S8x8208x8208.Idx, (i 0).val = h → (i 1).val = r →
      (val_main_v29 (F := Ideal) q k i : EReal) = ((Real.exp (-m) * E q k r (i 2) h : ℝ) : EReal) := by
  obtain ⟨m, hm⟩ := maxx_at q k hq hk (ValueIdx.ix2 ⟨h, hh⟩ ⟨r, hr⟩)
  refine ⟨m, hm, fun i h0 h1 => ?_⟩
  rw [val_main_v29_apply, val_main_v28_apply, val_main_v27_apply, val_main_v26_apply]
  have e : idx_main_v26 (idx_main_v27 i) = ValueIdx.ix2 ⟨h, hh⟩ ⟨r, hr⟩ := by
    funext a; apply Fin.ext
    match a with
    | ⟨0, _⟩ => exact h0
    | ⟨1, _⟩ => exact h1
  rw [e]
  subst h0 h1
  exact (congrArg Ideal.exp (congrArg₂ (fun a b : EReal => a - b) (masked_at q k hq hk i) hm)).trans (exp_mask _ _ _ _)

include hq hk in
theorem norm_at (h r : ℕ) (hh : h < 8) (hr : r < 8208) : ∃ m : ℝ, (val_main_v16 (F := Ideal) q k (ValueIdx.ix2 ⟨h, hh⟩ ⟨r, hr⟩) : EReal) = m ∧
    (∀ i : S8x8208x8208.Idx, (i 0).val = h → (i 1).val = r →
      (val_main_v29 (F := Ideal) q k i : EReal) = ((Real.exp (-m) * E q k r (i 2) h : ℝ) : EReal)) ∧
    ∀ j : S8x8208.Idx, (j 0).val = h → (j 1).val = r →
      (val_main_v30 (F := Ideal) q k j : EReal) = ((Real.exp (-m) * L q k r h : ℝ) : EReal) := by
  obtain ⟨m, hm, he⟩ := exp_at q k hq hk h r hh hr
  refine ⟨m, hm, he, fun j h0 h1 => ?_⟩
  have hz : ((val_main_cst_10 (F := Ideal)) (Shape.Idx.first h_S_) : EReal) = 0 := Proof.bits_zero
  rw [val_main_v30_apply, hz, zero_add, L, Finset.mul_sum, coe_sum]
  exact Finset.sum_congr rfl fun c _ => he (idx_main_v30 j c) h0 h1

include hq hk in
theorem weight_at (i : S8x8208x8208.Idx) : (val_main_v33 (F := Ideal) q k i : EReal) = ((P q k (i 1) (i 2) (i 0) : ℝ) : EReal) := by
  have h1 : (i 1).val < 8208 := (i 1).isLt
  have h0 : (i 0).val < 8 := (i 0).isLt
  obtain ⟨m, _, he, hs⟩ := norm_at q k hq hk (i 0) (i 1) h0 h1
  rw [val_main_v33_apply, val_main_v32_apply, val_main_v31_apply]
  have hl : Real.exp (-m) * L q k (i 1) (i 0) ≠ 0 := (mul_pos (Real.exp_pos _) (L_pos q k _ _ h1)).ne'
  refine (congrArg₂ Ideal.div (he i rfl rfl) (hs (idx_main_v31 (idx_main_v32 i)) rfl rfl)).trans ?_
  rw [Ideal.div_coe hl, ← EReal.coe_mul]
  refine congrArg Real.toEReal ?_
  unfold P
  have hL := (L_pos q k _ (i 0) h1).ne'
  have hx := (Real.exp_pos (-m)).ne'
  field_simp
include hq hk hw in
theorem dv_at (i : S8208x8x64.Idx) : (val_main_v42 (F := Ideal) q k w i : EReal) = ((∑ r : Fin 8208, P q k r (i 0) (i 1) * rd w r (i 1) (i 2) : ℝ) : EReal) := by
  rw [val_main_v42_apply, val_main_v41_apply, coe_sum]
  refine Finset.sum_congr rfl fun r _ => ?_
  rw [weight_at q k hq hk, val_main_v39_apply, EReal.coe_mul, mul_comm]
  exact congrArg (fun z : EReal => _ * z) (rd_eq w hw _ _ _ _ rfl rfl rfl)

include hv hw in
theorem dp_at (i : S8x8208x8208.Idx) : (val_main_v40 (F := Ideal) v w i : EReal) = ((DP v w (i 1) (i 2) (i 0) : ℝ) : EReal) := by
  rw [val_main_v40_apply, DP, coe_sum]
  refine Finset.sum_congr rfl fun d _ => ?_
  rw [val_main_v39_apply, EReal.coe_mul]
  exact congrArg₂ (fun a b : EReal => a * b) (rd_eq w hw _ _ _ _ rfl rfl rfl) (rd_eq v hv _ _ _ _ rfl rfl rfl)

include hq hk hv hw in
theorem ds_at (i : S8x8208x8208.Idx) : (val_main_v57 (F := Ideal) q k v w i : EReal) = ((DS q k v w (i 1) (i 2) (i 0) : ℝ) : EReal) := by
  have h1 : (i 1).val < 8208 := (i 1).isLt
  have h0 : (i 0).val < 8 := (i 0).isLt
  obtain ⟨m, _, he, hs⟩ := norm_at q k hq hk (i 0) (i 1) h0 h1
  have hL := L_pos q k _ (i 0) h1
  have hx := Real.exp_pos (-m)
  set l : ℝ := Real.exp (-m) * L q k (i 1) (i 0) with hl
  have hl0 : l ≠ 0 := (mul_pos hx hL).ne'
  -- the sum over the row, divided by the square of the normaliser
  have hsum : ∀ j : S8x8208.Idx, (j 0).val = (i 0).val → (j 1).val = (i 1).val →
      (val_main_v46 (F := Ideal) q k v w j : EReal) = ((Dl q k v w (i 1) (i 0) / l : ℝ) : EReal) := by
    intro j j0 j1
    have hz : ((val_main_cst_12 (F := Ideal)) (Shape.Idx.first h_S_) : EReal) = 0 := Proof.bits_zero
    rw [val_main_v46_apply, hz, zero_add, Dl, Finset.sum_div, coe_sum]
    refine Finset.sum_congr rfl fun c _ => ?_
    have h2 : (val_main_v36 (F := Ideal) q k (idx_main_v43 (idx_main_v46 j c)) : EReal) = ((1 / (l * l) : ℝ) : EReal) := by
      have hn : (val_main_v31 (F := Ideal) q k (idx_main_v43 (idx_main_v46 j c)) : EReal) = ((l : ℝ) : EReal) :=
        (val_main_v31_apply (F := Ideal) q k _).trans (hs _ j0 j1)
      have ho : (val_main_v35 (F := Ideal) (idx_main_v43 (idx_main_v46 j c)) : EReal) = 1 := (val_main_v35_apply (F := Ideal) _).trans Proof.bits_one
      rw [val_main_v36_apply, val_main_v34_apply, hn, ho]
      refine (congrArg (Ideal.div 1) (EReal.coe_mul l l).symm).trans ?_
      rw [Ideal.div_coe (mul_ne_zero hl0 hl0), one_mul]
    rw [val_main_v45_apply, val_main_v44_apply, val_main_v43_apply, h2, dp_at v w hv hw, he (idx_main_v46 j c) j0 j1]
    refine (congrArg (fun z : EReal => z * _) (EReal.coe_mul _ _).symm).trans ((EReal.coe_mul _ _).symm.trans (congrArg Real.toEReal ?_))
    show DP v w (j 1) c (j 0) * (1 / (l * l)) * (Real.exp (-m) * E q k (i 1) c (i 0)) = P q k (i 1) c (i 0) * DP v w (i 1) c (i 0) / l
    rw [j0, j1, P, hl]
    have := hL.ne'; have := hx.ne'
    field_simp
  have h52 : (val_main_v52 (F := Ideal) q k v w i : EReal) = ((-(Dl q k v w (i 1) (i 0) / l) : ℝ) : EReal) := by
    have hz : ((val_main_cst_13 (F := Ideal)) (Shape.Idx.first h_S_) : EReal) = 0 := Proof.bits_zero
    rw [val_main_v52_apply, val_main_v51_apply, hz, zero_add, Fin.sum_univ_one, val_main_v48_apply, val_main_v47_apply, hsum]
    · exact (EReal.coe_neg _).symm
    · show (((i 0).val * 8208 + (i 1).val) * 1 + 0) / 8208 = _
      omega
    · show (((i 0).val * 8208 + (i 1).val) * 1 + 0) % 8208 = _
      omega
  have h50 : (val_main_v50 (F := Ideal) q k v w i : EReal) = ((DP v w (i 1) (i 2) (i 0) / l : ℝ) : EReal) := by
    have hn : (val_main_v49 (F := Ideal) q k i : EReal) = ((l : ℝ) : EReal) :=
      (val_main_v49_apply (F := Ideal) q k _).trans ((val_main_v31_apply (F := Ideal) q k _).trans (hs _ rfl rfl))
    rw [val_main_v50_apply, hn, dp_at v w hv hw]
    refine (Ideal.div_coe hl0 _).trans ((EReal.coe_mul _ _).symm.trans (congrArg Real.toEReal ?_))
    ring
  have h54 : (val_main_v54 (F := Ideal) q k v w i : EReal) = ((P q k (i 1) (i 2) (i 0) * (DP v w (i 1) (i 2) (i 0) - Dl q k v w (i 1) (i 0)) : ℝ) : EReal) := by
    rw [val_main_v54_apply, val_main_v53_apply, h50, h52, he i rfl rfl]
    refine (congrArg (fun z : EReal => z * _) (EReal.coe_add _ _).symm).trans ((EReal.coe_mul _ _).symm.trans (congrArg Real.toEReal ?_))
    rw [P, hl]
    have := hL.ne'; have := hx.ne'
    field_simp
    ring
  have h55 : (val_main_v55 (F := Ideal) q k v w i : EReal) = ((P q k (i 1) (i 2) (i 0) * (DP v w (i 1) (i 2) (i 0) - Dl q k v w (i 1) (i 0)) : ℝ) : EReal) := by
    rw [val_main_v55_apply, mask_at, h54]
    unfold Scalar.select
    by_cases h : (i 2).val ≤ (i 1).val
    · rw [decide_eq_true h]; rfl
    · have hz : (val_main_call1_v0 (F := Ideal) i : EReal) = 0 := (val_main_call1_v0_apply (F := Ideal) i).trans Proof.bits_zero
      rw [decide_eq_false h, P, E, if_neg h, zero_div, zero_mul]
      exact hz
  have h56 : (val_main_v56 (F := Ideal) i : EReal) = ((c0 : ℝ) : EReal) := (val_main_v56_apply (F := Ideal) i).trans (scale_at _)
  rw [val_main_v57_apply, h55, h56, DS]
  exact (EReal.coe_mul _ _).symm

include hq hk hv hw in
theorem dk_at (i : S8208x8x96.Idx) : (val_main_v59 (F := Ideal) q k v w i : EReal) = ((∑ r : Fin 8208, DS q k v w r (i 0) (i 1) * rd q r (i 1) (i 2) : ℝ) : EReal) := by
  rw [val_main_v59_apply, val_main_v58_apply, coe_sum]
  refine Finset.sum_congr rfl fun r _ => ?_
  rw [ds_at q k v w hq hk hv hw, EReal.coe_mul]
  exact congrArg (fun z : EReal => _ * z) (rd_eq q hq _ _ _ _ rfl rfl rfl)

include hq hk hv hw in
theorem dq_at (i : S8208x8x96.Idx) : (val_main_v61 (F := Ideal) q k v w i : EReal) = ((∑ c : Fin 8208, DS q k v w (i 0) c (i 1) * rd k c (i 1) (i 2) : ℝ) : EReal) := by
  rw [val_main_v61_apply, val_main_v60_apply, coe_sum]
  refine Finset.sum_congr rfl fun r _ => ?_
  rw [ds_at q k v w hq hk hv hw, EReal.coe_mul]
  exact congrArg (fun z : EReal => _ * z) (rd_eq k hk _ _ _ _ rfl rfl rfl)

include hq hk hv hw in
theorem out0 (i : S8320x1024.Idx) : (val_main_v63 (F := Ideal) q k v w i : EReal) = ((pd 0 (rdq q k v w) (i 0) ((i 1) / 128) ((i 1) % 128) : ℝ) : EReal) :=
  (val_main_v63_apply (F := Ideal) q k v w i).trans ((pad_at _ _ _ _ (rdq q k v w) (dq_at q k v w hq hk hv hw) (rdq_out q k v w) (fun _ => Proof.bits_zero) _).trans (pd_rs _ _ _ (i 1).isLt))
include hq hk hv hw in
theorem out1 (i : S8320x1024.Idx) : (val_main_v65 (F := Ideal) q k v w i : EReal) = ((pd 0 (rdk q k v w) (i 0) ((i 1) / 128) ((i 1) % 128) : ℝ) : EReal) :=
  (val_main_v65_apply (F := Ideal) q k v w i).trans ((pad_at _ _ _ _ (rdk q k v w) (dk_at q k v w hq hk hv hw) (rdk_out q k v w) (fun _ => Proof.bits_zero) _).trans (pd_rs _ _ _ (i 1).isLt))
include hq hk hw in
theorem out2 (i : S8320x1024.Idx) : (val_main_v67 (F := Ideal) q k w i : EReal) = ((pd 64 (rdv q k w) (i 0) ((i 1) / 128) ((i 1) % 128) : ℝ) : EReal) :=
  (val_main_v67_apply (F := Ideal) q k w i).trans ((pad_at _ _ _ _ (rdv q k w) (dv_at q k w hq hk hw) (rdv_out q k w) (fun _ => Proof.bits_zero) _).trans (pd_rs _ _ _ (i 1).isLt))

end

end Cert.Reference9Ideal.Attn

end
-- ==== Proof.AttnFrame.lean ====
module

public import proofs.«01_k».proof.Proof.AttnStep
public import Idealize.ShloMosaic.Lib.Claim

set_option maxRecDepth 16384
@[expose] public section
noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at a point: what the pipeline hands it, and what it leaves. -/
theorem sound_body (c : Dev nD) (t : Fin (cfgM (F := F)).N) (O : sProp 𝕄) (y8 : Vec F S8320x256 .f32) (y9 y10 : Vec F S640x256 .f32) :
    iprop(PhiK m c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t)
        ∗ owns (c : Thread nD τ) (ms0_8 t) fullShare y8 ∗ owns (c : Thread nD τ) (ms0_9 t) fullShare y9 ∗ owns (c : Thread nD τ) (ms0_10 t) fullShare y10)
      ⊢ wp frame (wpE (defs₀ (F := F)) Variants.none c none) Set.univ (bodyAt0 t) fun _ =>
        iprop(∃ s0 s1 z8 z9 z10 r0 r1, ⌜Reach m c t.val s0 s1 ∧ Rel m c t y8 y9 y10 s0 s1 z8 z9 z10 r0 r1⌝ ∗ PhiK m c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t)
        ∗ owns (c : Thread nD τ) (ms0_8 t) fullShare z8 ∗ owns (c : Thread nD τ) (ms0_9 t) fullShare z9 ∗ owns (c : Thread nD τ) (ms0_10 t) fullShare z10) := by
  unfold PhiK
  iintro ⟨⟨⟨%s0, %s1, %hR, HS0, HS1⟩, Hg, HT0, HT1⟩, Ho, H0, H1, H2, H3, H4, H5, H6, H7, H8, H9, H10⟩
  iapply (step m c t y8 y9 y10 s0 s1 _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro %z8 %z9 %z10 %r0 %r1 %hrel ⟨HT0, HT1, H0, H1, H2, H3, H4, H5, H6, H7, H8, H9, H10, HS0, HS1⟩
  iexists s0, s1, z8, z9, z10, r0, r1
  isplitr; · ipureintro; exact ⟨hR, hrel⟩
  isplitl [HT0 HT1 HS0 HS1 Hg]
  · isplitl [HS0 HS1]
    · iexists r0, r1
      isplitr; (ipureintro; exact ⟨t.isLt, y8, y9, y10, s0, s1, z8, z9, z10, hR, hrel⟩)
      isplitl [HS0]; · iexact HS0
      iexact HS1
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem Phi_eq (c : Dev nD) (t : Fin ((cfgM (F := F)).N + 1)) : (rdat (F := F) m c).Φ t = PhiK m c t.val := rfl
theorem Phi_castSucc (c : Dev nD) (t : Fin (cfgM (F := F)).N) : (rdat (F := F) m c).Φ t.castSucc = PhiK m c t.val := by rw [Phi_eq, Fin.val_castSucc]
theorem Phi_succ (c : Dev nD) (t : Fin (cfgM (F := F)).N) : (rdat (F := F) m c).Φ t.succ = PhiK m c (t.val + 1) := by rw [Phi_eq, Fin.val_succ]
theorem owes_succ (c : Dev nD) (t : Fin (cfgM (F := F)).N) : (rdat (F := F) m c).owesAt () t.castSucc = (rdat m c).owesAt () t.succ := rfl

/-- The body obligation, at every point. -/
theorem body_obligation (c : Dev nD) : (rdat (F := F) m c).BodyObligation (defs₀ (F := F)) Variants.none () Set.univ := by
  intro t Y hY
  rw [bigSep_W0, bigSep_W0, defs₀_row, Phi_castSucc, Phi_succ, ← owes_succ]
  refine triple_restated (sound_body m c t ((rdat (F := F) m c).owesAt () t.castSucc) (Y 8) (Y 9) (Y 10)) rfl ?_ fun _ => ?_
  · rw [finds_0 m c t _ (hY 0), finds_1 m c t _ (hY 1), finds_2 m c t _ (hY 2), finds_3 m c t _ (hY 3), finds_4 m c t _ (hY 4), finds_5 m c t _ (hY 5), finds_6 m c t _ (hY 6), finds_7 m c t _ (hY 7)]
  · iintro ⟨%s0, %s1, %z8, %z9, %z10, %r0, %r1, %hr, HP, Ho, H0, H1, H2, H3, H4, H5, H6, H7, H8, H9, H10⟩
    isplitl [HP]; · iexact HP
    isplitl [Ho]; · iexact Ho
    isplitl [H0]; · iexists (iblk m c 0 t); isplitr; (ipureintro; exact (finds_0 m c t _ (hY 0)).symm); iexact H0
    isplitl [H1]; · iexists (iblk m c 1 t); isplitr; (ipureintro; exact (finds_1 m c t _ (hY 1)).symm); iexact H1
    isplitl [H2]; · iexists (iblk m c 2 t); isplitr; (ipureintro; exact (finds_2 m c t _ (hY 2)).symm); iexact H2
    isplitl [H3]; · iexists (iblk m c 3 t); isplitr; (ipureintro; exact (finds_3 m c t _ (hY 3)).symm); iexact H3
    isplitl [H4]; · iexists (iblk m c 4 t); isplitr; (ipureintro; exact (finds_4 m c t _ (hY 4)).symm); iexact H4
    isplitl [H5]; · iexists (iblk m c 5 t); isplitr; (ipureintro; exact (finds_5 m c t _ (hY 5)).symm); iexact H5
    isplitl [H6]; · iexists (iblk m c 6 t); isplitr; (ipureintro; exact (finds_6 m c t _ (hY 6)).symm); iexact H6
    isplitl [H7]; · iexists (iblk m c 7 t); isplitr; (ipureintro; exact (finds_7 m c t _ (hY 7)).symm); iexact H7
    isplitl [H8]; · iexists z8; isplitr; (ipureintro; exact ⟨_, _, _, _, _, _, _, _, hr.1, hr.2⟩); iexact H8
    isplitl [H9]; · iexists z9; isplitr; (ipureintro; exact ⟨_, _, _, _, _, _, _, _, hr.1, hr.2⟩); iexact H9
    iexists z10; isplitr; (ipureintro; exact ⟨_, _, _, _, _, _, _, _, hr.1, hr.2⟩); iexact H10

set_option backward.isDefEq.respectTransparency.types false in
/-- The run: every weakly fair execution of @main terminates; each array ends in its relation to what it held, every other buffer is unchanged, every counter is zero. -/
theorem run_main_quiescent : θ_run defs (onTc (τ := τ) (main (F := F))) (s₀ m ρ) (fun r => (Pipeline.RDat.FramePost ((Pipeline.pin pcfgs fun _ => adm) 0) (fun c => rdat m c) (V m)) r ∧ r.2.sem = fun _ => 0) :=
  Pipeline.RDat.θ_run_frameP_track (Q' := _) pcfgs (fun _ => adm) (0 : Fin 1) launch0 defs₀ Variants.none (fun c => rdat m c) m ρ main
    (hbody := body_obligation m) (hshare := fun c w => by unfold Pipeline.RDat.share; split <;> rfl)
    (howed := fun _ _ => rfl) (V := V m) (hmain := hmain m) (hA := A_eq m) (hpf := V_pre m)
    (hin := fun c => by
      rw [Phi_eq, Fin.val_zero]; unfold PhiK
      change iprop(Pipeline.ΦA spec0 c ∗ Pipeline.ΦT pre0 (tbl (F := F)) c) ⊢ _
      rw [PhiA0_eq, PhiT0_eq]
      iintro ⟨⟨⟨⟨%d0, H0⟩, ⟨%d1, H1⟩⟩, Hg⟩, HT0, HT1⟩
      isplitl [H0 H1]
      · iexists d0, d1
        isplitr; (ipureintro; exact trivial)
        isplitl [H0]; · iexact H0
        iexact H1
      isplitl [Hg]; · iexact Hg
      isplitl [HT0]; · iexact HT0
      iexact HT1)
    (hout := fun c => by
      rw [Phi_eq]; unfold PhiK
      change _ ⊢ Pipeline.ΦA spec0 c
      rw [PhiA0_eq]
      iintro ⟨⟨%s0, %s1, -, H0, H1⟩, Hg, -, -⟩
      isplitl [H0 H1]
      · isplitl [H0]; (iexists s0; iexact H0)
        iexists s1; iexact H1
      iexact Hg)

/-- The frame: every execution terminates, the argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c)⟩, h.2⟩) (run_main_quiescent m ρ)

end Cert.Kernel9Ideal.Gen

end
-- ==== Proof.AttnGrad.lean ====
/- The attention gradient: over the reals the kernel's three results are the reference's, for finite arrays. -/
module

public import proofs.«01_k».proof.Proof.AttnVal
public import proofs.«01_k».proof.Proof.AttnRef
public import proofs.«01_k».proof.Proof.AttnFrame
public import proofs.«01_k».proof.Proof.Real
public import proofs.«01_k».proof.Defs
public import proofs.«01_k».proof.Proof.Gen.Reference9Ideal.Run
public import Idealize.ShloMosaic.Adequacy

@[expose] public section

set_option maxRecDepth 16384

noncomputable section

namespace Cert.Proof

open Idealize.ShloMosaic Idealize.ShloMosaic.TcCoe Idealize.SL.Sem

/-- The side conditions the precondition's operations take. -/
instance finite9_facts : Cert.Pre_finite9.Facts where
  bcast_S_S8208x8x96 := by decide
  bcast_S_S8208x8x64 := by decide

/-- Under the precondition every argument's entry is a real number. -/
theorem finite9_real (q k : Cert.Kernel9Ideal.S8208x8x96.Idx → Elt Ideal .f32) (v w : Cert.Kernel9Ideal.S8208x8x64.Idx → Elt Ideal .f32)
    (h : (Cert.Pre_finite9.fn (F := Ideal) q k v w).1 = fun _ => 1#1) (i) : ∃ x : ℝ, (q i : EReal) = x :=
  real_of_abs_lt (by rw [← bits_top]; exact congrFun h i)
theorem finite9_real1 (q k : Cert.Kernel9Ideal.S8208x8x96.Idx → Elt Ideal .f32) (v w : Cert.Kernel9Ideal.S8208x8x64.Idx → Elt Ideal .f32)
    (h : (Cert.Pre_finite9.fn (F := Ideal) q k v w).2.1 = fun _ => 1#1) (i) : ∃ x : ℝ, (k i : EReal) = x :=
  real_of_abs_lt (by rw [← bits_top]; exact congrFun h i)
theorem finite9_real2 (q k : Cert.Kernel9Ideal.S8208x8x96.Idx → Elt Ideal .f32) (v w : Cert.Kernel9Ideal.S8208x8x64.Idx → Elt Ideal .f32)
    (h : (Cert.Pre_finite9.fn (F := Ideal) q k v w).2.2.1 = fun _ => 1#1) (i) : ∃ x : ℝ, (v i : EReal) = x :=
  real_of_abs_lt (by rw [← bits_top]; exact congrFun h i)
theorem finite9_real3 (q k : Cert.Kernel9Ideal.S8208x8x96.Idx → Elt Ideal .f32) (v w : Cert.Kernel9Ideal.S8208x8x64.Idx → Elt Ideal .f32)
    (h : (Cert.Pre_finite9.fn (F := Ideal) q k v w).2.2.2 = fun _ => 1#1) (i) : ∃ x : ℝ, (w i : EReal) = x :=
  real_of_abs_lt (by rw [← bits_top]; exact congrFun h i)

/-- The gradients of the queries, the keys and the values are the reference's. -/
theorem algebraic_attn : Cert.algebraic_Kernel9Ideal_Reference9Ideal_pre_finite9 := by
  intro m g m' g' hpre hag
  refine ⟨fun c => Cert.Kernel9Ideal.Attn.G8 m c, fun c => Cert.Kernel9Ideal.Attn.G9 m c, fun c => Cert.Kernel9Ideal.Attn.G10 m c, ?_, ?_⟩
  · exact (θ_run Cert.Kernel9Ideal.defs _ _).mono (fun r h c =>
      ⟨Cert.Kernel9Ideal.Attn.arr8 m c _ ((h.1 c).1 8), Cert.Kernel9Ideal.Attn.arr9 m c _ ((h.1 c).1 9), Cert.Kernel9Ideal.Attn.arr10 m c _ ((h.1 c).1 10),
        ((h.1 c).2 Cert.Kernel9Ideal.main_arg0 (by decide)).trans (Cert.Kernel9Ideal.Gen.V_main_arg0 m c),
        ((h.1 c).2 Cert.Kernel9Ideal.main_arg1 (by decide)).trans (Cert.Kernel9Ideal.Gen.V_main_arg1 m c),
        ((h.1 c).2 Cert.Kernel9Ideal.main_arg2 (by decide)).trans (Cert.Kernel9Ideal.Gen.V_main_arg2 m c),
        ((h.1 c).2 Cert.Kernel9Ideal.main_arg3 (by decide)).trans (Cert.Kernel9Ideal.Gen.V_main_arg3 m c)⟩)
      (Cert.Kernel9Ideal.Gen.run_main_quiescent m g)
  · refine (θ_run Cert.Reference9Ideal.defs _ _).mono (fun r h c => ?_) (Cert.Reference9Ideal.Value.run (F := Ideal) m' g')
    obtain ⟨a0, a1, a2, a3⟩ := hag c
    obtain ⟨h0, h1, h2, k⟩ := h c
    obtain ⟨p0, p1, p2, p3⟩ := hpre c
    have hq := finite9_real _ _ _ _ p0
    have hk := finite9_real1 _ _ _ _ p1
    have hv := finite9_real2 _ _ _ _ p2
    have hw := finite9_real3 _ _ _ _ p3
    rw [Cert.Reference9Ideal.Read.val_main_v63_eq, a0, a1, a2, a3] at h0
    rw [Cert.Reference9Ideal.Read.val_main_v65_eq, a0, a1, a2, a3] at h1
    rw [a0, a1, a3, Cert.Reference9Ideal.Read.val_main_v67_eq] at h2
    exact ⟨h0.trans (funext fun i => (Cert.Reference9Ideal.Attn.out0 _ _ _ _ hq hk hv hw i).trans (Cert.Kernel9Ideal.Attn.G8_at m c hq hk hv hw i).symm),
      h1.trans (funext fun i => (Cert.Reference9Ideal.Attn.out1 _ _ _ _ hq hk hv hw i).trans (Cert.Kernel9Ideal.Attn.G9_at m c hq hk hv hw i).symm),
      h2.trans (funext fun i => (Cert.Reference9Ideal.Attn.out2 _ _ _ hq hk hw i).trans (Cert.Kernel9Ideal.Attn.G10_at m c hq hk hw i).symm), k⟩

theorem frame_reference9 : Cert.quiescent_Reference9Ideal := fun m ρ _ =>
  (θ_run Cert.Reference9Ideal.defs _ _).mono (fun r h => ⟨fun c => (h c).2.2.2, sem_eq_zero_of_no_sems rfl r.2⟩)
    (Cert.Reference9Ideal.Value.run (F := Ideal) m ρ)

end Cert.Proof

end
-- ==== Proof.lean ====
/- The proof of the claims of proofs.«01_k».proof.Defs. The witnesses of the programs' stated facts come first. -/
module

public import proofs.«01_k».proof.Defs
public import proofs.«01_k».proof.Proof.Gen.Kernel.Frame
public import proofs.«01_k».proof.Proof.Gen.Kernel2.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gate
public import proofs.«01_k».proof.Proof.Swiglu
public import proofs.«01_k».proof.Proof.GateFwd
public import proofs.«01_k».proof.Proof.DownFwd
public import proofs.«01_k».proof.Proof.InprojFwd
public import proofs.«01_k».proof.Proof.Dwdown
public import proofs.«01_k».proof.Proof.Ddown
public import proofs.«01_k».proof.Proof.Dwgate
public import proofs.«01_k».proof.Proof.Dnormed
public import proofs.«01_k».proof.Proof.Dmixed
public import proofs.«01_k».proof.Proof.Dwin
public import proofs.«01_k».proof.Proof.Gen.Kernel9
public import proofs.«01_k».proof.Proof.Gen.Kernel9.Skeleton
public import proofs.«01_k».proof.Proof.Gen.Kernel9.Launch
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Reference9Ideal
public import proofs.«01_k».proof.Proof.Gen.Reference9Ideal.Run
public import proofs.«01_k».proof.Proof.Gen.Reference9Ideal.Read
public import proofs.«01_k».proof.Proof.Gen.Prepare9Ideal
public import proofs.«01_k».proof.Proof.Gen.Prepare9Ideal.Run
public import proofs.«01_k».proof.Proof.Gen.Prepare9Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.OutFwd
public import proofs.«01_k».proof.Proof.Dmerged
public import proofs.«01_k».proof.Proof.Dwout
public import proofs.«01_k».proof.Proof.DattnOut
public import proofs.«01_k».proof.Proof.DrecOut
public import proofs.«01_k».proof.Proof.ProjAttn
public import proofs.«01_k».proof.Proof.ProjRec
public import proofs.«01_k».proof.Proof.DwprojAttn
public import proofs.«01_k».proof.Proof.DwprojRec
public import proofs.«01_k».proof.Proof.UqFwd
public import proofs.«01_k».proof.Proof.UkvFwd
public import proofs.«01_k».proof.Proof.Dqn
public import proofs.«01_k».proof.Proof.Dwqa
public import proofs.«01_k».proof.Proof.Dkvn
public import proofs.«01_k».proof.Proof.Dwkv
public import proofs.«01_k».proof.Proof.Adamw
public import proofs.«01_k».proof.Proof.SwigluFwd
public import proofs.«01_k».proof.Proof.MergeFwd
public import proofs.«01_k».proof.Proof.NormFwd
public import proofs.«01_k».proof.Proof.AttnBitsFrame
public import proofs.«01_k».proof.Proof.AttnGrad
public import Idealize.ShloMosaic.Adequacy
public import Idealize.ShloMosaic.Init

@[expose] public section

noncomputable section

namespace Cert.Proof

open Idealize.ShloMosaic Idealize.ShloMosaic.TcCoe Idealize.SL.Sem

theorem algebraic_gate : algebraic_KernelIdeal_ReferenceIdeal := by
  intro m g m' g' _ hag
  refine ⟨fun c => KernelIdeal.Gate.branch 1024 (by omega) (KernelIdeal.Gate.A0 m c) (KernelIdeal.Gate.A3 m c),
    fun c => KernelIdeal.Gate.branch 2048 (by omega) (KernelIdeal.Gate.A0 m c) (KernelIdeal.Gate.A3 m c),
    fun c => KernelIdeal.Gate.gate 1024 (by omega) (KernelIdeal.Gate.A0 m c) (KernelIdeal.Gate.A1 m c) (KernelIdeal.Gate.A3 m c),
    fun c => KernelIdeal.Gate.gate 2048 (by omega) (KernelIdeal.Gate.A0 m c) (KernelIdeal.Gate.A2 m c) (KernelIdeal.Gate.A3 m c),
    ?_, ?_⟩
  · refine (θ_run KernelIdeal.defs _ _).mono (fun r h c => ?_) (KernelIdeal.Value.run_blocks (F := Ideal) m g)
    obtain ⟨h0, h1, h2, h3, k⟩ := h c
    exact ⟨h0.trans (KernelIdeal.Gate.final5 m c), h1.trans (KernelIdeal.Gate.final6 m c),
      h2.trans (KernelIdeal.Gate.final7 m c), h3.trans (KernelIdeal.Gate.final8 m c), k⟩
  · refine (θ_run ReferenceIdeal.defs _ _).mono (fun r h c => ?_) (ReferenceIdeal.Value.run (F := Ideal) m' g')
    obtain ⟨a0, a1, a2, a3⟩ := hag c
    obtain ⟨h0, h1, h2, h3, k⟩ := h c
    rw [ReferenceIdeal.Read.val_main_v32_eq, a0, a3] at h0
    rw [ReferenceIdeal.Read.val_main_v33_eq, a0, a3] at h1
    rw [ReferenceIdeal.Read.val_main_v31_eq, a0, a1, a3] at h2
    rw [ReferenceIdeal.Read.val_main_v28_eq, a0, a2, a3] at h3
    exact ⟨h0.trans (KernelIdeal.Gate.ref_branch _ _).1, h1.trans (KernelIdeal.Gate.ref_branch _ _).2,
      h2.trans (KernelIdeal.Gate.ref_gate _ _ _).1, h3.trans (KernelIdeal.Gate.ref_gate _ _ _).2, k⟩

theorem algebraic_swiglu : algebraic_Kernel2Ideal_Reference2Ideal_pre_finite2 := by
  intro m g m' g' hpre hag
  refine ⟨_, _, Kernel2Ideal.Value.run (F := Ideal) m g, ?_⟩
  refine (θ_run Reference2Ideal.defs _ _).mono (fun r h c => ?_) (Reference2Ideal.Value.run (F := Ideal) m' g')
  obtain ⟨a0, a1, a2⟩ := hag c
  obtain ⟨h0, h1, k⟩ := h c
  obtain ⟨p0, p1⟩ := hpre c
  rw [Reference2Ideal.Read.val_main_v8_eq, a0, a1, a2] at h0
  rw [Reference2Ideal.Read.val_main_v9_eq, a0, a1] at h1
  exact ⟨h0.trans (swiglu_gate _ _ _ p0 p1).symm, h1.trans (swiglu_up _ _).symm, k⟩

theorem frame_reference : quiescent_ReferenceIdeal := fun m ρ _ =>
  (θ_run ReferenceIdeal.defs _ _).mono (fun r h => ⟨fun c => (h c).2.2.2.2, sem_eq_zero_of_no_sems rfl r.2⟩)
    (ReferenceIdeal.Value.run (F := Ideal) m ρ)

theorem frame_reference2 : quiescent_Reference2Ideal := fun m ρ _ =>
  (θ_run Reference2Ideal.defs _ _).mono (fun r h => ⟨fun c => (h c).2.2, sem_eq_zero_of_no_sems rfl r.2⟩)
    (Reference2Ideal.Value.run (F := Ideal) m ρ)

theorem algebraic_dwdown : algebraic_Kernel3Ideal_Reference3Ideal := by
  intro m g m' g' _ hag
  refine ⟨fun c => Kernel3Ideal.Product.result m c, ?_, ?_⟩
  · exact (θ_run Kernel3Ideal.defs _ _).mono (fun r h c => ⟨(h c).1.trans (Kernel3Ideal.Product.G2_eq m c), (h c).2⟩)
      (Kernel3Ideal.Value.run (F := Ideal) m g)
  · refine (θ_run Reference3Ideal.defs _ _).mono (fun r h c => ?_) (Reference3Ideal.Value.run (F := Ideal) m' g')
    obtain ⟨a0, a1⟩ := hag c
    obtain ⟨h0, k⟩ := h c
    rw [Reference3Ideal.Read.val_main_v10_eq, a0, a1] at h0
    exact ⟨h0.trans (Reference3Ideal.Product.val_eq _ _), k⟩

theorem algebraic_ddown : algebraic_Kernel4Ideal_Reference4Ideal := by
  intro m g m' g' _ hag
  refine ⟨fun c => Kernel4Ideal.Product.result m c, ?_, ?_⟩
  · exact (θ_run Kernel4Ideal.defs _ _).mono (fun r h c => ⟨(h c).1.trans (Kernel4Ideal.Product.final m c), (h c).2⟩)
      (Kernel4Ideal.Value.run_blocks (F := Ideal) m g)
  · refine (θ_run Reference4Ideal.defs _ _).mono (fun r h c => ?_) (Reference4Ideal.Value.run (F := Ideal) m' g')
    obtain ⟨a0, a1⟩ := hag c
    obtain ⟨h0, k⟩ := h c
    rw [Reference4Ideal.Read.val_main_v9_eq, a0, a1] at h0
    exact ⟨h0.trans (Reference4Ideal.Product.val_eq _ _), k⟩

theorem algebraic_dwgate : algebraic_Kernel5Ideal_Reference5Ideal := by
  intro m g m' g' _ hag
  refine ⟨fun c => Kernel5Ideal.Product.result m c, ?_, ?_⟩
  · exact (θ_run Kernel5Ideal.defs _ _).mono (fun r h c => ⟨(h c).1.trans (Kernel5Ideal.Product.G2_eq m c), (h c).2⟩)
      (Kernel5Ideal.Value.run (F := Ideal) m g)
  · refine (θ_run Reference5Ideal.defs _ _).mono (fun r h c => ?_) (Reference5Ideal.Value.run (F := Ideal) m' g')
    obtain ⟨a0, a1⟩ := hag c
    obtain ⟨h0, k⟩ := h c
    rw [Reference5Ideal.Read.val_main_v6_eq, a0, a1] at h0
    exact ⟨h0.trans (Reference5Ideal.Product.val_eq _ _), k⟩

theorem algebraic_dnormed : algebraic_Kernel6Ideal_Reference6Ideal := by
  intro m g m' g' _ hag
  refine ⟨fun c => Kernel6Ideal.Product.result m c, ?_, ?_⟩
  · exact (θ_run Kernel6Ideal.defs _ _).mono (fun r h c => ⟨(h c).1.trans (Kernel6Ideal.Product.G4_eq m c), (h c).2⟩)
      (Kernel6Ideal.Value.run (F := Ideal) m g)
  · refine (θ_run Reference6Ideal.defs _ _).mono (fun r h c => ?_) (Reference6Ideal.Value.run (F := Ideal) m' g')
    obtain ⟨a0, a1, a2, a3⟩ := hag c
    obtain ⟨h0, k⟩ := h c
    rw [Reference6Ideal.Read.val_main_v9_eq, a0, a1, a2, a3] at h0
    exact ⟨h0.trans (Reference6Ideal.Product.val_eq _ _ _ _), k⟩

theorem algebraic_dmixed : algebraic_Kernel7Ideal_Reference7Ideal := by
  intro m g m' g' _ hag
  refine ⟨fun c => Kernel7Ideal.Product.result m c, ?_, ?_⟩
  · exact (θ_run Kernel7Ideal.defs _ _).mono (fun r h c => ⟨(h c).1.trans (Kernel7Ideal.Product.G2_eq m c), (h c).2⟩)
      (Kernel7Ideal.Value.run (F := Ideal) m g)
  · refine (θ_run Reference7Ideal.defs _ _).mono (fun r h c => ?_) (Reference7Ideal.Value.run (F := Ideal) m' g')
    obtain ⟨a0, a1⟩ := hag c
    obtain ⟨h0, k⟩ := h c
    rw [Reference7Ideal.Read.val_main_v4_eq, a0, a1] at h0
    exact ⟨h0.trans (Reference7Ideal.Product.val_eq _ _), k⟩

theorem algebraic_dwin : algebraic_Kernel8Ideal_Reference8Ideal := by
  intro m g m' g' _ hag
  refine ⟨fun c => Kernel8Ideal.Product.result m c, ?_, ?_⟩
  · exact (θ_run Kernel8Ideal.defs _ _).mono (fun r h c => ⟨(h c).1.trans (Kernel8Ideal.Product.G2_eq m c), (h c).2⟩)
      (Kernel8Ideal.Value.run (F := Ideal) m g)
  · refine (θ_run Reference8Ideal.defs _ _).mono (fun r h c => ?_) (Reference8Ideal.Value.run (F := Ideal) m' g')
    obtain ⟨a0, a1⟩ := hag c
    obtain ⟨h0, k⟩ := h c
    rw [Reference8Ideal.Read.val_main_v6_eq, a0, a1] at h0
    exact ⟨h0.trans (Reference8Ideal.Product.val_eq _ _), k⟩

theorem frame_reference3 : quiescent_Reference3Ideal := fun m ρ _ =>
  (θ_run Reference3Ideal.defs _ _).mono (fun r h => ⟨fun c => (h c).2, sem_eq_zero_of_no_sems rfl r.2⟩)
    (Reference3Ideal.Value.run (F := Ideal) m ρ)

theorem frame_reference4 : quiescent_Reference4Ideal := fun m ρ _ =>
  (θ_run Reference4Ideal.defs _ _).mono (fun r h => ⟨fun c => (h c).2, sem_eq_zero_of_no_sems rfl r.2⟩)
    (Reference4Ideal.Value.run (F := Ideal) m ρ)

theorem frame_reference5 : quiescent_Reference5Ideal := fun m ρ _ =>
  (θ_run Reference5Ideal.defs _ _).mono (fun r h => ⟨fun c => (h c).2, sem_eq_zero_of_no_sems rfl r.2⟩)
    (Reference5Ideal.Value.run (F := Ideal) m ρ)

theorem frame_reference6 : quiescent_Reference6Ideal := fun m ρ _ =>
  (θ_run Reference6Ideal.defs _ _).mono (fun r h => ⟨fun c => (h c).2, sem_eq_zero_of_no_sems rfl r.2⟩)
    (Reference6Ideal.Value.run (F := Ideal) m ρ)

theorem frame_reference7 : quiescent_Reference7Ideal := fun m ρ _ =>
  (θ_run Reference7Ideal.defs _ _).mono (fun r h => ⟨fun c => (h c).2, sem_eq_zero_of_no_sems rfl r.2⟩)
    (Reference7Ideal.Value.run (F := Ideal) m ρ)

theorem frame_reference8 : quiescent_Reference8Ideal := fun m ρ _ =>
  (θ_run Reference8Ideal.defs _ _).mono (fun r h => ⟨fun c => (h c).2, sem_eq_zero_of_no_sems rfl r.2⟩)
    (Reference8Ideal.Value.run (F := Ideal) m ρ)

theorem algebraic_gate_fwd : algebraic_Kernel10Ideal_Reference10Ideal := by
  intro m g m' g' _ hag
  refine ⟨fun c => Kernel10Ideal.Product.result m c, ?_, ?_⟩
  · exact (θ_run Kernel10Ideal.defs _ _).mono (fun r h c => ⟨(h c).1.trans (Kernel10Ideal.Product.final m c), (h c).2⟩)
      (Kernel10Ideal.Value.run_blocks (F := Ideal) m g)
  · refine (θ_run Reference10Ideal.defs _ _).mono (fun r h c => ?_) (Reference10Ideal.Value.run (F := Ideal) m' g')
    obtain ⟨a0, a1⟩ := hag c
    obtain ⟨h0, k⟩ := h c
    rw [Reference10Ideal.Read.val_main_v3_eq, a0, a1] at h0
    exact ⟨h0.trans (Reference10Ideal.Product.val_eq _ _), k⟩

theorem frame_reference10 : quiescent_Reference10Ideal := fun m ρ _ =>
  (θ_run Reference10Ideal.defs _ _).mono (fun r h => ⟨fun c => (h c).2, sem_eq_zero_of_no_sems rfl r.2⟩)
    (Reference10Ideal.Value.run (F := Ideal) m ρ)

theorem algebraic_down_fwd : algebraic_Kernel11Ideal_Reference11Ideal := by
  intro m g m' g' _ hag
  refine ⟨fun c => Kernel11Ideal.Product.result m c, ?_, ?_⟩
  · exact (θ_run Kernel11Ideal.defs _ _).mono (fun r h c => ⟨(h c).1.trans (Kernel11Ideal.Product.final m c), (h c).2⟩)
      (Kernel11Ideal.Value.run_blocks (F := Ideal) m g)
  · refine (θ_run Reference11Ideal.defs _ _).mono (fun r h c => ?_) (Reference11Ideal.Value.run (F := Ideal) m' g')
    obtain ⟨a0, a1, a2⟩ := hag c
    obtain ⟨h0, k⟩ := h c
    rw [Reference11Ideal.Read.val_main_v5_eq, a0, a1, a2] at h0
    exact ⟨h0.trans (Reference11Ideal.Product.val_eq _ _ _), k⟩

theorem frame_reference11 : quiescent_Reference11Ideal := fun m ρ _ =>
  (θ_run Reference11Ideal.defs _ _).mono (fun r h => ⟨fun c => (h c).2, sem_eq_zero_of_no_sems rfl r.2⟩)
    (Reference11Ideal.Value.run (F := Ideal) m ρ)

theorem algebraic_inproj_fwd : algebraic_Kernel12Ideal_Reference12Ideal := by
  intro m g m' g' _ hag
  refine ⟨fun c => Kernel12Ideal.Product.result m c, ?_, ?_⟩
  · exact (θ_run Kernel12Ideal.defs _ _).mono (fun r h c => ⟨(h c).1.trans (Kernel12Ideal.Product.final m c), (h c).2⟩)
      (Kernel12Ideal.Value.run_blocks (F := Ideal) m g)
  · refine (θ_run Reference12Ideal.defs _ _).mono (fun r h c => ?_) (Reference12Ideal.Value.run (F := Ideal) m' g')
    obtain ⟨a0, a1⟩ := hag c
    obtain ⟨h0, k⟩ := h c
    rw [Reference12Ideal.Read.val_main_v2_eq, a0, a1] at h0
    exact ⟨h0.trans (Reference12Ideal.Product.val_eq _ _), k⟩

theorem frame_reference12 : quiescent_Reference12Ideal := fun m ρ _ =>
  (θ_run Reference12Ideal.defs _ _).mono (fun r h => ⟨fun c => (h c).2, sem_eq_zero_of_no_sems rfl r.2⟩)
    (Reference12Ideal.Value.run (F := Ideal) m ρ)

theorem algebraic_out : algebraic_Kernel13Ideal_Reference13Ideal := by
  intro m g m' g' _ hag
  refine ⟨fun c => Kernel13Ideal.Product.result m c, ?_, ?_⟩
  · exact (θ_run Kernel13Ideal.defs _ _).mono (fun r h c => ⟨(h c).1.trans (Kernel13Ideal.Product.final m c), (h c).2⟩)
      (Kernel13Ideal.Value.run_blocks (F := Ideal) m g)
  · refine (θ_run Reference13Ideal.defs _ _).mono (fun r h c => ?_) (Reference13Ideal.Value.run (F := Ideal) m' g')
    obtain ⟨a0, a1, a2⟩ := hag c
    obtain ⟨h0, k⟩ := h c
    rw [Reference13Ideal.Read.val_main_v3_eq, a0, a1, a2] at h0
    exact ⟨h0.trans (Reference13Ideal.Product.val_eq _ _ _), k⟩

theorem frame_reference13 : quiescent_Reference13Ideal := fun m ρ _ =>
  (θ_run Reference13Ideal.defs _ _).mono (fun r h => ⟨fun c => (h c).2, sem_eq_zero_of_no_sems rfl r.2⟩)
    (Reference13Ideal.Value.run (F := Ideal) m ρ)

theorem algebraic_dmerged : algebraic_Kernel14Ideal_Reference14Ideal := by
  intro m g m' g' _ hag
  refine ⟨fun c => Kernel14Ideal.Product.result m c, ?_, ?_⟩
  · exact (θ_run Kernel14Ideal.defs _ _).mono (fun r h c => ⟨(h c).1.trans (Kernel14Ideal.Product.final m c), (h c).2⟩)
      (Kernel14Ideal.Value.run_blocks (F := Ideal) m g)
  · refine (θ_run Reference14Ideal.defs _ _).mono (fun r h c => ?_) (Reference14Ideal.Value.run (F := Ideal) m' g')
    obtain ⟨a0, a1⟩ := hag c
    obtain ⟨h0, k⟩ := h c
    rw [Reference14Ideal.Read.val_main_v5_eq, a0, a1] at h0
    exact ⟨h0.trans (Reference14Ideal.Product.val_eq _ _), k⟩

theorem frame_reference14 : quiescent_Reference14Ideal := fun m ρ _ =>
  (θ_run Reference14Ideal.defs _ _).mono (fun r h => ⟨fun c => (h c).2, sem_eq_zero_of_no_sems rfl r.2⟩)
    (Reference14Ideal.Value.run (F := Ideal) m ρ)

theorem algebraic_dwout : algebraic_Kernel15Ideal_Reference15Ideal := by
  intro m g m' g' _ hag
  refine ⟨fun c => Kernel15Ideal.Product.result m c, ?_, ?_⟩
  · exact (θ_run Kernel15Ideal.defs _ _).mono (fun r h c => ⟨(h c).1.trans (Kernel15Ideal.Product.G2_eq m c), (h c).2⟩)
      (Kernel15Ideal.Value.run (F := Ideal) m g)
  · refine (θ_run Reference15Ideal.defs _ _).mono (fun r h c => ?_) (Reference15Ideal.Value.run (F := Ideal) m' g')
    obtain ⟨a0, a1⟩ := hag c
    obtain ⟨h0, k⟩ := h c
    rw [Reference15Ideal.Read.val_main_v6_eq, a0, a1] at h0
    exact ⟨h0.trans (Reference15Ideal.Product.val_eq _ _), k⟩

theorem frame_reference15 : quiescent_Reference15Ideal := fun m ρ _ =>
  (θ_run Reference15Ideal.defs _ _).mono (fun r h => ⟨fun c => (h c).2, sem_eq_zero_of_no_sems rfl r.2⟩)
    (Reference15Ideal.Value.run (F := Ideal) m ρ)

theorem algebraic_dattn_out : algebraic_Kernel16Ideal_Reference16Ideal := by
  intro m g m' g' _ hag
  refine ⟨fun c => Kernel16Ideal.Product.result m c, ?_, ?_⟩
  · exact (θ_run Kernel16Ideal.defs _ _).mono (fun r h c => ⟨(h c).1.trans (Kernel16Ideal.Product.final m c), (h c).2⟩)
      (Kernel16Ideal.Value.run_blocks (F := Ideal) m g)
  · refine (θ_run Reference16Ideal.defs _ _).mono (fun r h c => ?_) (Reference16Ideal.Value.run (F := Ideal) m' g')
    obtain ⟨a0, a1⟩ := hag c
    obtain ⟨h0, k⟩ := h c
    rw [Reference16Ideal.Read.val_main_v4_eq, a0, a1] at h0
    exact ⟨h0.trans (Reference16Ideal.Product.val_eq _ _), k⟩

theorem frame_reference16 : quiescent_Reference16Ideal := fun m ρ _ =>
  (θ_run Reference16Ideal.defs _ _).mono (fun r h => ⟨fun c => (h c).2, sem_eq_zero_of_no_sems rfl r.2⟩)
    (Reference16Ideal.Value.run (F := Ideal) m ρ)

theorem algebraic_drec_out : algebraic_Kernel17Ideal_Reference17Ideal := by
  intro m g m' g' _ hag
  refine ⟨fun c => Kernel17Ideal.Product.result m c, ?_, ?_⟩
  · exact (θ_run Kernel17Ideal.defs _ _).mono (fun r h c => ⟨(h c).1.trans (Kernel17Ideal.Product.final m c), (h c).2⟩)
      (Kernel17Ideal.Value.run_blocks (F := Ideal) m g)
  · refine (θ_run Reference17Ideal.defs _ _).mono (fun r h c => ?_) (Reference17Ideal.Value.run (F := Ideal) m' g')
    obtain ⟨a0, a1⟩ := hag c
    obtain ⟨h0, k⟩ := h c
    rw [Reference17Ideal.Read.val_main_v4_eq, a0, a1] at h0
    exact ⟨h0.trans (Reference17Ideal.Product.val_eq _ _), k⟩

theorem frame_reference17 : quiescent_Reference17Ideal := fun m ρ _ =>
  (θ_run Reference17Ideal.defs _ _).mono (fun r h => ⟨fun c => (h c).2, sem_eq_zero_of_no_sems rfl r.2⟩)
    (Reference17Ideal.Value.run (F := Ideal) m ρ)

theorem algebraic_proj_attn : algebraic_Kernel18Ideal_Reference18Ideal := by
  intro m g m' g' _ hag
  refine ⟨fun c => Kernel18Ideal.Product.result m c, ?_, ?_⟩
  · exact (θ_run Kernel18Ideal.defs _ _).mono (fun r h c => ⟨(h c).1.trans (Kernel18Ideal.Product.final m c), (h c).2⟩)
      (Kernel18Ideal.Value.run_blocks (F := Ideal) m g)
  · refine (θ_run Reference18Ideal.defs _ _).mono (fun r h c => ?_) (Reference18Ideal.Value.run (F := Ideal) m' g')
    obtain ⟨a0, a1⟩ := hag c
    obtain ⟨h0, k⟩ := h c
    rw [Reference18Ideal.Read.val_main_v2_eq, a0, a1] at h0
    exact ⟨h0.trans (Reference18Ideal.Product.val_eq _ _), k⟩

theorem frame_reference18 : quiescent_Reference18Ideal := fun m ρ _ =>
  (θ_run Reference18Ideal.defs _ _).mono (fun r h => ⟨fun c => (h c).2, sem_eq_zero_of_no_sems rfl r.2⟩)
    (Reference18Ideal.Value.run (F := Ideal) m ρ)

theorem algebraic_proj_rec : algebraic_Kernel19Ideal_Reference19Ideal := by
  intro m g m' g' _ hag
  refine ⟨fun c => Kernel19Ideal.Product.result m c, ?_, ?_⟩
  · exact (θ_run Kernel19Ideal.defs _ _).mono (fun r h c => ⟨(h c).1.trans (Kernel19Ideal.Product.final m c), (h c).2⟩)
      (Kernel19Ideal.Value.run_blocks (F := Ideal) m g)
  · refine (θ_run Reference19Ideal.defs _ _).mono (fun r h c => ?_) (Reference19Ideal.Value.run (F := Ideal) m' g')
    obtain ⟨a0, a1⟩ := hag c
    obtain ⟨h0, k⟩ := h c
    rw [Reference19Ideal.Read.val_main_v3_eq, a0, a1] at h0
    exact ⟨h0.trans (Reference19Ideal.Product.val_eq _ _), k⟩

theorem frame_reference19 : quiescent_Reference19Ideal := fun m ρ _ =>
  (θ_run Reference19Ideal.defs _ _).mono (fun r h => ⟨fun c => (h c).2, sem_eq_zero_of_no_sems rfl r.2⟩)
    (Reference19Ideal.Value.run (F := Ideal) m ρ)

theorem algebraic_dwproj_attn : algebraic_Kernel20Ideal_Reference20Ideal := by
  intro m g m' g' _ hag
  refine ⟨fun c => Kernel20Ideal.Product.result m c, ?_, ?_⟩
  · exact (θ_run Kernel20Ideal.defs _ _).mono (fun r h c => ⟨(h c).1.trans (Kernel20Ideal.Product.G2_eq m c), (h c).2⟩)
      (Kernel20Ideal.Value.run (F := Ideal) m g)
  · refine (θ_run Reference20Ideal.defs _ _).mono (fun r h c => ?_) (Reference20Ideal.Value.run (F := Ideal) m' g')
    obtain ⟨a0, a1⟩ := hag c
    obtain ⟨h0, k⟩ := h c
    rw [Reference20Ideal.Read.val_main_v4_eq, a0, a1] at h0
    exact ⟨h0.trans (Reference20Ideal.Product.val_eq _ _), k⟩

theorem frame_reference20 : quiescent_Reference20Ideal := fun m ρ _ =>
  (θ_run Reference20Ideal.defs _ _).mono (fun r h => ⟨fun c => (h c).2, sem_eq_zero_of_no_sems rfl r.2⟩)
    (Reference20Ideal.Value.run (F := Ideal) m ρ)

theorem algebraic_dwproj_rec : algebraic_Kernel21Ideal_Reference21Ideal := by
  intro m g m' g' _ hag
  refine ⟨fun c => Kernel21Ideal.Product.result m c, ?_, ?_⟩
  · exact (θ_run Kernel21Ideal.defs _ _).mono (fun r h c => ⟨(h c).1.trans (Kernel21Ideal.Product.G2_eq m c), (h c).2⟩)
      (Kernel21Ideal.Value.run (F := Ideal) m g)
  · refine (θ_run Reference21Ideal.defs _ _).mono (fun r h c => ?_) (Reference21Ideal.Value.run (F := Ideal) m' g')
    obtain ⟨a0, a1⟩ := hag c
    obtain ⟨h0, k⟩ := h c
    rw [Reference21Ideal.Read.val_main_v5_eq, a0, a1] at h0
    exact ⟨h0.trans (Reference21Ideal.Product.val_eq _ _), k⟩

theorem frame_reference21 : quiescent_Reference21Ideal := fun m ρ _ =>
  (θ_run Reference21Ideal.defs _ _).mono (fun r h => ⟨fun c => (h c).2, sem_eq_zero_of_no_sems rfl r.2⟩)
    (Reference21Ideal.Value.run (F := Ideal) m ρ)

theorem algebraic_uq : algebraic_Kernel22Ideal_Reference22Ideal := by
  intro m g m' g' _ hag
  refine ⟨fun c => Kernel22Ideal.Product.result m c, ?_, ?_⟩
  · exact (θ_run Kernel22Ideal.defs _ _).mono (fun r h c => ⟨(h c).1.trans (Kernel22Ideal.Product.final m c), (h c).2⟩)
      (Kernel22Ideal.Value.run_blocks (F := Ideal) m g)
  · refine (θ_run Reference22Ideal.defs _ _).mono (fun r h c => ?_) (Reference22Ideal.Value.run (F := Ideal) m' g')
    obtain ⟨a0, a1⟩ := hag c
    obtain ⟨h0, k⟩ := h c
    rw [Reference22Ideal.Read.val_main_v2_eq, a0, a1] at h0
    exact ⟨h0.trans (Reference22Ideal.Product.val_eq _ _), k⟩

theorem frame_reference22 : quiescent_Reference22Ideal := fun m ρ _ =>
  (θ_run Reference22Ideal.defs _ _).mono (fun r h => ⟨fun c => (h c).2, sem_eq_zero_of_no_sems rfl r.2⟩)
    (Reference22Ideal.Value.run (F := Ideal) m ρ)

theorem algebraic_ukv : algebraic_Kernel23Ideal_Reference23Ideal := by
  intro m g m' g' _ hag
  refine ⟨fun c => Kernel23Ideal.Product.result m c, ?_, ?_⟩
  · exact (θ_run Kernel23Ideal.defs _ _).mono (fun r h c => ⟨(h c).1.trans (Kernel23Ideal.Product.final m c), (h c).2⟩)
      (Kernel23Ideal.Value.run_blocks (F := Ideal) m g)
  · refine (θ_run Reference23Ideal.defs _ _).mono (fun r h c => ?_) (Reference23Ideal.Value.run (F := Ideal) m' g')
    obtain ⟨a0, a1⟩ := hag c
    obtain ⟨h0, k⟩ := h c
    rw [Reference23Ideal.Read.val_main_v2_eq, a0, a1] at h0
    exact ⟨h0.trans (Reference23Ideal.Product.val_eq _ _), k⟩

theorem frame_reference23 : quiescent_Reference23Ideal := fun m ρ _ =>
  (θ_run Reference23Ideal.defs _ _).mono (fun r h => ⟨fun c => (h c).2, sem_eq_zero_of_no_sems rfl r.2⟩)
    (Reference23Ideal.Value.run (F := Ideal) m ρ)

theorem algebraic_dqn : algebraic_Kernel24Ideal_Reference24Ideal := by
  intro m g m' g' _ hag
  refine ⟨fun c => Kernel24Ideal.Product.result m c, ?_, ?_⟩
  · exact (θ_run Kernel24Ideal.defs _ _).mono (fun r h c => ⟨(h c).1.trans (Kernel24Ideal.Product.final m c), (h c).2⟩)
      (Kernel24Ideal.Value.run_blocks (F := Ideal) m g)
  · refine (θ_run Reference24Ideal.defs _ _).mono (fun r h c => ?_) (Reference24Ideal.Value.run (F := Ideal) m' g')
    obtain ⟨a0, a1, a2, a3⟩ := hag c
    obtain ⟨h0, k⟩ := h c
    rw [Reference24Ideal.Read.val_main_v9_eq, a0, a1, a2, a3] at h0
    exact ⟨h0.trans (Reference24Ideal.Product.val_eq _ _ _ _), k⟩

theorem frame_reference24 : quiescent_Reference24Ideal := fun m ρ _ =>
  (θ_run Reference24Ideal.defs _ _).mono (fun r h => ⟨fun c => (h c).2, sem_eq_zero_of_no_sems rfl r.2⟩)
    (Reference24Ideal.Value.run (F := Ideal) m ρ)

theorem algebraic_dwqa : algebraic_Kernel25Ideal_Reference25Ideal := by
  intro m g m' g' _ hag
  refine ⟨fun c => Kernel25Ideal.Product.result m c, ?_, ?_⟩
  · exact (θ_run Kernel25Ideal.defs _ _).mono (fun r h c => ⟨(h c).1.trans (Kernel25Ideal.Product.G2_eq m c), (h c).2⟩)
      (Kernel25Ideal.Value.run (F := Ideal) m g)
  · refine (θ_run Reference25Ideal.defs _ _).mono (fun r h c => ?_) (Reference25Ideal.Value.run (F := Ideal) m' g')
    obtain ⟨a0, a1⟩ := hag c
    obtain ⟨h0, k⟩ := h c
    rw [Reference25Ideal.Read.val_main_v6_eq, a0, a1] at h0
    exact ⟨h0.trans (Reference25Ideal.Product.val_eq _ _), k⟩

theorem frame_reference25 : quiescent_Reference25Ideal := fun m ρ _ =>
  (θ_run Reference25Ideal.defs _ _).mono (fun r h => ⟨fun c => (h c).2, sem_eq_zero_of_no_sems rfl r.2⟩)
    (Reference25Ideal.Value.run (F := Ideal) m ρ)

theorem algebraic_dkvn : algebraic_Kernel26Ideal_Reference26Ideal := by
  intro m g m' g' _ hag
  refine ⟨fun c => Kernel26Ideal.Product.result m c, ?_, ?_⟩
  · exact (θ_run Kernel26Ideal.defs _ _).mono (fun r h c => ⟨(h c).1.trans (Kernel26Ideal.Product.final m c), (h c).2⟩)
      (Kernel26Ideal.Value.run_blocks (F := Ideal) m g)
  · refine (θ_run Reference26Ideal.defs _ _).mono (fun r h c => ?_) (Reference26Ideal.Value.run (F := Ideal) m' g')
    obtain ⟨a0, a1⟩ := hag c
    obtain ⟨h0, k⟩ := h c
    rw [Reference26Ideal.Read.val_main_v4_eq, a0, a1] at h0
    exact ⟨h0.trans (Reference26Ideal.Product.val_eq _ _), k⟩

theorem frame_reference26 : quiescent_Reference26Ideal := fun m ρ _ =>
  (θ_run Reference26Ideal.defs _ _).mono (fun r h => ⟨fun c => (h c).2, sem_eq_zero_of_no_sems rfl r.2⟩)
    (Reference26Ideal.Value.run (F := Ideal) m ρ)

theorem algebraic_dwkv : algebraic_Kernel27Ideal_Reference27Ideal := by
  intro m g m' g' _ hag
  refine ⟨fun c => Kernel27Ideal.Product.result m c, ?_, ?_⟩
  · exact (θ_run Kernel27Ideal.defs _ _).mono (fun r h c => ⟨(h c).1.trans (Kernel27Ideal.Product.G2_eq m c), (h c).2⟩)
      (Kernel27Ideal.Value.run (F := Ideal) m g)
  · refine (θ_run Reference27Ideal.defs _ _).mono (fun r h c => ?_) (Reference27Ideal.Value.run (F := Ideal) m' g')
    obtain ⟨a0, a1⟩ := hag c
    obtain ⟨h0, k⟩ := h c
    rw [Reference27Ideal.Read.val_main_v6_eq, a0, a1] at h0
    exact ⟨h0.trans (Reference27Ideal.Product.val_eq _ _), k⟩

theorem frame_reference27 : quiescent_Reference27Ideal := fun m ρ _ =>
  (θ_run Reference27Ideal.defs _ _).mono (fun r h => ⟨fun c => (h c).2, sem_eq_zero_of_no_sems rfl r.2⟩)
    (Reference27Ideal.Value.run (F := Ideal) m ρ)

theorem algebraic_act : algebraic_Kernel28Ideal_Reference28Ideal := by
  intro m g m' g' _ hag
  refine ⟨fun c => Reference28Ideal.Read.val_main_v4 (F := Ideal) (Kernel28Ideal.Act.A0 m c) (Kernel28Ideal.Act.A1 m c),
    fun c => Reference28Ideal.Read.val_main_v6 (F := Ideal) (Kernel28Ideal.Act.A0 m c) (Kernel28Ideal.Act.A1 m c), ?_, ?_⟩
  · refine (θ_run Kernel28Ideal.defs _ _).mono (fun r h c => ?_) (Kernel28Ideal.Value.run_blocks (F := Ideal) m g)
    obtain ⟨h0, h1, k⟩ := h c
    exact ⟨h0.trans (Kernel28Ideal.Act.final2 m c), h1.trans (Kernel28Ideal.Act.final3 m c), k⟩
  · refine (θ_run Reference28Ideal.defs _ _).mono (fun r h c => ?_) (Reference28Ideal.Value.run (F := Ideal) m' g')
    obtain ⟨a0, a1⟩ := hag c
    obtain ⟨h0, h1, k⟩ := h c
    rw [Reference28Ideal.Read.val_main_v4_eq, a0, a1] at h0
    rw [Reference28Ideal.Read.val_main_v6_eq, a0, a1] at h1
    exact ⟨h0, h1, k⟩

theorem algebraic_merge : algebraic_Kernel29Ideal_Reference29Ideal := by
  intro m g m' g' _ hag
  refine ⟨fun c => Reference29Ideal.Read.val_main_v19 (F := Ideal) (Kernel29Ideal.Merge.A0 m c) (Kernel29Ideal.Merge.A1 m c) (Kernel29Ideal.Merge.A2 m c),
    fun c => Reference29Ideal.Read.val_main_v21 (F := Ideal) (Kernel29Ideal.Merge.A0 m c) (Kernel29Ideal.Merge.A1 m c) (Kernel29Ideal.Merge.A2 m c), ?_, ?_⟩
  · refine (θ_run Kernel29Ideal.defs _ _).mono (fun r h c => ?_) (Kernel29Ideal.Value.run_blocks (F := Ideal) m g)
    obtain ⟨h0, h1, k⟩ := h c
    exact ⟨h0.trans (Kernel29Ideal.Merge.final4 m c), h1.trans (Kernel29Ideal.Merge.final5 m c), k⟩
  · refine (θ_run Reference29Ideal.defs _ _).mono (fun r h c => ?_) (Reference29Ideal.Value.run (F := Ideal) m' g')
    obtain ⟨a0, a1, a2⟩ := hag c
    obtain ⟨h0, h1, k⟩ := h c
    rw [Reference29Ideal.Read.val_main_v19_eq, a0, a1, a2] at h0
    rw [Reference29Ideal.Read.val_main_v21_eq, a0, a1, a2] at h1
    exact ⟨h0, h1, k⟩

theorem algebraic_norm : algebraic_Kernel31Ideal_Reference31Ideal := by
  intro m g m' g' _ hag
  refine ⟨fun c => Reference31Ideal.Read.val_main_v13 (F := Ideal) (Kernel31Ideal.Norm.A0 m c) (Kernel31Ideal.Norm.A1 m c),
    fun c => Reference31Ideal.Read.val_main_v15 (F := Ideal) (Kernel31Ideal.Norm.A0 m c) (Kernel31Ideal.Norm.A1 m c), ?_, ?_⟩
  · refine (θ_run Kernel31Ideal.defs _ _).mono (fun r h c => ?_) (Kernel31Ideal.Value.run_blocks (F := Ideal) m g)
    obtain ⟨h0, h1, k⟩ := h c
    exact ⟨h0.trans (Kernel31Ideal.Norm.final2 m c), h1.trans (Kernel31Ideal.Norm.final3 m c), k⟩
  · refine (θ_run Reference31Ideal.defs _ _).mono (fun r h c => ?_) (Reference31Ideal.Value.run (F := Ideal) m' g')
    obtain ⟨a0, a1⟩ := hag c
    obtain ⟨h0, h1, k⟩ := h c
    rw [Reference31Ideal.Read.val_main_v13_eq, a0, a1] at h0
    rw [Reference31Ideal.Read.val_main_v15_eq, a0, a1] at h1
    exact ⟨h0, h1, k⟩

theorem algebraic_adamw : algebraic_Kernel30Ideal_Reference30Ideal := by
  intro m g m' g' _ hag
  refine ⟨_, _, _, Kernel30Ideal.Value.run (F := Ideal) m g, ?_⟩
  refine (θ_run Reference30Ideal.defs _ _).mono (fun r h c => ?_) (Reference30Ideal.Value.run (F := Ideal) m' g')
  obtain ⟨a0, a1, a2, a3⟩ := hag c
  obtain ⟨h0, h1, h2, k⟩ := h c
  rw [Reference30Ideal.Read.val_main_v23_eq, a0, a1, a2, a3] at h0
  rw [Reference30Ideal.Read.val_main_v4_eq, a1, a2] at h1
  rw [Reference30Ideal.Read.val_main_v10_eq, a1, a3] at h2
  exact ⟨h0.trans (adamw_delta _ _ _ _).symm, h1.trans (adamw_m _ _).symm, h2.trans (adamw_v _ _).symm, k⟩

theorem frame_reference28 : quiescent_Reference28Ideal := fun m ρ _ =>
  (θ_run Reference28Ideal.defs _ _).mono (fun r h => ⟨fun c => (h c).2.2, sem_eq_zero_of_no_sems rfl r.2⟩)
    (Reference28Ideal.Value.run (F := Ideal) m ρ)

theorem frame_reference29 : quiescent_Reference29Ideal := fun m ρ _ =>
  (θ_run Reference29Ideal.defs _ _).mono (fun r h => ⟨fun c => (h c).2.2, sem_eq_zero_of_no_sems rfl r.2⟩)
    (Reference29Ideal.Value.run (F := Ideal) m ρ)

theorem frame_reference30 : quiescent_Reference30Ideal := fun m ρ _ =>
  (θ_run Reference30Ideal.defs _ _).mono (fun r h => ⟨fun c => (h c).2.2.2, sem_eq_zero_of_no_sems rfl r.2⟩)
    (Reference30Ideal.Value.run (F := Ideal) m ρ)

theorem frame_reference31 : quiescent_Reference31Ideal := fun m ρ _ =>
  (θ_run Reference31Ideal.defs _ _).mono (fun r h => ⟨fun c => (h c).2.2, sem_eq_zero_of_no_sems rfl r.2⟩)
    (Reference31Ideal.Value.run (F := Ideal) m ρ)

theorem frame_prepare9 : quiescent_Prepare9Ideal := fun m ρ _ =>
  (θ_run Prepare9Ideal.defs _ _).mono (fun r h => ⟨fun c => (h c).2.2.2.2.2.2.2.2, sem_eq_zero_of_no_sems rfl r.2⟩)
    (Prepare9Ideal.Value.run (F := Ideal) m ρ)

/-- The two named constants of the attention gradient carry the values that their words round. -/
theorem preserves9 : preserves_Kernel9_Kernel9Ideal :=
  ⟨IdealRules.named_const.statement Kernel9Ideal.κ "scale" .f32 0x3DD105EC#32 _ rfl,
    IdealRules.named_const.statement Kernel9Ideal.κ "unscale" .f32 0x40D95360#32 _ rfl⟩

theorem claim : Cert.Claim := ⟨Kernel.Gen.facts, KernelIdeal.Gen.facts, ReferenceIdeal.Gen.facts, Kernel2.Gen.facts,
  Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Kernel31.Gen.facts, Kernel31Ideal.Gen.facts, Reference31Ideal.Gen.facts,
  Prepare9Ideal.Gen.facts, finite2_facts, finite9_facts,
  fun m ρ _ => Kernel.Gen.frame m ρ, fun m ρ _ => KernelIdeal.Gen.frame m ρ, frame_reference,
  fun m ρ _ => Kernel2.Gen.frame m ρ, fun m ρ _ => Kernel2Ideal.Gen.frame m ρ, fun m ρ _ => Kernel2Ideal.Gen.frame m ρ,
  frame_reference2, fun m ρ _ => frame_reference2 m ρ trivial,
  fun m ρ _ => Kernel3.Gen.frame m ρ, fun m ρ _ => Kernel3Ideal.Gen.frame m ρ, frame_reference3,
  fun m ρ _ => Kernel4.Gen.frame m ρ, fun m ρ _ => Kernel4Ideal.Gen.frame m ρ, frame_reference4,
  fun m ρ _ => Kernel5.Gen.frame m ρ, fun m ρ _ => Kernel5Ideal.Gen.frame m ρ, frame_reference5,
  fun m ρ _ => Kernel6.Gen.frame m ρ, fun m ρ _ => Kernel6Ideal.Gen.frame m ρ, frame_reference6,
  fun m ρ _ => Kernel7.Gen.frame m ρ, fun m ρ _ => Kernel7Ideal.Gen.frame m ρ, frame_reference7,
  fun m ρ _ => Kernel8.Gen.frame m ρ, fun m ρ _ => Kernel8Ideal.Gen.frame m ρ, frame_reference8,
  fun m ρ _ => Kernel9.Gen.frame m ρ, fun m ρ _ => Kernel9Ideal.Gen.frame m ρ, fun m ρ _ => Kernel9Ideal.Gen.frame m ρ,
  frame_reference9, fun m ρ _ => frame_reference9 m ρ trivial,
  fun m ρ _ => Kernel10.Gen.frame m ρ, fun m ρ _ => Kernel10Ideal.Gen.frame m ρ, frame_reference10,
  fun m ρ _ => Kernel11.Gen.frame m ρ, fun m ρ _ => Kernel11Ideal.Gen.frame m ρ, frame_reference11,
  fun m ρ _ => Kernel12.Gen.frame m ρ, fun m ρ _ => Kernel12Ideal.Gen.frame m ρ, frame_reference12,
  fun m ρ _ => Kernel13.Gen.frame m ρ, fun m ρ _ => Kernel13Ideal.Gen.frame m ρ, frame_reference13,
  fun m ρ _ => Kernel14.Gen.frame m ρ, fun m ρ _ => Kernel14Ideal.Gen.frame m ρ, frame_reference14,
  fun m ρ _ => Kernel15.Gen.frame m ρ, fun m ρ _ => Kernel15Ideal.Gen.frame m ρ, frame_reference15,
  fun m ρ _ => Kernel16.Gen.frame m ρ, fun m ρ _ => Kernel16Ideal.Gen.frame m ρ, frame_reference16,
  fun m ρ _ => Kernel17.Gen.frame m ρ, fun m ρ _ => Kernel17Ideal.Gen.frame m ρ, frame_reference17,
  fun m ρ _ => Kernel18.Gen.frame m ρ, fun m ρ _ => Kernel18Ideal.Gen.frame m ρ, frame_reference18,
  fun m ρ _ => Kernel19.Gen.frame m ρ, fun m ρ _ => Kernel19Ideal.Gen.frame m ρ, frame_reference19,
  fun m ρ _ => Kernel20.Gen.frame m ρ, fun m ρ _ => Kernel20Ideal.Gen.frame m ρ, frame_reference20,
  fun m ρ _ => Kernel21.Gen.frame m ρ, fun m ρ _ => Kernel21Ideal.Gen.frame m ρ, frame_reference21,
  fun m ρ _ => Kernel22.Gen.frame m ρ, fun m ρ _ => Kernel22Ideal.Gen.frame m ρ, frame_reference22,
  fun m ρ _ => Kernel23.Gen.frame m ρ, fun m ρ _ => Kernel23Ideal.Gen.frame m ρ, frame_reference23,
  fun m ρ _ => Kernel24.Gen.frame m ρ, fun m ρ _ => Kernel24Ideal.Gen.frame m ρ, frame_reference24,
  fun m ρ _ => Kernel25.Gen.frame m ρ, fun m ρ _ => Kernel25Ideal.Gen.frame m ρ, frame_reference25,
  fun m ρ _ => Kernel26.Gen.frame m ρ, fun m ρ _ => Kernel26Ideal.Gen.frame m ρ, frame_reference26,
  fun m ρ _ => Kernel27.Gen.frame m ρ, fun m ρ _ => Kernel27Ideal.Gen.frame m ρ, frame_reference27,
  fun m ρ _ => Kernel28.Gen.frame m ρ, fun m ρ _ => Kernel28Ideal.Gen.frame m ρ, frame_reference28,
  fun m ρ _ => Kernel29.Gen.frame m ρ, fun m ρ _ => Kernel29Ideal.Gen.frame m ρ, frame_reference29,
  fun m ρ _ => Kernel30.Gen.frame m ρ, fun m ρ _ => Kernel30Ideal.Gen.frame m ρ, frame_reference30,
  fun m ρ _ => Kernel31.Gen.frame m ρ, fun m ρ _ => Kernel31Ideal.Gen.frame m ρ, frame_reference31,
  frame_prepare9,
  trivial, algebraic_gate, trivial, algebraic_swiglu, trivial, algebraic_dwdown, trivial, algebraic_ddown, trivial, algebraic_dwgate, trivial, algebraic_dnormed, trivial, algebraic_dmixed, trivial, algebraic_dwin, preserves9, algebraic_attn, trivial, algebraic_gate_fwd, trivial, algebraic_down_fwd, trivial, algebraic_inproj_fwd, trivial, algebraic_out, trivial, algebraic_dmerged, trivial, algebraic_dwout, trivial, algebraic_dattn_out, trivial, algebraic_drec_out, trivial, algebraic_proj_attn, trivial, algebraic_proj_rec, trivial, algebraic_dwproj_attn, trivial, algebraic_dwproj_rec, trivial, algebraic_uq, trivial, algebraic_ukv, trivial, algebraic_dqn, trivial, algebraic_dwqa, trivial, algebraic_dkvn, trivial, algebraic_dwkv,
  trivial, algebraic_act, trivial, algebraic_merge, trivial, algebraic_adamw, trivial, algebraic_norm⟩

end Cert.Proof

end
